-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_given [hPre_given : Cert.Pre_given.Facts] (m : (ℓ : Loc Cert.KernelIdeal.nD Cert.KernelIdeal.τ Cert.KernelIdeal.sig) → Buf (Elt Ideal) ℓ) : Prop :=
  ∀ c : Dev Cert.KernelIdeal.nD,
    (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_given [hPre_given : Cert.Pre_given.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_given [hKernelIdeal : Cert.KernelIdeal.Facts] [hPre_given : Cert.Pre_given.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_given m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_given [hReferenceIdeal : Cert.ReferenceIdeal.Facts] [hPre_given : Cert.Pre_given.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_given m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_given [hKernelIdeal : Cert.KernelIdeal.Facts] [hReferenceIdeal : Cert.ReferenceIdeal.Facts] [hPre_given : Cert.Pre_given.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_given m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_given : Cert.Pre_given.Facts),
    quiescent_Kernel (hKernel := hKernel) (hPre_in_range := hPre_in_range)
    ∧ quiescent_KernelIdeal (hKernelIdeal := hKernelIdeal) (hPre_in_range := hPre_in_range)
    ∧ quiescent_KernelIdeal_pre_given (hKernelIdeal := hKernelIdeal) (hPre_given := hPre_given)
    ∧ quiescent_ReferenceIdeal (hReferenceIdeal := hReferenceIdeal)
    ∧ quiescent_ReferenceIdeal_pre_given (hReferenceIdeal := hReferenceIdeal) (hPre_given := hPre_given)
    ∧ preserves_Kernel_KernelIdeal
    ∧ algebraic_KernelIdeal_ReferenceIdeal_pre_given (hKernelIdeal := hKernelIdeal) (hReferenceIdeal := hReferenceIdeal) (hPre_given := hPre_given)
-- ==== Pre_given.lean ====
abbrev S100000x128 : Shape := ⟨2, ![100000, 128]⟩
abbrev S1x128 : Shape := ⟨2, ![1, 128]⟩
abbrev S1 : Shape := ⟨1, ![1]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x128 : S_.BroadcastsInDim S100000x128 (![] : Fin 0 → Fin S100000x128.rank)
  reducesTo_S100000x128_S_d0_1 : S100000x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg2 : FVec F S1 .f32) (main_v5 : IVec S_ 1) (main_v9 : IVec S_ 1) (main_v13 : IVec S_ 1) (main_v16 : IVec S1x128 1) : IVec S_ 1 × IVec S_ 1 × IVec S_ 1 × IVec S_ 1 × IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : FVec F S1 .f32 := Host.absf main_arg2
  let main_cst_6 : FVec F S_ .f32 := constant S_ .f32 0x7F800000#32
  let main_v19 : FVec F S1 .f32 := broadcastInDim S1 ![] bcast_S_S1 main_cst_6
  let main_v20 : IVec S1 1 := cmpf .olt main_v18 main_v19
  let main_c_7 : IVec S_ 1 := constantI S_ 1 1#1
  let main_v21 : IVec S_ 1 := (fun x v => Host.reduce IntOp.andi x v reducesTo_S1_S_d0 h_S_) main_v20 main_c_7
  (main_v5, main_v9, main_v13, main_v17, main_v21)

def fn {F : FTy → Type} [FloatOps F] (main_arg0 : FVec F S100000x128 .f32) (main_arg1 : FVec F S1x128 .f32) (main_arg2 : FVec F S1 .f32) (main_arg3 : IVec S100000 32) : IVec S_ 1 × IVec S_ 1 × IVec S_ 1 × IVec S_ 1 × IVec S_ 1 :=
  let main_c : IVec S_ 32 := constantI S_ 32 0#32
  let main_v0 : IVec S100000 32 := broadcastInDim S100000 ![] bcast_S_S100000 main_c
  let main_v1 : IVec S100000 1 := cmpi .sge main_arg3 main_v0
  let main_c_0 : IVec S_ 32 := constantI S_ 32 64#32
  let main_v2 : IVec S100000 32 := broadcastInDim S100000 ![] bcast_S_S100000 main_c_0
  let main_v3 : IVec S100000 1 := cmpi .slt main_arg3 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg3
  let main_v7 : IVec S99999 32 := (extractStridedSlice S99999 ![1] · slices_S100000_S99999_1) main_arg3
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : FVec F S100000x128 .f32 := Host.absf main_arg0
  let main_cst : FVec F S_ .f32 := constant S_ .f32 0x7F800000#32
  let main_v11 : FVec F S100000x128 .f32 := broadcastInDim S100000x128 ![] bcast_S_S100000x128 main_cst
  let main_v12 : IVec S100000x128 1 := cmpf .olt main_v10 main_v11
  let main_c_3 : IVec S_ 1 := constantI S_ 1 1#1
  let main_v13 : IVec S_ 1 := (fun x v => Host.reduce IntOp.andi x v reducesTo_S100000x128_S_d0_1 h_S_) main_v12 main_c_3
  let main_v14 : FVec F S1x128 .f32 := Host.absf main_arg1
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg2 main_v5 main_v9 main_v13 main_v16
-- ==== Pre_in_range.lean ====
abbrev S100000x128 : Shape := ⟨2, ![100000, 128]⟩
abbrev S1x128 : Shape := ⟨2, ![1, 128]⟩
abbrev S1 : Shape := ⟨1, ![1]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S1x128 .f32) (main_arg2 : FVec F S1 .f32) (main_arg3 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg3 main_v0
  let main_c_0 : IVec S_ 32 := constantI S_ 32 64#32
  let main_v2 : IVec S100000 32 := broadcastInDim S100000 ![] bcast_S_S100000 main_c_0
  let main_v3 : IVec S100000 1 := cmpi .slt main_arg3 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x128 : Shape := ⟨2, ![100000, 128]⟩
abbrev S1x128 : Shape := ⟨2, ![1, 128]⟩
abbrev S1 : Shape := ⟨1, ![1]⟩
abbrev S100000 : Shape := ⟨1, ![100000]⟩
abbrev S61600 : Shape := ⟨1, ![61600]⟩
abbrev S_ : Shape := ⟨0, ![]⟩
abbrev S65280 : Shape := ⟨1, ![65280]⟩
abbrev S17x1x3840 : Shape := ⟨3, ![17, 1, 3840]⟩
abbrev S32x64x128 : Shape := ⟨3, ![32, 64, 128]⟩
abbrev S32x64x16 : Shape := ⟨3, ![32, 64, 16]⟩
abbrev S240x128 : Shape := ⟨2, ![240, 128]⟩
abbrev S256 : Shape := ⟨1, ![256]⟩
abbrev S128 : Shape := ⟨1, ![128]⟩
abbrev S64x128 : Shape := ⟨2, ![64, 128]⟩
abbrev S64x16 : Shape := ⟨2, ![64, 16]⟩
abbrev S16 : Shape := ⟨1, ![16]⟩
abbrev S1x16 : Shape := ⟨2, ![1, 16]⟩
abbrev S240 : Shape := ⟨1, ![240]⟩
abbrev S1x64x128 : Shape := ⟨3, ![1, 64, 128]⟩
abbrev S1x64x16 : Shape := ⟨3, ![1, 64, 16]⟩
abbrev S64x1 : Shape := ⟨2, ![64, 1]⟩
abbrev S3840x128 : Shape := ⟨2, ![3840, 128]⟩
abbrev S1x1x3840 : Shape := ⟨3, ![1, 1, 3840]⟩
abbrev S3840x1 : Shape := ⟨2, ![3840, 1]⟩
abbrev S3840 : Shape := ⟨1, ![3840]⟩
abbrev S1x3840 : Shape := ⟨2, ![1, 3840]⟩
abbrev S64x3840 : Shape := ⟨2, ![64, 3840]⟩

abbrev nBuf : Table → Nat
  | .hbm => 14
  | .local .tc .vmem => 14
  | .local .scVector .vmem => 7
  | _ => 0

abbrev bufTy : (tb : Table) → Fin (nBuf tb) → BufTy
  | .hbm, ⟨0, _⟩ => ⟨S100000x128, .f32⟩
  | .hbm, ⟨1, _⟩ => ⟨S1x128, .f32⟩
  | .hbm, ⟨2, _⟩ => ⟨S1, .f32⟩
  | .hbm, ⟨3, _⟩ => ⟨S100000, .i32⟩
  | .hbm, ⟨4, _⟩ => ⟨S61600, .i32⟩
  | .hbm, ⟨5, _⟩ => ⟨S_, .i32⟩
  | .hbm, ⟨6, _⟩ => ⟨S_, .i32⟩
  | .hbm, ⟨7, _⟩ => ⟨S65280, .i32⟩
  | .hbm, ⟨8, _⟩ => ⟨S17x1x3840, .i32⟩
  | .hbm, ⟨9, _⟩ => ⟨S32x64x128, .f32⟩
  | .hbm, ⟨10, _⟩ => ⟨S32x64x16, .f32⟩
  | .hbm, ⟨11, _⟩ => ⟨S64x128, .f32⟩
  | .hbm, ⟨12, _⟩ => ⟨S64x1, .f32⟩
  | .hbm, ⟨13, _⟩ => ⟨S64x128, .f32⟩
  | .local .tc .vmem, ⟨0, _⟩ => ⟨S3840x128, .f32⟩
  | .local .tc .vmem, ⟨1, _⟩ => ⟨S3840x128, .f32⟩
  | .local .tc .vmem, ⟨2, _⟩ => ⟨S1x128, .f32⟩
  | .local .tc .vmem, ⟨3, _⟩ => ⟨S1x1x3840, .i32⟩
  | .local .tc .vmem, ⟨4, _⟩ => ⟨S1x1x3840, .i32⟩
  | .local .tc .vmem, ⟨5, _⟩ => ⟨S64x128, .f32⟩
  | .local .tc .vmem, ⟨6, _⟩ => ⟨S64x1, .f32⟩
  | .local .tc .vmem, ⟨7, _⟩ => ⟨S64x128, .f32⟩
  | .local .tc .vmem, ⟨8, _⟩ => ⟨S64x1, .f32⟩
  | .local .tc .vmem, ⟨9, _⟩ => ⟨S32x64x128, .f32⟩
  | .local .tc .vmem, ⟨10, _⟩ => ⟨S32x64x16, .f32⟩
  | .local .tc .vmem, ⟨11, _⟩ => ⟨S64x128, .f32⟩
  | .local .tc .vmem, ⟨12, _⟩ => ⟨S64x1, .f32⟩
  | .local .tc .vmem, ⟨13, _⟩ => ⟨S64x128, .f32⟩
  | .local .scVector .vmem, ⟨0, _⟩ => ⟨S240x128, .f32⟩
  | .local .scVector .vmem, ⟨1, _⟩ => ⟨S240x128, .f32⟩
  | .local .scVector .vmem, ⟨2, _⟩ => ⟨S256, .i32⟩
  | .local .scVector .vmem, ⟨3, _⟩ => ⟨S256, .i32⟩
  | .local .scVector .vmem, ⟨4, _⟩ => ⟨S128, .f32⟩
  | .local .scVector .vmem, ⟨5, _⟩ => ⟨S64x128, .f32⟩
  | .local .scVector .vmem, ⟨6, _⟩ => ⟨S64x16, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4_0 : Ref sig .tc := ⟨.hbm, 11, rfl⟩
abbrev main_v4_1 : Ref sig .tc := ⟨.hbm, 12, rfl⟩
abbrev main_v5 : Ref sig .tc := ⟨.hbm, 13, rfl⟩
abbrev main_arg0_scv : Ref sig .scVector := ⟨.hbm, 0, rfl⟩
abbrev main_arg1_scv : Ref sig .scVector := ⟨.hbm, 1, rfl⟩
abbrev main_arg3_scv : Ref sig .scVector := ⟨.hbm, 3, rfl⟩
abbrev main_v3_0_scv : Ref sig .scVector := ⟨.hbm, 9, rfl⟩
abbrev main_v3_1_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg4_0 : Ref sig .tc := ⟨.vmem, 6, rfl⟩
abbrev cc1_scratch0 : Ref sig .tc := ⟨.vmem, 7, rfl⟩
abbrev cc1_scratch1 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c64_i32 : BitVec 32 := 64#32
  let v12 : BitVec 32 := Scalar.addi c0_i32_1 c64_i32
  let c1_i32 : BitVec 32 := 1#32
  ⟨c0_i32_1, v12, c1_i32⟩
def k0_off1 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v32 : Index := Scalar.indexCast arg18
  let c0_16 : Index := 0#32
  ![v32.toNat, 0]
def k0_off2 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v34 : Index := Scalar.indexCast arg18
  let c16_17 : Index := 16#32
  ![v34.toNat, 16]
def k0_off3 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v36 : Index := Scalar.indexCast arg18
  let c32_18 : Index := 32#32
  ![v36.toNat, 32]
def k0_off4 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v38 : Index := Scalar.indexCast arg18
  let c48_19 : Index := 48#32
  ![v38.toNat, 48]
def k0_off5 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v40 : Index := Scalar.indexCast arg18
  let c64_20 : Index := 64#32
  ![v40.toNat, 64]
def k0_off6 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v42 : Index := Scalar.indexCast arg18
  let c80_21 : Index := 80#32
  ![v42.toNat, 80]
def k0_off7 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v44 : Index := Scalar.indexCast arg18
  let c96_22 : Index := 96#32
  ![v44.toNat, 96]
def k0_off8 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v46 : Index := Scalar.indexCast arg18
  let c112_23 : Index := 112#32
  ![v46.toNat, 112]
def k0_off9 (k0_t1 : Fin k0_t1_loop.trips) : Fin 2 → Nat :=
  let c0_i32_1 : BitVec 32 := 0#32
  let c1_i32 : BitVec 32 := 1#32
  let arg18 : BitVec 32 := Scf.iv c0_i32_1 c1_i32 k0_t1
  let v48 : Index := Scalar.indexCast arg18
  let c0_24 : Index := 0#32
  ![v48.toNat, 0]
def k0_mult1 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_3 : BitVec 32 := 0#32
  let v14 : BitVec 32 := Scalar.addi v2 c0_i32_3
  v14
def k0_off10 (i : grid0.Coords) (c0_i32_3 : BitVec 32) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let v14 : BitVec 32 := Scalar.addi v2 c0_i32_3
  let v15 : BitVec 32 := v14
  let c0_i32_4 : BitVec 32 := 0#32
  ![v15.toNat, 0]
def k0_off11 (i : grid0.Coords) (c0_i32_3 : BitVec 32) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let v14 : BitVec 32 := Scalar.addi v2 c0_i32_3
  let v15 : BitVec 32 := v14
  ![v15.toNat]
def k0_mult2 (i : grid0.Coords) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c240_i32 : BitVec 32 := 240#32
  let v22 : BitVec 32 := Scalar.addi v2 c240_i32
  v22
@[reducible] def k0_t2_loop : Scf.Loop 32 :=
  let c0_i32_13 : BitVec 32 := 0#32
  let c3_i32 : BitVec 32 := 3#32
  let v30 : BitVec 32 := Scalar.addi c0_i32_13 c3_i32
  let c1_i32_14 : BitVec 32 := 1#32
  ⟨c0_i32_13, v30, c1_i32_14⟩
def k0_cond1 (k0_t2 : Fin k0_t2_loop.trips) : BitVec 1 :=
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c5_i32 : BitVec 32 := 5#32
  let v34 : BitVec 1 := Scalar.cmpi .slt v33 c5_i32
  let v35 : BitVec 32 := Scalar.extui v34
  let c0_i32_17 : BitVec 32 := 0#32
  let v36 : BitVec 1 := Scalar.cmpi .ne v35 c0_i32_17
  v36

def k0_mult3 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c240_i32_23 : BitVec 32 := 240#32
  let v42 : BitVec 32 := Scalar.muli v33 c240_i32_23
  let v43 : BitVec 32 := Scalar.addi v2 v42
  v43
def k0_off12 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c240_i32_23 : BitVec 32 := 240#32
  let v42 : BitVec 32 := Scalar.muli v33 c240_i32_23
  let v43 : BitVec 32 := Scalar.addi v2 v42
  let v44 : BitVec 32 := v43
  let c0_i32_24 : BitVec 32 := 0#32
  ![v44.toNat, 0]
def k0_off13 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c240_i32_23 : BitVec 32 := 240#32
  let v42 : BitVec 32 := Scalar.muli v33 c240_i32_23
  let v43 : BitVec 32 := Scalar.addi v2 v42
  let v44 : BitVec 32 := v43
  ![v44.toNat]
@[reducible] def k0_t3_loop : Scf.Loop 32 :=
  let c0_i32_29 : BitVec 32 := 0#32
  let c15_i32 : BitVec 32 := 15#32
  let v51 : BitVec 32 := Scalar.addi c0_i32_29 c15_i32
  let c1_i32_30 : BitVec 32 := 1#32
  ⟨c0_i32_29, v51, c1_i32_30⟩
def k0_off14 (k0_t3 : Fin k0_t3_loop.trips) : Fin 1 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v58 : Index := Scalar.indexCast v57
  ![v58.toNat]
def k0_off15 (k0_t3 : Fin k0_t3_loop.trips) (c0_i32_36 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v60 : BitVec 32 := Scalar.addi v57 c0_i32_36
  let v61 : Index := Scalar.indexCast v60
  let c0_37 : Index := 0#32
  ![v61.toNat, 0]
def k0_off16 (k0_t3 : Fin k0_t3_loop.trips) (c0_i32_38 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v63 : BitVec 32 := Scalar.addi v57 c0_i32_38
  let v64 : Index := Scalar.indexCast v63
  let c16_39 : Index := 16#32
  ![v64.toNat, 16]
def k0_off17 (k0_t3 : Fin k0_t3_loop.trips) (c0_i32_40 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v66 : BitVec 32 := Scalar.addi v57 c0_i32_40
  let v67 : Index := Scalar.indexCast v66
  let c32_41 : Index := 32#32
  ![v67.toNat, 32]
def k0_off18 (k0_t3 : Fin k0_t3_loop.trips) (c0_i32_42 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v69 : BitVec 32 := Scalar.addi v57 c0_i32_42
  let v70 : Index := Scalar.indexCast v69
  let c48_43 : Index := 48#32
  ![v70.toNat, 48]
def k0_off19 (k0_t3 : Fin k0_t3_loop.trips) (c0_i32_44 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v72 : BitVec 32 := Scalar.addi v57 c0_i32_44
  let v73 : Index := Scalar.indexCast v72
  let c64_45 : Index := 64#32
  ![v73.toNat, 64]
def k0_off20 (k0_t3 : Fin k0_t3_loop.trips) (c0_i32_46 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v75 : BitVec 32 := Scalar.addi v57 c0_i32_46
  let v76 : Index := Scalar.indexCast v75
  let c80_47 : Index := 80#32
  ![v76.toNat, 80]
def k0_off21 (k0_t3 : Fin k0_t3_loop.trips) (c0_i32_48 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v78 : BitVec 32 := Scalar.addi v57 c0_i32_48
  let v79 : Index := Scalar.indexCast v78
  let c96_49 : Index := 96#32
  ![v79.toNat, 96]
def k0_off22 (k0_t3 : Fin k0_t3_loop.trips) (c0_i32_50 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v81 : BitVec 32 := Scalar.addi v57 c0_i32_50
  let v82 : Index := Scalar.indexCast v81
  let c112_51 : Index := 112#32
  ![v82.toNat, 112]
def k0_off23 (k0_t3 : Fin k0_t3_loop.trips) (c0_i32_285 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1449 : BitVec 32 := Scalar.addi v57 c0_i32_285
  let v1450 : Index := Scalar.indexCast v1449
  let c0_286 : Index := 0#32
  ![v1450.toNat, 0]
def k0_off24 (k0_t3 : Fin k0_t3_loop.trips) (c0_i32_287 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1454 : BitVec 32 := Scalar.addi v57 c0_i32_287
  let v1455 : Index := Scalar.indexCast v1454
  let c16_288 : Index := 16#32
  ![v1455.toNat, 16]
def k0_off25 (k0_t3 : Fin k0_t3_loop.trips) (c0_i32_289 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1459 : BitVec 32 := Scalar.addi v57 c0_i32_289
  let v1460 : Index := Scalar.indexCast v1459
  let c32_290 : Index := 32#32
  ![v1460.toNat, 32]
def k0_off26 (k0_t3 : Fin k0_t3_loop.trips) (c0_i32_291 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1464 : BitVec 32 := Scalar.addi v57 c0_i32_291
  let v1465 : Index := Scalar.indexCast v1464
  let c48_292 : Index := 48#32
  ![v1465.toNat, 48]
def k0_off27 (k0_t3 : Fin k0_t3_loop.trips) (c0_i32_293 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1469 : BitVec 32 := Scalar.addi v57 c0_i32_293
  let v1470 : Index := Scalar.indexCast v1469
  let c64_294 : Index := 64#32
  ![v1470.toNat, 64]
def k0_off28 (k0_t3 : Fin k0_t3_loop.trips) (c0_i32_295 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1474 : BitVec 32 := Scalar.addi v57 c0_i32_295
  let v1475 : Index := Scalar.indexCast v1474
  let c80_296 : Index := 80#32
  ![v1475.toNat, 80]
def k0_off29 (k0_t3 : Fin k0_t3_loop.trips) (c0_i32_297 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1479 : BitVec 32 := Scalar.addi v57 c0_i32_297
  let v1480 : Index := Scalar.indexCast v1479
  let c96_298 : Index := 96#32
  ![v1480.toNat, 96]
def k0_off30 (k0_t3 : Fin k0_t3_loop.trips) (c0_i32_299 : BitVec 32) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let v1484 : BitVec 32 := Scalar.addi v57 c0_i32_299
  let v1485 : Index := Scalar.indexCast v1484
  let c112_300 : Index := 112#32
  ![v1485.toNat, 112]
def k0_off31 (v1437 : BitVec 32) : Fin 2 → Nat :=
  let v2134 : Index := Scalar.indexCast v1437
  let c0_541 : Index := 0#32
  ![v2134.toNat, 0]
def k0_cond2 (v1437 : BitVec 32) (v1439 : BitVec 32) : BitVec 1 :=
  let v1440 : BitVec 1 := Scalar.cmpi .eq v1437 v1439
  let v1441 : BitVec 32 := Scalar.extui v1440
  let c0_i32_282 : BitVec 32 := 0#32
  let v1442 : BitVec 1 := Scalar.cmpi .ne v1441 c0_i32_282
  v1442

def k0_off32 (v1437 : BitVec 32) : Fin 2 → Nat :=
  let v2139 : Index := Scalar.indexCast v1437
  let c16_543 : Index := 16#32
  ![v2139.toNat, 16]
def k0_off33 (v1437 : BitVec 32) : Fin 2 → Nat :=
  let v2144 : Index := Scalar.indexCast v1437
  let c32_545 : Index := 32#32
  ![v2144.toNat, 32]
def k0_off34 (v1437 : BitVec 32) : Fin 2 → Nat :=
  let v2149 : Index := Scalar.indexCast v1437
  let c48_547 : Index := 48#32
  ![v2149.toNat, 48]
def k0_off35 (v1437 : BitVec 32) : Fin 2 → Nat :=
  let v2154 : Index := Scalar.indexCast v1437
  let c64_549 : Index := 64#32
  ![v2154.toNat, 64]
def k0_off36 (v1437 : BitVec 32) : Fin 2 → Nat :=
  let v2159 : Index := Scalar.indexCast v1437
  let c80_551 : Index := 80#32
  ![v2159.toNat, 80]
def k0_off37 (v1437 : BitVec 32) : Fin 2 → Nat :=
  let v2164 : Index := Scalar.indexCast v1437
  let c96_553 : Index := 96#32
  ![v2164.toNat, 96]
def k0_off38 (v1437 : BitVec 32) : Fin 2 → Nat :=
  let v2169 : Index := Scalar.indexCast v1437
  let c112_555 : Index := 112#32
  ![v2169.toNat, 112]
def k0_off39 (v1437 : BitVec 32) : Fin 2 → Nat :=
  let v2174 : Index := Scalar.indexCast v1437
  let c0_557 : Index := 0#32
  ![v2174.toNat, 0]

def k0_chk1 (k0_t2 : Fin k0_t2_loop.trips) (v1437 : BitVec 32) (v1439 : BitVec 32) : Prop :=
  (∀ (k0_h1 : k0_cond1 k0_t2 = 1#1), ∀ (k0_h2 : k0_cond2 v1437 v1439 = 1#1), ∀ a, (k0_off31 v1437) a + S1x16.size a ≤ S64x128.size a) ∧
  (∀ (k0_h1 : k0_cond1 k0_t2 = 1#1), ∀ (k0_h2 : k0_cond2 v1437 v1439 = 1#1), ∀ a, (k0_off32 v1437) a + S1x16.size a ≤ S64x128.size a) ∧
  (∀ (k0_h1 : k0_cond1 k0_t2 = 1#1), ∀ (k0_h2 : k0_cond2 v1437 v1439 = 1#1), ∀ a, (k0_off33 v1437) a + S1x16.size a ≤ S64x128.size a) ∧
  (∀ (k0_h1 : k0_cond1 k0_t2 = 1#1), ∀ (k0_h2 : k0_cond2 v1437 v1439 = 1#1), ∀ a, (k0_off34 v1437) a + S1x16.size a ≤ S64x128.size a) ∧
  (∀ (k0_h1 : k0_cond1 k0_t2 = 1#1), ∀ (k0_h2 : k0_cond2 v1437 v1439 = 1#1), ∀ a, (k0_off35 v1437) a + S1x16.size a ≤ S64x128.size a) ∧
  (∀ (k0_h1 : k0_cond1 k0_t2 = 1#1), ∀ (k0_h2 : k0_cond2 v1437 v1439 = 1#1), ∀ a, (k0_off36 v1437) a + S1x16.size a ≤ S64x128.size a) ∧
  (∀ (k0_h1 : k0_cond1 k0_t2 = 1#1), ∀ (k0_h2 : k0_cond2 v1437 v1439 = 1#1), ∀ a, (k0_off37 v1437) a + S1x16.size a ≤ S64x128.size a) ∧
  (∀ (k0_h1 : k0_cond1 k0_t2 = 1#1), ∀ (k0_h2 : k0_cond2 v1437 v1439 = 1#1), ∀ a, (k0_off38 v1437) a + S1x16.size a ≤ S64x128.size a) ∧
  (∀ (k0_h1 : k0_cond1 k0_t2 = 1#1), ∀ (k0_h2 : k0_cond2 v1437 v1439 = 1#1), ∀ a, (k0_off39 v1437) a + S1x16.size a ≤ S64x16.size a)
theorem k0_off31_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off31 v1437) a + S1x16.size a ≤ S64x128.size a := fun k0_t2 v1437 v1439 k0_hw1 k0_h1 k0_h2 => k0_hw1.1 k0_h1 k0_h2
theorem k0_off32_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off32 v1437) a + S1x16.size a ≤ S64x128.size a := fun k0_t2 v1437 v1439 k0_hw1 k0_h1 k0_h2 => k0_hw1.2.1 k0_h1 k0_h2
theorem k0_off33_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off33 v1437) a + S1x16.size a ≤ S64x128.size a := fun k0_t2 v1437 v1439 k0_hw1 k0_h1 k0_h2 => k0_hw1.2.2.1 k0_h1 k0_h2
theorem k0_off34_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off34 v1437) a + S1x16.size a ≤ S64x128.size a := fun k0_t2 v1437 v1439 k0_hw1 k0_h1 k0_h2 => k0_hw1.2.2.2.1 k0_h1 k0_h2
theorem k0_off35_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off35 v1437) a + S1x16.size a ≤ S64x128.size a := fun k0_t2 v1437 v1439 k0_hw1 k0_h1 k0_h2 => k0_hw1.2.2.2.2.1 k0_h1 k0_h2
theorem k0_off36_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off36 v1437) a + S1x16.size a ≤ S64x128.size a := fun k0_t2 v1437 v1439 k0_hw1 k0_h1 k0_h2 => k0_hw1.2.2.2.2.2.1 k0_h1 k0_h2
theorem k0_off37_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off37 v1437) a + S1x16.size a ≤ S64x128.size a := fun k0_t2 v1437 v1439 k0_hw1 k0_h1 k0_h2 => k0_hw1.2.2.2.2.2.2.1 k0_h1 k0_h2
theorem k0_off38_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off38 v1437) a + S1x16.size a ≤ S64x128.size a := fun k0_t2 v1437 v1439 k0_hw1 k0_h1 k0_h2 => k0_hw1.2.2.2.2.2.2.2.1 k0_h1 k0_h2
theorem k0_off39_inb : ∀ (k0_t2 : Fin k0_t2_loop.trips) (v1437 : BitVec 32) (v1439 : BitVec 32) (k0_hw1 : k0_chk1 k0_t2 v1437 v1439), ∀ (k0_h1 : k0_cond1 k0_t2 = 1#1), ∀ (k0_h2 : k0_cond2 v1437 v1439 = 1#1), ∀ a, (k0_off39 v1437) a + S1x16.size a ≤ S64x16.size a := fun k0_t2 v1437 v1439 k0_hw1 k0_h1 k0_h2 => k0_hw1.2.2.2.2.2.2.2.2 k0_h1 k0_h2

def k0_off40 (v1449 : BitVec 32) : Fin 2 → Nat :=
  let v1450 : Index := Scalar.indexCast v1449
  let c0_285 : Index := 0#32
  ![v1450.toNat, 0]
def k0_cond3 (v1437 : BitVec 32) (v1439 : BitVec 32) : BitVec 1 :=
  let v1443 : BitVec 1 := Scalar.cmpi .ne v1437 v1439
  let v1444 : BitVec 32 := Scalar.extui v1443
  let c0_i32_283 : BitVec 32 := 0#32
  let v1445 : BitVec 1 := Scalar.cmpi .ne v1444 c0_i32_283
  v1445

def k0_off41 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_286 : BitVec 32 := 0#32
  let v1452 : BitVec 32 := Scalar.addi v57 c0_i32_286
  let v1453 : Index := Scalar.indexCast v1452
  let c0_287 : Index := 0#32
  ![v1453.toNat, 0]
def k0_off42 (v1449 : BitVec 32) : Fin 2 → Nat :=
  let v1459 : Index := Scalar.indexCast v1449
  let c16_289 : Index := 16#32
  ![v1459.toNat, 16]
def k0_off43 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_290 : BitVec 32 := 0#32
  let v1461 : BitVec 32 := Scalar.addi v57 c0_i32_290
  let v1462 : Index := Scalar.indexCast v1461
  let c16_291 : Index := 16#32
  ![v1462.toNat, 16]
def k0_off44 (v1449 : BitVec 32) : Fin 2 → Nat :=
  let v1468 : Index := Scalar.indexCast v1449
  let c32_293 : Index := 32#32
  ![v1468.toNat, 32]
def k0_off45 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_294 : BitVec 32 := 0#32
  let v1470 : BitVec 32 := Scalar.addi v57 c0_i32_294
  let v1471 : Index := Scalar.indexCast v1470
  let c32_295 : Index := 32#32
  ![v1471.toNat, 32]
def k0_off46 (v1449 : BitVec 32) : Fin 2 → Nat :=
  let v1477 : Index := Scalar.indexCast v1449
  let c48_297 : Index := 48#32
  ![v1477.toNat, 48]
def k0_off47 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_298 : BitVec 32 := 0#32
  let v1479 : BitVec 32 := Scalar.addi v57 c0_i32_298
  let v1480 : Index := Scalar.indexCast v1479
  let c48_299 : Index := 48#32
  ![v1480.toNat, 48]
def k0_off48 (v1449 : BitVec 32) : Fin 2 → Nat :=
  let v1486 : Index := Scalar.indexCast v1449
  let c64_301 : Index := 64#32
  ![v1486.toNat, 64]
def k0_off49 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_302 : BitVec 32 := 0#32
  let v1488 : BitVec 32 := Scalar.addi v57 c0_i32_302
  let v1489 : Index := Scalar.indexCast v1488
  let c64_303 : Index := 64#32
  ![v1489.toNat, 64]
def k0_off50 (v1449 : BitVec 32) : Fin 2 → Nat :=
  let v1495 : Index := Scalar.indexCast v1449
  let c80_305 : Index := 80#32
  ![v1495.toNat, 80]
def k0_off51 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_306 : BitVec 32 := 0#32
  let v1497 : BitVec 32 := Scalar.addi v57 c0_i32_306
  let v1498 : Index := Scalar.indexCast v1497
  let c80_307 : Index := 80#32
  ![v1498.toNat, 80]
def k0_off52 (v1449 : BitVec 32) : Fin 2 → Nat :=
  let v1504 : Index := Scalar.indexCast v1449
  let c96_309 : Index := 96#32
  ![v1504.toNat, 96]
def k0_off53 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_310 : BitVec 32 := 0#32
  let v1506 : BitVec 32 := Scalar.addi v57 c0_i32_310
  let v1507 : Index := Scalar.indexCast v1506
  let c96_311 : Index := 96#32
  ![v1507.toNat, 96]
def k0_off54 (v1449 : BitVec 32) : Fin 2 → Nat :=
  let v1513 : Index := Scalar.indexCast v1449
  let c112_313 : Index := 112#32
  ![v1513.toNat, 112]
def k0_off55 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c0_i32_314 : BitVec 32 := 0#32
  let v1515 : BitVec 32 := Scalar.addi v57 c0_i32_314
  let v1516 : Index := Scalar.indexCast v1515
  let c112_315 : Index := 112#32
  ![v1516.toNat, 112]
def k0_off56 (v1449 : BitVec 32) : Fin 2 → Nat :=
  let v1522 : Index := Scalar.indexCast v1449
  let c0_317 : Index := 0#32
  ![v1522.toNat, 0]

def k0_chk2 (k0_t2 : Fin k0_t2_loop.trips) (v1437 : BitVec 32) (v1439 : BitVec 32) (v1449 : BitVec 32) : Prop :=
  (∀ (k0_h1 : k0_cond1 k0_t2 = 1#1), ∀ (k0_h3 : k0_cond3 v1437 v1439 = 1#1), ∀ a, (k0_off40 v1449) a + S1x16.size a ≤ S64x128.size a) ∧
  (∀ (k0_h1 : k0_cond1 k0_t2 = 1#1), ∀ (k0_h3 : k0_cond3 v1437 v1439 = 1#1), ∀ a, (k0_off42 v1449) a + S1x16.size a ≤ S64x128.size a) ∧
  (∀ (k0_h1 : k0_cond1 k0_t2 = 1#1), ∀ (k0_h3 : k0_cond3 v1437 v1439 = 1#1), ∀ a, (k0_off44 v1449) a + S1x16.size a ≤ S64x128.size a) ∧
  (∀ (k0_h1 : k0_cond1 k0_t2 = 1#1), ∀ (k0_h3 : k0_cond3 v1437 v1439 = 1#1), ∀ a, (k0_off46 v1449) a + S1x16.size a ≤ S64x128.size a) ∧
  (∀ (k0_h1 : k0_cond1 k0_t2 = 1#1), ∀ (k0_h3 : k0_cond3 v1437 v1439 = 1#1), ∀ a, (k0_off48 v1449) a + S1x16.size a ≤ S64x128.size a) ∧
  (∀ (k0_h1 : k0_cond1 k0_t2 = 1#1), ∀ (k0_h3 : k0_cond3 v1437 v1439 = 1#1), ∀ a, (k0_off50 v1449) a + S1x16.size a ≤ S64x128.size a) ∧
  (∀ (k0_h1 : k0_cond1 k0_t2 = 1#1), ∀ (k0_h3 : k0_cond3 v1437 v1439 = 1#1), ∀ a, (k0_off52 v1449) a + S1x16.size a ≤ S64x128.size a) ∧
  (∀ (k0_h1 : k0_cond1 k0_t2 = 1#1), ∀ (k0_h3 : k0_cond3 v1437 v1439 = 1#1), ∀ a, (k0_off54 v1449) a + S1x16.size a ≤ S64x128.size a) ∧
  (∀ (k0_h1 : k0_cond1 k0_t2 = 1#1), ∀ (k0_h3 : k0_cond3 v1437 v1439 = 1#1), ∀ a, (k0_off56 v1449) a + S1x16.size a ≤ S64x16.size a)
theorem k0_off40_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off40 v1449) a + S1x16.size a ≤ S64x128.size a := fun k0_t2 v1437 v1439 v1449 k0_hw2 k0_h1 k0_h3 => k0_hw2.1 k0_h1 k0_h3
theorem k0_off42_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off42 v1449) a + S1x16.size a ≤ S64x128.size a := fun k0_t2 v1437 v1439 v1449 k0_hw2 k0_h1 k0_h3 => k0_hw2.2.1 k0_h1 k0_h3
theorem k0_off44_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off44 v1449) a + S1x16.size a ≤ S64x128.size a := fun k0_t2 v1437 v1439 v1449 k0_hw2 k0_h1 k0_h3 => k0_hw2.2.2.1 k0_h1 k0_h3
theorem k0_off46_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off46 v1449) a + S1x16.size a ≤ S64x128.size a := fun k0_t2 v1437 v1439 v1449 k0_hw2 k0_h1 k0_h3 => k0_hw2.2.2.2.1 k0_h1 k0_h3
theorem k0_off48_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off48 v1449) a + S1x16.size a ≤ S64x128.size a := fun k0_t2 v1437 v1439 v1449 k0_hw2 k0_h1 k0_h3 => k0_hw2.2.2.2.2.1 k0_h1 k0_h3
theorem k0_off50_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off50 v1449) a + S1x16.size a ≤ S64x128.size a := fun k0_t2 v1437 v1439 v1449 k0_hw2 k0_h1 k0_h3 => k0_hw2.2.2.2.2.2.1 k0_h1 k0_h3
theorem k0_off52_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off52 v1449) a + S1x16.size a ≤ S64x128.size a := fun k0_t2 v1437 v1439 v1449 k0_hw2 k0_h1 k0_h3 => k0_hw2.2.2.2.2.2.2.1 k0_h1 k0_h3
theorem k0_off54_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off54 v1449) a + S1x16.size a ≤ S64x128.size a := fun k0_t2 v1437 v1439 v1449 k0_hw2 k0_h1 k0_h3 => k0_hw2.2.2.2.2.2.2.2.1 k0_h1 k0_h3
theorem k0_off56_inb : ∀ (k0_t2 : Fin k0_t2_loop.trips) (v1437 : BitVec 32) (v1439 : BitVec 32) (v1449 : BitVec 32) (k0_hw2 : k0_chk2 k0_t2 v1437 v1439 v1449), ∀ (k0_h1 : k0_cond1 k0_t2 = 1#1), ∀ (k0_h3 : k0_cond3 v1437 v1439 = 1#1), ∀ a, (k0_off56 v1449) a + S1x16.size a ≤ S64x16.size a := fun k0_t2 v1437 v1439 v1449 k0_hw2 k0_h1 k0_h3 => k0_hw2.2.2.2.2.2.2.2.2 k0_h1 k0_h3

def k0_off57 (v1530 : BitVec 32) : Fin 2 → Nat :=
  let v1531 : Index := Scalar.indexCast v1530
  let c0_319 : Index := 0#32
  ![v1531.toNat, 0]

def k0_off58 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_320 : BitVec 32 := 1#32
  let v1533 : BitVec 32 := Scalar.addi v57 c1_i32_320
  let v1534 : Index := Scalar.indexCast v1533
  let c0_321 : Index := 0#32
  ![v1534.toNat, 0]
def k0_off59 (v1530 : BitVec 32) : Fin 2 → Nat :=
  let v1540 : Index := Scalar.indexCast v1530
  let c16_323 : Index := 16#32
  ![v1540.toNat, 16]
def k0_off60 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_324 : BitVec 32 := 1#32
  let v1542 : BitVec 32 := Scalar.addi v57 c1_i32_324
  let v1543 : Index := Scalar.indexCast v1542
  let c16_325 : Index := 16#32
  ![v1543.toNat, 16]
def k0_off61 (v1530 : BitVec 32) : Fin 2 → Nat :=
  let v1549 : Index := Scalar.indexCast v1530
  let c32_327 : Index := 32#32
  ![v1549.toNat, 32]
def k0_off62 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_328 : BitVec 32 := 1#32
  let v1551 : BitVec 32 := Scalar.addi v57 c1_i32_328
  let v1552 : Index := Scalar.indexCast v1551
  let c32_329 : Index := 32#32
  ![v1552.toNat, 32]
def k0_off63 (v1530 : BitVec 32) : Fin 2 → Nat :=
  let v1558 : Index := Scalar.indexCast v1530
  let c48_331 : Index := 48#32
  ![v1558.toNat, 48]
def k0_off64 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_332 : BitVec 32 := 1#32
  let v1560 : BitVec 32 := Scalar.addi v57 c1_i32_332
  let v1561 : Index := Scalar.indexCast v1560
  let c48_333 : Index := 48#32
  ![v1561.toNat, 48]
def k0_off65 (v1530 : BitVec 32) : Fin 2 → Nat :=
  let v1567 : Index := Scalar.indexCast v1530
  let c64_335 : Index := 64#32
  ![v1567.toNat, 64]
def k0_off66 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_336 : BitVec 32 := 1#32
  let v1569 : BitVec 32 := Scalar.addi v57 c1_i32_336
  let v1570 : Index := Scalar.indexCast v1569
  let c64_337 : Index := 64#32
  ![v1570.toNat, 64]
def k0_off67 (v1530 : BitVec 32) : Fin 2 → Nat :=
  let v1576 : Index := Scalar.indexCast v1530
  let c80_339 : Index := 80#32
  ![v1576.toNat, 80]
def k0_off68 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_340 : BitVec 32 := 1#32
  let v1578 : BitVec 32 := Scalar.addi v57 c1_i32_340
  let v1579 : Index := Scalar.indexCast v1578
  let c80_341 : Index := 80#32
  ![v1579.toNat, 80]
def k0_off69 (v1530 : BitVec 32) : Fin 2 → Nat :=
  let v1585 : Index := Scalar.indexCast v1530
  let c96_343 : Index := 96#32
  ![v1585.toNat, 96]
def k0_off70 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_344 : BitVec 32 := 1#32
  let v1587 : BitVec 32 := Scalar.addi v57 c1_i32_344
  let v1588 : Index := Scalar.indexCast v1587
  let c96_345 : Index := 96#32
  ![v1588.toNat, 96]
def k0_off71 (v1530 : BitVec 32) : Fin 2 → Nat :=
  let v1594 : Index := Scalar.indexCast v1530
  let c112_347 : Index := 112#32
  ![v1594.toNat, 112]
def k0_off72 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c1_i32_348 : BitVec 32 := 1#32
  let v1596 : BitVec 32 := Scalar.addi v57 c1_i32_348
  let v1597 : Index := Scalar.indexCast v1596
  let c112_349 : Index := 112#32
  ![v1597.toNat, 112]
def k0_off73 (v1530 : BitVec 32) : Fin 2 → Nat :=
  let v1603 : Index := Scalar.indexCast v1530
  let c0_351 : Index := 0#32
  ![v1603.toNat, 0]

def k0_chk3 (k0_t2 : Fin k0_t2_loop.trips) (v1437 : BitVec 32) (v1439 : BitVec 32) (v1530 : BitVec 32) : Prop :=
  (∀ (k0_h1 : k0_cond1 k0_t2 = 1#1), ∀ (k0_h3 : k0_cond3 v1437 v1439 = 1#1), ∀ a, (k0_off57 v1530) a + S1x16.size a ≤ S64x128.size a) ∧
  (∀ (k0_h1 : k0_cond1 k0_t2 = 1#1), ∀ (k0_h3 : k0_cond3 v1437 v1439 = 1#1), ∀ a, (k0_off59 v1530) a + S1x16.size a ≤ S64x128.size a) ∧
  (∀ (k0_h1 : k0_cond1 k0_t2 = 1#1), ∀ (k0_h3 : k0_cond3 v1437 v1439 = 1#1), ∀ a, (k0_off61 v1530) a + S1x16.size a ≤ S64x128.size a) ∧
  (∀ (k0_h1 : k0_cond1 k0_t2 = 1#1), ∀ (k0_h3 : k0_cond3 v1437 v1439 = 1#1), ∀ a, (k0_off63 v1530) a + S1x16.size a ≤ S64x128.size a) ∧
  (∀ (k0_h1 : k0_cond1 k0_t2 = 1#1), ∀ (k0_h3 : k0_cond3 v1437 v1439 = 1#1), ∀ a, (k0_off65 v1530) a + S1x16.size a ≤ S64x128.size a) ∧
  (∀ (k0_h1 : k0_cond1 k0_t2 = 1#1), ∀ (k0_h3 : k0_cond3 v1437 v1439 = 1#1), ∀ a, (k0_off67 v1530) a + S1x16.size a ≤ S64x128.size a) ∧
  (∀ (k0_h1 : k0_cond1 k0_t2 = 1#1), ∀ (k0_h3 : k0_cond3 v1437 v1439 = 1#1), ∀ a, (k0_off69 v1530) a + S1x16.size a ≤ S64x128.size a) ∧
  (∀ (k0_h1 : k0_cond1 k0_t2 = 1#1), ∀ (k0_h3 : k0_cond3 v1437 v1439 = 1#1), ∀ a, (k0_off71 v1530) a + S1x16.size a ≤ S64x128.size a) ∧
  (∀ (k0_h1 : k0_cond1 k0_t2 = 1#1), ∀ (k0_h3 : k0_cond3 v1437 v1439 = 1#1), ∀ a, (k0_off73 v1530) a + S1x16.size a ≤ S64x16.size a)
theorem k0_off57_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off57 v1530) a + S1x16.size a ≤ S64x128.size a := fun k0_t2 v1437 v1439 v1530 k0_hw3 k0_h1 k0_h3 => k0_hw3.1 k0_h1 k0_h3
theorem k0_off59_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off59 v1530) a + S1x16.size a ≤ S64x128.size a := fun k0_t2 v1437 v1439 v1530 k0_hw3 k0_h1 k0_h3 => k0_hw3.2.1 k0_h1 k0_h3
theorem k0_off61_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off61 v1530) a + S1x16.size a ≤ S64x128.size a := fun k0_t2 v1437 v1439 v1530 k0_hw3 k0_h1 k0_h3 => k0_hw3.2.2.1 k0_h1 k0_h3
theorem k0_off63_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off63 v1530) a + S1x16.size a ≤ S64x128.size a := fun k0_t2 v1437 v1439 v1530 k0_hw3 k0_h1 k0_h3 => k0_hw3.2.2.2.1 k0_h1 k0_h3
theorem k0_off65_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off65 v1530) a + S1x16.size a ≤ S64x128.size a := fun k0_t2 v1437 v1439 v1530 k0_hw3 k0_h1 k0_h3 => k0_hw3.2.2.2.2.1 k0_h1 k0_h3
theorem k0_off67_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off67 v1530) a + S1x16.size a ≤ S64x128.size a := fun k0_t2 v1437 v1439 v1530 k0_hw3 k0_h1 k0_h3 => k0_hw3.2.2.2.2.2.1 k0_h1 k0_h3
theorem k0_off69_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off69 v1530) a + S1x16.size a ≤ S64x128.size a := fun k0_t2 v1437 v1439 v1530 k0_hw3 k0_h1 k0_h3 => k0_hw3.2.2.2.2.2.2.1 k0_h1 k0_h3
theorem k0_off71_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off71 v1530) a + S1x16.size a ≤ S64x128.size a := fun k0_t2 v1437 v1439 v1530 k0_hw3 k0_h1 k0_h3 => k0_hw3.2.2.2.2.2.2.2.1 k0_h1 k0_h3
theorem k0_off73_inb : ∀ (k0_t2 : Fin k0_t2_loop.trips) (v1437 : BitVec 32) (v1439 : BitVec 32) (v1530 : BitVec 32) (k0_hw3 : k0_chk3 k0_t2 v1437 v1439 v1530), ∀ (k0_h1 : k0_cond1 k0_t2 = 1#1), ∀ (k0_h3 : k0_cond3 v1437 v1439 = 1#1), ∀ a, (k0_off73 v1530) a + S1x16.size a ≤ S64x16.size a := fun k0_t2 v1437 v1439 v1530 k0_hw3 k0_h1 k0_h3 => k0_hw3.2.2.2.2.2.2.2.2 k0_h1 k0_h3

def k0_off74 (v1611 : BitVec 32) : Fin 2 → Nat :=
  let v1612 : Index := Scalar.indexCast v1611
  let c0_353 : Index := 0#32
  ![v1612.toNat, 0]

def k0_off75 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_354 : BitVec 32 := 2#32
  let v1614 : BitVec 32 := Scalar.addi v57 c2_i32_354
  let v1615 : Index := Scalar.indexCast v1614
  let c0_355 : Index := 0#32
  ![v1615.toNat, 0]
def k0_off76 (v1611 : BitVec 32) : Fin 2 → Nat :=
  let v1621 : Index := Scalar.indexCast v1611
  let c16_357 : Index := 16#32
  ![v1621.toNat, 16]
def k0_off77 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_358 : BitVec 32 := 2#32
  let v1623 : BitVec 32 := Scalar.addi v57 c2_i32_358
  let v1624 : Index := Scalar.indexCast v1623
  let c16_359 : Index := 16#32
  ![v1624.toNat, 16]
def k0_off78 (v1611 : BitVec 32) : Fin 2 → Nat :=
  let v1630 : Index := Scalar.indexCast v1611
  let c32_361 : Index := 32#32
  ![v1630.toNat, 32]
def k0_off79 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_362 : BitVec 32 := 2#32
  let v1632 : BitVec 32 := Scalar.addi v57 c2_i32_362
  let v1633 : Index := Scalar.indexCast v1632
  let c32_363 : Index := 32#32
  ![v1633.toNat, 32]
def k0_off80 (v1611 : BitVec 32) : Fin 2 → Nat :=
  let v1639 : Index := Scalar.indexCast v1611
  let c48_365 : Index := 48#32
  ![v1639.toNat, 48]
def k0_off81 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_366 : BitVec 32 := 2#32
  let v1641 : BitVec 32 := Scalar.addi v57 c2_i32_366
  let v1642 : Index := Scalar.indexCast v1641
  let c48_367 : Index := 48#32
  ![v1642.toNat, 48]
def k0_off82 (v1611 : BitVec 32) : Fin 2 → Nat :=
  let v1648 : Index := Scalar.indexCast v1611
  let c64_369 : Index := 64#32
  ![v1648.toNat, 64]
def k0_off83 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_370 : BitVec 32 := 2#32
  let v1650 : BitVec 32 := Scalar.addi v57 c2_i32_370
  let v1651 : Index := Scalar.indexCast v1650
  let c64_371 : Index := 64#32
  ![v1651.toNat, 64]
def k0_off84 (v1611 : BitVec 32) : Fin 2 → Nat :=
  let v1657 : Index := Scalar.indexCast v1611
  let c80_373 : Index := 80#32
  ![v1657.toNat, 80]
def k0_off85 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_374 : BitVec 32 := 2#32
  let v1659 : BitVec 32 := Scalar.addi v57 c2_i32_374
  let v1660 : Index := Scalar.indexCast v1659
  let c80_375 : Index := 80#32
  ![v1660.toNat, 80]
def k0_off86 (v1611 : BitVec 32) : Fin 2 → Nat :=
  let v1666 : Index := Scalar.indexCast v1611
  let c96_377 : Index := 96#32
  ![v1666.toNat, 96]
def k0_off87 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_378 : BitVec 32 := 2#32
  let v1668 : BitVec 32 := Scalar.addi v57 c2_i32_378
  let v1669 : Index := Scalar.indexCast v1668
  let c96_379 : Index := 96#32
  ![v1669.toNat, 96]
def k0_off88 (v1611 : BitVec 32) : Fin 2 → Nat :=
  let v1675 : Index := Scalar.indexCast v1611
  let c112_381 : Index := 112#32
  ![v1675.toNat, 112]
def k0_off89 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c2_i32_382 : BitVec 32 := 2#32
  let v1677 : BitVec 32 := Scalar.addi v57 c2_i32_382
  let v1678 : Index := Scalar.indexCast v1677
  let c112_383 : Index := 112#32
  ![v1678.toNat, 112]
def k0_off90 (v1611 : BitVec 32) : Fin 2 → Nat :=
  let v1684 : Index := Scalar.indexCast v1611
  let c0_385 : Index := 0#32
  ![v1684.toNat, 0]

def k0_chk4 (k0_t2 : Fin k0_t2_loop.trips) (v1437 : BitVec 32) (v1439 : BitVec 32) (v1611 : BitVec 32) : Prop :=
  (∀ (k0_h1 : k0_cond1 k0_t2 = 1#1), ∀ (k0_h3 : k0_cond3 v1437 v1439 = 1#1), ∀ a, (k0_off74 v1611) a + S1x16.size a ≤ S64x128.size a) ∧
  (∀ (k0_h1 : k0_cond1 k0_t2 = 1#1), ∀ (k0_h3 : k0_cond3 v1437 v1439 = 1#1), ∀ a, (k0_off76 v1611) a + S1x16.size a ≤ S64x128.size a) ∧
  (∀ (k0_h1 : k0_cond1 k0_t2 = 1#1), ∀ (k0_h3 : k0_cond3 v1437 v1439 = 1#1), ∀ a, (k0_off78 v1611) a + S1x16.size a ≤ S64x128.size a) ∧
  (∀ (k0_h1 : k0_cond1 k0_t2 = 1#1), ∀ (k0_h3 : k0_cond3 v1437 v1439 = 1#1), ∀ a, (k0_off80 v1611) a + S1x16.size a ≤ S64x128.size a) ∧
  (∀ (k0_h1 : k0_cond1 k0_t2 = 1#1), ∀ (k0_h3 : k0_cond3 v1437 v1439 = 1#1), ∀ a, (k0_off82 v1611) a + S1x16.size a ≤ S64x128.size a) ∧
  (∀ (k0_h1 : k0_cond1 k0_t2 = 1#1), ∀ (k0_h3 : k0_cond3 v1437 v1439 = 1#1), ∀ a, (k0_off84 v1611) a + S1x16.size a ≤ S64x128.size a) ∧
  (∀ (k0_h1 : k0_cond1 k0_t2 = 1#1), ∀ (k0_h3 : k0_cond3 v1437 v1439 = 1#1), ∀ a, (k0_off86 v1611) a + S1x16.size a ≤ S64x128.size a) ∧
  (∀ (k0_h1 : k0_cond1 k0_t2 = 1#1), ∀ (k0_h3 : k0_cond3 v1437 v1439 = 1#1), ∀ a, (k0_off88 v1611) a + S1x16.size a ≤ S64x128.size a) ∧
  (∀ (k0_h1 : k0_cond1 k0_t2 = 1#1), ∀ (k0_h3 : k0_cond3 v1437 v1439 = 1#1), ∀ a, (k0_off90 v1611) a + S1x16.size a ≤ S64x16.size a)
theorem k0_off74_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off74 v1611) a + S1x16.size a ≤ S64x128.size a := fun k0_t2 v1437 v1439 v1611 k0_hw4 k0_h1 k0_h3 => k0_hw4.1 k0_h1 k0_h3
theorem k0_off76_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off76 v1611) a + S1x16.size a ≤ S64x128.size a := fun k0_t2 v1437 v1439 v1611 k0_hw4 k0_h1 k0_h3 => k0_hw4.2.1 k0_h1 k0_h3
theorem k0_off78_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off78 v1611) a + S1x16.size a ≤ S64x128.size a := fun k0_t2 v1437 v1439 v1611 k0_hw4 k0_h1 k0_h3 => k0_hw4.2.2.1 k0_h1 k0_h3
theorem k0_off80_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off80 v1611) a + S1x16.size a ≤ S64x128.size a := fun k0_t2 v1437 v1439 v1611 k0_hw4 k0_h1 k0_h3 => k0_hw4.2.2.2.1 k0_h1 k0_h3
theorem k0_off82_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off82 v1611) a + S1x16.size a ≤ S64x128.size a := fun k0_t2 v1437 v1439 v1611 k0_hw4 k0_h1 k0_h3 => k0_hw4.2.2.2.2.1 k0_h1 k0_h3
theorem k0_off84_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off84 v1611) a + S1x16.size a ≤ S64x128.size a := fun k0_t2 v1437 v1439 v1611 k0_hw4 k0_h1 k0_h3 => k0_hw4.2.2.2.2.2.1 k0_h1 k0_h3
theorem k0_off86_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off86 v1611) a + S1x16.size a ≤ S64x128.size a := fun k0_t2 v1437 v1439 v1611 k0_hw4 k0_h1 k0_h3 => k0_hw4.2.2.2.2.2.2.1 k0_h1 k0_h3
theorem k0_off88_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off88 v1611) a + S1x16.size a ≤ S64x128.size a := fun k0_t2 v1437 v1439 v1611 k0_hw4 k0_h1 k0_h3 => k0_hw4.2.2.2.2.2.2.2.1 k0_h1 k0_h3
theorem k0_off90_inb : ∀ (k0_t2 : Fin k0_t2_loop.trips) (v1437 : BitVec 32) (v1439 : BitVec 32) (v1611 : BitVec 32) (k0_hw4 : k0_chk4 k0_t2 v1437 v1439 v1611), ∀ (k0_h1 : k0_cond1 k0_t2 = 1#1), ∀ (k0_h3 : k0_cond3 v1437 v1439 = 1#1), ∀ a, (k0_off90 v1611) a + S1x16.size a ≤ S64x16.size a := fun k0_t2 v1437 v1439 v1611 k0_hw4 k0_h1 k0_h3 => k0_hw4.2.2.2.2.2.2.2.2 k0_h1 k0_h3

def k0_off91 (v1692 : BitVec 32) : Fin 2 → Nat :=
  let v1693 : Index := Scalar.indexCast v1692
  let c0_387 : Index := 0#32
  ![v1693.toNat, 0]

def k0_off92 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_388 : BitVec 32 := 3#32
  let v1695 : BitVec 32 := Scalar.addi v57 c3_i32_388
  let v1696 : Index := Scalar.indexCast v1695
  let c0_389 : Index := 0#32
  ![v1696.toNat, 0]
def k0_off93 (v1692 : BitVec 32) : Fin 2 → Nat :=
  let v1702 : Index := Scalar.indexCast v1692
  let c16_391 : Index := 16#32
  ![v1702.toNat, 16]
def k0_off94 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_392 : BitVec 32 := 3#32
  let v1704 : BitVec 32 := Scalar.addi v57 c3_i32_392
  let v1705 : Index := Scalar.indexCast v1704
  let c16_393 : Index := 16#32
  ![v1705.toNat, 16]
def k0_off95 (v1692 : BitVec 32) : Fin 2 → Nat :=
  let v1711 : Index := Scalar.indexCast v1692
  let c32_395 : Index := 32#32
  ![v1711.toNat, 32]
def k0_off96 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_396 : BitVec 32 := 3#32
  let v1713 : BitVec 32 := Scalar.addi v57 c3_i32_396
  let v1714 : Index := Scalar.indexCast v1713
  let c32_397 : Index := 32#32
  ![v1714.toNat, 32]
def k0_off97 (v1692 : BitVec 32) : Fin 2 → Nat :=
  let v1720 : Index := Scalar.indexCast v1692
  let c48_399 : Index := 48#32
  ![v1720.toNat, 48]
def k0_off98 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_400 : BitVec 32 := 3#32
  let v1722 : BitVec 32 := Scalar.addi v57 c3_i32_400
  let v1723 : Index := Scalar.indexCast v1722
  let c48_401 : Index := 48#32
  ![v1723.toNat, 48]
def k0_off99 (v1692 : BitVec 32) : Fin 2 → Nat :=
  let v1729 : Index := Scalar.indexCast v1692
  let c64_403 : Index := 64#32
  ![v1729.toNat, 64]
def k0_off100 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_404 : BitVec 32 := 3#32
  let v1731 : BitVec 32 := Scalar.addi v57 c3_i32_404
  let v1732 : Index := Scalar.indexCast v1731
  let c64_405 : Index := 64#32
  ![v1732.toNat, 64]
def k0_off101 (v1692 : BitVec 32) : Fin 2 → Nat :=
  let v1738 : Index := Scalar.indexCast v1692
  let c80_407 : Index := 80#32
  ![v1738.toNat, 80]
def k0_off102 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_408 : BitVec 32 := 3#32
  let v1740 : BitVec 32 := Scalar.addi v57 c3_i32_408
  let v1741 : Index := Scalar.indexCast v1740
  let c80_409 : Index := 80#32
  ![v1741.toNat, 80]
def k0_off103 (v1692 : BitVec 32) : Fin 2 → Nat :=
  let v1747 : Index := Scalar.indexCast v1692
  let c96_411 : Index := 96#32
  ![v1747.toNat, 96]
def k0_off104 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_412 : BitVec 32 := 3#32
  let v1749 : BitVec 32 := Scalar.addi v57 c3_i32_412
  let v1750 : Index := Scalar.indexCast v1749
  let c96_413 : Index := 96#32
  ![v1750.toNat, 96]
def k0_off105 (v1692 : BitVec 32) : Fin 2 → Nat :=
  let v1756 : Index := Scalar.indexCast v1692
  let c112_415 : Index := 112#32
  ![v1756.toNat, 112]
def k0_off106 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c3_i32_416 : BitVec 32 := 3#32
  let v1758 : BitVec 32 := Scalar.addi v57 c3_i32_416
  let v1759 : Index := Scalar.indexCast v1758
  let c112_417 : Index := 112#32
  ![v1759.toNat, 112]
def k0_off107 (v1692 : BitVec 32) : Fin 2 → Nat :=
  let v1765 : Index := Scalar.indexCast v1692
  let c0_419 : Index := 0#32
  ![v1765.toNat, 0]

def k0_chk5 (k0_t2 : Fin k0_t2_loop.trips) (v1437 : BitVec 32) (v1439 : BitVec 32) (v1692 : BitVec 32) : Prop :=
  (∀ (k0_h1 : k0_cond1 k0_t2 = 1#1), ∀ (k0_h3 : k0_cond3 v1437 v1439 = 1#1), ∀ a, (k0_off91 v1692) a + S1x16.size a ≤ S64x128.size a) ∧
  (∀ (k0_h1 : k0_cond1 k0_t2 = 1#1), ∀ (k0_h3 : k0_cond3 v1437 v1439 = 1#1), ∀ a, (k0_off93 v1692) a + S1x16.size a ≤ S64x128.size a) ∧
  (∀ (k0_h1 : k0_cond1 k0_t2 = 1#1), ∀ (k0_h3 : k0_cond3 v1437 v1439 = 1#1), ∀ a, (k0_off95 v1692) a + S1x16.size a ≤ S64x128.size a) ∧
  (∀ (k0_h1 : k0_cond1 k0_t2 = 1#1), ∀ (k0_h3 : k0_cond3 v1437 v1439 = 1#1), ∀ a, (k0_off97 v1692) a + S1x16.size a ≤ S64x128.size a) ∧
  (∀ (k0_h1 : k0_cond1 k0_t2 = 1#1), ∀ (k0_h3 : k0_cond3 v1437 v1439 = 1#1), ∀ a, (k0_off99 v1692) a + S1x16.size a ≤ S64x128.size a) ∧
  (∀ (k0_h1 : k0_cond1 k0_t2 = 1#1), ∀ (k0_h3 : k0_cond3 v1437 v1439 = 1#1), ∀ a, (k0_off101 v1692) a + S1x16.size a ≤ S64x128.size a) ∧
  (∀ (k0_h1 : k0_cond1 k0_t2 = 1#1), ∀ (k0_h3 : k0_cond3 v1437 v1439 = 1#1), ∀ a, (k0_off103 v1692) a + S1x16.size a ≤ S64x128.size a) ∧
  (∀ (k0_h1 : k0_cond1 k0_t2 = 1#1), ∀ (k0_h3 : k0_cond3 v1437 v1439 = 1#1), ∀ a, (k0_off105 v1692) a + S1x16.size a ≤ S64x128.size a) ∧
  (∀ (k0_h1 : k0_cond1 k0_t2 = 1#1), ∀ (k0_h3 : k0_cond3 v1437 v1439 = 1#1), ∀ a, (k0_off107 v1692) a + S1x16.size a ≤ S64x16.size a)
theorem k0_off91_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off91 v1692) a + S1x16.size a ≤ S64x128.size a := fun k0_t2 v1437 v1439 v1692 k0_hw5 k0_h1 k0_h3 => k0_hw5.1 k0_h1 k0_h3
theorem k0_off93_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off93 v1692) a + S1x16.size a ≤ S64x128.size a := fun k0_t2 v1437 v1439 v1692 k0_hw5 k0_h1 k0_h3 => k0_hw5.2.1 k0_h1 k0_h3
theorem k0_off95_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off95 v1692) a + S1x16.size a ≤ S64x128.size a := fun k0_t2 v1437 v1439 v1692 k0_hw5 k0_h1 k0_h3 => k0_hw5.2.2.1 k0_h1 k0_h3
theorem k0_off97_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off97 v1692) a + S1x16.size a ≤ S64x128.size a := fun k0_t2 v1437 v1439 v1692 k0_hw5 k0_h1 k0_h3 => k0_hw5.2.2.2.1 k0_h1 k0_h3
theorem k0_off99_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off99 v1692) a + S1x16.size a ≤ S64x128.size a := fun k0_t2 v1437 v1439 v1692 k0_hw5 k0_h1 k0_h3 => k0_hw5.2.2.2.2.1 k0_h1 k0_h3
theorem k0_off101_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off101 v1692) a + S1x16.size a ≤ S64x128.size a := fun k0_t2 v1437 v1439 v1692 k0_hw5 k0_h1 k0_h3 => k0_hw5.2.2.2.2.2.1 k0_h1 k0_h3
theorem k0_off103_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off103 v1692) a + S1x16.size a ≤ S64x128.size a := fun k0_t2 v1437 v1439 v1692 k0_hw5 k0_h1 k0_h3 => k0_hw5.2.2.2.2.2.2.1 k0_h1 k0_h3
theorem k0_off105_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off105 v1692) a + S1x16.size a ≤ S64x128.size a := fun k0_t2 v1437 v1439 v1692 k0_hw5 k0_h1 k0_h3 => k0_hw5.2.2.2.2.2.2.2.1 k0_h1 k0_h3
theorem k0_off107_inb : ∀ (k0_t2 : Fin k0_t2_loop.trips) (v1437 : BitVec 32) (v1439 : BitVec 32) (v1692 : BitVec 32) (k0_hw5 : k0_chk5 k0_t2 v1437 v1439 v1692), ∀ (k0_h1 : k0_cond1 k0_t2 = 1#1), ∀ (k0_h3 : k0_cond3 v1437 v1439 = 1#1), ∀ a, (k0_off107 v1692) a + S1x16.size a ≤ S64x16.size a := fun k0_t2 v1437 v1439 v1692 k0_hw5 k0_h1 k0_h3 => k0_hw5.2.2.2.2.2.2.2.2 k0_h1 k0_h3

def k0_off108 (v1773 : BitVec 32) : Fin 2 → Nat :=
  let v1774 : Index := Scalar.indexCast v1773
  let c0_421 : Index := 0#32
  ![v1774.toNat, 0]

def k0_off109 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_422 : BitVec 32 := 4#32
  let v1776 : BitVec 32 := Scalar.addi v57 c4_i32_422
  let v1777 : Index := Scalar.indexCast v1776
  let c0_423 : Index := 0#32
  ![v1777.toNat, 0]
def k0_off110 (v1773 : BitVec 32) : Fin 2 → Nat :=
  let v1783 : Index := Scalar.indexCast v1773
  let c16_425 : Index := 16#32
  ![v1783.toNat, 16]
def k0_off111 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_426 : BitVec 32 := 4#32
  let v1785 : BitVec 32 := Scalar.addi v57 c4_i32_426
  let v1786 : Index := Scalar.indexCast v1785
  let c16_427 : Index := 16#32
  ![v1786.toNat, 16]
def k0_off112 (v1773 : BitVec 32) : Fin 2 → Nat :=
  let v1792 : Index := Scalar.indexCast v1773
  let c32_429 : Index := 32#32
  ![v1792.toNat, 32]
def k0_off113 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_430 : BitVec 32 := 4#32
  let v1794 : BitVec 32 := Scalar.addi v57 c4_i32_430
  let v1795 : Index := Scalar.indexCast v1794
  let c32_431 : Index := 32#32
  ![v1795.toNat, 32]
def k0_off114 (v1773 : BitVec 32) : Fin 2 → Nat :=
  let v1801 : Index := Scalar.indexCast v1773
  let c48_433 : Index := 48#32
  ![v1801.toNat, 48]
def k0_off115 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_434 : BitVec 32 := 4#32
  let v1803 : BitVec 32 := Scalar.addi v57 c4_i32_434
  let v1804 : Index := Scalar.indexCast v1803
  let c48_435 : Index := 48#32
  ![v1804.toNat, 48]
def k0_off116 (v1773 : BitVec 32) : Fin 2 → Nat :=
  let v1810 : Index := Scalar.indexCast v1773
  let c64_437 : Index := 64#32
  ![v1810.toNat, 64]
def k0_off117 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_438 : BitVec 32 := 4#32
  let v1812 : BitVec 32 := Scalar.addi v57 c4_i32_438
  let v1813 : Index := Scalar.indexCast v1812
  let c64_439 : Index := 64#32
  ![v1813.toNat, 64]
def k0_off118 (v1773 : BitVec 32) : Fin 2 → Nat :=
  let v1819 : Index := Scalar.indexCast v1773
  let c80_441 : Index := 80#32
  ![v1819.toNat, 80]
def k0_off119 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_442 : BitVec 32 := 4#32
  let v1821 : BitVec 32 := Scalar.addi v57 c4_i32_442
  let v1822 : Index := Scalar.indexCast v1821
  let c80_443 : Index := 80#32
  ![v1822.toNat, 80]
def k0_off120 (v1773 : BitVec 32) : Fin 2 → Nat :=
  let v1828 : Index := Scalar.indexCast v1773
  let c96_445 : Index := 96#32
  ![v1828.toNat, 96]
def k0_off121 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_446 : BitVec 32 := 4#32
  let v1830 : BitVec 32 := Scalar.addi v57 c4_i32_446
  let v1831 : Index := Scalar.indexCast v1830
  let c96_447 : Index := 96#32
  ![v1831.toNat, 96]
def k0_off122 (v1773 : BitVec 32) : Fin 2 → Nat :=
  let v1837 : Index := Scalar.indexCast v1773
  let c112_449 : Index := 112#32
  ![v1837.toNat, 112]
def k0_off123 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c4_i32_450 : BitVec 32 := 4#32
  let v1839 : BitVec 32 := Scalar.addi v57 c4_i32_450
  let v1840 : Index := Scalar.indexCast v1839
  let c112_451 : Index := 112#32
  ![v1840.toNat, 112]
def k0_off124 (v1773 : BitVec 32) : Fin 2 → Nat :=
  let v1846 : Index := Scalar.indexCast v1773
  let c0_453 : Index := 0#32
  ![v1846.toNat, 0]

def k0_chk6 (k0_t2 : Fin k0_t2_loop.trips) (v1437 : BitVec 32) (v1439 : BitVec 32) (v1773 : BitVec 32) : Prop :=
  (∀ (k0_h1 : k0_cond1 k0_t2 = 1#1), ∀ (k0_h3 : k0_cond3 v1437 v1439 = 1#1), ∀ a, (k0_off108 v1773) a + S1x16.size a ≤ S64x128.size a) ∧
  (∀ (k0_h1 : k0_cond1 k0_t2 = 1#1), ∀ (k0_h3 : k0_cond3 v1437 v1439 = 1#1), ∀ a, (k0_off110 v1773) a + S1x16.size a ≤ S64x128.size a) ∧
  (∀ (k0_h1 : k0_cond1 k0_t2 = 1#1), ∀ (k0_h3 : k0_cond3 v1437 v1439 = 1#1), ∀ a, (k0_off112 v1773) a + S1x16.size a ≤ S64x128.size a) ∧
  (∀ (k0_h1 : k0_cond1 k0_t2 = 1#1), ∀ (k0_h3 : k0_cond3 v1437 v1439 = 1#1), ∀ a, (k0_off114 v1773) a + S1x16.size a ≤ S64x128.size a) ∧
  (∀ (k0_h1 : k0_cond1 k0_t2 = 1#1), ∀ (k0_h3 : k0_cond3 v1437 v1439 = 1#1), ∀ a, (k0_off116 v1773) a + S1x16.size a ≤ S64x128.size a) ∧
  (∀ (k0_h1 : k0_cond1 k0_t2 = 1#1), ∀ (k0_h3 : k0_cond3 v1437 v1439 = 1#1), ∀ a, (k0_off118 v1773) a + S1x16.size a ≤ S64x128.size a) ∧
  (∀ (k0_h1 : k0_cond1 k0_t2 = 1#1), ∀ (k0_h3 : k0_cond3 v1437 v1439 = 1#1), ∀ a, (k0_off120 v1773) a + S1x16.size a ≤ S64x128.size a) ∧
  (∀ (k0_h1 : k0_cond1 k0_t2 = 1#1), ∀ (k0_h3 : k0_cond3 v1437 v1439 = 1#1), ∀ a, (k0_off122 v1773) a + S1x16.size a ≤ S64x128.size a) ∧
  (∀ (k0_h1 : k0_cond1 k0_t2 = 1#1), ∀ (k0_h3 : k0_cond3 v1437 v1439 = 1#1), ∀ a, (k0_off124 v1773) a + S1x16.size a ≤ S64x16.size a)
theorem k0_off108_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off108 v1773) a + S1x16.size a ≤ S64x128.size a := fun k0_t2 v1437 v1439 v1773 k0_hw6 k0_h1 k0_h3 => k0_hw6.1 k0_h1 k0_h3
theorem k0_off110_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off110 v1773) a + S1x16.size a ≤ S64x128.size a := fun k0_t2 v1437 v1439 v1773 k0_hw6 k0_h1 k0_h3 => k0_hw6.2.1 k0_h1 k0_h3
theorem k0_off112_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off112 v1773) a + S1x16.size a ≤ S64x128.size a := fun k0_t2 v1437 v1439 v1773 k0_hw6 k0_h1 k0_h3 => k0_hw6.2.2.1 k0_h1 k0_h3
theorem k0_off114_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off114 v1773) a + S1x16.size a ≤ S64x128.size a := fun k0_t2 v1437 v1439 v1773 k0_hw6 k0_h1 k0_h3 => k0_hw6.2.2.2.1 k0_h1 k0_h3
theorem k0_off116_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off116 v1773) a + S1x16.size a ≤ S64x128.size a := fun k0_t2 v1437 v1439 v1773 k0_hw6 k0_h1 k0_h3 => k0_hw6.2.2.2.2.1 k0_h1 k0_h3
theorem k0_off118_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off118 v1773) a + S1x16.size a ≤ S64x128.size a := fun k0_t2 v1437 v1439 v1773 k0_hw6 k0_h1 k0_h3 => k0_hw6.2.2.2.2.2.1 k0_h1 k0_h3
theorem k0_off120_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off120 v1773) a + S1x16.size a ≤ S64x128.size a := fun k0_t2 v1437 v1439 v1773 k0_hw6 k0_h1 k0_h3 => k0_hw6.2.2.2.2.2.2.1 k0_h1 k0_h3
theorem k0_off122_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off122 v1773) a + S1x16.size a ≤ S64x128.size a := fun k0_t2 v1437 v1439 v1773 k0_hw6 k0_h1 k0_h3 => k0_hw6.2.2.2.2.2.2.2.1 k0_h1 k0_h3
theorem k0_off124_inb : ∀ (k0_t2 : Fin k0_t2_loop.trips) (v1437 : BitVec 32) (v1439 : BitVec 32) (v1773 : BitVec 32) (k0_hw6 : k0_chk6 k0_t2 v1437 v1439 v1773), ∀ (k0_h1 : k0_cond1 k0_t2 = 1#1), ∀ (k0_h3 : k0_cond3 v1437 v1439 = 1#1), ∀ a, (k0_off124 v1773) a + S1x16.size a ≤ S64x16.size a := fun k0_t2 v1437 v1439 v1773 k0_hw6 k0_h1 k0_h3 => k0_hw6.2.2.2.2.2.2.2.2 k0_h1 k0_h3

def k0_off125 (v1854 : BitVec 32) : Fin 2 → Nat :=
  let v1855 : Index := Scalar.indexCast v1854
  let c0_455 : Index := 0#32
  ![v1855.toNat, 0]

def k0_off126 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_456 : BitVec 32 := 5#32
  let v1857 : BitVec 32 := Scalar.addi v57 c5_i32_456
  let v1858 : Index := Scalar.indexCast v1857
  let c0_457 : Index := 0#32
  ![v1858.toNat, 0]
def k0_off127 (v1854 : BitVec 32) : Fin 2 → Nat :=
  let v1864 : Index := Scalar.indexCast v1854
  let c16_459 : Index := 16#32
  ![v1864.toNat, 16]
def k0_off128 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_460 : BitVec 32 := 5#32
  let v1866 : BitVec 32 := Scalar.addi v57 c5_i32_460
  let v1867 : Index := Scalar.indexCast v1866
  let c16_461 : Index := 16#32
  ![v1867.toNat, 16]
def k0_off129 (v1854 : BitVec 32) : Fin 2 → Nat :=
  let v1873 : Index := Scalar.indexCast v1854
  let c32_463 : Index := 32#32
  ![v1873.toNat, 32]
def k0_off130 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_464 : BitVec 32 := 5#32
  let v1875 : BitVec 32 := Scalar.addi v57 c5_i32_464
  let v1876 : Index := Scalar.indexCast v1875
  let c32_465 : Index := 32#32
  ![v1876.toNat, 32]
def k0_off131 (v1854 : BitVec 32) : Fin 2 → Nat :=
  let v1882 : Index := Scalar.indexCast v1854
  let c48_467 : Index := 48#32
  ![v1882.toNat, 48]
def k0_off132 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_468 : BitVec 32 := 5#32
  let v1884 : BitVec 32 := Scalar.addi v57 c5_i32_468
  let v1885 : Index := Scalar.indexCast v1884
  let c48_469 : Index := 48#32
  ![v1885.toNat, 48]
def k0_off133 (v1854 : BitVec 32) : Fin 2 → Nat :=
  let v1891 : Index := Scalar.indexCast v1854
  let c64_471 : Index := 64#32
  ![v1891.toNat, 64]
def k0_off134 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_472 : BitVec 32 := 5#32
  let v1893 : BitVec 32 := Scalar.addi v57 c5_i32_472
  let v1894 : Index := Scalar.indexCast v1893
  let c64_473 : Index := 64#32
  ![v1894.toNat, 64]
def k0_off135 (v1854 : BitVec 32) : Fin 2 → Nat :=
  let v1900 : Index := Scalar.indexCast v1854
  let c80_475 : Index := 80#32
  ![v1900.toNat, 80]
def k0_off136 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_476 : BitVec 32 := 5#32
  let v1902 : BitVec 32 := Scalar.addi v57 c5_i32_476
  let v1903 : Index := Scalar.indexCast v1902
  let c80_477 : Index := 80#32
  ![v1903.toNat, 80]
def k0_off137 (v1854 : BitVec 32) : Fin 2 → Nat :=
  let v1909 : Index := Scalar.indexCast v1854
  let c96_479 : Index := 96#32
  ![v1909.toNat, 96]
def k0_off138 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_480 : BitVec 32 := 5#32
  let v1911 : BitVec 32 := Scalar.addi v57 c5_i32_480
  let v1912 : Index := Scalar.indexCast v1911
  let c96_481 : Index := 96#32
  ![v1912.toNat, 96]
def k0_off139 (v1854 : BitVec 32) : Fin 2 → Nat :=
  let v1918 : Index := Scalar.indexCast v1854
  let c112_483 : Index := 112#32
  ![v1918.toNat, 112]
def k0_off140 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c5_i32_484 : BitVec 32 := 5#32
  let v1920 : BitVec 32 := Scalar.addi v57 c5_i32_484
  let v1921 : Index := Scalar.indexCast v1920
  let c112_485 : Index := 112#32
  ![v1921.toNat, 112]
def k0_off141 (v1854 : BitVec 32) : Fin 2 → Nat :=
  let v1927 : Index := Scalar.indexCast v1854
  let c0_487 : Index := 0#32
  ![v1927.toNat, 0]

def k0_chk7 (k0_t2 : Fin k0_t2_loop.trips) (v1437 : BitVec 32) (v1439 : BitVec 32) (v1854 : BitVec 32) : Prop :=
  (∀ (k0_h1 : k0_cond1 k0_t2 = 1#1), ∀ (k0_h3 : k0_cond3 v1437 v1439 = 1#1), ∀ a, (k0_off125 v1854) a + S1x16.size a ≤ S64x128.size a) ∧
  (∀ (k0_h1 : k0_cond1 k0_t2 = 1#1), ∀ (k0_h3 : k0_cond3 v1437 v1439 = 1#1), ∀ a, (k0_off127 v1854) a + S1x16.size a ≤ S64x128.size a) ∧
  (∀ (k0_h1 : k0_cond1 k0_t2 = 1#1), ∀ (k0_h3 : k0_cond3 v1437 v1439 = 1#1), ∀ a, (k0_off129 v1854) a + S1x16.size a ≤ S64x128.size a) ∧
  (∀ (k0_h1 : k0_cond1 k0_t2 = 1#1), ∀ (k0_h3 : k0_cond3 v1437 v1439 = 1#1), ∀ a, (k0_off131 v1854) a + S1x16.size a ≤ S64x128.size a) ∧
  (∀ (k0_h1 : k0_cond1 k0_t2 = 1#1), ∀ (k0_h3 : k0_cond3 v1437 v1439 = 1#1), ∀ a, (k0_off133 v1854) a + S1x16.size a ≤ S64x128.size a) ∧
  (∀ (k0_h1 : k0_cond1 k0_t2 = 1#1), ∀ (k0_h3 : k0_cond3 v1437 v1439 = 1#1), ∀ a, (k0_off135 v1854) a + S1x16.size a ≤ S64x128.size a) ∧
  (∀ (k0_h1 : k0_cond1 k0_t2 = 1#1), ∀ (k0_h3 : k0_cond3 v1437 v1439 = 1#1), ∀ a, (k0_off137 v1854) a + S1x16.size a ≤ S64x128.size a) ∧
  (∀ (k0_h1 : k0_cond1 k0_t2 = 1#1), ∀ (k0_h3 : k0_cond3 v1437 v1439 = 1#1), ∀ a, (k0_off139 v1854) a + S1x16.size a ≤ S64x128.size a) ∧
  (∀ (k0_h1 : k0_cond1 k0_t2 = 1#1), ∀ (k0_h3 : k0_cond3 v1437 v1439 = 1#1), ∀ a, (k0_off141 v1854) a + S1x16.size a ≤ S64x16.size a)
theorem k0_off125_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off125 v1854) a + S1x16.size a ≤ S64x128.size a := fun k0_t2 v1437 v1439 v1854 k0_hw7 k0_h1 k0_h3 => k0_hw7.1 k0_h1 k0_h3
theorem k0_off127_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off127 v1854) a + S1x16.size a ≤ S64x128.size a := fun k0_t2 v1437 v1439 v1854 k0_hw7 k0_h1 k0_h3 => k0_hw7.2.1 k0_h1 k0_h3
theorem k0_off129_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off129 v1854) a + S1x16.size a ≤ S64x128.size a := fun k0_t2 v1437 v1439 v1854 k0_hw7 k0_h1 k0_h3 => k0_hw7.2.2.1 k0_h1 k0_h3
theorem k0_off131_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off131 v1854) a + S1x16.size a ≤ S64x128.size a := fun k0_t2 v1437 v1439 v1854 k0_hw7 k0_h1 k0_h3 => k0_hw7.2.2.2.1 k0_h1 k0_h3
theorem k0_off133_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off133 v1854) a + S1x16.size a ≤ S64x128.size a := fun k0_t2 v1437 v1439 v1854 k0_hw7 k0_h1 k0_h3 => k0_hw7.2.2.2.2.1 k0_h1 k0_h3
theorem k0_off135_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off135 v1854) a + S1x16.size a ≤ S64x128.size a := fun k0_t2 v1437 v1439 v1854 k0_hw7 k0_h1 k0_h3 => k0_hw7.2.2.2.2.2.1 k0_h1 k0_h3
theorem k0_off137_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off137 v1854) a + S1x16.size a ≤ S64x128.size a := fun k0_t2 v1437 v1439 v1854 k0_hw7 k0_h1 k0_h3 => k0_hw7.2.2.2.2.2.2.1 k0_h1 k0_h3
theorem k0_off139_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off139 v1854) a + S1x16.size a ≤ S64x128.size a := fun k0_t2 v1437 v1439 v1854 k0_hw7 k0_h1 k0_h3 => k0_hw7.2.2.2.2.2.2.2.1 k0_h1 k0_h3
theorem k0_off141_inb : ∀ (k0_t2 : Fin k0_t2_loop.trips) (v1437 : BitVec 32) (v1439 : BitVec 32) (v1854 : BitVec 32) (k0_hw7 : k0_chk7 k0_t2 v1437 v1439 v1854), ∀ (k0_h1 : k0_cond1 k0_t2 = 1#1), ∀ (k0_h3 : k0_cond3 v1437 v1439 = 1#1), ∀ a, (k0_off141 v1854) a + S1x16.size a ≤ S64x16.size a := fun k0_t2 v1437 v1439 v1854 k0_hw7 k0_h1 k0_h3 => k0_hw7.2.2.2.2.2.2.2.2 k0_h1 k0_h3

def k0_off142 (v1935 : BitVec 32) : Fin 2 → Nat :=
  let v1936 : Index := Scalar.indexCast v1935
  let c0_489 : Index := 0#32
  ![v1936.toNat, 0]

def k0_off143 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_490 : BitVec 32 := 6#32
  let v1938 : BitVec 32 := Scalar.addi v57 c6_i32_490
  let v1939 : Index := Scalar.indexCast v1938
  let c0_491 : Index := 0#32
  ![v1939.toNat, 0]
def k0_off144 (v1935 : BitVec 32) : Fin 2 → Nat :=
  let v1945 : Index := Scalar.indexCast v1935
  let c16_493 : Index := 16#32
  ![v1945.toNat, 16]
def k0_off145 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_494 : BitVec 32 := 6#32
  let v1947 : BitVec 32 := Scalar.addi v57 c6_i32_494
  let v1948 : Index := Scalar.indexCast v1947
  let c16_495 : Index := 16#32
  ![v1948.toNat, 16]
def k0_off146 (v1935 : BitVec 32) : Fin 2 → Nat :=
  let v1954 : Index := Scalar.indexCast v1935
  let c32_497 : Index := 32#32
  ![v1954.toNat, 32]
def k0_off147 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_498 : BitVec 32 := 6#32
  let v1956 : BitVec 32 := Scalar.addi v57 c6_i32_498
  let v1957 : Index := Scalar.indexCast v1956
  let c32_499 : Index := 32#32
  ![v1957.toNat, 32]
def k0_off148 (v1935 : BitVec 32) : Fin 2 → Nat :=
  let v1963 : Index := Scalar.indexCast v1935
  let c48_501 : Index := 48#32
  ![v1963.toNat, 48]
def k0_off149 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_502 : BitVec 32 := 6#32
  let v1965 : BitVec 32 := Scalar.addi v57 c6_i32_502
  let v1966 : Index := Scalar.indexCast v1965
  let c48_503 : Index := 48#32
  ![v1966.toNat, 48]
def k0_off150 (v1935 : BitVec 32) : Fin 2 → Nat :=
  let v1972 : Index := Scalar.indexCast v1935
  let c64_505 : Index := 64#32
  ![v1972.toNat, 64]
def k0_off151 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_506 : BitVec 32 := 6#32
  let v1974 : BitVec 32 := Scalar.addi v57 c6_i32_506
  let v1975 : Index := Scalar.indexCast v1974
  let c64_507 : Index := 64#32
  ![v1975.toNat, 64]
def k0_off152 (v1935 : BitVec 32) : Fin 2 → Nat :=
  let v1981 : Index := Scalar.indexCast v1935
  let c80_509 : Index := 80#32
  ![v1981.toNat, 80]
def k0_off153 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_510 : BitVec 32 := 6#32
  let v1983 : BitVec 32 := Scalar.addi v57 c6_i32_510
  let v1984 : Index := Scalar.indexCast v1983
  let c80_511 : Index := 80#32
  ![v1984.toNat, 80]
def k0_off154 (v1935 : BitVec 32) : Fin 2 → Nat :=
  let v1990 : Index := Scalar.indexCast v1935
  let c96_513 : Index := 96#32
  ![v1990.toNat, 96]
def k0_off155 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_514 : BitVec 32 := 6#32
  let v1992 : BitVec 32 := Scalar.addi v57 c6_i32_514
  let v1993 : Index := Scalar.indexCast v1992
  let c96_515 : Index := 96#32
  ![v1993.toNat, 96]
def k0_off156 (v1935 : BitVec 32) : Fin 2 → Nat :=
  let v1999 : Index := Scalar.indexCast v1935
  let c112_517 : Index := 112#32
  ![v1999.toNat, 112]
def k0_off157 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c6_i32_518 : BitVec 32 := 6#32
  let v2001 : BitVec 32 := Scalar.addi v57 c6_i32_518
  let v2002 : Index := Scalar.indexCast v2001
  let c112_519 : Index := 112#32
  ![v2002.toNat, 112]
def k0_off158 (v1935 : BitVec 32) : Fin 2 → Nat :=
  let v2008 : Index := Scalar.indexCast v1935
  let c0_521 : Index := 0#32
  ![v2008.toNat, 0]

def k0_chk8 (k0_t2 : Fin k0_t2_loop.trips) (v1437 : BitVec 32) (v1439 : BitVec 32) (v1935 : BitVec 32) : Prop :=
  (∀ (k0_h1 : k0_cond1 k0_t2 = 1#1), ∀ (k0_h3 : k0_cond3 v1437 v1439 = 1#1), ∀ a, (k0_off142 v1935) a + S1x16.size a ≤ S64x128.size a) ∧
  (∀ (k0_h1 : k0_cond1 k0_t2 = 1#1), ∀ (k0_h3 : k0_cond3 v1437 v1439 = 1#1), ∀ a, (k0_off144 v1935) a + S1x16.size a ≤ S64x128.size a) ∧
  (∀ (k0_h1 : k0_cond1 k0_t2 = 1#1), ∀ (k0_h3 : k0_cond3 v1437 v1439 = 1#1), ∀ a, (k0_off146 v1935) a + S1x16.size a ≤ S64x128.size a) ∧
  (∀ (k0_h1 : k0_cond1 k0_t2 = 1#1), ∀ (k0_h3 : k0_cond3 v1437 v1439 = 1#1), ∀ a, (k0_off148 v1935) a + S1x16.size a ≤ S64x128.size a) ∧
  (∀ (k0_h1 : k0_cond1 k0_t2 = 1#1), ∀ (k0_h3 : k0_cond3 v1437 v1439 = 1#1), ∀ a, (k0_off150 v1935) a + S1x16.size a ≤ S64x128.size a) ∧
  (∀ (k0_h1 : k0_cond1 k0_t2 = 1#1), ∀ (k0_h3 : k0_cond3 v1437 v1439 = 1#1), ∀ a, (k0_off152 v1935) a + S1x16.size a ≤ S64x128.size a) ∧
  (∀ (k0_h1 : k0_cond1 k0_t2 = 1#1), ∀ (k0_h3 : k0_cond3 v1437 v1439 = 1#1), ∀ a, (k0_off154 v1935) a + S1x16.size a ≤ S64x128.size a) ∧
  (∀ (k0_h1 : k0_cond1 k0_t2 = 1#1), ∀ (k0_h3 : k0_cond3 v1437 v1439 = 1#1), ∀ a, (k0_off156 v1935) a + S1x16.size a ≤ S64x128.size a) ∧
  (∀ (k0_h1 : k0_cond1 k0_t2 = 1#1), ∀ (k0_h3 : k0_cond3 v1437 v1439 = 1#1), ∀ a, (k0_off158 v1935) a + S1x16.size a ≤ S64x16.size a)
theorem k0_off142_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off142 v1935) a + S1x16.size a ≤ S64x128.size a := fun k0_t2 v1437 v1439 v1935 k0_hw8 k0_h1 k0_h3 => k0_hw8.1 k0_h1 k0_h3
theorem k0_off144_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off144 v1935) a + S1x16.size a ≤ S64x128.size a := fun k0_t2 v1437 v1439 v1935 k0_hw8 k0_h1 k0_h3 => k0_hw8.2.1 k0_h1 k0_h3
theorem k0_off146_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off146 v1935) a + S1x16.size a ≤ S64x128.size a := fun k0_t2 v1437 v1439 v1935 k0_hw8 k0_h1 k0_h3 => k0_hw8.2.2.1 k0_h1 k0_h3
theorem k0_off148_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off148 v1935) a + S1x16.size a ≤ S64x128.size a := fun k0_t2 v1437 v1439 v1935 k0_hw8 k0_h1 k0_h3 => k0_hw8.2.2.2.1 k0_h1 k0_h3
theorem k0_off150_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off150 v1935) a + S1x16.size a ≤ S64x128.size a := fun k0_t2 v1437 v1439 v1935 k0_hw8 k0_h1 k0_h3 => k0_hw8.2.2.2.2.1 k0_h1 k0_h3
theorem k0_off152_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off152 v1935) a + S1x16.size a ≤ S64x128.size a := fun k0_t2 v1437 v1439 v1935 k0_hw8 k0_h1 k0_h3 => k0_hw8.2.2.2.2.2.1 k0_h1 k0_h3
theorem k0_off154_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off154 v1935) a + S1x16.size a ≤ S64x128.size a := fun k0_t2 v1437 v1439 v1935 k0_hw8 k0_h1 k0_h3 => k0_hw8.2.2.2.2.2.2.1 k0_h1 k0_h3
theorem k0_off156_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off156 v1935) a + S1x16.size a ≤ S64x128.size a := fun k0_t2 v1437 v1439 v1935 k0_hw8 k0_h1 k0_h3 => k0_hw8.2.2.2.2.2.2.2.1 k0_h1 k0_h3
theorem k0_off158_inb : ∀ (k0_t2 : Fin k0_t2_loop.trips) (v1437 : BitVec 32) (v1439 : BitVec 32) (v1935 : BitVec 32) (k0_hw8 : k0_chk8 k0_t2 v1437 v1439 v1935), ∀ (k0_h1 : k0_cond1 k0_t2 = 1#1), ∀ (k0_h3 : k0_cond3 v1437 v1439 = 1#1), ∀ a, (k0_off158 v1935) a + S1x16.size a ≤ S64x16.size a := fun k0_t2 v1437 v1439 v1935 k0_hw8 k0_h1 k0_h3 => k0_hw8.2.2.2.2.2.2.2.2 k0_h1 k0_h3

def k0_off159 (v2016 : BitVec 32) : Fin 2 → Nat :=
  let v2017 : Index := Scalar.indexCast v2016
  let c0_523 : Index := 0#32
  ![v2017.toNat, 0]

def k0_off160 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_524 : BitVec 32 := 7#32
  let v2019 : BitVec 32 := Scalar.addi v57 c7_i32_524
  let v2020 : Index := Scalar.indexCast v2019
  let c0_525 : Index := 0#32
  ![v2020.toNat, 0]
def k0_off161 (v2016 : BitVec 32) : Fin 2 → Nat :=
  let v2026 : Index := Scalar.indexCast v2016
  let c16_527 : Index := 16#32
  ![v2026.toNat, 16]
def k0_off162 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_528 : BitVec 32 := 7#32
  let v2028 : BitVec 32 := Scalar.addi v57 c7_i32_528
  let v2029 : Index := Scalar.indexCast v2028
  let c16_529 : Index := 16#32
  ![v2029.toNat, 16]
def k0_off163 (v2016 : BitVec 32) : Fin 2 → Nat :=
  let v2035 : Index := Scalar.indexCast v2016
  let c32_531 : Index := 32#32
  ![v2035.toNat, 32]
def k0_off164 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_532 : BitVec 32 := 7#32
  let v2037 : BitVec 32 := Scalar.addi v57 c7_i32_532
  let v2038 : Index := Scalar.indexCast v2037
  let c32_533 : Index := 32#32
  ![v2038.toNat, 32]
def k0_off165 (v2016 : BitVec 32) : Fin 2 → Nat :=
  let v2044 : Index := Scalar.indexCast v2016
  let c48_535 : Index := 48#32
  ![v2044.toNat, 48]
def k0_off166 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_536 : BitVec 32 := 7#32
  let v2046 : BitVec 32 := Scalar.addi v57 c7_i32_536
  let v2047 : Index := Scalar.indexCast v2046
  let c48_537 : Index := 48#32
  ![v2047.toNat, 48]
def k0_off167 (v2016 : BitVec 32) : Fin 2 → Nat :=
  let v2053 : Index := Scalar.indexCast v2016
  let c64_539 : Index := 64#32
  ![v2053.toNat, 64]
def k0_off168 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_540 : BitVec 32 := 7#32
  let v2055 : BitVec 32 := Scalar.addi v57 c7_i32_540
  let v2056 : Index := Scalar.indexCast v2055
  let c64_541 : Index := 64#32
  ![v2056.toNat, 64]
def k0_off169 (v2016 : BitVec 32) : Fin 2 → Nat :=
  let v2062 : Index := Scalar.indexCast v2016
  let c80_543 : Index := 80#32
  ![v2062.toNat, 80]
def k0_off170 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_544 : BitVec 32 := 7#32
  let v2064 : BitVec 32 := Scalar.addi v57 c7_i32_544
  let v2065 : Index := Scalar.indexCast v2064
  let c80_545 : Index := 80#32
  ![v2065.toNat, 80]
def k0_off171 (v2016 : BitVec 32) : Fin 2 → Nat :=
  let v2071 : Index := Scalar.indexCast v2016
  let c96_547 : Index := 96#32
  ![v2071.toNat, 96]
def k0_off172 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_548 : BitVec 32 := 7#32
  let v2073 : BitVec 32 := Scalar.addi v57 c7_i32_548
  let v2074 : Index := Scalar.indexCast v2073
  let c96_549 : Index := 96#32
  ![v2074.toNat, 96]
def k0_off173 (v2016 : BitVec 32) : Fin 2 → Nat :=
  let v2080 : Index := Scalar.indexCast v2016
  let c112_551 : Index := 112#32
  ![v2080.toNat, 112]
def k0_off174 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c7_i32_552 : BitVec 32 := 7#32
  let v2082 : BitVec 32 := Scalar.addi v57 c7_i32_552
  let v2083 : Index := Scalar.indexCast v2082
  let c112_553 : Index := 112#32
  ![v2083.toNat, 112]
def k0_off175 (v2016 : BitVec 32) : Fin 2 → Nat :=
  let v2089 : Index := Scalar.indexCast v2016
  let c0_555 : Index := 0#32
  ![v2089.toNat, 0]

def k0_chk9 (k0_t2 : Fin k0_t2_loop.trips) (v1437 : BitVec 32) (v1439 : BitVec 32) (v2016 : BitVec 32) : Prop :=
  (∀ (k0_h1 : k0_cond1 k0_t2 = 1#1), ∀ (k0_h3 : k0_cond3 v1437 v1439 = 1#1), ∀ a, (k0_off159 v2016) a + S1x16.size a ≤ S64x128.size a) ∧
  (∀ (k0_h1 : k0_cond1 k0_t2 = 1#1), ∀ (k0_h3 : k0_cond3 v1437 v1439 = 1#1), ∀ a, (k0_off161 v2016) a + S1x16.size a ≤ S64x128.size a) ∧
  (∀ (k0_h1 : k0_cond1 k0_t2 = 1#1), ∀ (k0_h3 : k0_cond3 v1437 v1439 = 1#1), ∀ a, (k0_off163 v2016) a + S1x16.size a ≤ S64x128.size a) ∧
  (∀ (k0_h1 : k0_cond1 k0_t2 = 1#1), ∀ (k0_h3 : k0_cond3 v1437 v1439 = 1#1), ∀ a, (k0_off165 v2016) a + S1x16.size a ≤ S64x128.size a) ∧
  (∀ (k0_h1 : k0_cond1 k0_t2 = 1#1), ∀ (k0_h3 : k0_cond3 v1437 v1439 = 1#1), ∀ a, (k0_off167 v2016) a + S1x16.size a ≤ S64x128.size a) ∧
  (∀ (k0_h1 : k0_cond1 k0_t2 = 1#1), ∀ (k0_h3 : k0_cond3 v1437 v1439 = 1#1), ∀ a, (k0_off169 v2016) a + S1x16.size a ≤ S64x128.size a) ∧
  (∀ (k0_h1 : k0_cond1 k0_t2 = 1#1), ∀ (k0_h3 : k0_cond3 v1437 v1439 = 1#1), ∀ a, (k0_off171 v2016) a + S1x16.size a ≤ S64x128.size a) ∧
  (∀ (k0_h1 : k0_cond1 k0_t2 = 1#1), ∀ (k0_h3 : k0_cond3 v1437 v1439 = 1#1), ∀ a, (k0_off173 v2016) a + S1x16.size a ≤ S64x128.size a) ∧
  (∀ (k0_h1 : k0_cond1 k0_t2 = 1#1), ∀ (k0_h3 : k0_cond3 v1437 v1439 = 1#1), ∀ a, (k0_off175 v2016) a + S1x16.size a ≤ S64x16.size a)
theorem k0_off159_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off159 v2016) a + S1x16.size a ≤ S64x128.size a := fun k0_t2 v1437 v1439 v2016 k0_hw9 k0_h1 k0_h3 => k0_hw9.1 k0_h1 k0_h3
theorem k0_off161_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off161 v2016) a + S1x16.size a ≤ S64x128.size a := fun k0_t2 v1437 v1439 v2016 k0_hw9 k0_h1 k0_h3 => k0_hw9.2.1 k0_h1 k0_h3
theorem k0_off163_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off163 v2016) a + S1x16.size a ≤ S64x128.size a := fun k0_t2 v1437 v1439 v2016 k0_hw9 k0_h1 k0_h3 => k0_hw9.2.2.1 k0_h1 k0_h3
theorem k0_off165_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off165 v2016) a + S1x16.size a ≤ S64x128.size a := fun k0_t2 v1437 v1439 v2016 k0_hw9 k0_h1 k0_h3 => k0_hw9.2.2.2.1 k0_h1 k0_h3
theorem k0_off167_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off167 v2016) a + S1x16.size a ≤ S64x128.size a := fun k0_t2 v1437 v1439 v2016 k0_hw9 k0_h1 k0_h3 => k0_hw9.2.2.2.2.1 k0_h1 k0_h3
theorem k0_off169_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off169 v2016) a + S1x16.size a ≤ S64x128.size a := fun k0_t2 v1437 v1439 v2016 k0_hw9 k0_h1 k0_h3 => k0_hw9.2.2.2.2.2.1 k0_h1 k0_h3
theorem k0_off171_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off171 v2016) a + S1x16.size a ≤ S64x128.size a := fun k0_t2 v1437 v1439 v2016 k0_hw9 k0_h1 k0_h3 => k0_hw9.2.2.2.2.2.2.1 k0_h1 k0_h3
theorem k0_off173_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off173 v2016) a + S1x16.size a ≤ S64x128.size a := fun k0_t2 v1437 v1439 v2016 k0_hw9 k0_h1 k0_h3 => k0_hw9.2.2.2.2.2.2.2.1 k0_h1 k0_h3
theorem k0_off175_inb : ∀ (k0_t2 : Fin k0_t2_loop.trips) (v1437 : BitVec 32) (v1439 : BitVec 32) (v2016 : BitVec 32) (k0_hw9 : k0_chk9 k0_t2 v1437 v1439 v2016), ∀ (k0_h1 : k0_cond1 k0_t2 = 1#1), ∀ (k0_h3 : k0_cond3 v1437 v1439 = 1#1), ∀ a, (k0_off175 v2016) a + S1x16.size a ≤ S64x16.size a := fun k0_t2 v1437 v1439 v2016 k0_hw9 k0_h1 k0_h3 => k0_hw9.2.2.2.2.2.2.2.2 k0_h1 k0_h3

def k0_off176 (v2097 : BitVec 32) : Fin 2 → Nat :=
  let v2098 : Index := Scalar.indexCast v2097
  let c0_557 : Index := 0#32
  ![v2098.toNat, 0]

def k0_off177 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_558 : BitVec 32 := 8#32
  let v2100 : BitVec 32 := Scalar.addi v57 c8_i32_558
  let v2101 : Index := Scalar.indexCast v2100
  let c0_559 : Index := 0#32
  ![v2101.toNat, 0]
def k0_off178 (v2097 : BitVec 32) : Fin 2 → Nat :=
  let v2107 : Index := Scalar.indexCast v2097
  let c16_561 : Index := 16#32
  ![v2107.toNat, 16]
def k0_off179 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_562 : BitVec 32 := 8#32
  let v2109 : BitVec 32 := Scalar.addi v57 c8_i32_562
  let v2110 : Index := Scalar.indexCast v2109
  let c16_563 : Index := 16#32
  ![v2110.toNat, 16]
def k0_off180 (v2097 : BitVec 32) : Fin 2 → Nat :=
  let v2116 : Index := Scalar.indexCast v2097
  let c32_565 : Index := 32#32
  ![v2116.toNat, 32]
def k0_off181 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_566 : BitVec 32 := 8#32
  let v2118 : BitVec 32 := Scalar.addi v57 c8_i32_566
  let v2119 : Index := Scalar.indexCast v2118
  let c32_567 : Index := 32#32
  ![v2119.toNat, 32]
def k0_off182 (v2097 : BitVec 32) : Fin 2 → Nat :=
  let v2125 : Index := Scalar.indexCast v2097
  let c48_569 : Index := 48#32
  ![v2125.toNat, 48]
def k0_off183 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_570 : BitVec 32 := 8#32
  let v2127 : BitVec 32 := Scalar.addi v57 c8_i32_570
  let v2128 : Index := Scalar.indexCast v2127
  let c48_571 : Index := 48#32
  ![v2128.toNat, 48]
def k0_off184 (v2097 : BitVec 32) : Fin 2 → Nat :=
  let v2134 : Index := Scalar.indexCast v2097
  let c64_573 : Index := 64#32
  ![v2134.toNat, 64]
def k0_off185 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_574 : BitVec 32 := 8#32
  let v2136 : BitVec 32 := Scalar.addi v57 c8_i32_574
  let v2137 : Index := Scalar.indexCast v2136
  let c64_575 : Index := 64#32
  ![v2137.toNat, 64]
def k0_off186 (v2097 : BitVec 32) : Fin 2 → Nat :=
  let v2143 : Index := Scalar.indexCast v2097
  let c80_577 : Index := 80#32
  ![v2143.toNat, 80]
def k0_off187 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_578 : BitVec 32 := 8#32
  let v2145 : BitVec 32 := Scalar.addi v57 c8_i32_578
  let v2146 : Index := Scalar.indexCast v2145
  let c80_579 : Index := 80#32
  ![v2146.toNat, 80]
def k0_off188 (v2097 : BitVec 32) : Fin 2 → Nat :=
  let v2152 : Index := Scalar.indexCast v2097
  let c96_581 : Index := 96#32
  ![v2152.toNat, 96]
def k0_off189 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_582 : BitVec 32 := 8#32
  let v2154 : BitVec 32 := Scalar.addi v57 c8_i32_582
  let v2155 : Index := Scalar.indexCast v2154
  let c96_583 : Index := 96#32
  ![v2155.toNat, 96]
def k0_off190 (v2097 : BitVec 32) : Fin 2 → Nat :=
  let v2161 : Index := Scalar.indexCast v2097
  let c112_585 : Index := 112#32
  ![v2161.toNat, 112]
def k0_off191 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c8_i32_586 : BitVec 32 := 8#32
  let v2163 : BitVec 32 := Scalar.addi v57 c8_i32_586
  let v2164 : Index := Scalar.indexCast v2163
  let c112_587 : Index := 112#32
  ![v2164.toNat, 112]
def k0_off192 (v2097 : BitVec 32) : Fin 2 → Nat :=
  let v2170 : Index := Scalar.indexCast v2097
  let c0_589 : Index := 0#32
  ![v2170.toNat, 0]

def k0_chk10 (k0_t2 : Fin k0_t2_loop.trips) (v1437 : BitVec 32) (v1439 : BitVec 32) (v2097 : BitVec 32) : Prop :=
  (∀ (k0_h1 : k0_cond1 k0_t2 = 1#1), ∀ (k0_h3 : k0_cond3 v1437 v1439 = 1#1), ∀ a, (k0_off176 v2097) a + S1x16.size a ≤ S64x128.size a) ∧
  (∀ (k0_h1 : k0_cond1 k0_t2 = 1#1), ∀ (k0_h3 : k0_cond3 v1437 v1439 = 1#1), ∀ a, (k0_off178 v2097) a + S1x16.size a ≤ S64x128.size a) ∧
  (∀ (k0_h1 : k0_cond1 k0_t2 = 1#1), ∀ (k0_h3 : k0_cond3 v1437 v1439 = 1#1), ∀ a, (k0_off180 v2097) a + S1x16.size a ≤ S64x128.size a) ∧
  (∀ (k0_h1 : k0_cond1 k0_t2 = 1#1), ∀ (k0_h3 : k0_cond3 v1437 v1439 = 1#1), ∀ a, (k0_off182 v2097) a + S1x16.size a ≤ S64x128.size a) ∧
  (∀ (k0_h1 : k0_cond1 k0_t2 = 1#1), ∀ (k0_h3 : k0_cond3 v1437 v1439 = 1#1), ∀ a, (k0_off184 v2097) a + S1x16.size a ≤ S64x128.size a) ∧
  (∀ (k0_h1 : k0_cond1 k0_t2 = 1#1), ∀ (k0_h3 : k0_cond3 v1437 v1439 = 1#1), ∀ a, (k0_off186 v2097) a + S1x16.size a ≤ S64x128.size a) ∧
  (∀ (k0_h1 : k0_cond1 k0_t2 = 1#1), ∀ (k0_h3 : k0_cond3 v1437 v1439 = 1#1), ∀ a, (k0_off188 v2097) a + S1x16.size a ≤ S64x128.size a) ∧
  (∀ (k0_h1 : k0_cond1 k0_t2 = 1#1), ∀ (k0_h3 : k0_cond3 v1437 v1439 = 1#1), ∀ a, (k0_off190 v2097) a + S1x16.size a ≤ S64x128.size a) ∧
  (∀ (k0_h1 : k0_cond1 k0_t2 = 1#1), ∀ (k0_h3 : k0_cond3 v1437 v1439 = 1#1), ∀ a, (k0_off192 v2097) a + S1x16.size a ≤ S64x16.size a)
theorem k0_off176_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off176 v2097) a + S1x16.size a ≤ S64x128.size a := fun k0_t2 v1437 v1439 v2097 k0_hw10 k0_h1 k0_h3 => k0_hw10.1 k0_h1 k0_h3
theorem k0_off178_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off178 v2097) a + S1x16.size a ≤ S64x128.size a := fun k0_t2 v1437 v1439 v2097 k0_hw10 k0_h1 k0_h3 => k0_hw10.2.1 k0_h1 k0_h3
theorem k0_off180_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off180 v2097) a + S1x16.size a ≤ S64x128.size a := fun k0_t2 v1437 v1439 v2097 k0_hw10 k0_h1 k0_h3 => k0_hw10.2.2.1 k0_h1 k0_h3
theorem k0_off182_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off182 v2097) a + S1x16.size a ≤ S64x128.size a := fun k0_t2 v1437 v1439 v2097 k0_hw10 k0_h1 k0_h3 => k0_hw10.2.2.2.1 k0_h1 k0_h3
theorem k0_off184_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off184 v2097) a + S1x16.size a ≤ S64x128.size a := fun k0_t2 v1437 v1439 v2097 k0_hw10 k0_h1 k0_h3 => k0_hw10.2.2.2.2.1 k0_h1 k0_h3
theorem k0_off186_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off186 v2097) a + S1x16.size a ≤ S64x128.size a := fun k0_t2 v1437 v1439 v2097 k0_hw10 k0_h1 k0_h3 => k0_hw10.2.2.2.2.2.1 k0_h1 k0_h3
theorem k0_off188_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off188 v2097) a + S1x16.size a ≤ S64x128.size a := fun k0_t2 v1437 v1439 v2097 k0_hw10 k0_h1 k0_h3 => k0_hw10.2.2.2.2.2.2.1 k0_h1 k0_h3
theorem k0_off190_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off190 v2097) a + S1x16.size a ≤ S64x128.size a := fun k0_t2 v1437 v1439 v2097 k0_hw10 k0_h1 k0_h3 => k0_hw10.2.2.2.2.2.2.2.1 k0_h1 k0_h3
theorem k0_off192_inb : ∀ (k0_t2 : Fin k0_t2_loop.trips) (v1437 : BitVec 32) (v1439 : BitVec 32) (v2097 : BitVec 32) (k0_hw10 : k0_chk10 k0_t2 v1437 v1439 v2097), ∀ (k0_h1 : k0_cond1 k0_t2 = 1#1), ∀ (k0_h3 : k0_cond3 v1437 v1439 = 1#1), ∀ a, (k0_off192 v2097) a + S1x16.size a ≤ S64x16.size a := fun k0_t2 v1437 v1439 v2097 k0_hw10 k0_h1 k0_h3 => k0_hw10.2.2.2.2.2.2.2.2 k0_h1 k0_h3

def k0_off193 (v2178 : BitVec 32) : Fin 2 → Nat :=
  let v2179 : Index := Scalar.indexCast v2178
  let c0_591 : Index := 0#32
  ![v2179.toNat, 0]

def k0_off194 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_592 : BitVec 32 := 9#32
  let v2181 : BitVec 32 := Scalar.addi v57 c9_i32_592
  let v2182 : Index := Scalar.indexCast v2181
  let c0_593 : Index := 0#32
  ![v2182.toNat, 0]
def k0_off195 (v2178 : BitVec 32) : Fin 2 → Nat :=
  let v2188 : Index := Scalar.indexCast v2178
  let c16_595 : Index := 16#32
  ![v2188.toNat, 16]
def k0_off196 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_596 : BitVec 32 := 9#32
  let v2190 : BitVec 32 := Scalar.addi v57 c9_i32_596
  let v2191 : Index := Scalar.indexCast v2190
  let c16_597 : Index := 16#32
  ![v2191.toNat, 16]
def k0_off197 (v2178 : BitVec 32) : Fin 2 → Nat :=
  let v2197 : Index := Scalar.indexCast v2178
  let c32_599 : Index := 32#32
  ![v2197.toNat, 32]
def k0_off198 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_600 : BitVec 32 := 9#32
  let v2199 : BitVec 32 := Scalar.addi v57 c9_i32_600
  let v2200 : Index := Scalar.indexCast v2199
  let c32_601 : Index := 32#32
  ![v2200.toNat, 32]
def k0_off199 (v2178 : BitVec 32) : Fin 2 → Nat :=
  let v2206 : Index := Scalar.indexCast v2178
  let c48_603 : Index := 48#32
  ![v2206.toNat, 48]
def k0_off200 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_604 : BitVec 32 := 9#32
  let v2208 : BitVec 32 := Scalar.addi v57 c9_i32_604
  let v2209 : Index := Scalar.indexCast v2208
  let c48_605 : Index := 48#32
  ![v2209.toNat, 48]
def k0_off201 (v2178 : BitVec 32) : Fin 2 → Nat :=
  let v2215 : Index := Scalar.indexCast v2178
  let c64_607 : Index := 64#32
  ![v2215.toNat, 64]
def k0_off202 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_608 : BitVec 32 := 9#32
  let v2217 : BitVec 32 := Scalar.addi v57 c9_i32_608
  let v2218 : Index := Scalar.indexCast v2217
  let c64_609 : Index := 64#32
  ![v2218.toNat, 64]
def k0_off203 (v2178 : BitVec 32) : Fin 2 → Nat :=
  let v2224 : Index := Scalar.indexCast v2178
  let c80_611 : Index := 80#32
  ![v2224.toNat, 80]
def k0_off204 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_612 : BitVec 32 := 9#32
  let v2226 : BitVec 32 := Scalar.addi v57 c9_i32_612
  let v2227 : Index := Scalar.indexCast v2226
  let c80_613 : Index := 80#32
  ![v2227.toNat, 80]
def k0_off205 (v2178 : BitVec 32) : Fin 2 → Nat :=
  let v2233 : Index := Scalar.indexCast v2178
  let c96_615 : Index := 96#32
  ![v2233.toNat, 96]
def k0_off206 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_616 : BitVec 32 := 9#32
  let v2235 : BitVec 32 := Scalar.addi v57 c9_i32_616
  let v2236 : Index := Scalar.indexCast v2235
  let c96_617 : Index := 96#32
  ![v2236.toNat, 96]
def k0_off207 (v2178 : BitVec 32) : Fin 2 → Nat :=
  let v2242 : Index := Scalar.indexCast v2178
  let c112_619 : Index := 112#32
  ![v2242.toNat, 112]
def k0_off208 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c9_i32_620 : BitVec 32 := 9#32
  let v2244 : BitVec 32 := Scalar.addi v57 c9_i32_620
  let v2245 : Index := Scalar.indexCast v2244
  let c112_621 : Index := 112#32
  ![v2245.toNat, 112]
def k0_off209 (v2178 : BitVec 32) : Fin 2 → Nat :=
  let v2251 : Index := Scalar.indexCast v2178
  let c0_623 : Index := 0#32
  ![v2251.toNat, 0]

def k0_chk11 (k0_t2 : Fin k0_t2_loop.trips) (v1437 : BitVec 32) (v1439 : BitVec 32) (v2178 : BitVec 32) : Prop :=
  (∀ (k0_h1 : k0_cond1 k0_t2 = 1#1), ∀ (k0_h3 : k0_cond3 v1437 v1439 = 1#1), ∀ a, (k0_off193 v2178) a + S1x16.size a ≤ S64x128.size a) ∧
  (∀ (k0_h1 : k0_cond1 k0_t2 = 1#1), ∀ (k0_h3 : k0_cond3 v1437 v1439 = 1#1), ∀ a, (k0_off195 v2178) a + S1x16.size a ≤ S64x128.size a) ∧
  (∀ (k0_h1 : k0_cond1 k0_t2 = 1#1), ∀ (k0_h3 : k0_cond3 v1437 v1439 = 1#1), ∀ a, (k0_off197 v2178) a + S1x16.size a ≤ S64x128.size a) ∧
  (∀ (k0_h1 : k0_cond1 k0_t2 = 1#1), ∀ (k0_h3 : k0_cond3 v1437 v1439 = 1#1), ∀ a, (k0_off199 v2178) a + S1x16.size a ≤ S64x128.size a) ∧
  (∀ (k0_h1 : k0_cond1 k0_t2 = 1#1), ∀ (k0_h3 : k0_cond3 v1437 v1439 = 1#1), ∀ a, (k0_off201 v2178) a + S1x16.size a ≤ S64x128.size a) ∧
  (∀ (k0_h1 : k0_cond1 k0_t2 = 1#1), ∀ (k0_h3 : k0_cond3 v1437 v1439 = 1#1), ∀ a, (k0_off203 v2178) a + S1x16.size a ≤ S64x128.size a) ∧
  (∀ (k0_h1 : k0_cond1 k0_t2 = 1#1), ∀ (k0_h3 : k0_cond3 v1437 v1439 = 1#1), ∀ a, (k0_off205 v2178) a + S1x16.size a ≤ S64x128.size a) ∧
  (∀ (k0_h1 : k0_cond1 k0_t2 = 1#1), ∀ (k0_h3 : k0_cond3 v1437 v1439 = 1#1), ∀ a, (k0_off207 v2178) a + S1x16.size a ≤ S64x128.size a) ∧
  (∀ (k0_h1 : k0_cond1 k0_t2 = 1#1), ∀ (k0_h3 : k0_cond3 v1437 v1439 = 1#1), ∀ a, (k0_off209 v2178) a + S1x16.size a ≤ S64x16.size a)
theorem k0_off193_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off193 v2178) a + S1x16.size a ≤ S64x128.size a := fun k0_t2 v1437 v1439 v2178 k0_hw11 k0_h1 k0_h3 => k0_hw11.1 k0_h1 k0_h3
theorem k0_off195_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off195 v2178) a + S1x16.size a ≤ S64x128.size a := fun k0_t2 v1437 v1439 v2178 k0_hw11 k0_h1 k0_h3 => k0_hw11.2.1 k0_h1 k0_h3
theorem k0_off197_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off197 v2178) a + S1x16.size a ≤ S64x128.size a := fun k0_t2 v1437 v1439 v2178 k0_hw11 k0_h1 k0_h3 => k0_hw11.2.2.1 k0_h1 k0_h3
theorem k0_off199_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off199 v2178) a + S1x16.size a ≤ S64x128.size a := fun k0_t2 v1437 v1439 v2178 k0_hw11 k0_h1 k0_h3 => k0_hw11.2.2.2.1 k0_h1 k0_h3
theorem k0_off201_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off201 v2178) a + S1x16.size a ≤ S64x128.size a := fun k0_t2 v1437 v1439 v2178 k0_hw11 k0_h1 k0_h3 => k0_hw11.2.2.2.2.1 k0_h1 k0_h3
theorem k0_off203_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off203 v2178) a + S1x16.size a ≤ S64x128.size a := fun k0_t2 v1437 v1439 v2178 k0_hw11 k0_h1 k0_h3 => k0_hw11.2.2.2.2.2.1 k0_h1 k0_h3
theorem k0_off205_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off205 v2178) a + S1x16.size a ≤ S64x128.size a := fun k0_t2 v1437 v1439 v2178 k0_hw11 k0_h1 k0_h3 => k0_hw11.2.2.2.2.2.2.1 k0_h1 k0_h3
theorem k0_off207_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off207 v2178) a + S1x16.size a ≤ S64x128.size a := fun k0_t2 v1437 v1439 v2178 k0_hw11 k0_h1 k0_h3 => k0_hw11.2.2.2.2.2.2.2.1 k0_h1 k0_h3
theorem k0_off209_inb : ∀ (k0_t2 : Fin k0_t2_loop.trips) (v1437 : BitVec 32) (v1439 : BitVec 32) (v2178 : BitVec 32) (k0_hw11 : k0_chk11 k0_t2 v1437 v1439 v2178), ∀ (k0_h1 : k0_cond1 k0_t2 = 1#1), ∀ (k0_h3 : k0_cond3 v1437 v1439 = 1#1), ∀ a, (k0_off209 v2178) a + S1x16.size a ≤ S64x16.size a := fun k0_t2 v1437 v1439 v2178 k0_hw11 k0_h1 k0_h3 => k0_hw11.2.2.2.2.2.2.2.2 k0_h1 k0_h3

def k0_off210 (v2259 : BitVec 32) : Fin 2 → Nat :=
  let v2260 : Index := Scalar.indexCast v2259
  let c0_625 : Index := 0#32
  ![v2260.toNat, 0]

def k0_off211 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_626 : BitVec 32 := 10#32
  let v2262 : BitVec 32 := Scalar.addi v57 c10_i32_626
  let v2263 : Index := Scalar.indexCast v2262
  let c0_627 : Index := 0#32
  ![v2263.toNat, 0]
def k0_off212 (v2259 : BitVec 32) : Fin 2 → Nat :=
  let v2269 : Index := Scalar.indexCast v2259
  let c16_629 : Index := 16#32
  ![v2269.toNat, 16]
def k0_off213 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_630 : BitVec 32 := 10#32
  let v2271 : BitVec 32 := Scalar.addi v57 c10_i32_630
  let v2272 : Index := Scalar.indexCast v2271
  let c16_631 : Index := 16#32
  ![v2272.toNat, 16]
def k0_off214 (v2259 : BitVec 32) : Fin 2 → Nat :=
  let v2278 : Index := Scalar.indexCast v2259
  let c32_633 : Index := 32#32
  ![v2278.toNat, 32]
def k0_off215 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_634 : BitVec 32 := 10#32
  let v2280 : BitVec 32 := Scalar.addi v57 c10_i32_634
  let v2281 : Index := Scalar.indexCast v2280
  let c32_635 : Index := 32#32
  ![v2281.toNat, 32]
def k0_off216 (v2259 : BitVec 32) : Fin 2 → Nat :=
  let v2287 : Index := Scalar.indexCast v2259
  let c48_637 : Index := 48#32
  ![v2287.toNat, 48]
def k0_off217 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_638 : BitVec 32 := 10#32
  let v2289 : BitVec 32 := Scalar.addi v57 c10_i32_638
  let v2290 : Index := Scalar.indexCast v2289
  let c48_639 : Index := 48#32
  ![v2290.toNat, 48]
def k0_off218 (v2259 : BitVec 32) : Fin 2 → Nat :=
  let v2296 : Index := Scalar.indexCast v2259
  let c64_641 : Index := 64#32
  ![v2296.toNat, 64]
def k0_off219 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_642 : BitVec 32 := 10#32
  let v2298 : BitVec 32 := Scalar.addi v57 c10_i32_642
  let v2299 : Index := Scalar.indexCast v2298
  let c64_643 : Index := 64#32
  ![v2299.toNat, 64]
def k0_off220 (v2259 : BitVec 32) : Fin 2 → Nat :=
  let v2305 : Index := Scalar.indexCast v2259
  let c80_645 : Index := 80#32
  ![v2305.toNat, 80]
def k0_off221 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_646 : BitVec 32 := 10#32
  let v2307 : BitVec 32 := Scalar.addi v57 c10_i32_646
  let v2308 : Index := Scalar.indexCast v2307
  let c80_647 : Index := 80#32
  ![v2308.toNat, 80]
def k0_off222 (v2259 : BitVec 32) : Fin 2 → Nat :=
  let v2314 : Index := Scalar.indexCast v2259
  let c96_649 : Index := 96#32
  ![v2314.toNat, 96]
def k0_off223 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_650 : BitVec 32 := 10#32
  let v2316 : BitVec 32 := Scalar.addi v57 c10_i32_650
  let v2317 : Index := Scalar.indexCast v2316
  let c96_651 : Index := 96#32
  ![v2317.toNat, 96]
def k0_off224 (v2259 : BitVec 32) : Fin 2 → Nat :=
  let v2323 : Index := Scalar.indexCast v2259
  let c112_653 : Index := 112#32
  ![v2323.toNat, 112]
def k0_off225 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c10_i32_654 : BitVec 32 := 10#32
  let v2325 : BitVec 32 := Scalar.addi v57 c10_i32_654
  let v2326 : Index := Scalar.indexCast v2325
  let c112_655 : Index := 112#32
  ![v2326.toNat, 112]
def k0_off226 (v2259 : BitVec 32) : Fin 2 → Nat :=
  let v2332 : Index := Scalar.indexCast v2259
  let c0_657 : Index := 0#32
  ![v2332.toNat, 0]

def k0_chk12 (k0_t2 : Fin k0_t2_loop.trips) (v1437 : BitVec 32) (v1439 : BitVec 32) (v2259 : BitVec 32) : Prop :=
  (∀ (k0_h1 : k0_cond1 k0_t2 = 1#1), ∀ (k0_h3 : k0_cond3 v1437 v1439 = 1#1), ∀ a, (k0_off210 v2259) a + S1x16.size a ≤ S64x128.size a) ∧
  (∀ (k0_h1 : k0_cond1 k0_t2 = 1#1), ∀ (k0_h3 : k0_cond3 v1437 v1439 = 1#1), ∀ a, (k0_off212 v2259) a + S1x16.size a ≤ S64x128.size a) ∧
  (∀ (k0_h1 : k0_cond1 k0_t2 = 1#1), ∀ (k0_h3 : k0_cond3 v1437 v1439 = 1#1), ∀ a, (k0_off214 v2259) a + S1x16.size a ≤ S64x128.size a) ∧
  (∀ (k0_h1 : k0_cond1 k0_t2 = 1#1), ∀ (k0_h3 : k0_cond3 v1437 v1439 = 1#1), ∀ a, (k0_off216 v2259) a + S1x16.size a ≤ S64x128.size a) ∧
  (∀ (k0_h1 : k0_cond1 k0_t2 = 1#1), ∀ (k0_h3 : k0_cond3 v1437 v1439 = 1#1), ∀ a, (k0_off218 v2259) a + S1x16.size a ≤ S64x128.size a) ∧
  (∀ (k0_h1 : k0_cond1 k0_t2 = 1#1), ∀ (k0_h3 : k0_cond3 v1437 v1439 = 1#1), ∀ a, (k0_off220 v2259) a + S1x16.size a ≤ S64x128.size a) ∧
  (∀ (k0_h1 : k0_cond1 k0_t2 = 1#1), ∀ (k0_h3 : k0_cond3 v1437 v1439 = 1#1), ∀ a, (k0_off222 v2259) a + S1x16.size a ≤ S64x128.size a) ∧
  (∀ (k0_h1 : k0_cond1 k0_t2 = 1#1), ∀ (k0_h3 : k0_cond3 v1437 v1439 = 1#1), ∀ a, (k0_off224 v2259) a + S1x16.size a ≤ S64x128.size a) ∧
  (∀ (k0_h1 : k0_cond1 k0_t2 = 1#1), ∀ (k0_h3 : k0_cond3 v1437 v1439 = 1#1), ∀ a, (k0_off226 v2259) a + S1x16.size a ≤ S64x16.size a)
theorem k0_off210_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off210 v2259) a + S1x16.size a ≤ S64x128.size a := fun k0_t2 v1437 v1439 v2259 k0_hw12 k0_h1 k0_h3 => k0_hw12.1 k0_h1 k0_h3
theorem k0_off212_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off212 v2259) a + S1x16.size a ≤ S64x128.size a := fun k0_t2 v1437 v1439 v2259 k0_hw12 k0_h1 k0_h3 => k0_hw12.2.1 k0_h1 k0_h3
theorem k0_off214_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off214 v2259) a + S1x16.size a ≤ S64x128.size a := fun k0_t2 v1437 v1439 v2259 k0_hw12 k0_h1 k0_h3 => k0_hw12.2.2.1 k0_h1 k0_h3
theorem k0_off216_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off216 v2259) a + S1x16.size a ≤ S64x128.size a := fun k0_t2 v1437 v1439 v2259 k0_hw12 k0_h1 k0_h3 => k0_hw12.2.2.2.1 k0_h1 k0_h3
theorem k0_off218_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off218 v2259) a + S1x16.size a ≤ S64x128.size a := fun k0_t2 v1437 v1439 v2259 k0_hw12 k0_h1 k0_h3 => k0_hw12.2.2.2.2.1 k0_h1 k0_h3
theorem k0_off220_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off220 v2259) a + S1x16.size a ≤ S64x128.size a := fun k0_t2 v1437 v1439 v2259 k0_hw12 k0_h1 k0_h3 => k0_hw12.2.2.2.2.2.1 k0_h1 k0_h3
theorem k0_off222_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off222 v2259) a + S1x16.size a ≤ S64x128.size a := fun k0_t2 v1437 v1439 v2259 k0_hw12 k0_h1 k0_h3 => k0_hw12.2.2.2.2.2.2.1 k0_h1 k0_h3
theorem k0_off224_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off224 v2259) a + S1x16.size a ≤ S64x128.size a := fun k0_t2 v1437 v1439 v2259 k0_hw12 k0_h1 k0_h3 => k0_hw12.2.2.2.2.2.2.2.1 k0_h1 k0_h3
theorem k0_off226_inb : ∀ (k0_t2 : Fin k0_t2_loop.trips) (v1437 : BitVec 32) (v1439 : BitVec 32) (v2259 : BitVec 32) (k0_hw12 : k0_chk12 k0_t2 v1437 v1439 v2259), ∀ (k0_h1 : k0_cond1 k0_t2 = 1#1), ∀ (k0_h3 : k0_cond3 v1437 v1439 = 1#1), ∀ a, (k0_off226 v2259) a + S1x16.size a ≤ S64x16.size a := fun k0_t2 v1437 v1439 v2259 k0_hw12 k0_h1 k0_h3 => k0_hw12.2.2.2.2.2.2.2.2 k0_h1 k0_h3

def k0_off227 (v2340 : BitVec 32) : Fin 2 → Nat :=
  let v2341 : Index := Scalar.indexCast v2340
  let c0_659 : Index := 0#32
  ![v2341.toNat, 0]

def k0_off228 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_660 : BitVec 32 := 11#32
  let v2343 : BitVec 32 := Scalar.addi v57 c11_i32_660
  let v2344 : Index := Scalar.indexCast v2343
  let c0_661 : Index := 0#32
  ![v2344.toNat, 0]
def k0_off229 (v2340 : BitVec 32) : Fin 2 → Nat :=
  let v2350 : Index := Scalar.indexCast v2340
  let c16_663 : Index := 16#32
  ![v2350.toNat, 16]
def k0_off230 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_664 : BitVec 32 := 11#32
  let v2352 : BitVec 32 := Scalar.addi v57 c11_i32_664
  let v2353 : Index := Scalar.indexCast v2352
  let c16_665 : Index := 16#32
  ![v2353.toNat, 16]
def k0_off231 (v2340 : BitVec 32) : Fin 2 → Nat :=
  let v2359 : Index := Scalar.indexCast v2340
  let c32_667 : Index := 32#32
  ![v2359.toNat, 32]
def k0_off232 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_668 : BitVec 32 := 11#32
  let v2361 : BitVec 32 := Scalar.addi v57 c11_i32_668
  let v2362 : Index := Scalar.indexCast v2361
  let c32_669 : Index := 32#32
  ![v2362.toNat, 32]
def k0_off233 (v2340 : BitVec 32) : Fin 2 → Nat :=
  let v2368 : Index := Scalar.indexCast v2340
  let c48_671 : Index := 48#32
  ![v2368.toNat, 48]
def k0_off234 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_672 : BitVec 32 := 11#32
  let v2370 : BitVec 32 := Scalar.addi v57 c11_i32_672
  let v2371 : Index := Scalar.indexCast v2370
  let c48_673 : Index := 48#32
  ![v2371.toNat, 48]
def k0_off235 (v2340 : BitVec 32) : Fin 2 → Nat :=
  let v2377 : Index := Scalar.indexCast v2340
  let c64_675 : Index := 64#32
  ![v2377.toNat, 64]
def k0_off236 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_676 : BitVec 32 := 11#32
  let v2379 : BitVec 32 := Scalar.addi v57 c11_i32_676
  let v2380 : Index := Scalar.indexCast v2379
  let c64_677 : Index := 64#32
  ![v2380.toNat, 64]
def k0_off237 (v2340 : BitVec 32) : Fin 2 → Nat :=
  let v2386 : Index := Scalar.indexCast v2340
  let c80_679 : Index := 80#32
  ![v2386.toNat, 80]
def k0_off238 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_680 : BitVec 32 := 11#32
  let v2388 : BitVec 32 := Scalar.addi v57 c11_i32_680
  let v2389 : Index := Scalar.indexCast v2388
  let c80_681 : Index := 80#32
  ![v2389.toNat, 80]
def k0_off239 (v2340 : BitVec 32) : Fin 2 → Nat :=
  let v2395 : Index := Scalar.indexCast v2340
  let c96_683 : Index := 96#32
  ![v2395.toNat, 96]
def k0_off240 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_684 : BitVec 32 := 11#32
  let v2397 : BitVec 32 := Scalar.addi v57 c11_i32_684
  let v2398 : Index := Scalar.indexCast v2397
  let c96_685 : Index := 96#32
  ![v2398.toNat, 96]
def k0_off241 (v2340 : BitVec 32) : Fin 2 → Nat :=
  let v2404 : Index := Scalar.indexCast v2340
  let c112_687 : Index := 112#32
  ![v2404.toNat, 112]
def k0_off242 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c11_i32_688 : BitVec 32 := 11#32
  let v2406 : BitVec 32 := Scalar.addi v57 c11_i32_688
  let v2407 : Index := Scalar.indexCast v2406
  let c112_689 : Index := 112#32
  ![v2407.toNat, 112]
def k0_off243 (v2340 : BitVec 32) : Fin 2 → Nat :=
  let v2413 : Index := Scalar.indexCast v2340
  let c0_691 : Index := 0#32
  ![v2413.toNat, 0]

def k0_chk13 (k0_t2 : Fin k0_t2_loop.trips) (v1437 : BitVec 32) (v1439 : BitVec 32) (v2340 : BitVec 32) : Prop :=
  (∀ (k0_h1 : k0_cond1 k0_t2 = 1#1), ∀ (k0_h3 : k0_cond3 v1437 v1439 = 1#1), ∀ a, (k0_off227 v2340) a + S1x16.size a ≤ S64x128.size a) ∧
  (∀ (k0_h1 : k0_cond1 k0_t2 = 1#1), ∀ (k0_h3 : k0_cond3 v1437 v1439 = 1#1), ∀ a, (k0_off229 v2340) a + S1x16.size a ≤ S64x128.size a) ∧
  (∀ (k0_h1 : k0_cond1 k0_t2 = 1#1), ∀ (k0_h3 : k0_cond3 v1437 v1439 = 1#1), ∀ a, (k0_off231 v2340) a + S1x16.size a ≤ S64x128.size a) ∧
  (∀ (k0_h1 : k0_cond1 k0_t2 = 1#1), ∀ (k0_h3 : k0_cond3 v1437 v1439 = 1#1), ∀ a, (k0_off233 v2340) a + S1x16.size a ≤ S64x128.size a) ∧
  (∀ (k0_h1 : k0_cond1 k0_t2 = 1#1), ∀ (k0_h3 : k0_cond3 v1437 v1439 = 1#1), ∀ a, (k0_off235 v2340) a + S1x16.size a ≤ S64x128.size a) ∧
  (∀ (k0_h1 : k0_cond1 k0_t2 = 1#1), ∀ (k0_h3 : k0_cond3 v1437 v1439 = 1#1), ∀ a, (k0_off237 v2340) a + S1x16.size a ≤ S64x128.size a) ∧
  (∀ (k0_h1 : k0_cond1 k0_t2 = 1#1), ∀ (k0_h3 : k0_cond3 v1437 v1439 = 1#1), ∀ a, (k0_off239 v2340) a + S1x16.size a ≤ S64x128.size a) ∧
  (∀ (k0_h1 : k0_cond1 k0_t2 = 1#1), ∀ (k0_h3 : k0_cond3 v1437 v1439 = 1#1), ∀ a, (k0_off241 v2340) a + S1x16.size a ≤ S64x128.size a) ∧
  (∀ (k0_h1 : k0_cond1 k0_t2 = 1#1), ∀ (k0_h3 : k0_cond3 v1437 v1439 = 1#1), ∀ a, (k0_off243 v2340) a + S1x16.size a ≤ S64x16.size a)
theorem k0_off227_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off227 v2340) a + S1x16.size a ≤ S64x128.size a := fun k0_t2 v1437 v1439 v2340 k0_hw13 k0_h1 k0_h3 => k0_hw13.1 k0_h1 k0_h3
theorem k0_off229_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off229 v2340) a + S1x16.size a ≤ S64x128.size a := fun k0_t2 v1437 v1439 v2340 k0_hw13 k0_h1 k0_h3 => k0_hw13.2.1 k0_h1 k0_h3
theorem k0_off231_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off231 v2340) a + S1x16.size a ≤ S64x128.size a := fun k0_t2 v1437 v1439 v2340 k0_hw13 k0_h1 k0_h3 => k0_hw13.2.2.1 k0_h1 k0_h3
theorem k0_off233_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off233 v2340) a + S1x16.size a ≤ S64x128.size a := fun k0_t2 v1437 v1439 v2340 k0_hw13 k0_h1 k0_h3 => k0_hw13.2.2.2.1 k0_h1 k0_h3
theorem k0_off235_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off235 v2340) a + S1x16.size a ≤ S64x128.size a := fun k0_t2 v1437 v1439 v2340 k0_hw13 k0_h1 k0_h3 => k0_hw13.2.2.2.2.1 k0_h1 k0_h3
theorem k0_off237_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off237 v2340) a + S1x16.size a ≤ S64x128.size a := fun k0_t2 v1437 v1439 v2340 k0_hw13 k0_h1 k0_h3 => k0_hw13.2.2.2.2.2.1 k0_h1 k0_h3
theorem k0_off239_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off239 v2340) a + S1x16.size a ≤ S64x128.size a := fun k0_t2 v1437 v1439 v2340 k0_hw13 k0_h1 k0_h3 => k0_hw13.2.2.2.2.2.2.1 k0_h1 k0_h3
theorem k0_off241_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off241 v2340) a + S1x16.size a ≤ S64x128.size a := fun k0_t2 v1437 v1439 v2340 k0_hw13 k0_h1 k0_h3 => k0_hw13.2.2.2.2.2.2.2.1 k0_h1 k0_h3
theorem k0_off243_inb : ∀ (k0_t2 : Fin k0_t2_loop.trips) (v1437 : BitVec 32) (v1439 : BitVec 32) (v2340 : BitVec 32) (k0_hw13 : k0_chk13 k0_t2 v1437 v1439 v2340), ∀ (k0_h1 : k0_cond1 k0_t2 = 1#1), ∀ (k0_h3 : k0_cond3 v1437 v1439 = 1#1), ∀ a, (k0_off243 v2340) a + S1x16.size a ≤ S64x16.size a := fun k0_t2 v1437 v1439 v2340 k0_hw13 k0_h1 k0_h3 => k0_hw13.2.2.2.2.2.2.2.2 k0_h1 k0_h3

def k0_off244 (v2421 : BitVec 32) : Fin 2 → Nat :=
  let v2422 : Index := Scalar.indexCast v2421
  let c0_693 : Index := 0#32
  ![v2422.toNat, 0]

def k0_off245 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_694 : BitVec 32 := 12#32
  let v2424 : BitVec 32 := Scalar.addi v57 c12_i32_694
  let v2425 : Index := Scalar.indexCast v2424
  let c0_695 : Index := 0#32
  ![v2425.toNat, 0]
def k0_off246 (v2421 : BitVec 32) : Fin 2 → Nat :=
  let v2431 : Index := Scalar.indexCast v2421
  let c16_697 : Index := 16#32
  ![v2431.toNat, 16]
def k0_off247 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_698 : BitVec 32 := 12#32
  let v2433 : BitVec 32 := Scalar.addi v57 c12_i32_698
  let v2434 : Index := Scalar.indexCast v2433
  let c16_699 : Index := 16#32
  ![v2434.toNat, 16]
def k0_off248 (v2421 : BitVec 32) : Fin 2 → Nat :=
  let v2440 : Index := Scalar.indexCast v2421
  let c32_701 : Index := 32#32
  ![v2440.toNat, 32]
def k0_off249 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_702 : BitVec 32 := 12#32
  let v2442 : BitVec 32 := Scalar.addi v57 c12_i32_702
  let v2443 : Index := Scalar.indexCast v2442
  let c32_703 : Index := 32#32
  ![v2443.toNat, 32]
def k0_off250 (v2421 : BitVec 32) : Fin 2 → Nat :=
  let v2449 : Index := Scalar.indexCast v2421
  let c48_705 : Index := 48#32
  ![v2449.toNat, 48]
def k0_off251 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_706 : BitVec 32 := 12#32
  let v2451 : BitVec 32 := Scalar.addi v57 c12_i32_706
  let v2452 : Index := Scalar.indexCast v2451
  let c48_707 : Index := 48#32
  ![v2452.toNat, 48]
def k0_off252 (v2421 : BitVec 32) : Fin 2 → Nat :=
  let v2458 : Index := Scalar.indexCast v2421
  let c64_709 : Index := 64#32
  ![v2458.toNat, 64]
def k0_off253 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_710 : BitVec 32 := 12#32
  let v2460 : BitVec 32 := Scalar.addi v57 c12_i32_710
  let v2461 : Index := Scalar.indexCast v2460
  let c64_711 : Index := 64#32
  ![v2461.toNat, 64]
def k0_off254 (v2421 : BitVec 32) : Fin 2 → Nat :=
  let v2467 : Index := Scalar.indexCast v2421
  let c80_713 : Index := 80#32
  ![v2467.toNat, 80]
def k0_off255 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_714 : BitVec 32 := 12#32
  let v2469 : BitVec 32 := Scalar.addi v57 c12_i32_714
  let v2470 : Index := Scalar.indexCast v2469
  let c80_715 : Index := 80#32
  ![v2470.toNat, 80]
def k0_off256 (v2421 : BitVec 32) : Fin 2 → Nat :=
  let v2476 : Index := Scalar.indexCast v2421
  let c96_717 : Index := 96#32
  ![v2476.toNat, 96]
def k0_off257 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_718 : BitVec 32 := 12#32
  let v2478 : BitVec 32 := Scalar.addi v57 c12_i32_718
  let v2479 : Index := Scalar.indexCast v2478
  let c96_719 : Index := 96#32
  ![v2479.toNat, 96]
def k0_off258 (v2421 : BitVec 32) : Fin 2 → Nat :=
  let v2485 : Index := Scalar.indexCast v2421
  let c112_721 : Index := 112#32
  ![v2485.toNat, 112]
def k0_off259 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c12_i32_722 : BitVec 32 := 12#32
  let v2487 : BitVec 32 := Scalar.addi v57 c12_i32_722
  let v2488 : Index := Scalar.indexCast v2487
  let c112_723 : Index := 112#32
  ![v2488.toNat, 112]
def k0_off260 (v2421 : BitVec 32) : Fin 2 → Nat :=
  let v2494 : Index := Scalar.indexCast v2421
  let c0_725 : Index := 0#32
  ![v2494.toNat, 0]

def k0_chk14 (k0_t2 : Fin k0_t2_loop.trips) (v1437 : BitVec 32) (v1439 : BitVec 32) (v2421 : BitVec 32) : Prop :=
  (∀ (k0_h1 : k0_cond1 k0_t2 = 1#1), ∀ (k0_h3 : k0_cond3 v1437 v1439 = 1#1), ∀ a, (k0_off244 v2421) a + S1x16.size a ≤ S64x128.size a) ∧
  (∀ (k0_h1 : k0_cond1 k0_t2 = 1#1), ∀ (k0_h3 : k0_cond3 v1437 v1439 = 1#1), ∀ a, (k0_off246 v2421) a + S1x16.size a ≤ S64x128.size a) ∧
  (∀ (k0_h1 : k0_cond1 k0_t2 = 1#1), ∀ (k0_h3 : k0_cond3 v1437 v1439 = 1#1), ∀ a, (k0_off248 v2421) a + S1x16.size a ≤ S64x128.size a) ∧
  (∀ (k0_h1 : k0_cond1 k0_t2 = 1#1), ∀ (k0_h3 : k0_cond3 v1437 v1439 = 1#1), ∀ a, (k0_off250 v2421) a + S1x16.size a ≤ S64x128.size a) ∧
  (∀ (k0_h1 : k0_cond1 k0_t2 = 1#1), ∀ (k0_h3 : k0_cond3 v1437 v1439 = 1#1), ∀ a, (k0_off252 v2421) a + S1x16.size a ≤ S64x128.size a) ∧
  (∀ (k0_h1 : k0_cond1 k0_t2 = 1#1), ∀ (k0_h3 : k0_cond3 v1437 v1439 = 1#1), ∀ a, (k0_off254 v2421) a + S1x16.size a ≤ S64x128.size a) ∧
  (∀ (k0_h1 : k0_cond1 k0_t2 = 1#1), ∀ (k0_h3 : k0_cond3 v1437 v1439 = 1#1), ∀ a, (k0_off256 v2421) a + S1x16.size a ≤ S64x128.size a) ∧
  (∀ (k0_h1 : k0_cond1 k0_t2 = 1#1), ∀ (k0_h3 : k0_cond3 v1437 v1439 = 1#1), ∀ a, (k0_off258 v2421) a + S1x16.size a ≤ S64x128.size a) ∧
  (∀ (k0_h1 : k0_cond1 k0_t2 = 1#1), ∀ (k0_h3 : k0_cond3 v1437 v1439 = 1#1), ∀ a, (k0_off260 v2421) a + S1x16.size a ≤ S64x16.size a)
theorem k0_off244_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off244 v2421) a + S1x16.size a ≤ S64x128.size a := fun k0_t2 v1437 v1439 v2421 k0_hw14 k0_h1 k0_h3 => k0_hw14.1 k0_h1 k0_h3
theorem k0_off246_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off246 v2421) a + S1x16.size a ≤ S64x128.size a := fun k0_t2 v1437 v1439 v2421 k0_hw14 k0_h1 k0_h3 => k0_hw14.2.1 k0_h1 k0_h3
theorem k0_off248_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off248 v2421) a + S1x16.size a ≤ S64x128.size a := fun k0_t2 v1437 v1439 v2421 k0_hw14 k0_h1 k0_h3 => k0_hw14.2.2.1 k0_h1 k0_h3
theorem k0_off250_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off250 v2421) a + S1x16.size a ≤ S64x128.size a := fun k0_t2 v1437 v1439 v2421 k0_hw14 k0_h1 k0_h3 => k0_hw14.2.2.2.1 k0_h1 k0_h3
theorem k0_off252_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off252 v2421) a + S1x16.size a ≤ S64x128.size a := fun k0_t2 v1437 v1439 v2421 k0_hw14 k0_h1 k0_h3 => k0_hw14.2.2.2.2.1 k0_h1 k0_h3
theorem k0_off254_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off254 v2421) a + S1x16.size a ≤ S64x128.size a := fun k0_t2 v1437 v1439 v2421 k0_hw14 k0_h1 k0_h3 => k0_hw14.2.2.2.2.2.1 k0_h1 k0_h3
theorem k0_off256_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off256 v2421) a + S1x16.size a ≤ S64x128.size a := fun k0_t2 v1437 v1439 v2421 k0_hw14 k0_h1 k0_h3 => k0_hw14.2.2.2.2.2.2.1 k0_h1 k0_h3
theorem k0_off258_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off258 v2421) a + S1x16.size a ≤ S64x128.size a := fun k0_t2 v1437 v1439 v2421 k0_hw14 k0_h1 k0_h3 => k0_hw14.2.2.2.2.2.2.2.1 k0_h1 k0_h3
theorem k0_off260_inb : ∀ (k0_t2 : Fin k0_t2_loop.trips) (v1437 : BitVec 32) (v1439 : BitVec 32) (v2421 : BitVec 32) (k0_hw14 : k0_chk14 k0_t2 v1437 v1439 v2421), ∀ (k0_h1 : k0_cond1 k0_t2 = 1#1), ∀ (k0_h3 : k0_cond3 v1437 v1439 = 1#1), ∀ a, (k0_off260 v2421) a + S1x16.size a ≤ S64x16.size a := fun k0_t2 v1437 v1439 v2421 k0_hw14 k0_h1 k0_h3 => k0_hw14.2.2.2.2.2.2.2.2 k0_h1 k0_h3

def k0_off261 (v2502 : BitVec 32) : Fin 2 → Nat :=
  let v2503 : Index := Scalar.indexCast v2502
  let c0_727 : Index := 0#32
  ![v2503.toNat, 0]

def k0_off262 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_728 : BitVec 32 := 13#32
  let v2505 : BitVec 32 := Scalar.addi v57 c13_i32_728
  let v2506 : Index := Scalar.indexCast v2505
  let c0_729 : Index := 0#32
  ![v2506.toNat, 0]
def k0_off263 (v2502 : BitVec 32) : Fin 2 → Nat :=
  let v2512 : Index := Scalar.indexCast v2502
  let c16_731 : Index := 16#32
  ![v2512.toNat, 16]
def k0_off264 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_732 : BitVec 32 := 13#32
  let v2514 : BitVec 32 := Scalar.addi v57 c13_i32_732
  let v2515 : Index := Scalar.indexCast v2514
  let c16_733 : Index := 16#32
  ![v2515.toNat, 16]
def k0_off265 (v2502 : BitVec 32) : Fin 2 → Nat :=
  let v2521 : Index := Scalar.indexCast v2502
  let c32_735 : Index := 32#32
  ![v2521.toNat, 32]
def k0_off266 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_736 : BitVec 32 := 13#32
  let v2523 : BitVec 32 := Scalar.addi v57 c13_i32_736
  let v2524 : Index := Scalar.indexCast v2523
  let c32_737 : Index := 32#32
  ![v2524.toNat, 32]
def k0_off267 (v2502 : BitVec 32) : Fin 2 → Nat :=
  let v2530 : Index := Scalar.indexCast v2502
  let c48_739 : Index := 48#32
  ![v2530.toNat, 48]
def k0_off268 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_740 : BitVec 32 := 13#32
  let v2532 : BitVec 32 := Scalar.addi v57 c13_i32_740
  let v2533 : Index := Scalar.indexCast v2532
  let c48_741 : Index := 48#32
  ![v2533.toNat, 48]
def k0_off269 (v2502 : BitVec 32) : Fin 2 → Nat :=
  let v2539 : Index := Scalar.indexCast v2502
  let c64_743 : Index := 64#32
  ![v2539.toNat, 64]
def k0_off270 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_744 : BitVec 32 := 13#32
  let v2541 : BitVec 32 := Scalar.addi v57 c13_i32_744
  let v2542 : Index := Scalar.indexCast v2541
  let c64_745 : Index := 64#32
  ![v2542.toNat, 64]
def k0_off271 (v2502 : BitVec 32) : Fin 2 → Nat :=
  let v2548 : Index := Scalar.indexCast v2502
  let c80_747 : Index := 80#32
  ![v2548.toNat, 80]
def k0_off272 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_748 : BitVec 32 := 13#32
  let v2550 : BitVec 32 := Scalar.addi v57 c13_i32_748
  let v2551 : Index := Scalar.indexCast v2550
  let c80_749 : Index := 80#32
  ![v2551.toNat, 80]
def k0_off273 (v2502 : BitVec 32) : Fin 2 → Nat :=
  let v2557 : Index := Scalar.indexCast v2502
  let c96_751 : Index := 96#32
  ![v2557.toNat, 96]
def k0_off274 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_752 : BitVec 32 := 13#32
  let v2559 : BitVec 32 := Scalar.addi v57 c13_i32_752
  let v2560 : Index := Scalar.indexCast v2559
  let c96_753 : Index := 96#32
  ![v2560.toNat, 96]
def k0_off275 (v2502 : BitVec 32) : Fin 2 → Nat :=
  let v2566 : Index := Scalar.indexCast v2502
  let c112_755 : Index := 112#32
  ![v2566.toNat, 112]
def k0_off276 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c13_i32_756 : BitVec 32 := 13#32
  let v2568 : BitVec 32 := Scalar.addi v57 c13_i32_756
  let v2569 : Index := Scalar.indexCast v2568
  let c112_757 : Index := 112#32
  ![v2569.toNat, 112]
def k0_off277 (v2502 : BitVec 32) : Fin 2 → Nat :=
  let v2575 : Index := Scalar.indexCast v2502
  let c0_759 : Index := 0#32
  ![v2575.toNat, 0]

def k0_chk15 (k0_t2 : Fin k0_t2_loop.trips) (v1437 : BitVec 32) (v1439 : BitVec 32) (v2502 : BitVec 32) : Prop :=
  (∀ (k0_h1 : k0_cond1 k0_t2 = 1#1), ∀ (k0_h3 : k0_cond3 v1437 v1439 = 1#1), ∀ a, (k0_off261 v2502) a + S1x16.size a ≤ S64x128.size a) ∧
  (∀ (k0_h1 : k0_cond1 k0_t2 = 1#1), ∀ (k0_h3 : k0_cond3 v1437 v1439 = 1#1), ∀ a, (k0_off263 v2502) a + S1x16.size a ≤ S64x128.size a) ∧
  (∀ (k0_h1 : k0_cond1 k0_t2 = 1#1), ∀ (k0_h3 : k0_cond3 v1437 v1439 = 1#1), ∀ a, (k0_off265 v2502) a + S1x16.size a ≤ S64x128.size a) ∧
  (∀ (k0_h1 : k0_cond1 k0_t2 = 1#1), ∀ (k0_h3 : k0_cond3 v1437 v1439 = 1#1), ∀ a, (k0_off267 v2502) a + S1x16.size a ≤ S64x128.size a) ∧
  (∀ (k0_h1 : k0_cond1 k0_t2 = 1#1), ∀ (k0_h3 : k0_cond3 v1437 v1439 = 1#1), ∀ a, (k0_off269 v2502) a + S1x16.size a ≤ S64x128.size a) ∧
  (∀ (k0_h1 : k0_cond1 k0_t2 = 1#1), ∀ (k0_h3 : k0_cond3 v1437 v1439 = 1#1), ∀ a, (k0_off271 v2502) a + S1x16.size a ≤ S64x128.size a) ∧
  (∀ (k0_h1 : k0_cond1 k0_t2 = 1#1), ∀ (k0_h3 : k0_cond3 v1437 v1439 = 1#1), ∀ a, (k0_off273 v2502) a + S1x16.size a ≤ S64x128.size a) ∧
  (∀ (k0_h1 : k0_cond1 k0_t2 = 1#1), ∀ (k0_h3 : k0_cond3 v1437 v1439 = 1#1), ∀ a, (k0_off275 v2502) a + S1x16.size a ≤ S64x128.size a) ∧
  (∀ (k0_h1 : k0_cond1 k0_t2 = 1#1), ∀ (k0_h3 : k0_cond3 v1437 v1439 = 1#1), ∀ a, (k0_off277 v2502) a + S1x16.size a ≤ S64x16.size a)
theorem k0_off261_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off261 v2502) a + S1x16.size a ≤ S64x128.size a := fun k0_t2 v1437 v1439 v2502 k0_hw15 k0_h1 k0_h3 => k0_hw15.1 k0_h1 k0_h3
theorem k0_off263_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off263 v2502) a + S1x16.size a ≤ S64x128.size a := fun k0_t2 v1437 v1439 v2502 k0_hw15 k0_h1 k0_h3 => k0_hw15.2.1 k0_h1 k0_h3
theorem k0_off265_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off265 v2502) a + S1x16.size a ≤ S64x128.size a := fun k0_t2 v1437 v1439 v2502 k0_hw15 k0_h1 k0_h3 => k0_hw15.2.2.1 k0_h1 k0_h3
theorem k0_off267_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off267 v2502) a + S1x16.size a ≤ S64x128.size a := fun k0_t2 v1437 v1439 v2502 k0_hw15 k0_h1 k0_h3 => k0_hw15.2.2.2.1 k0_h1 k0_h3
theorem k0_off269_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off269 v2502) a + S1x16.size a ≤ S64x128.size a := fun k0_t2 v1437 v1439 v2502 k0_hw15 k0_h1 k0_h3 => k0_hw15.2.2.2.2.1 k0_h1 k0_h3
theorem k0_off271_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off271 v2502) a + S1x16.size a ≤ S64x128.size a := fun k0_t2 v1437 v1439 v2502 k0_hw15 k0_h1 k0_h3 => k0_hw15.2.2.2.2.2.1 k0_h1 k0_h3
theorem k0_off273_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off273 v2502) a + S1x16.size a ≤ S64x128.size a := fun k0_t2 v1437 v1439 v2502 k0_hw15 k0_h1 k0_h3 => k0_hw15.2.2.2.2.2.2.1 k0_h1 k0_h3
theorem k0_off275_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off275 v2502) a + S1x16.size a ≤ S64x128.size a := fun k0_t2 v1437 v1439 v2502 k0_hw15 k0_h1 k0_h3 => k0_hw15.2.2.2.2.2.2.2.1 k0_h1 k0_h3
theorem k0_off277_inb : ∀ (k0_t2 : Fin k0_t2_loop.trips) (v1437 : BitVec 32) (v1439 : BitVec 32) (v2502 : BitVec 32) (k0_hw15 : k0_chk15 k0_t2 v1437 v1439 v2502), ∀ (k0_h1 : k0_cond1 k0_t2 = 1#1), ∀ (k0_h3 : k0_cond3 v1437 v1439 = 1#1), ∀ a, (k0_off277 v2502) a + S1x16.size a ≤ S64x16.size a := fun k0_t2 v1437 v1439 v2502 k0_hw15 k0_h1 k0_h3 => k0_hw15.2.2.2.2.2.2.2.2 k0_h1 k0_h3

def k0_off278 (v2583 : BitVec 32) : Fin 2 → Nat :=
  let v2584 : Index := Scalar.indexCast v2583
  let c0_761 : Index := 0#32
  ![v2584.toNat, 0]

def k0_off279 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_762 : BitVec 32 := 14#32
  let v2586 : BitVec 32 := Scalar.addi v57 c14_i32_762
  let v2587 : Index := Scalar.indexCast v2586
  let c0_763 : Index := 0#32
  ![v2587.toNat, 0]
def k0_off280 (v2583 : BitVec 32) : Fin 2 → Nat :=
  let v2593 : Index := Scalar.indexCast v2583
  let c16_765 : Index := 16#32
  ![v2593.toNat, 16]
def k0_off281 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_766 : BitVec 32 := 14#32
  let v2595 : BitVec 32 := Scalar.addi v57 c14_i32_766
  let v2596 : Index := Scalar.indexCast v2595
  let c16_767 : Index := 16#32
  ![v2596.toNat, 16]
def k0_off282 (v2583 : BitVec 32) : Fin 2 → Nat :=
  let v2602 : Index := Scalar.indexCast v2583
  let c32_769 : Index := 32#32
  ![v2602.toNat, 32]
def k0_off283 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_770 : BitVec 32 := 14#32
  let v2604 : BitVec 32 := Scalar.addi v57 c14_i32_770
  let v2605 : Index := Scalar.indexCast v2604
  let c32_771 : Index := 32#32
  ![v2605.toNat, 32]
def k0_off284 (v2583 : BitVec 32) : Fin 2 → Nat :=
  let v2611 : Index := Scalar.indexCast v2583
  let c48_773 : Index := 48#32
  ![v2611.toNat, 48]
def k0_off285 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_774 : BitVec 32 := 14#32
  let v2613 : BitVec 32 := Scalar.addi v57 c14_i32_774
  let v2614 : Index := Scalar.indexCast v2613
  let c48_775 : Index := 48#32
  ![v2614.toNat, 48]
def k0_off286 (v2583 : BitVec 32) : Fin 2 → Nat :=
  let v2620 : Index := Scalar.indexCast v2583
  let c64_777 : Index := 64#32
  ![v2620.toNat, 64]
def k0_off287 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_778 : BitVec 32 := 14#32
  let v2622 : BitVec 32 := Scalar.addi v57 c14_i32_778
  let v2623 : Index := Scalar.indexCast v2622
  let c64_779 : Index := 64#32
  ![v2623.toNat, 64]
def k0_off288 (v2583 : BitVec 32) : Fin 2 → Nat :=
  let v2629 : Index := Scalar.indexCast v2583
  let c80_781 : Index := 80#32
  ![v2629.toNat, 80]
def k0_off289 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_782 : BitVec 32 := 14#32
  let v2631 : BitVec 32 := Scalar.addi v57 c14_i32_782
  let v2632 : Index := Scalar.indexCast v2631
  let c80_783 : Index := 80#32
  ![v2632.toNat, 80]
def k0_off290 (v2583 : BitVec 32) : Fin 2 → Nat :=
  let v2638 : Index := Scalar.indexCast v2583
  let c96_785 : Index := 96#32
  ![v2638.toNat, 96]
def k0_off291 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_786 : BitVec 32 := 14#32
  let v2640 : BitVec 32 := Scalar.addi v57 c14_i32_786
  let v2641 : Index := Scalar.indexCast v2640
  let c96_787 : Index := 96#32
  ![v2641.toNat, 96]
def k0_off292 (v2583 : BitVec 32) : Fin 2 → Nat :=
  let v2647 : Index := Scalar.indexCast v2583
  let c112_789 : Index := 112#32
  ![v2647.toNat, 112]
def k0_off293 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c14_i32_790 : BitVec 32 := 14#32
  let v2649 : BitVec 32 := Scalar.addi v57 c14_i32_790
  let v2650 : Index := Scalar.indexCast v2649
  let c112_791 : Index := 112#32
  ![v2650.toNat, 112]
def k0_off294 (v2583 : BitVec 32) : Fin 2 → Nat :=
  let v2656 : Index := Scalar.indexCast v2583
  let c0_793 : Index := 0#32
  ![v2656.toNat, 0]

def k0_chk16 (k0_t2 : Fin k0_t2_loop.trips) (v1437 : BitVec 32) (v1439 : BitVec 32) (v2583 : BitVec 32) : Prop :=
  (∀ (k0_h1 : k0_cond1 k0_t2 = 1#1), ∀ (k0_h3 : k0_cond3 v1437 v1439 = 1#1), ∀ a, (k0_off278 v2583) a + S1x16.size a ≤ S64x128.size a) ∧
  (∀ (k0_h1 : k0_cond1 k0_t2 = 1#1), ∀ (k0_h3 : k0_cond3 v1437 v1439 = 1#1), ∀ a, (k0_off280 v2583) a + S1x16.size a ≤ S64x128.size a) ∧
  (∀ (k0_h1 : k0_cond1 k0_t2 = 1#1), ∀ (k0_h3 : k0_cond3 v1437 v1439 = 1#1), ∀ a, (k0_off282 v2583) a + S1x16.size a ≤ S64x128.size a) ∧
  (∀ (k0_h1 : k0_cond1 k0_t2 = 1#1), ∀ (k0_h3 : k0_cond3 v1437 v1439 = 1#1), ∀ a, (k0_off284 v2583) a + S1x16.size a ≤ S64x128.size a) ∧
  (∀ (k0_h1 : k0_cond1 k0_t2 = 1#1), ∀ (k0_h3 : k0_cond3 v1437 v1439 = 1#1), ∀ a, (k0_off286 v2583) a + S1x16.size a ≤ S64x128.size a) ∧
  (∀ (k0_h1 : k0_cond1 k0_t2 = 1#1), ∀ (k0_h3 : k0_cond3 v1437 v1439 = 1#1), ∀ a, (k0_off288 v2583) a + S1x16.size a ≤ S64x128.size a) ∧
  (∀ (k0_h1 : k0_cond1 k0_t2 = 1#1), ∀ (k0_h3 : k0_cond3 v1437 v1439 = 1#1), ∀ a, (k0_off290 v2583) a + S1x16.size a ≤ S64x128.size a) ∧
  (∀ (k0_h1 : k0_cond1 k0_t2 = 1#1), ∀ (k0_h3 : k0_cond3 v1437 v1439 = 1#1), ∀ a, (k0_off292 v2583) a + S1x16.size a ≤ S64x128.size a) ∧
  (∀ (k0_h1 : k0_cond1 k0_t2 = 1#1), ∀ (k0_h3 : k0_cond3 v1437 v1439 = 1#1), ∀ a, (k0_off294 v2583) a + S1x16.size a ≤ S64x16.size a)
theorem k0_off278_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off278 v2583) a + S1x16.size a ≤ S64x128.size a := fun k0_t2 v1437 v1439 v2583 k0_hw16 k0_h1 k0_h3 => k0_hw16.1 k0_h1 k0_h3
theorem k0_off280_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off280 v2583) a + S1x16.size a ≤ S64x128.size a := fun k0_t2 v1437 v1439 v2583 k0_hw16 k0_h1 k0_h3 => k0_hw16.2.1 k0_h1 k0_h3
theorem k0_off282_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off282 v2583) a + S1x16.size a ≤ S64x128.size a := fun k0_t2 v1437 v1439 v2583 k0_hw16 k0_h1 k0_h3 => k0_hw16.2.2.1 k0_h1 k0_h3
theorem k0_off284_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off284 v2583) a + S1x16.size a ≤ S64x128.size a := fun k0_t2 v1437 v1439 v2583 k0_hw16 k0_h1 k0_h3 => k0_hw16.2.2.2.1 k0_h1 k0_h3
theorem k0_off286_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off286 v2583) a + S1x16.size a ≤ S64x128.size a := fun k0_t2 v1437 v1439 v2583 k0_hw16 k0_h1 k0_h3 => k0_hw16.2.2.2.2.1 k0_h1 k0_h3
theorem k0_off288_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off288 v2583) a + S1x16.size a ≤ S64x128.size a := fun k0_t2 v1437 v1439 v2583 k0_hw16 k0_h1 k0_h3 => k0_hw16.2.2.2.2.2.1 k0_h1 k0_h3
theorem k0_off290_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off290 v2583) a + S1x16.size a ≤ S64x128.size a := fun k0_t2 v1437 v1439 v2583 k0_hw16 k0_h1 k0_h3 => k0_hw16.2.2.2.2.2.2.1 k0_h1 k0_h3
theorem k0_off292_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off292 v2583) a + S1x16.size a ≤ S64x128.size a := fun k0_t2 v1437 v1439 v2583 k0_hw16 k0_h1 k0_h3 => k0_hw16.2.2.2.2.2.2.2.1 k0_h1 k0_h3
theorem k0_off294_inb : ∀ (k0_t2 : Fin k0_t2_loop.trips) (v1437 : BitVec 32) (v1439 : BitVec 32) (v2583 : BitVec 32) (k0_hw16 : k0_chk16 k0_t2 v1437 v1439 v2583), ∀ (k0_h1 : k0_cond1 k0_t2 = 1#1), ∀ (k0_h3 : k0_cond3 v1437 v1439 = 1#1), ∀ a, (k0_off294 v2583) a + S1x16.size a ≤ S64x16.size a := fun k0_t2 v1437 v1439 v2583 k0_hw16 k0_h1 k0_h3 => k0_hw16.2.2.2.2.2.2.2.2 k0_h1 k0_h3

def k0_off295 (v2664 : BitVec 32) : Fin 2 → Nat :=
  let v2665 : Index := Scalar.indexCast v2664
  let c0_795 : Index := 0#32
  ![v2665.toNat, 0]

def k0_off296 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_796 : BitVec 32 := 15#32
  let v2667 : BitVec 32 := Scalar.addi v57 c15_i32_796
  let v2668 : Index := Scalar.indexCast v2667
  let c0_797 : Index := 0#32
  ![v2668.toNat, 0]
def k0_off297 (v2664 : BitVec 32) : Fin 2 → Nat :=
  let v2674 : Index := Scalar.indexCast v2664
  let c16_799 : Index := 16#32
  ![v2674.toNat, 16]
def k0_off298 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_800 : BitVec 32 := 15#32
  let v2676 : BitVec 32 := Scalar.addi v57 c15_i32_800
  let v2677 : Index := Scalar.indexCast v2676
  let c16_801 : Index := 16#32
  ![v2677.toNat, 16]
def k0_off299 (v2664 : BitVec 32) : Fin 2 → Nat :=
  let v2683 : Index := Scalar.indexCast v2664
  let c32_803 : Index := 32#32
  ![v2683.toNat, 32]
def k0_off300 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_804 : BitVec 32 := 15#32
  let v2685 : BitVec 32 := Scalar.addi v57 c15_i32_804
  let v2686 : Index := Scalar.indexCast v2685
  let c32_805 : Index := 32#32
  ![v2686.toNat, 32]
def k0_off301 (v2664 : BitVec 32) : Fin 2 → Nat :=
  let v2692 : Index := Scalar.indexCast v2664
  let c48_807 : Index := 48#32
  ![v2692.toNat, 48]
def k0_off302 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_808 : BitVec 32 := 15#32
  let v2694 : BitVec 32 := Scalar.addi v57 c15_i32_808
  let v2695 : Index := Scalar.indexCast v2694
  let c48_809 : Index := 48#32
  ![v2695.toNat, 48]
def k0_off303 (v2664 : BitVec 32) : Fin 2 → Nat :=
  let v2701 : Index := Scalar.indexCast v2664
  let c64_811 : Index := 64#32
  ![v2701.toNat, 64]
def k0_off304 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_812 : BitVec 32 := 15#32
  let v2703 : BitVec 32 := Scalar.addi v57 c15_i32_812
  let v2704 : Index := Scalar.indexCast v2703
  let c64_813 : Index := 64#32
  ![v2704.toNat, 64]
def k0_off305 (v2664 : BitVec 32) : Fin 2 → Nat :=
  let v2710 : Index := Scalar.indexCast v2664
  let c80_815 : Index := 80#32
  ![v2710.toNat, 80]
def k0_off306 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_816 : BitVec 32 := 15#32
  let v2712 : BitVec 32 := Scalar.addi v57 c15_i32_816
  let v2713 : Index := Scalar.indexCast v2712
  let c80_817 : Index := 80#32
  ![v2713.toNat, 80]
def k0_off307 (v2664 : BitVec 32) : Fin 2 → Nat :=
  let v2719 : Index := Scalar.indexCast v2664
  let c96_819 : Index := 96#32
  ![v2719.toNat, 96]
def k0_off308 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_820 : BitVec 32 := 15#32
  let v2721 : BitVec 32 := Scalar.addi v57 c15_i32_820
  let v2722 : Index := Scalar.indexCast v2721
  let c96_821 : Index := 96#32
  ![v2722.toNat, 96]
def k0_off309 (v2664 : BitVec 32) : Fin 2 → Nat :=
  let v2728 : Index := Scalar.indexCast v2664
  let c112_823 : Index := 112#32
  ![v2728.toNat, 112]
def k0_off310 (k0_t3 : Fin k0_t3_loop.trips) : Fin 2 → Nat :=
  let c0_i32_29 : BitVec 32 := 0#32
  let c1_i32_30 : BitVec 32 := 1#32
  let arg20 : BitVec 32 := Scf.iv c0_i32_29 c1_i32_30 k0_t3
  let c16_i32_35 : BitVec 32 := 16#32
  let v57 : BitVec 32 := Scalar.muli arg20 c16_i32_35
  let c15_i32_824 : BitVec 32 := 15#32
  let v2730 : BitVec 32 := Scalar.addi v57 c15_i32_824
  let v2731 : Index := Scalar.indexCast v2730
  let c112_825 : Index := 112#32
  ![v2731.toNat, 112]
def k0_off311 (v2664 : BitVec 32) : Fin 2 → Nat :=
  let v2737 : Index := Scalar.indexCast v2664
  let c0_827 : Index := 0#32
  ![v2737.toNat, 0]

def k0_chk17 (k0_t2 : Fin k0_t2_loop.trips) (v1437 : BitVec 32) (v1439 : BitVec 32) (v2664 : BitVec 32) : Prop :=
  (∀ (k0_h1 : k0_cond1 k0_t2 = 1#1), ∀ (k0_h3 : k0_cond3 v1437 v1439 = 1#1), ∀ a, (k0_off295 v2664) a + S1x16.size a ≤ S64x128.size a) ∧
  (∀ (k0_h1 : k0_cond1 k0_t2 = 1#1), ∀ (k0_h3 : k0_cond3 v1437 v1439 = 1#1), ∀ a, (k0_off297 v2664) a + S1x16.size a ≤ S64x128.size a) ∧
  (∀ (k0_h1 : k0_cond1 k0_t2 = 1#1), ∀ (k0_h3 : k0_cond3 v1437 v1439 = 1#1), ∀ a, (k0_off299 v2664) a + S1x16.size a ≤ S64x128.size a) ∧
  (∀ (k0_h1 : k0_cond1 k0_t2 = 1#1), ∀ (k0_h3 : k0_cond3 v1437 v1439 = 1#1), ∀ a, (k0_off301 v2664) a + S1x16.size a ≤ S64x128.size a) ∧
  (∀ (k0_h1 : k0_cond1 k0_t2 = 1#1), ∀ (k0_h3 : k0_cond3 v1437 v1439 = 1#1), ∀ a, (k0_off303 v2664) a + S1x16.size a ≤ S64x128.size a) ∧
  (∀ (k0_h1 : k0_cond1 k0_t2 = 1#1), ∀ (k0_h3 : k0_cond3 v1437 v1439 = 1#1), ∀ a, (k0_off305 v2664) a + S1x16.size a ≤ S64x128.size a) ∧
  (∀ (k0_h1 : k0_cond1 k0_t2 = 1#1), ∀ (k0_h3 : k0_cond3 v1437 v1439 = 1#1), ∀ a, (k0_off307 v2664) a + S1x16.size a ≤ S64x128.size a) ∧
  (∀ (k0_h1 : k0_cond1 k0_t2 = 1#1), ∀ (k0_h3 : k0_cond3 v1437 v1439 = 1#1), ∀ a, (k0_off309 v2664) a + S1x16.size a ≤ S64x128.size a) ∧
  (∀ (k0_h1 : k0_cond1 k0_t2 = 1#1), ∀ (k0_h3 : k0_cond3 v1437 v1439 = 1#1), ∀ a, (k0_off311 v2664) a + S1x16.size a ≤ S64x16.size a)
theorem k0_off295_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off295 v2664) a + S1x16.size a ≤ S64x128.size a := fun k0_t2 v1437 v1439 v2664 k0_hw17 k0_h1 k0_h3 => k0_hw17.1 k0_h1 k0_h3
theorem k0_off297_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off297 v2664) a + S1x16.size a ≤ S64x128.size a := fun k0_t2 v1437 v1439 v2664 k0_hw17 k0_h1 k0_h3 => k0_hw17.2.1 k0_h1 k0_h3
theorem k0_off299_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off299 v2664) a + S1x16.size a ≤ S64x128.size a := fun k0_t2 v1437 v1439 v2664 k0_hw17 k0_h1 k0_h3 => k0_hw17.2.2.1 k0_h1 k0_h3
theorem k0_off301_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off301 v2664) a + S1x16.size a ≤ S64x128.size a := fun k0_t2 v1437 v1439 v2664 k0_hw17 k0_h1 k0_h3 => k0_hw17.2.2.2.1 k0_h1 k0_h3
theorem k0_off303_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off303 v2664) a + S1x16.size a ≤ S64x128.size a := fun k0_t2 v1437 v1439 v2664 k0_hw17 k0_h1 k0_h3 => k0_hw17.2.2.2.2.1 k0_h1 k0_h3
theorem k0_off305_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off305 v2664) a + S1x16.size a ≤ S64x128.size a := fun k0_t2 v1437 v1439 v2664 k0_hw17 k0_h1 k0_h3 => k0_hw17.2.2.2.2.2.1 k0_h1 k0_h3
theorem k0_off307_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off307 v2664) a + S1x16.size a ≤ S64x128.size a := fun k0_t2 v1437 v1439 v2664 k0_hw17 k0_h1 k0_h3 => k0_hw17.2.2.2.2.2.2.1 k0_h1 k0_h3
theorem k0_off309_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off309 v2664) a + S1x16.size a ≤ S64x128.size a := fun k0_t2 v1437 v1439 v2664 k0_hw17 k0_h1 k0_h3 => k0_hw17.2.2.2.2.2.2.2.1 k0_h1 k0_h3
theorem k0_off311_inb : ∀ (k0_t2 : Fin k0_t2_loop.trips) (v1437 : BitVec 32) (v1439 : BitVec 32) (v2664 : BitVec 32) (k0_hw17 : k0_chk17 k0_t2 v1437 v1439 v2664), ∀ (k0_h1 : k0_cond1 k0_t2 = 1#1), ∀ (k0_h3 : k0_cond3 v1437 v1439 = 1#1), ∀ a, (k0_off311 v2664) a + S1x16.size a ≤ S64x16.size a := fun k0_t2 v1437 v1439 v2664 k0_hw17 k0_h1 k0_h3 => k0_hw17.2.2.2.2.2.2.2.2 k0_h1 k0_h3

def k0_cond4 (k0_t2 : Fin k0_t2_loop.trips) : BitVec 1 :=
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c2_i32_32 : BitVec 32 := 2#32
  let v53 : BitVec 32 := Scalar.addi v33 c2_i32_32
  let c5_i32_33 : BitVec 32 := 5#32
  let v54 : BitVec 1 := Scalar.cmpi .slt v53 c5_i32_33
  let v55 : BitVec 32 := Scalar.extui v54
  let c0_i32_34 : BitVec 32 := 0#32
  let v56 : BitVec 1 := Scalar.cmpi .ne v55 c0_i32_34
  v56

def k0_mult4 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c2_i32_35 : BitVec 32 := 2#32
  let v57 : BitVec 32 := Scalar.addi v33 c2_i32_35
  let c240_i32_36 : BitVec 32 := 240#32
  let v58 : BitVec 32 := Scalar.muli v57 c240_i32_36
  let v59 : BitVec 32 := Scalar.addi v2 v58
  v59
def k0_off312 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c2_i32_35 : BitVec 32 := 2#32
  let v57 : BitVec 32 := Scalar.addi v33 c2_i32_35
  let c240_i32_36 : BitVec 32 := 240#32
  let v58 : BitVec 32 := Scalar.muli v57 c240_i32_36
  let v59 : BitVec 32 := Scalar.addi v2 v58
  let v60 : BitVec 32 := v59
  let c0_i32_37 : BitVec 32 := 0#32
  ![v60.toNat, 0]
def k0_off313 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32 : BitVec 32 := 2#32
  let v32 : BitVec 32 := Scalar.muli arg18 c2_i32
  let c0_i32_16 : BitVec 32 := 0#32
  let v33 : BitVec 32 := Scalar.addi v32 c0_i32_16
  let c2_i32_35 : BitVec 32 := 2#32
  let v57 : BitVec 32 := Scalar.addi v33 c2_i32_35
  let c240_i32_36 : BitVec 32 := 240#32
  let v58 : BitVec 32 := Scalar.muli v57 c240_i32_36
  let v59 : BitVec 32 := Scalar.addi v2 v58
  let v60 : BitVec 32 := v59
  ![v60.toNat]
def k0_cond5 (k0_t2 : Fin k0_t2_loop.trips) : BitVec 1 :=
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c5_i32_20 : BitVec 32 := 5#32
  let v39 : BitVec 1 := Scalar.cmpi .slt v38 c5_i32_20
  let v40 : BitVec 32 := Scalar.extui v39
  let c0_i32_21 : BitVec 32 := 0#32
  let v41 : BitVec 1 := Scalar.cmpi .ne v40 c0_i32_21
  v41

def k0_mult5 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c240_i32_23 : BitVec 32 := 240#32
  let v42 : BitVec 32 := Scalar.muli v38 c240_i32_23
  let v43 : BitVec 32 := Scalar.addi v2 v42
  v43
def k0_off314 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c240_i32_23 : BitVec 32 := 240#32
  let v42 : BitVec 32 := Scalar.muli v38 c240_i32_23
  let v43 : BitVec 32 := Scalar.addi v2 v42
  let v44 : BitVec 32 := v43
  let c0_i32_24 : BitVec 32 := 0#32
  ![v44.toNat, 0]
def k0_off315 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c240_i32_23 : BitVec 32 := 240#32
  let v42 : BitVec 32 := Scalar.muli v38 c240_i32_23
  let v43 : BitVec 32 := Scalar.addi v2 v42
  let v44 : BitVec 32 := v43
  ![v44.toNat]
@[reducible] def k0_t4_loop : Scf.Loop 32 :=
  let c0_i32_29 : BitVec 32 := 0#32
  let c15_i32 : BitVec 32 := 15#32
  let v51 : BitVec 32 := Scalar.addi c0_i32_29 c15_i32
  let c1_i32_30 : BitVec 32 := 1#32
  ⟨c0_i32_29, v51, c1_i32_30⟩
def k0_off316 (k0_t4 : Fin k0_t4_loop.trips) : Fin 1 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v58 : Index := Scalar.indexCast v57
  ![v58.toNat]
def k0_off317 (k0_t4 : Fin k0_t4_loop.trips) (c0_i32_36 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v60 : BitVec 32 := Scalar.addi v57 c0_i32_36
  let v61 : Index := Scalar.indexCast v60
  let c0_37 : Index := 0#32
  ![v61.toNat, 0]
def k0_off318 (k0_t4 : Fin k0_t4_loop.trips) (c0_i32_38 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v63 : BitVec 32 := Scalar.addi v57 c0_i32_38
  let v64 : Index := Scalar.indexCast v63
  let c16_39 : Index := 16#32
  ![v64.toNat, 16]
def k0_off319 (k0_t4 : Fin k0_t4_loop.trips) (c0_i32_40 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v66 : BitVec 32 := Scalar.addi v57 c0_i32_40
  let v67 : Index := Scalar.indexCast v66
  let c32_41 : Index := 32#32
  ![v67.toNat, 32]
def k0_off320 (k0_t4 : Fin k0_t4_loop.trips) (c0_i32_42 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v69 : BitVec 32 := Scalar.addi v57 c0_i32_42
  let v70 : Index := Scalar.indexCast v69
  let c48_43 : Index := 48#32
  ![v70.toNat, 48]
def k0_off321 (k0_t4 : Fin k0_t4_loop.trips) (c0_i32_44 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v72 : BitVec 32 := Scalar.addi v57 c0_i32_44
  let v73 : Index := Scalar.indexCast v72
  let c64_45 : Index := 64#32
  ![v73.toNat, 64]
def k0_off322 (k0_t4 : Fin k0_t4_loop.trips) (c0_i32_46 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v75 : BitVec 32 := Scalar.addi v57 c0_i32_46
  let v76 : Index := Scalar.indexCast v75
  let c80_47 : Index := 80#32
  ![v76.toNat, 80]
def k0_off323 (k0_t4 : Fin k0_t4_loop.trips) (c0_i32_48 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v78 : BitVec 32 := Scalar.addi v57 c0_i32_48
  let v79 : Index := Scalar.indexCast v78
  let c96_49 : Index := 96#32
  ![v79.toNat, 96]
def k0_off324 (k0_t4 : Fin k0_t4_loop.trips) (c0_i32_50 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v81 : BitVec 32 := Scalar.addi v57 c0_i32_50
  let v82 : Index := Scalar.indexCast v81
  let c112_51 : Index := 112#32
  ![v82.toNat, 112]
def k0_off325 (k0_t4 : Fin k0_t4_loop.trips) (c0_i32_285 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1449 : BitVec 32 := Scalar.addi v57 c0_i32_285
  let v1450 : Index := Scalar.indexCast v1449
  let c0_286 : Index := 0#32
  ![v1450.toNat, 0]
def k0_off326 (k0_t4 : Fin k0_t4_loop.trips) (c0_i32_287 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1454 : BitVec 32 := Scalar.addi v57 c0_i32_287
  let v1455 : Index := Scalar.indexCast v1454
  let c16_288 : Index := 16#32
  ![v1455.toNat, 16]
def k0_off327 (k0_t4 : Fin k0_t4_loop.trips) (c0_i32_289 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1459 : BitVec 32 := Scalar.addi v57 c0_i32_289
  let v1460 : Index := Scalar.indexCast v1459
  let c32_290 : Index := 32#32
  ![v1460.toNat, 32]
def k0_off328 (k0_t4 : Fin k0_t4_loop.trips) (c0_i32_291 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1464 : BitVec 32 := Scalar.addi v57 c0_i32_291
  let v1465 : Index := Scalar.indexCast v1464
  let c48_292 : Index := 48#32
  ![v1465.toNat, 48]
def k0_off329 (k0_t4 : Fin k0_t4_loop.trips) (c0_i32_293 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1469 : BitVec 32 := Scalar.addi v57 c0_i32_293
  let v1470 : Index := Scalar.indexCast v1469
  let c64_294 : Index := 64#32
  ![v1470.toNat, 64]
def k0_off330 (k0_t4 : Fin k0_t4_loop.trips) (c0_i32_295 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1474 : BitVec 32 := Scalar.addi v57 c0_i32_295
  let v1475 : Index := Scalar.indexCast v1474
  let c80_296 : Index := 80#32
  ![v1475.toNat, 80]
def k0_off331 (k0_t4 : Fin k0_t4_loop.trips) (c0_i32_297 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1479 : BitVec 32 := Scalar.addi v57 c0_i32_297
  let v1480 : Index := Scalar.indexCast v1479
  let c96_298 : Index := 96#32
  ![v1480.toNat, 96]
def k0_off332 (k0_t4 : Fin k0_t4_loop.trips) (c0_i32_299 : BitVec 32) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let v1484 : BitVec 32 := Scalar.addi v57 c0_i32_299
  let v1485 : Index := Scalar.indexCast v1484
  let c112_300 : Index := 112#32
  ![v1485.toNat, 112]
def k0_off333 (v1437 : BitVec 32) : Fin 2 → Nat :=
  let v2134 : Index := Scalar.indexCast v1437
  let c0_541 : Index := 0#32
  ![v2134.toNat, 0]
def k0_cond6 (v1437 : BitVec 32) (v1439 : BitVec 32) : BitVec 1 :=
  let v1440 : BitVec 1 := Scalar.cmpi .eq v1437 v1439
  let v1441 : BitVec 32 := Scalar.extui v1440
  let c0_i32_282 : BitVec 32 := 0#32
  let v1442 : BitVec 1 := Scalar.cmpi .ne v1441 c0_i32_282
  v1442

def k0_off334 (v1437 : BitVec 32) : Fin 2 → Nat :=
  let v2139 : Index := Scalar.indexCast v1437
  let c16_543 : Index := 16#32
  ![v2139.toNat, 16]
def k0_off335 (v1437 : BitVec 32) : Fin 2 → Nat :=
  let v2144 : Index := Scalar.indexCast v1437
  let c32_545 : Index := 32#32
  ![v2144.toNat, 32]
def k0_off336 (v1437 : BitVec 32) : Fin 2 → Nat :=
  let v2149 : Index := Scalar.indexCast v1437
  let c48_547 : Index := 48#32
  ![v2149.toNat, 48]
def k0_off337 (v1437 : BitVec 32) : Fin 2 → Nat :=
  let v2154 : Index := Scalar.indexCast v1437
  let c64_549 : Index := 64#32
  ![v2154.toNat, 64]
def k0_off338 (v1437 : BitVec 32) : Fin 2 → Nat :=
  let v2159 : Index := Scalar.indexCast v1437
  let c80_551 : Index := 80#32
  ![v2159.toNat, 80]
def k0_off339 (v1437 : BitVec 32) : Fin 2 → Nat :=
  let v2164 : Index := Scalar.indexCast v1437
  let c96_553 : Index := 96#32
  ![v2164.toNat, 96]
def k0_off340 (v1437 : BitVec 32) : Fin 2 → Nat :=
  let v2169 : Index := Scalar.indexCast v1437
  let c112_555 : Index := 112#32
  ![v2169.toNat, 112]
def k0_off341 (v1437 : BitVec 32) : Fin 2 → Nat :=
  let v2174 : Index := Scalar.indexCast v1437
  let c0_557 : Index := 0#32
  ![v2174.toNat, 0]

def k0_chk18 (k0_t2 : Fin k0_t2_loop.trips) (v1437 : BitVec 32) (v1439 : BitVec 32) : Prop :=
  (∀ (k0_h5 : k0_cond5 k0_t2 = 1#1), ∀ (k0_h6 : k0_cond6 v1437 v1439 = 1#1), ∀ a, (k0_off333 v1437) a + S1x16.size a ≤ S64x128.size a) ∧
  (∀ (k0_h5 : k0_cond5 k0_t2 = 1#1), ∀ (k0_h6 : k0_cond6 v1437 v1439 = 1#1), ∀ a, (k0_off334 v1437) a + S1x16.size a ≤ S64x128.size a) ∧
  (∀ (k0_h5 : k0_cond5 k0_t2 = 1#1), ∀ (k0_h6 : k0_cond6 v1437 v1439 = 1#1), ∀ a, (k0_off335 v1437) a + S1x16.size a ≤ S64x128.size a) ∧
  (∀ (k0_h5 : k0_cond5 k0_t2 = 1#1), ∀ (k0_h6 : k0_cond6 v1437 v1439 = 1#1), ∀ a, (k0_off336 v1437) a + S1x16.size a ≤ S64x128.size a) ∧
  (∀ (k0_h5 : k0_cond5 k0_t2 = 1#1), ∀ (k0_h6 : k0_cond6 v1437 v1439 = 1#1), ∀ a, (k0_off337 v1437) a + S1x16.size a ≤ S64x128.size a) ∧
  (∀ (k0_h5 : k0_cond5 k0_t2 = 1#1), ∀ (k0_h6 : k0_cond6 v1437 v1439 = 1#1), ∀ a, (k0_off338 v1437) a + S1x16.size a ≤ S64x128.size a) ∧
  (∀ (k0_h5 : k0_cond5 k0_t2 = 1#1), ∀ (k0_h6 : k0_cond6 v1437 v1439 = 1#1), ∀ a, (k0_off339 v1437) a + S1x16.size a ≤ S64x128.size a) ∧
  (∀ (k0_h5 : k0_cond5 k0_t2 = 1#1), ∀ (k0_h6 : k0_cond6 v1437 v1439 = 1#1), ∀ a, (k0_off340 v1437) a + S1x16.size a ≤ S64x128.size a) ∧
  (∀ (k0_h5 : k0_cond5 k0_t2 = 1#1), ∀ (k0_h6 : k0_cond6 v1437 v1439 = 1#1), ∀ a, (k0_off341 v1437) a + S1x16.size a ≤ S64x16.size a)
theorem k0_off333_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off333 v1437) a + S1x16.size a ≤ S64x128.size a := fun k0_t2 v1437 v1439 k0_hw18 k0_h5 k0_h6 => k0_hw18.1 k0_h5 k0_h6
theorem k0_off334_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off334 v1437) a + S1x16.size a ≤ S64x128.size a := fun k0_t2 v1437 v1439 k0_hw18 k0_h5 k0_h6 => k0_hw18.2.1 k0_h5 k0_h6
theorem k0_off335_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off335 v1437) a + S1x16.size a ≤ S64x128.size a := fun k0_t2 v1437 v1439 k0_hw18 k0_h5 k0_h6 => k0_hw18.2.2.1 k0_h5 k0_h6
theorem k0_off336_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off336 v1437) a + S1x16.size a ≤ S64x128.size a := fun k0_t2 v1437 v1439 k0_hw18 k0_h5 k0_h6 => k0_hw18.2.2.2.1 k0_h5 k0_h6
theorem k0_off337_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off337 v1437) a + S1x16.size a ≤ S64x128.size a := fun k0_t2 v1437 v1439 k0_hw18 k0_h5 k0_h6 => k0_hw18.2.2.2.2.1 k0_h5 k0_h6
theorem k0_off338_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off338 v1437) a + S1x16.size a ≤ S64x128.size a := fun k0_t2 v1437 v1439 k0_hw18 k0_h5 k0_h6 => k0_hw18.2.2.2.2.2.1 k0_h5 k0_h6
theorem k0_off339_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off339 v1437) a + S1x16.size a ≤ S64x128.size a := fun k0_t2 v1437 v1439 k0_hw18 k0_h5 k0_h6 => k0_hw18.2.2.2.2.2.2.1 k0_h5 k0_h6
theorem k0_off340_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off340 v1437) a + S1x16.size a ≤ S64x128.size a := fun k0_t2 v1437 v1439 k0_hw18 k0_h5 k0_h6 => k0_hw18.2.2.2.2.2.2.2.1 k0_h5 k0_h6
theorem k0_off341_inb : ∀ (k0_t2 : Fin k0_t2_loop.trips) (v1437 : BitVec 32) (v1439 : BitVec 32) (k0_hw18 : k0_chk18 k0_t2 v1437 v1439), ∀ (k0_h5 : k0_cond5 k0_t2 = 1#1), ∀ (k0_h6 : k0_cond6 v1437 v1439 = 1#1), ∀ a, (k0_off341 v1437) a + S1x16.size a ≤ S64x16.size a := fun k0_t2 v1437 v1439 k0_hw18 k0_h5 k0_h6 => k0_hw18.2.2.2.2.2.2.2.2 k0_h5 k0_h6

def k0_off342 (v1449 : BitVec 32) : Fin 2 → Nat :=
  let v1450 : Index := Scalar.indexCast v1449
  let c0_285 : Index := 0#32
  ![v1450.toNat, 0]
def k0_cond7 (v1437 : BitVec 32) (v1439 : BitVec 32) : BitVec 1 :=
  let v1443 : BitVec 1 := Scalar.cmpi .ne v1437 v1439
  let v1444 : BitVec 32 := Scalar.extui v1443
  let c0_i32_283 : BitVec 32 := 0#32
  let v1445 : BitVec 1 := Scalar.cmpi .ne v1444 c0_i32_283
  v1445

def k0_off343 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_286 : BitVec 32 := 0#32
  let v1452 : BitVec 32 := Scalar.addi v57 c0_i32_286
  let v1453 : Index := Scalar.indexCast v1452
  let c0_287 : Index := 0#32
  ![v1453.toNat, 0]
def k0_off344 (v1449 : BitVec 32) : Fin 2 → Nat :=
  let v1459 : Index := Scalar.indexCast v1449
  let c16_289 : Index := 16#32
  ![v1459.toNat, 16]
def k0_off345 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_290 : BitVec 32 := 0#32
  let v1461 : BitVec 32 := Scalar.addi v57 c0_i32_290
  let v1462 : Index := Scalar.indexCast v1461
  let c16_291 : Index := 16#32
  ![v1462.toNat, 16]
def k0_off346 (v1449 : BitVec 32) : Fin 2 → Nat :=
  let v1468 : Index := Scalar.indexCast v1449
  let c32_293 : Index := 32#32
  ![v1468.toNat, 32]
def k0_off347 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_294 : BitVec 32 := 0#32
  let v1470 : BitVec 32 := Scalar.addi v57 c0_i32_294
  let v1471 : Index := Scalar.indexCast v1470
  let c32_295 : Index := 32#32
  ![v1471.toNat, 32]
def k0_off348 (v1449 : BitVec 32) : Fin 2 → Nat :=
  let v1477 : Index := Scalar.indexCast v1449
  let c48_297 : Index := 48#32
  ![v1477.toNat, 48]
def k0_off349 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_298 : BitVec 32 := 0#32
  let v1479 : BitVec 32 := Scalar.addi v57 c0_i32_298
  let v1480 : Index := Scalar.indexCast v1479
  let c48_299 : Index := 48#32
  ![v1480.toNat, 48]
def k0_off350 (v1449 : BitVec 32) : Fin 2 → Nat :=
  let v1486 : Index := Scalar.indexCast v1449
  let c64_301 : Index := 64#32
  ![v1486.toNat, 64]
def k0_off351 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_302 : BitVec 32 := 0#32
  let v1488 : BitVec 32 := Scalar.addi v57 c0_i32_302
  let v1489 : Index := Scalar.indexCast v1488
  let c64_303 : Index := 64#32
  ![v1489.toNat, 64]
def k0_off352 (v1449 : BitVec 32) : Fin 2 → Nat :=
  let v1495 : Index := Scalar.indexCast v1449
  let c80_305 : Index := 80#32
  ![v1495.toNat, 80]
def k0_off353 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_306 : BitVec 32 := 0#32
  let v1497 : BitVec 32 := Scalar.addi v57 c0_i32_306
  let v1498 : Index := Scalar.indexCast v1497
  let c80_307 : Index := 80#32
  ![v1498.toNat, 80]
def k0_off354 (v1449 : BitVec 32) : Fin 2 → Nat :=
  let v1504 : Index := Scalar.indexCast v1449
  let c96_309 : Index := 96#32
  ![v1504.toNat, 96]
def k0_off355 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_310 : BitVec 32 := 0#32
  let v1506 : BitVec 32 := Scalar.addi v57 c0_i32_310
  let v1507 : Index := Scalar.indexCast v1506
  let c96_311 : Index := 96#32
  ![v1507.toNat, 96]
def k0_off356 (v1449 : BitVec 32) : Fin 2 → Nat :=
  let v1513 : Index := Scalar.indexCast v1449
  let c112_313 : Index := 112#32
  ![v1513.toNat, 112]
def k0_off357 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c0_i32_314 : BitVec 32 := 0#32
  let v1515 : BitVec 32 := Scalar.addi v57 c0_i32_314
  let v1516 : Index := Scalar.indexCast v1515
  let c112_315 : Index := 112#32
  ![v1516.toNat, 112]
def k0_off358 (v1449 : BitVec 32) : Fin 2 → Nat :=
  let v1522 : Index := Scalar.indexCast v1449
  let c0_317 : Index := 0#32
  ![v1522.toNat, 0]

def k0_chk19 (k0_t2 : Fin k0_t2_loop.trips) (v1437 : BitVec 32) (v1439 : BitVec 32) (v1449 : BitVec 32) : Prop :=
  (∀ (k0_h5 : k0_cond5 k0_t2 = 1#1), ∀ (k0_h7 : k0_cond7 v1437 v1439 = 1#1), ∀ a, (k0_off342 v1449) a + S1x16.size a ≤ S64x128.size a) ∧
  (∀ (k0_h5 : k0_cond5 k0_t2 = 1#1), ∀ (k0_h7 : k0_cond7 v1437 v1439 = 1#1), ∀ a, (k0_off344 v1449) a + S1x16.size a ≤ S64x128.size a) ∧
  (∀ (k0_h5 : k0_cond5 k0_t2 = 1#1), ∀ (k0_h7 : k0_cond7 v1437 v1439 = 1#1), ∀ a, (k0_off346 v1449) a + S1x16.size a ≤ S64x128.size a) ∧
  (∀ (k0_h5 : k0_cond5 k0_t2 = 1#1), ∀ (k0_h7 : k0_cond7 v1437 v1439 = 1#1), ∀ a, (k0_off348 v1449) a + S1x16.size a ≤ S64x128.size a) ∧
  (∀ (k0_h5 : k0_cond5 k0_t2 = 1#1), ∀ (k0_h7 : k0_cond7 v1437 v1439 = 1#1), ∀ a, (k0_off350 v1449) a + S1x16.size a ≤ S64x128.size a) ∧
  (∀ (k0_h5 : k0_cond5 k0_t2 = 1#1), ∀ (k0_h7 : k0_cond7 v1437 v1439 = 1#1), ∀ a, (k0_off352 v1449) a + S1x16.size a ≤ S64x128.size a) ∧
  (∀ (k0_h5 : k0_cond5 k0_t2 = 1#1), ∀ (k0_h7 : k0_cond7 v1437 v1439 = 1#1), ∀ a, (k0_off354 v1449) a + S1x16.size a ≤ S64x128.size a) ∧
  (∀ (k0_h5 : k0_cond5 k0_t2 = 1#1), ∀ (k0_h7 : k0_cond7 v1437 v1439 = 1#1), ∀ a, (k0_off356 v1449) a + S1x16.size a ≤ S64x128.size a) ∧
  (∀ (k0_h5 : k0_cond5 k0_t2 = 1#1), ∀ (k0_h7 : k0_cond7 v1437 v1439 = 1#1), ∀ a, (k0_off358 v1449) a + S1x16.size a ≤ S64x16.size a)
theorem k0_off342_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off342 v1449) a + S1x16.size a ≤ S64x128.size a := fun k0_t2 v1437 v1439 v1449 k0_hw19 k0_h5 k0_h7 => k0_hw19.1 k0_h5 k0_h7
theorem k0_off344_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off344 v1449) a + S1x16.size a ≤ S64x128.size a := fun k0_t2 v1437 v1439 v1449 k0_hw19 k0_h5 k0_h7 => k0_hw19.2.1 k0_h5 k0_h7
theorem k0_off346_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off346 v1449) a + S1x16.size a ≤ S64x128.size a := fun k0_t2 v1437 v1439 v1449 k0_hw19 k0_h5 k0_h7 => k0_hw19.2.2.1 k0_h5 k0_h7
theorem k0_off348_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off348 v1449) a + S1x16.size a ≤ S64x128.size a := fun k0_t2 v1437 v1439 v1449 k0_hw19 k0_h5 k0_h7 => k0_hw19.2.2.2.1 k0_h5 k0_h7
theorem k0_off350_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off350 v1449) a + S1x16.size a ≤ S64x128.size a := fun k0_t2 v1437 v1439 v1449 k0_hw19 k0_h5 k0_h7 => k0_hw19.2.2.2.2.1 k0_h5 k0_h7
theorem k0_off352_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off352 v1449) a + S1x16.size a ≤ S64x128.size a := fun k0_t2 v1437 v1439 v1449 k0_hw19 k0_h5 k0_h7 => k0_hw19.2.2.2.2.2.1 k0_h5 k0_h7
theorem k0_off354_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off354 v1449) a + S1x16.size a ≤ S64x128.size a := fun k0_t2 v1437 v1439 v1449 k0_hw19 k0_h5 k0_h7 => k0_hw19.2.2.2.2.2.2.1 k0_h5 k0_h7
theorem k0_off356_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off356 v1449) a + S1x16.size a ≤ S64x128.size a := fun k0_t2 v1437 v1439 v1449 k0_hw19 k0_h5 k0_h7 => k0_hw19.2.2.2.2.2.2.2.1 k0_h5 k0_h7
theorem k0_off358_inb : ∀ (k0_t2 : Fin k0_t2_loop.trips) (v1437 : BitVec 32) (v1439 : BitVec 32) (v1449 : BitVec 32) (k0_hw19 : k0_chk19 k0_t2 v1437 v1439 v1449), ∀ (k0_h5 : k0_cond5 k0_t2 = 1#1), ∀ (k0_h7 : k0_cond7 v1437 v1439 = 1#1), ∀ a, (k0_off358 v1449) a + S1x16.size a ≤ S64x16.size a := fun k0_t2 v1437 v1439 v1449 k0_hw19 k0_h5 k0_h7 => k0_hw19.2.2.2.2.2.2.2.2 k0_h5 k0_h7

def k0_off359 (v1530 : BitVec 32) : Fin 2 → Nat :=
  let v1531 : Index := Scalar.indexCast v1530
  let c0_319 : Index := 0#32
  ![v1531.toNat, 0]

def k0_off360 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_320 : BitVec 32 := 1#32
  let v1533 : BitVec 32 := Scalar.addi v57 c1_i32_320
  let v1534 : Index := Scalar.indexCast v1533
  let c0_321 : Index := 0#32
  ![v1534.toNat, 0]
def k0_off361 (v1530 : BitVec 32) : Fin 2 → Nat :=
  let v1540 : Index := Scalar.indexCast v1530
  let c16_323 : Index := 16#32
  ![v1540.toNat, 16]
def k0_off362 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_324 : BitVec 32 := 1#32
  let v1542 : BitVec 32 := Scalar.addi v57 c1_i32_324
  let v1543 : Index := Scalar.indexCast v1542
  let c16_325 : Index := 16#32
  ![v1543.toNat, 16]
def k0_off363 (v1530 : BitVec 32) : Fin 2 → Nat :=
  let v1549 : Index := Scalar.indexCast v1530
  let c32_327 : Index := 32#32
  ![v1549.toNat, 32]
def k0_off364 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_328 : BitVec 32 := 1#32
  let v1551 : BitVec 32 := Scalar.addi v57 c1_i32_328
  let v1552 : Index := Scalar.indexCast v1551
  let c32_329 : Index := 32#32
  ![v1552.toNat, 32]
def k0_off365 (v1530 : BitVec 32) : Fin 2 → Nat :=
  let v1558 : Index := Scalar.indexCast v1530
  let c48_331 : Index := 48#32
  ![v1558.toNat, 48]
def k0_off366 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_332 : BitVec 32 := 1#32
  let v1560 : BitVec 32 := Scalar.addi v57 c1_i32_332
  let v1561 : Index := Scalar.indexCast v1560
  let c48_333 : Index := 48#32
  ![v1561.toNat, 48]
def k0_off367 (v1530 : BitVec 32) : Fin 2 → Nat :=
  let v1567 : Index := Scalar.indexCast v1530
  let c64_335 : Index := 64#32
  ![v1567.toNat, 64]
def k0_off368 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_336 : BitVec 32 := 1#32
  let v1569 : BitVec 32 := Scalar.addi v57 c1_i32_336
  let v1570 : Index := Scalar.indexCast v1569
  let c64_337 : Index := 64#32
  ![v1570.toNat, 64]
def k0_off369 (v1530 : BitVec 32) : Fin 2 → Nat :=
  let v1576 : Index := Scalar.indexCast v1530
  let c80_339 : Index := 80#32
  ![v1576.toNat, 80]
def k0_off370 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_340 : BitVec 32 := 1#32
  let v1578 : BitVec 32 := Scalar.addi v57 c1_i32_340
  let v1579 : Index := Scalar.indexCast v1578
  let c80_341 : Index := 80#32
  ![v1579.toNat, 80]
def k0_off371 (v1530 : BitVec 32) : Fin 2 → Nat :=
  let v1585 : Index := Scalar.indexCast v1530
  let c96_343 : Index := 96#32
  ![v1585.toNat, 96]
def k0_off372 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_344 : BitVec 32 := 1#32
  let v1587 : BitVec 32 := Scalar.addi v57 c1_i32_344
  let v1588 : Index := Scalar.indexCast v1587
  let c96_345 : Index := 96#32
  ![v1588.toNat, 96]
def k0_off373 (v1530 : BitVec 32) : Fin 2 → Nat :=
  let v1594 : Index := Scalar.indexCast v1530
  let c112_347 : Index := 112#32
  ![v1594.toNat, 112]
def k0_off374 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c1_i32_348 : BitVec 32 := 1#32
  let v1596 : BitVec 32 := Scalar.addi v57 c1_i32_348
  let v1597 : Index := Scalar.indexCast v1596
  let c112_349 : Index := 112#32
  ![v1597.toNat, 112]
def k0_off375 (v1530 : BitVec 32) : Fin 2 → Nat :=
  let v1603 : Index := Scalar.indexCast v1530
  let c0_351 : Index := 0#32
  ![v1603.toNat, 0]

def k0_chk20 (k0_t2 : Fin k0_t2_loop.trips) (v1437 : BitVec 32) (v1439 : BitVec 32) (v1530 : BitVec 32) : Prop :=
  (∀ (k0_h5 : k0_cond5 k0_t2 = 1#1), ∀ (k0_h7 : k0_cond7 v1437 v1439 = 1#1), ∀ a, (k0_off359 v1530) a + S1x16.size a ≤ S64x128.size a) ∧
  (∀ (k0_h5 : k0_cond5 k0_t2 = 1#1), ∀ (k0_h7 : k0_cond7 v1437 v1439 = 1#1), ∀ a, (k0_off361 v1530) a + S1x16.size a ≤ S64x128.size a) ∧
  (∀ (k0_h5 : k0_cond5 k0_t2 = 1#1), ∀ (k0_h7 : k0_cond7 v1437 v1439 = 1#1), ∀ a, (k0_off363 v1530) a + S1x16.size a ≤ S64x128.size a) ∧
  (∀ (k0_h5 : k0_cond5 k0_t2 = 1#1), ∀ (k0_h7 : k0_cond7 v1437 v1439 = 1#1), ∀ a, (k0_off365 v1530) a + S1x16.size a ≤ S64x128.size a) ∧
  (∀ (k0_h5 : k0_cond5 k0_t2 = 1#1), ∀ (k0_h7 : k0_cond7 v1437 v1439 = 1#1), ∀ a, (k0_off367 v1530) a + S1x16.size a ≤ S64x128.size a) ∧
  (∀ (k0_h5 : k0_cond5 k0_t2 = 1#1), ∀ (k0_h7 : k0_cond7 v1437 v1439 = 1#1), ∀ a, (k0_off369 v1530) a + S1x16.size a ≤ S64x128.size a) ∧
  (∀ (k0_h5 : k0_cond5 k0_t2 = 1#1), ∀ (k0_h7 : k0_cond7 v1437 v1439 = 1#1), ∀ a, (k0_off371 v1530) a + S1x16.size a ≤ S64x128.size a) ∧
  (∀ (k0_h5 : k0_cond5 k0_t2 = 1#1), ∀ (k0_h7 : k0_cond7 v1437 v1439 = 1#1), ∀ a, (k0_off373 v1530) a + S1x16.size a ≤ S64x128.size a) ∧
  (∀ (k0_h5 : k0_cond5 k0_t2 = 1#1), ∀ (k0_h7 : k0_cond7 v1437 v1439 = 1#1), ∀ a, (k0_off375 v1530) a + S1x16.size a ≤ S64x16.size a)
theorem k0_off359_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off359 v1530) a + S1x16.size a ≤ S64x128.size a := fun k0_t2 v1437 v1439 v1530 k0_hw20 k0_h5 k0_h7 => k0_hw20.1 k0_h5 k0_h7
theorem k0_off361_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off361 v1530) a + S1x16.size a ≤ S64x128.size a := fun k0_t2 v1437 v1439 v1530 k0_hw20 k0_h5 k0_h7 => k0_hw20.2.1 k0_h5 k0_h7
theorem k0_off363_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off363 v1530) a + S1x16.size a ≤ S64x128.size a := fun k0_t2 v1437 v1439 v1530 k0_hw20 k0_h5 k0_h7 => k0_hw20.2.2.1 k0_h5 k0_h7
theorem k0_off365_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off365 v1530) a + S1x16.size a ≤ S64x128.size a := fun k0_t2 v1437 v1439 v1530 k0_hw20 k0_h5 k0_h7 => k0_hw20.2.2.2.1 k0_h5 k0_h7
theorem k0_off367_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off367 v1530) a + S1x16.size a ≤ S64x128.size a := fun k0_t2 v1437 v1439 v1530 k0_hw20 k0_h5 k0_h7 => k0_hw20.2.2.2.2.1 k0_h5 k0_h7
theorem k0_off369_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off369 v1530) a + S1x16.size a ≤ S64x128.size a := fun k0_t2 v1437 v1439 v1530 k0_hw20 k0_h5 k0_h7 => k0_hw20.2.2.2.2.2.1 k0_h5 k0_h7
theorem k0_off371_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off371 v1530) a + S1x16.size a ≤ S64x128.size a := fun k0_t2 v1437 v1439 v1530 k0_hw20 k0_h5 k0_h7 => k0_hw20.2.2.2.2.2.2.1 k0_h5 k0_h7
theorem k0_off373_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off373 v1530) a + S1x16.size a ≤ S64x128.size a := fun k0_t2 v1437 v1439 v1530 k0_hw20 k0_h5 k0_h7 => k0_hw20.2.2.2.2.2.2.2.1 k0_h5 k0_h7
theorem k0_off375_inb : ∀ (k0_t2 : Fin k0_t2_loop.trips) (v1437 : BitVec 32) (v1439 : BitVec 32) (v1530 : BitVec 32) (k0_hw20 : k0_chk20 k0_t2 v1437 v1439 v1530), ∀ (k0_h5 : k0_cond5 k0_t2 = 1#1), ∀ (k0_h7 : k0_cond7 v1437 v1439 = 1#1), ∀ a, (k0_off375 v1530) a + S1x16.size a ≤ S64x16.size a := fun k0_t2 v1437 v1439 v1530 k0_hw20 k0_h5 k0_h7 => k0_hw20.2.2.2.2.2.2.2.2 k0_h5 k0_h7

def k0_off376 (v1611 : BitVec 32) : Fin 2 → Nat :=
  let v1612 : Index := Scalar.indexCast v1611
  let c0_353 : Index := 0#32
  ![v1612.toNat, 0]

def k0_off377 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_354 : BitVec 32 := 2#32
  let v1614 : BitVec 32 := Scalar.addi v57 c2_i32_354
  let v1615 : Index := Scalar.indexCast v1614
  let c0_355 : Index := 0#32
  ![v1615.toNat, 0]
def k0_off378 (v1611 : BitVec 32) : Fin 2 → Nat :=
  let v1621 : Index := Scalar.indexCast v1611
  let c16_357 : Index := 16#32
  ![v1621.toNat, 16]
def k0_off379 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_358 : BitVec 32 := 2#32
  let v1623 : BitVec 32 := Scalar.addi v57 c2_i32_358
  let v1624 : Index := Scalar.indexCast v1623
  let c16_359 : Index := 16#32
  ![v1624.toNat, 16]
def k0_off380 (v1611 : BitVec 32) : Fin 2 → Nat :=
  let v1630 : Index := Scalar.indexCast v1611
  let c32_361 : Index := 32#32
  ![v1630.toNat, 32]
def k0_off381 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_362 : BitVec 32 := 2#32
  let v1632 : BitVec 32 := Scalar.addi v57 c2_i32_362
  let v1633 : Index := Scalar.indexCast v1632
  let c32_363 : Index := 32#32
  ![v1633.toNat, 32]
def k0_off382 (v1611 : BitVec 32) : Fin 2 → Nat :=
  let v1639 : Index := Scalar.indexCast v1611
  let c48_365 : Index := 48#32
  ![v1639.toNat, 48]
def k0_off383 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_366 : BitVec 32 := 2#32
  let v1641 : BitVec 32 := Scalar.addi v57 c2_i32_366
  let v1642 : Index := Scalar.indexCast v1641
  let c48_367 : Index := 48#32
  ![v1642.toNat, 48]
def k0_off384 (v1611 : BitVec 32) : Fin 2 → Nat :=
  let v1648 : Index := Scalar.indexCast v1611
  let c64_369 : Index := 64#32
  ![v1648.toNat, 64]
def k0_off385 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_370 : BitVec 32 := 2#32
  let v1650 : BitVec 32 := Scalar.addi v57 c2_i32_370
  let v1651 : Index := Scalar.indexCast v1650
  let c64_371 : Index := 64#32
  ![v1651.toNat, 64]
def k0_off386 (v1611 : BitVec 32) : Fin 2 → Nat :=
  let v1657 : Index := Scalar.indexCast v1611
  let c80_373 : Index := 80#32
  ![v1657.toNat, 80]
def k0_off387 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_374 : BitVec 32 := 2#32
  let v1659 : BitVec 32 := Scalar.addi v57 c2_i32_374
  let v1660 : Index := Scalar.indexCast v1659
  let c80_375 : Index := 80#32
  ![v1660.toNat, 80]
def k0_off388 (v1611 : BitVec 32) : Fin 2 → Nat :=
  let v1666 : Index := Scalar.indexCast v1611
  let c96_377 : Index := 96#32
  ![v1666.toNat, 96]
def k0_off389 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_378 : BitVec 32 := 2#32
  let v1668 : BitVec 32 := Scalar.addi v57 c2_i32_378
  let v1669 : Index := Scalar.indexCast v1668
  let c96_379 : Index := 96#32
  ![v1669.toNat, 96]
def k0_off390 (v1611 : BitVec 32) : Fin 2 → Nat :=
  let v1675 : Index := Scalar.indexCast v1611
  let c112_381 : Index := 112#32
  ![v1675.toNat, 112]
def k0_off391 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c2_i32_382 : BitVec 32 := 2#32
  let v1677 : BitVec 32 := Scalar.addi v57 c2_i32_382
  let v1678 : Index := Scalar.indexCast v1677
  let c112_383 : Index := 112#32
  ![v1678.toNat, 112]
def k0_off392 (v1611 : BitVec 32) : Fin 2 → Nat :=
  let v1684 : Index := Scalar.indexCast v1611
  let c0_385 : Index := 0#32
  ![v1684.toNat, 0]

def k0_chk21 (k0_t2 : Fin k0_t2_loop.trips) (v1437 : BitVec 32) (v1439 : BitVec 32) (v1611 : BitVec 32) : Prop :=
  (∀ (k0_h5 : k0_cond5 k0_t2 = 1#1), ∀ (k0_h7 : k0_cond7 v1437 v1439 = 1#1), ∀ a, (k0_off376 v1611) a + S1x16.size a ≤ S64x128.size a) ∧
  (∀ (k0_h5 : k0_cond5 k0_t2 = 1#1), ∀ (k0_h7 : k0_cond7 v1437 v1439 = 1#1), ∀ a, (k0_off378 v1611) a + S1x16.size a ≤ S64x128.size a) ∧
  (∀ (k0_h5 : k0_cond5 k0_t2 = 1#1), ∀ (k0_h7 : k0_cond7 v1437 v1439 = 1#1), ∀ a, (k0_off380 v1611) a + S1x16.size a ≤ S64x128.size a) ∧
  (∀ (k0_h5 : k0_cond5 k0_t2 = 1#1), ∀ (k0_h7 : k0_cond7 v1437 v1439 = 1#1), ∀ a, (k0_off382 v1611) a + S1x16.size a ≤ S64x128.size a) ∧
  (∀ (k0_h5 : k0_cond5 k0_t2 = 1#1), ∀ (k0_h7 : k0_cond7 v1437 v1439 = 1#1), ∀ a, (k0_off384 v1611) a + S1x16.size a ≤ S64x128.size a) ∧
  (∀ (k0_h5 : k0_cond5 k0_t2 = 1#1), ∀ (k0_h7 : k0_cond7 v1437 v1439 = 1#1), ∀ a, (k0_off386 v1611) a + S1x16.size a ≤ S64x128.size a) ∧
  (∀ (k0_h5 : k0_cond5 k0_t2 = 1#1), ∀ (k0_h7 : k0_cond7 v1437 v1439 = 1#1), ∀ a, (k0_off388 v1611) a + S1x16.size a ≤ S64x128.size a) ∧
  (∀ (k0_h5 : k0_cond5 k0_t2 = 1#1), ∀ (k0_h7 : k0_cond7 v1437 v1439 = 1#1), ∀ a, (k0_off390 v1611) a + S1x16.size a ≤ S64x128.size a) ∧
  (∀ (k0_h5 : k0_cond5 k0_t2 = 1#1), ∀ (k0_h7 : k0_cond7 v1437 v1439 = 1#1), ∀ a, (k0_off392 v1611) a + S1x16.size a ≤ S64x16.size a)
theorem k0_off376_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off376 v1611) a + S1x16.size a ≤ S64x128.size a := fun k0_t2 v1437 v1439 v1611 k0_hw21 k0_h5 k0_h7 => k0_hw21.1 k0_h5 k0_h7
theorem k0_off378_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off378 v1611) a + S1x16.size a ≤ S64x128.size a := fun k0_t2 v1437 v1439 v1611 k0_hw21 k0_h5 k0_h7 => k0_hw21.2.1 k0_h5 k0_h7
theorem k0_off380_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off380 v1611) a + S1x16.size a ≤ S64x128.size a := fun k0_t2 v1437 v1439 v1611 k0_hw21 k0_h5 k0_h7 => k0_hw21.2.2.1 k0_h5 k0_h7
theorem k0_off382_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off382 v1611) a + S1x16.size a ≤ S64x128.size a := fun k0_t2 v1437 v1439 v1611 k0_hw21 k0_h5 k0_h7 => k0_hw21.2.2.2.1 k0_h5 k0_h7
theorem k0_off384_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off384 v1611) a + S1x16.size a ≤ S64x128.size a := fun k0_t2 v1437 v1439 v1611 k0_hw21 k0_h5 k0_h7 => k0_hw21.2.2.2.2.1 k0_h5 k0_h7
theorem k0_off386_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off386 v1611) a + S1x16.size a ≤ S64x128.size a := fun k0_t2 v1437 v1439 v1611 k0_hw21 k0_h5 k0_h7 => k0_hw21.2.2.2.2.2.1 k0_h5 k0_h7
theorem k0_off388_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off388 v1611) a + S1x16.size a ≤ S64x128.size a := fun k0_t2 v1437 v1439 v1611 k0_hw21 k0_h5 k0_h7 => k0_hw21.2.2.2.2.2.2.1 k0_h5 k0_h7
theorem k0_off390_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off390 v1611) a + S1x16.size a ≤ S64x128.size a := fun k0_t2 v1437 v1439 v1611 k0_hw21 k0_h5 k0_h7 => k0_hw21.2.2.2.2.2.2.2.1 k0_h5 k0_h7
theorem k0_off392_inb : ∀ (k0_t2 : Fin k0_t2_loop.trips) (v1437 : BitVec 32) (v1439 : BitVec 32) (v1611 : BitVec 32) (k0_hw21 : k0_chk21 k0_t2 v1437 v1439 v1611), ∀ (k0_h5 : k0_cond5 k0_t2 = 1#1), ∀ (k0_h7 : k0_cond7 v1437 v1439 = 1#1), ∀ a, (k0_off392 v1611) a + S1x16.size a ≤ S64x16.size a := fun k0_t2 v1437 v1439 v1611 k0_hw21 k0_h5 k0_h7 => k0_hw21.2.2.2.2.2.2.2.2 k0_h5 k0_h7

def k0_off393 (v1692 : BitVec 32) : Fin 2 → Nat :=
  let v1693 : Index := Scalar.indexCast v1692
  let c0_387 : Index := 0#32
  ![v1693.toNat, 0]

def k0_off394 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_388 : BitVec 32 := 3#32
  let v1695 : BitVec 32 := Scalar.addi v57 c3_i32_388
  let v1696 : Index := Scalar.indexCast v1695
  let c0_389 : Index := 0#32
  ![v1696.toNat, 0]
def k0_off395 (v1692 : BitVec 32) : Fin 2 → Nat :=
  let v1702 : Index := Scalar.indexCast v1692
  let c16_391 : Index := 16#32
  ![v1702.toNat, 16]
def k0_off396 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_392 : BitVec 32 := 3#32
  let v1704 : BitVec 32 := Scalar.addi v57 c3_i32_392
  let v1705 : Index := Scalar.indexCast v1704
  let c16_393 : Index := 16#32
  ![v1705.toNat, 16]
def k0_off397 (v1692 : BitVec 32) : Fin 2 → Nat :=
  let v1711 : Index := Scalar.indexCast v1692
  let c32_395 : Index := 32#32
  ![v1711.toNat, 32]
def k0_off398 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_396 : BitVec 32 := 3#32
  let v1713 : BitVec 32 := Scalar.addi v57 c3_i32_396
  let v1714 : Index := Scalar.indexCast v1713
  let c32_397 : Index := 32#32
  ![v1714.toNat, 32]
def k0_off399 (v1692 : BitVec 32) : Fin 2 → Nat :=
  let v1720 : Index := Scalar.indexCast v1692
  let c48_399 : Index := 48#32
  ![v1720.toNat, 48]
def k0_off400 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_400 : BitVec 32 := 3#32
  let v1722 : BitVec 32 := Scalar.addi v57 c3_i32_400
  let v1723 : Index := Scalar.indexCast v1722
  let c48_401 : Index := 48#32
  ![v1723.toNat, 48]
def k0_off401 (v1692 : BitVec 32) : Fin 2 → Nat :=
  let v1729 : Index := Scalar.indexCast v1692
  let c64_403 : Index := 64#32
  ![v1729.toNat, 64]
def k0_off402 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_404 : BitVec 32 := 3#32
  let v1731 : BitVec 32 := Scalar.addi v57 c3_i32_404
  let v1732 : Index := Scalar.indexCast v1731
  let c64_405 : Index := 64#32
  ![v1732.toNat, 64]
def k0_off403 (v1692 : BitVec 32) : Fin 2 → Nat :=
  let v1738 : Index := Scalar.indexCast v1692
  let c80_407 : Index := 80#32
  ![v1738.toNat, 80]
def k0_off404 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_408 : BitVec 32 := 3#32
  let v1740 : BitVec 32 := Scalar.addi v57 c3_i32_408
  let v1741 : Index := Scalar.indexCast v1740
  let c80_409 : Index := 80#32
  ![v1741.toNat, 80]
def k0_off405 (v1692 : BitVec 32) : Fin 2 → Nat :=
  let v1747 : Index := Scalar.indexCast v1692
  let c96_411 : Index := 96#32
  ![v1747.toNat, 96]
def k0_off406 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_412 : BitVec 32 := 3#32
  let v1749 : BitVec 32 := Scalar.addi v57 c3_i32_412
  let v1750 : Index := Scalar.indexCast v1749
  let c96_413 : Index := 96#32
  ![v1750.toNat, 96]
def k0_off407 (v1692 : BitVec 32) : Fin 2 → Nat :=
  let v1756 : Index := Scalar.indexCast v1692
  let c112_415 : Index := 112#32
  ![v1756.toNat, 112]
def k0_off408 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c3_i32_416 : BitVec 32 := 3#32
  let v1758 : BitVec 32 := Scalar.addi v57 c3_i32_416
  let v1759 : Index := Scalar.indexCast v1758
  let c112_417 : Index := 112#32
  ![v1759.toNat, 112]
def k0_off409 (v1692 : BitVec 32) : Fin 2 → Nat :=
  let v1765 : Index := Scalar.indexCast v1692
  let c0_419 : Index := 0#32
  ![v1765.toNat, 0]

def k0_chk22 (k0_t2 : Fin k0_t2_loop.trips) (v1437 : BitVec 32) (v1439 : BitVec 32) (v1692 : BitVec 32) : Prop :=
  (∀ (k0_h5 : k0_cond5 k0_t2 = 1#1), ∀ (k0_h7 : k0_cond7 v1437 v1439 = 1#1), ∀ a, (k0_off393 v1692) a + S1x16.size a ≤ S64x128.size a) ∧
  (∀ (k0_h5 : k0_cond5 k0_t2 = 1#1), ∀ (k0_h7 : k0_cond7 v1437 v1439 = 1#1), ∀ a, (k0_off395 v1692) a + S1x16.size a ≤ S64x128.size a) ∧
  (∀ (k0_h5 : k0_cond5 k0_t2 = 1#1), ∀ (k0_h7 : k0_cond7 v1437 v1439 = 1#1), ∀ a, (k0_off397 v1692) a + S1x16.size a ≤ S64x128.size a) ∧
  (∀ (k0_h5 : k0_cond5 k0_t2 = 1#1), ∀ (k0_h7 : k0_cond7 v1437 v1439 = 1#1), ∀ a, (k0_off399 v1692) a + S1x16.size a ≤ S64x128.size a) ∧
  (∀ (k0_h5 : k0_cond5 k0_t2 = 1#1), ∀ (k0_h7 : k0_cond7 v1437 v1439 = 1#1), ∀ a, (k0_off401 v1692) a + S1x16.size a ≤ S64x128.size a) ∧
  (∀ (k0_h5 : k0_cond5 k0_t2 = 1#1), ∀ (k0_h7 : k0_cond7 v1437 v1439 = 1#1), ∀ a, (k0_off403 v1692) a + S1x16.size a ≤ S64x128.size a) ∧
  (∀ (k0_h5 : k0_cond5 k0_t2 = 1#1), ∀ (k0_h7 : k0_cond7 v1437 v1439 = 1#1), ∀ a, (k0_off405 v1692) a + S1x16.size a ≤ S64x128.size a) ∧
  (∀ (k0_h5 : k0_cond5 k0_t2 = 1#1), ∀ (k0_h7 : k0_cond7 v1437 v1439 = 1#1), ∀ a, (k0_off407 v1692) a + S1x16.size a ≤ S64x128.size a) ∧
  (∀ (k0_h5 : k0_cond5 k0_t2 = 1#1), ∀ (k0_h7 : k0_cond7 v1437 v1439 = 1#1), ∀ a, (k0_off409 v1692) a + S1x16.size a ≤ S64x16.size a)
theorem k0_off393_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off393 v1692) a + S1x16.size a ≤ S64x128.size a := fun k0_t2 v1437 v1439 v1692 k0_hw22 k0_h5 k0_h7 => k0_hw22.1 k0_h5 k0_h7
theorem k0_off395_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off395 v1692) a + S1x16.size a ≤ S64x128.size a := fun k0_t2 v1437 v1439 v1692 k0_hw22 k0_h5 k0_h7 => k0_hw22.2.1 k0_h5 k0_h7
theorem k0_off397_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off397 v1692) a + S1x16.size a ≤ S64x128.size a := fun k0_t2 v1437 v1439 v1692 k0_hw22 k0_h5 k0_h7 => k0_hw22.2.2.1 k0_h5 k0_h7
theorem k0_off399_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off399 v1692) a + S1x16.size a ≤ S64x128.size a := fun k0_t2 v1437 v1439 v1692 k0_hw22 k0_h5 k0_h7 => k0_hw22.2.2.2.1 k0_h5 k0_h7
theorem k0_off401_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off401 v1692) a + S1x16.size a ≤ S64x128.size a := fun k0_t2 v1437 v1439 v1692 k0_hw22 k0_h5 k0_h7 => k0_hw22.2.2.2.2.1 k0_h5 k0_h7
theorem k0_off403_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off403 v1692) a + S1x16.size a ≤ S64x128.size a := fun k0_t2 v1437 v1439 v1692 k0_hw22 k0_h5 k0_h7 => k0_hw22.2.2.2.2.2.1 k0_h5 k0_h7
theorem k0_off405_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off405 v1692) a + S1x16.size a ≤ S64x128.size a := fun k0_t2 v1437 v1439 v1692 k0_hw22 k0_h5 k0_h7 => k0_hw22.2.2.2.2.2.2.1 k0_h5 k0_h7
theorem k0_off407_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off407 v1692) a + S1x16.size a ≤ S64x128.size a := fun k0_t2 v1437 v1439 v1692 k0_hw22 k0_h5 k0_h7 => k0_hw22.2.2.2.2.2.2.2.1 k0_h5 k0_h7
theorem k0_off409_inb : ∀ (k0_t2 : Fin k0_t2_loop.trips) (v1437 : BitVec 32) (v1439 : BitVec 32) (v1692 : BitVec 32) (k0_hw22 : k0_chk22 k0_t2 v1437 v1439 v1692), ∀ (k0_h5 : k0_cond5 k0_t2 = 1#1), ∀ (k0_h7 : k0_cond7 v1437 v1439 = 1#1), ∀ a, (k0_off409 v1692) a + S1x16.size a ≤ S64x16.size a := fun k0_t2 v1437 v1439 v1692 k0_hw22 k0_h5 k0_h7 => k0_hw22.2.2.2.2.2.2.2.2 k0_h5 k0_h7

def k0_off410 (v1773 : BitVec 32) : Fin 2 → Nat :=
  let v1774 : Index := Scalar.indexCast v1773
  let c0_421 : Index := 0#32
  ![v1774.toNat, 0]

def k0_off411 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_422 : BitVec 32 := 4#32
  let v1776 : BitVec 32 := Scalar.addi v57 c4_i32_422
  let v1777 : Index := Scalar.indexCast v1776
  let c0_423 : Index := 0#32
  ![v1777.toNat, 0]
def k0_off412 (v1773 : BitVec 32) : Fin 2 → Nat :=
  let v1783 : Index := Scalar.indexCast v1773
  let c16_425 : Index := 16#32
  ![v1783.toNat, 16]
def k0_off413 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_426 : BitVec 32 := 4#32
  let v1785 : BitVec 32 := Scalar.addi v57 c4_i32_426
  let v1786 : Index := Scalar.indexCast v1785
  let c16_427 : Index := 16#32
  ![v1786.toNat, 16]
def k0_off414 (v1773 : BitVec 32) : Fin 2 → Nat :=
  let v1792 : Index := Scalar.indexCast v1773
  let c32_429 : Index := 32#32
  ![v1792.toNat, 32]
def k0_off415 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_430 : BitVec 32 := 4#32
  let v1794 : BitVec 32 := Scalar.addi v57 c4_i32_430
  let v1795 : Index := Scalar.indexCast v1794
  let c32_431 : Index := 32#32
  ![v1795.toNat, 32]
def k0_off416 (v1773 : BitVec 32) : Fin 2 → Nat :=
  let v1801 : Index := Scalar.indexCast v1773
  let c48_433 : Index := 48#32
  ![v1801.toNat, 48]
def k0_off417 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_434 : BitVec 32 := 4#32
  let v1803 : BitVec 32 := Scalar.addi v57 c4_i32_434
  let v1804 : Index := Scalar.indexCast v1803
  let c48_435 : Index := 48#32
  ![v1804.toNat, 48]
def k0_off418 (v1773 : BitVec 32) : Fin 2 → Nat :=
  let v1810 : Index := Scalar.indexCast v1773
  let c64_437 : Index := 64#32
  ![v1810.toNat, 64]
def k0_off419 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_438 : BitVec 32 := 4#32
  let v1812 : BitVec 32 := Scalar.addi v57 c4_i32_438
  let v1813 : Index := Scalar.indexCast v1812
  let c64_439 : Index := 64#32
  ![v1813.toNat, 64]
def k0_off420 (v1773 : BitVec 32) : Fin 2 → Nat :=
  let v1819 : Index := Scalar.indexCast v1773
  let c80_441 : Index := 80#32
  ![v1819.toNat, 80]
def k0_off421 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_442 : BitVec 32 := 4#32
  let v1821 : BitVec 32 := Scalar.addi v57 c4_i32_442
  let v1822 : Index := Scalar.indexCast v1821
  let c80_443 : Index := 80#32
  ![v1822.toNat, 80]
def k0_off422 (v1773 : BitVec 32) : Fin 2 → Nat :=
  let v1828 : Index := Scalar.indexCast v1773
  let c96_445 : Index := 96#32
  ![v1828.toNat, 96]
def k0_off423 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_446 : BitVec 32 := 4#32
  let v1830 : BitVec 32 := Scalar.addi v57 c4_i32_446
  let v1831 : Index := Scalar.indexCast v1830
  let c96_447 : Index := 96#32
  ![v1831.toNat, 96]
def k0_off424 (v1773 : BitVec 32) : Fin 2 → Nat :=
  let v1837 : Index := Scalar.indexCast v1773
  let c112_449 : Index := 112#32
  ![v1837.toNat, 112]
def k0_off425 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c4_i32_450 : BitVec 32 := 4#32
  let v1839 : BitVec 32 := Scalar.addi v57 c4_i32_450
  let v1840 : Index := Scalar.indexCast v1839
  let c112_451 : Index := 112#32
  ![v1840.toNat, 112]
def k0_off426 (v1773 : BitVec 32) : Fin 2 → Nat :=
  let v1846 : Index := Scalar.indexCast v1773
  let c0_453 : Index := 0#32
  ![v1846.toNat, 0]

def k0_chk23 (k0_t2 : Fin k0_t2_loop.trips) (v1437 : BitVec 32) (v1439 : BitVec 32) (v1773 : BitVec 32) : Prop :=
  (∀ (k0_h5 : k0_cond5 k0_t2 = 1#1), ∀ (k0_h7 : k0_cond7 v1437 v1439 = 1#1), ∀ a, (k0_off410 v1773) a + S1x16.size a ≤ S64x128.size a) ∧
  (∀ (k0_h5 : k0_cond5 k0_t2 = 1#1), ∀ (k0_h7 : k0_cond7 v1437 v1439 = 1#1), ∀ a, (k0_off412 v1773) a + S1x16.size a ≤ S64x128.size a) ∧
  (∀ (k0_h5 : k0_cond5 k0_t2 = 1#1), ∀ (k0_h7 : k0_cond7 v1437 v1439 = 1#1), ∀ a, (k0_off414 v1773) a + S1x16.size a ≤ S64x128.size a) ∧
  (∀ (k0_h5 : k0_cond5 k0_t2 = 1#1), ∀ (k0_h7 : k0_cond7 v1437 v1439 = 1#1), ∀ a, (k0_off416 v1773) a + S1x16.size a ≤ S64x128.size a) ∧
  (∀ (k0_h5 : k0_cond5 k0_t2 = 1#1), ∀ (k0_h7 : k0_cond7 v1437 v1439 = 1#1), ∀ a, (k0_off418 v1773) a + S1x16.size a ≤ S64x128.size a) ∧
  (∀ (k0_h5 : k0_cond5 k0_t2 = 1#1), ∀ (k0_h7 : k0_cond7 v1437 v1439 = 1#1), ∀ a, (k0_off420 v1773) a + S1x16.size a ≤ S64x128.size a) ∧
  (∀ (k0_h5 : k0_cond5 k0_t2 = 1#1), ∀ (k0_h7 : k0_cond7 v1437 v1439 = 1#1), ∀ a, (k0_off422 v1773) a + S1x16.size a ≤ S64x128.size a) ∧
  (∀ (k0_h5 : k0_cond5 k0_t2 = 1#1), ∀ (k0_h7 : k0_cond7 v1437 v1439 = 1#1), ∀ a, (k0_off424 v1773) a + S1x16.size a ≤ S64x128.size a) ∧
  (∀ (k0_h5 : k0_cond5 k0_t2 = 1#1), ∀ (k0_h7 : k0_cond7 v1437 v1439 = 1#1), ∀ a, (k0_off426 v1773) a + S1x16.size a ≤ S64x16.size a)
theorem k0_off410_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off410 v1773) a + S1x16.size a ≤ S64x128.size a := fun k0_t2 v1437 v1439 v1773 k0_hw23 k0_h5 k0_h7 => k0_hw23.1 k0_h5 k0_h7
theorem k0_off412_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off412 v1773) a + S1x16.size a ≤ S64x128.size a := fun k0_t2 v1437 v1439 v1773 k0_hw23 k0_h5 k0_h7 => k0_hw23.2.1 k0_h5 k0_h7
theorem k0_off414_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off414 v1773) a + S1x16.size a ≤ S64x128.size a := fun k0_t2 v1437 v1439 v1773 k0_hw23 k0_h5 k0_h7 => k0_hw23.2.2.1 k0_h5 k0_h7
theorem k0_off416_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off416 v1773) a + S1x16.size a ≤ S64x128.size a := fun k0_t2 v1437 v1439 v1773 k0_hw23 k0_h5 k0_h7 => k0_hw23.2.2.2.1 k0_h5 k0_h7
theorem k0_off418_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off418 v1773) a + S1x16.size a ≤ S64x128.size a := fun k0_t2 v1437 v1439 v1773 k0_hw23 k0_h5 k0_h7 => k0_hw23.2.2.2.2.1 k0_h5 k0_h7
theorem k0_off420_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off420 v1773) a + S1x16.size a ≤ S64x128.size a := fun k0_t2 v1437 v1439 v1773 k0_hw23 k0_h5 k0_h7 => k0_hw23.2.2.2.2.2.1 k0_h5 k0_h7
theorem k0_off422_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off422 v1773) a + S1x16.size a ≤ S64x128.size a := fun k0_t2 v1437 v1439 v1773 k0_hw23 k0_h5 k0_h7 => k0_hw23.2.2.2.2.2.2.1 k0_h5 k0_h7
theorem k0_off424_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off424 v1773) a + S1x16.size a ≤ S64x128.size a := fun k0_t2 v1437 v1439 v1773 k0_hw23 k0_h5 k0_h7 => k0_hw23.2.2.2.2.2.2.2.1 k0_h5 k0_h7
theorem k0_off426_inb : ∀ (k0_t2 : Fin k0_t2_loop.trips) (v1437 : BitVec 32) (v1439 : BitVec 32) (v1773 : BitVec 32) (k0_hw23 : k0_chk23 k0_t2 v1437 v1439 v1773), ∀ (k0_h5 : k0_cond5 k0_t2 = 1#1), ∀ (k0_h7 : k0_cond7 v1437 v1439 = 1#1), ∀ a, (k0_off426 v1773) a + S1x16.size a ≤ S64x16.size a := fun k0_t2 v1437 v1439 v1773 k0_hw23 k0_h5 k0_h7 => k0_hw23.2.2.2.2.2.2.2.2 k0_h5 k0_h7

def k0_off427 (v1854 : BitVec 32) : Fin 2 → Nat :=
  let v1855 : Index := Scalar.indexCast v1854
  let c0_455 : Index := 0#32
  ![v1855.toNat, 0]

def k0_off428 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_456 : BitVec 32 := 5#32
  let v1857 : BitVec 32 := Scalar.addi v57 c5_i32_456
  let v1858 : Index := Scalar.indexCast v1857
  let c0_457 : Index := 0#32
  ![v1858.toNat, 0]
def k0_off429 (v1854 : BitVec 32) : Fin 2 → Nat :=
  let v1864 : Index := Scalar.indexCast v1854
  let c16_459 : Index := 16#32
  ![v1864.toNat, 16]
def k0_off430 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_460 : BitVec 32 := 5#32
  let v1866 : BitVec 32 := Scalar.addi v57 c5_i32_460
  let v1867 : Index := Scalar.indexCast v1866
  let c16_461 : Index := 16#32
  ![v1867.toNat, 16]
def k0_off431 (v1854 : BitVec 32) : Fin 2 → Nat :=
  let v1873 : Index := Scalar.indexCast v1854
  let c32_463 : Index := 32#32
  ![v1873.toNat, 32]
def k0_off432 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_464 : BitVec 32 := 5#32
  let v1875 : BitVec 32 := Scalar.addi v57 c5_i32_464
  let v1876 : Index := Scalar.indexCast v1875
  let c32_465 : Index := 32#32
  ![v1876.toNat, 32]
def k0_off433 (v1854 : BitVec 32) : Fin 2 → Nat :=
  let v1882 : Index := Scalar.indexCast v1854
  let c48_467 : Index := 48#32
  ![v1882.toNat, 48]
def k0_off434 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_468 : BitVec 32 := 5#32
  let v1884 : BitVec 32 := Scalar.addi v57 c5_i32_468
  let v1885 : Index := Scalar.indexCast v1884
  let c48_469 : Index := 48#32
  ![v1885.toNat, 48]
def k0_off435 (v1854 : BitVec 32) : Fin 2 → Nat :=
  let v1891 : Index := Scalar.indexCast v1854
  let c64_471 : Index := 64#32
  ![v1891.toNat, 64]
def k0_off436 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_472 : BitVec 32 := 5#32
  let v1893 : BitVec 32 := Scalar.addi v57 c5_i32_472
  let v1894 : Index := Scalar.indexCast v1893
  let c64_473 : Index := 64#32
  ![v1894.toNat, 64]
def k0_off437 (v1854 : BitVec 32) : Fin 2 → Nat :=
  let v1900 : Index := Scalar.indexCast v1854
  let c80_475 : Index := 80#32
  ![v1900.toNat, 80]
def k0_off438 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_476 : BitVec 32 := 5#32
  let v1902 : BitVec 32 := Scalar.addi v57 c5_i32_476
  let v1903 : Index := Scalar.indexCast v1902
  let c80_477 : Index := 80#32
  ![v1903.toNat, 80]
def k0_off439 (v1854 : BitVec 32) : Fin 2 → Nat :=
  let v1909 : Index := Scalar.indexCast v1854
  let c96_479 : Index := 96#32
  ![v1909.toNat, 96]
def k0_off440 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_480 : BitVec 32 := 5#32
  let v1911 : BitVec 32 := Scalar.addi v57 c5_i32_480
  let v1912 : Index := Scalar.indexCast v1911
  let c96_481 : Index := 96#32
  ![v1912.toNat, 96]
def k0_off441 (v1854 : BitVec 32) : Fin 2 → Nat :=
  let v1918 : Index := Scalar.indexCast v1854
  let c112_483 : Index := 112#32
  ![v1918.toNat, 112]
def k0_off442 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c5_i32_484 : BitVec 32 := 5#32
  let v1920 : BitVec 32 := Scalar.addi v57 c5_i32_484
  let v1921 : Index := Scalar.indexCast v1920
  let c112_485 : Index := 112#32
  ![v1921.toNat, 112]
def k0_off443 (v1854 : BitVec 32) : Fin 2 → Nat :=
  let v1927 : Index := Scalar.indexCast v1854
  let c0_487 : Index := 0#32
  ![v1927.toNat, 0]

def k0_chk24 (k0_t2 : Fin k0_t2_loop.trips) (v1437 : BitVec 32) (v1439 : BitVec 32) (v1854 : BitVec 32) : Prop :=
  (∀ (k0_h5 : k0_cond5 k0_t2 = 1#1), ∀ (k0_h7 : k0_cond7 v1437 v1439 = 1#1), ∀ a, (k0_off427 v1854) a + S1x16.size a ≤ S64x128.size a) ∧
  (∀ (k0_h5 : k0_cond5 k0_t2 = 1#1), ∀ (k0_h7 : k0_cond7 v1437 v1439 = 1#1), ∀ a, (k0_off429 v1854) a + S1x16.size a ≤ S64x128.size a) ∧
  (∀ (k0_h5 : k0_cond5 k0_t2 = 1#1), ∀ (k0_h7 : k0_cond7 v1437 v1439 = 1#1), ∀ a, (k0_off431 v1854) a + S1x16.size a ≤ S64x128.size a) ∧
  (∀ (k0_h5 : k0_cond5 k0_t2 = 1#1), ∀ (k0_h7 : k0_cond7 v1437 v1439 = 1#1), ∀ a, (k0_off433 v1854) a + S1x16.size a ≤ S64x128.size a) ∧
  (∀ (k0_h5 : k0_cond5 k0_t2 = 1#1), ∀ (k0_h7 : k0_cond7 v1437 v1439 = 1#1), ∀ a, (k0_off435 v1854) a + S1x16.size a ≤ S64x128.size a) ∧
  (∀ (k0_h5 : k0_cond5 k0_t2 = 1#1), ∀ (k0_h7 : k0_cond7 v1437 v1439 = 1#1), ∀ a, (k0_off437 v1854) a + S1x16.size a ≤ S64x128.size a) ∧
  (∀ (k0_h5 : k0_cond5 k0_t2 = 1#1), ∀ (k0_h7 : k0_cond7 v1437 v1439 = 1#1), ∀ a, (k0_off439 v1854) a + S1x16.size a ≤ S64x128.size a) ∧
  (∀ (k0_h5 : k0_cond5 k0_t2 = 1#1), ∀ (k0_h7 : k0_cond7 v1437 v1439 = 1#1), ∀ a, (k0_off441 v1854) a + S1x16.size a ≤ S64x128.size a) ∧
  (∀ (k0_h5 : k0_cond5 k0_t2 = 1#1), ∀ (k0_h7 : k0_cond7 v1437 v1439 = 1#1), ∀ a, (k0_off443 v1854) a + S1x16.size a ≤ S64x16.size a)
theorem k0_off427_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off427 v1854) a + S1x16.size a ≤ S64x128.size a := fun k0_t2 v1437 v1439 v1854 k0_hw24 k0_h5 k0_h7 => k0_hw24.1 k0_h5 k0_h7
theorem k0_off429_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off429 v1854) a + S1x16.size a ≤ S64x128.size a := fun k0_t2 v1437 v1439 v1854 k0_hw24 k0_h5 k0_h7 => k0_hw24.2.1 k0_h5 k0_h7
theorem k0_off431_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off431 v1854) a + S1x16.size a ≤ S64x128.size a := fun k0_t2 v1437 v1439 v1854 k0_hw24 k0_h5 k0_h7 => k0_hw24.2.2.1 k0_h5 k0_h7
theorem k0_off433_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off433 v1854) a + S1x16.size a ≤ S64x128.size a := fun k0_t2 v1437 v1439 v1854 k0_hw24 k0_h5 k0_h7 => k0_hw24.2.2.2.1 k0_h5 k0_h7
theorem k0_off435_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off435 v1854) a + S1x16.size a ≤ S64x128.size a := fun k0_t2 v1437 v1439 v1854 k0_hw24 k0_h5 k0_h7 => k0_hw24.2.2.2.2.1 k0_h5 k0_h7
theorem k0_off437_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off437 v1854) a + S1x16.size a ≤ S64x128.size a := fun k0_t2 v1437 v1439 v1854 k0_hw24 k0_h5 k0_h7 => k0_hw24.2.2.2.2.2.1 k0_h5 k0_h7
theorem k0_off439_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off439 v1854) a + S1x16.size a ≤ S64x128.size a := fun k0_t2 v1437 v1439 v1854 k0_hw24 k0_h5 k0_h7 => k0_hw24.2.2.2.2.2.2.1 k0_h5 k0_h7
theorem k0_off441_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off441 v1854) a + S1x16.size a ≤ S64x128.size a := fun k0_t2 v1437 v1439 v1854 k0_hw24 k0_h5 k0_h7 => k0_hw24.2.2.2.2.2.2.2.1 k0_h5 k0_h7
theorem k0_off443_inb : ∀ (k0_t2 : Fin k0_t2_loop.trips) (v1437 : BitVec 32) (v1439 : BitVec 32) (v1854 : BitVec 32) (k0_hw24 : k0_chk24 k0_t2 v1437 v1439 v1854), ∀ (k0_h5 : k0_cond5 k0_t2 = 1#1), ∀ (k0_h7 : k0_cond7 v1437 v1439 = 1#1), ∀ a, (k0_off443 v1854) a + S1x16.size a ≤ S64x16.size a := fun k0_t2 v1437 v1439 v1854 k0_hw24 k0_h5 k0_h7 => k0_hw24.2.2.2.2.2.2.2.2 k0_h5 k0_h7

def k0_off444 (v1935 : BitVec 32) : Fin 2 → Nat :=
  let v1936 : Index := Scalar.indexCast v1935
  let c0_489 : Index := 0#32
  ![v1936.toNat, 0]

def k0_off445 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_490 : BitVec 32 := 6#32
  let v1938 : BitVec 32 := Scalar.addi v57 c6_i32_490
  let v1939 : Index := Scalar.indexCast v1938
  let c0_491 : Index := 0#32
  ![v1939.toNat, 0]
def k0_off446 (v1935 : BitVec 32) : Fin 2 → Nat :=
  let v1945 : Index := Scalar.indexCast v1935
  let c16_493 : Index := 16#32
  ![v1945.toNat, 16]
def k0_off447 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_494 : BitVec 32 := 6#32
  let v1947 : BitVec 32 := Scalar.addi v57 c6_i32_494
  let v1948 : Index := Scalar.indexCast v1947
  let c16_495 : Index := 16#32
  ![v1948.toNat, 16]
def k0_off448 (v1935 : BitVec 32) : Fin 2 → Nat :=
  let v1954 : Index := Scalar.indexCast v1935
  let c32_497 : Index := 32#32
  ![v1954.toNat, 32]
def k0_off449 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_498 : BitVec 32 := 6#32
  let v1956 : BitVec 32 := Scalar.addi v57 c6_i32_498
  let v1957 : Index := Scalar.indexCast v1956
  let c32_499 : Index := 32#32
  ![v1957.toNat, 32]
def k0_off450 (v1935 : BitVec 32) : Fin 2 → Nat :=
  let v1963 : Index := Scalar.indexCast v1935
  let c48_501 : Index := 48#32
  ![v1963.toNat, 48]
def k0_off451 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_502 : BitVec 32 := 6#32
  let v1965 : BitVec 32 := Scalar.addi v57 c6_i32_502
  let v1966 : Index := Scalar.indexCast v1965
  let c48_503 : Index := 48#32
  ![v1966.toNat, 48]
def k0_off452 (v1935 : BitVec 32) : Fin 2 → Nat :=
  let v1972 : Index := Scalar.indexCast v1935
  let c64_505 : Index := 64#32
  ![v1972.toNat, 64]
def k0_off453 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_506 : BitVec 32 := 6#32
  let v1974 : BitVec 32 := Scalar.addi v57 c6_i32_506
  let v1975 : Index := Scalar.indexCast v1974
  let c64_507 : Index := 64#32
  ![v1975.toNat, 64]
def k0_off454 (v1935 : BitVec 32) : Fin 2 → Nat :=
  let v1981 : Index := Scalar.indexCast v1935
  let c80_509 : Index := 80#32
  ![v1981.toNat, 80]
def k0_off455 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_510 : BitVec 32 := 6#32
  let v1983 : BitVec 32 := Scalar.addi v57 c6_i32_510
  let v1984 : Index := Scalar.indexCast v1983
  let c80_511 : Index := 80#32
  ![v1984.toNat, 80]
def k0_off456 (v1935 : BitVec 32) : Fin 2 → Nat :=
  let v1990 : Index := Scalar.indexCast v1935
  let c96_513 : Index := 96#32
  ![v1990.toNat, 96]
def k0_off457 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_514 : BitVec 32 := 6#32
  let v1992 : BitVec 32 := Scalar.addi v57 c6_i32_514
  let v1993 : Index := Scalar.indexCast v1992
  let c96_515 : Index := 96#32
  ![v1993.toNat, 96]
def k0_off458 (v1935 : BitVec 32) : Fin 2 → Nat :=
  let v1999 : Index := Scalar.indexCast v1935
  let c112_517 : Index := 112#32
  ![v1999.toNat, 112]
def k0_off459 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c6_i32_518 : BitVec 32 := 6#32
  let v2001 : BitVec 32 := Scalar.addi v57 c6_i32_518
  let v2002 : Index := Scalar.indexCast v2001
  let c112_519 : Index := 112#32
  ![v2002.toNat, 112]
def k0_off460 (v1935 : BitVec 32) : Fin 2 → Nat :=
  let v2008 : Index := Scalar.indexCast v1935
  let c0_521 : Index := 0#32
  ![v2008.toNat, 0]

def k0_chk25 (k0_t2 : Fin k0_t2_loop.trips) (v1437 : BitVec 32) (v1439 : BitVec 32) (v1935 : BitVec 32) : Prop :=
  (∀ (k0_h5 : k0_cond5 k0_t2 = 1#1), ∀ (k0_h7 : k0_cond7 v1437 v1439 = 1#1), ∀ a, (k0_off444 v1935) a + S1x16.size a ≤ S64x128.size a) ∧
  (∀ (k0_h5 : k0_cond5 k0_t2 = 1#1), ∀ (k0_h7 : k0_cond7 v1437 v1439 = 1#1), ∀ a, (k0_off446 v1935) a + S1x16.size a ≤ S64x128.size a) ∧
  (∀ (k0_h5 : k0_cond5 k0_t2 = 1#1), ∀ (k0_h7 : k0_cond7 v1437 v1439 = 1#1), ∀ a, (k0_off448 v1935) a + S1x16.size a ≤ S64x128.size a) ∧
  (∀ (k0_h5 : k0_cond5 k0_t2 = 1#1), ∀ (k0_h7 : k0_cond7 v1437 v1439 = 1#1), ∀ a, (k0_off450 v1935) a + S1x16.size a ≤ S64x128.size a) ∧
  (∀ (k0_h5 : k0_cond5 k0_t2 = 1#1), ∀ (k0_h7 : k0_cond7 v1437 v1439 = 1#1), ∀ a, (k0_off452 v1935) a + S1x16.size a ≤ S64x128.size a) ∧
  (∀ (k0_h5 : k0_cond5 k0_t2 = 1#1), ∀ (k0_h7 : k0_cond7 v1437 v1439 = 1#1), ∀ a, (k0_off454 v1935) a + S1x16.size a ≤ S64x128.size a) ∧
  (∀ (k0_h5 : k0_cond5 k0_t2 = 1#1), ∀ (k0_h7 : k0_cond7 v1437 v1439 = 1#1), ∀ a, (k0_off456 v1935) a + S1x16.size a ≤ S64x128.size a) ∧
  (∀ (k0_h5 : k0_cond5 k0_t2 = 1#1), ∀ (k0_h7 : k0_cond7 v1437 v1439 = 1#1), ∀ a, (k0_off458 v1935) a + S1x16.size a ≤ S64x128.size a) ∧
  (∀ (k0_h5 : k0_cond5 k0_t2 = 1#1), ∀ (k0_h7 : k0_cond7 v1437 v1439 = 1#1), ∀ a, (k0_off460 v1935) a + S1x16.size a ≤ S64x16.size a)
theorem k0_off444_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off444 v1935) a + S1x16.size a ≤ S64x128.size a := fun k0_t2 v1437 v1439 v1935 k0_hw25 k0_h5 k0_h7 => k0_hw25.1 k0_h5 k0_h7
theorem k0_off446_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off446 v1935) a + S1x16.size a ≤ S64x128.size a := fun k0_t2 v1437 v1439 v1935 k0_hw25 k0_h5 k0_h7 => k0_hw25.2.1 k0_h5 k0_h7
theorem k0_off448_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off448 v1935) a + S1x16.size a ≤ S64x128.size a := fun k0_t2 v1437 v1439 v1935 k0_hw25 k0_h5 k0_h7 => k0_hw25.2.2.1 k0_h5 k0_h7
theorem k0_off450_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off450 v1935) a + S1x16.size a ≤ S64x128.size a := fun k0_t2 v1437 v1439 v1935 k0_hw25 k0_h5 k0_h7 => k0_hw25.2.2.2.1 k0_h5 k0_h7
theorem k0_off452_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off452 v1935) a + S1x16.size a ≤ S64x128.size a := fun k0_t2 v1437 v1439 v1935 k0_hw25 k0_h5 k0_h7 => k0_hw25.2.2.2.2.1 k0_h5 k0_h7
theorem k0_off454_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off454 v1935) a + S1x16.size a ≤ S64x128.size a := fun k0_t2 v1437 v1439 v1935 k0_hw25 k0_h5 k0_h7 => k0_hw25.2.2.2.2.2.1 k0_h5 k0_h7
theorem k0_off456_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off456 v1935) a + S1x16.size a ≤ S64x128.size a := fun k0_t2 v1437 v1439 v1935 k0_hw25 k0_h5 k0_h7 => k0_hw25.2.2.2.2.2.2.1 k0_h5 k0_h7
theorem k0_off458_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off458 v1935) a + S1x16.size a ≤ S64x128.size a := fun k0_t2 v1437 v1439 v1935 k0_hw25 k0_h5 k0_h7 => k0_hw25.2.2.2.2.2.2.2.1 k0_h5 k0_h7
theorem k0_off460_inb : ∀ (k0_t2 : Fin k0_t2_loop.trips) (v1437 : BitVec 32) (v1439 : BitVec 32) (v1935 : BitVec 32) (k0_hw25 : k0_chk25 k0_t2 v1437 v1439 v1935), ∀ (k0_h5 : k0_cond5 k0_t2 = 1#1), ∀ (k0_h7 : k0_cond7 v1437 v1439 = 1#1), ∀ a, (k0_off460 v1935) a + S1x16.size a ≤ S64x16.size a := fun k0_t2 v1437 v1439 v1935 k0_hw25 k0_h5 k0_h7 => k0_hw25.2.2.2.2.2.2.2.2 k0_h5 k0_h7

def k0_off461 (v2016 : BitVec 32) : Fin 2 → Nat :=
  let v2017 : Index := Scalar.indexCast v2016
  let c0_523 : Index := 0#32
  ![v2017.toNat, 0]

def k0_off462 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_524 : BitVec 32 := 7#32
  let v2019 : BitVec 32 := Scalar.addi v57 c7_i32_524
  let v2020 : Index := Scalar.indexCast v2019
  let c0_525 : Index := 0#32
  ![v2020.toNat, 0]
def k0_off463 (v2016 : BitVec 32) : Fin 2 → Nat :=
  let v2026 : Index := Scalar.indexCast v2016
  let c16_527 : Index := 16#32
  ![v2026.toNat, 16]
def k0_off464 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_528 : BitVec 32 := 7#32
  let v2028 : BitVec 32 := Scalar.addi v57 c7_i32_528
  let v2029 : Index := Scalar.indexCast v2028
  let c16_529 : Index := 16#32
  ![v2029.toNat, 16]
def k0_off465 (v2016 : BitVec 32) : Fin 2 → Nat :=
  let v2035 : Index := Scalar.indexCast v2016
  let c32_531 : Index := 32#32
  ![v2035.toNat, 32]
def k0_off466 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_532 : BitVec 32 := 7#32
  let v2037 : BitVec 32 := Scalar.addi v57 c7_i32_532
  let v2038 : Index := Scalar.indexCast v2037
  let c32_533 : Index := 32#32
  ![v2038.toNat, 32]
def k0_off467 (v2016 : BitVec 32) : Fin 2 → Nat :=
  let v2044 : Index := Scalar.indexCast v2016
  let c48_535 : Index := 48#32
  ![v2044.toNat, 48]
def k0_off468 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_536 : BitVec 32 := 7#32
  let v2046 : BitVec 32 := Scalar.addi v57 c7_i32_536
  let v2047 : Index := Scalar.indexCast v2046
  let c48_537 : Index := 48#32
  ![v2047.toNat, 48]
def k0_off469 (v2016 : BitVec 32) : Fin 2 → Nat :=
  let v2053 : Index := Scalar.indexCast v2016
  let c64_539 : Index := 64#32
  ![v2053.toNat, 64]
def k0_off470 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_540 : BitVec 32 := 7#32
  let v2055 : BitVec 32 := Scalar.addi v57 c7_i32_540
  let v2056 : Index := Scalar.indexCast v2055
  let c64_541 : Index := 64#32
  ![v2056.toNat, 64]
def k0_off471 (v2016 : BitVec 32) : Fin 2 → Nat :=
  let v2062 : Index := Scalar.indexCast v2016
  let c80_543 : Index := 80#32
  ![v2062.toNat, 80]
def k0_off472 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_544 : BitVec 32 := 7#32
  let v2064 : BitVec 32 := Scalar.addi v57 c7_i32_544
  let v2065 : Index := Scalar.indexCast v2064
  let c80_545 : Index := 80#32
  ![v2065.toNat, 80]
def k0_off473 (v2016 : BitVec 32) : Fin 2 → Nat :=
  let v2071 : Index := Scalar.indexCast v2016
  let c96_547 : Index := 96#32
  ![v2071.toNat, 96]
def k0_off474 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_548 : BitVec 32 := 7#32
  let v2073 : BitVec 32 := Scalar.addi v57 c7_i32_548
  let v2074 : Index := Scalar.indexCast v2073
  let c96_549 : Index := 96#32
  ![v2074.toNat, 96]
def k0_off475 (v2016 : BitVec 32) : Fin 2 → Nat :=
  let v2080 : Index := Scalar.indexCast v2016
  let c112_551 : Index := 112#32
  ![v2080.toNat, 112]
def k0_off476 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c7_i32_552 : BitVec 32 := 7#32
  let v2082 : BitVec 32 := Scalar.addi v57 c7_i32_552
  let v2083 : Index := Scalar.indexCast v2082
  let c112_553 : Index := 112#32
  ![v2083.toNat, 112]
def k0_off477 (v2016 : BitVec 32) : Fin 2 → Nat :=
  let v2089 : Index := Scalar.indexCast v2016
  let c0_555 : Index := 0#32
  ![v2089.toNat, 0]

def k0_chk26 (k0_t2 : Fin k0_t2_loop.trips) (v1437 : BitVec 32) (v1439 : BitVec 32) (v2016 : BitVec 32) : Prop :=
  (∀ (k0_h5 : k0_cond5 k0_t2 = 1#1), ∀ (k0_h7 : k0_cond7 v1437 v1439 = 1#1), ∀ a, (k0_off461 v2016) a + S1x16.size a ≤ S64x128.size a) ∧
  (∀ (k0_h5 : k0_cond5 k0_t2 = 1#1), ∀ (k0_h7 : k0_cond7 v1437 v1439 = 1#1), ∀ a, (k0_off463 v2016) a + S1x16.size a ≤ S64x128.size a) ∧
  (∀ (k0_h5 : k0_cond5 k0_t2 = 1#1), ∀ (k0_h7 : k0_cond7 v1437 v1439 = 1#1), ∀ a, (k0_off465 v2016) a + S1x16.size a ≤ S64x128.size a) ∧
  (∀ (k0_h5 : k0_cond5 k0_t2 = 1#1), ∀ (k0_h7 : k0_cond7 v1437 v1439 = 1#1), ∀ a, (k0_off467 v2016) a + S1x16.size a ≤ S64x128.size a) ∧
  (∀ (k0_h5 : k0_cond5 k0_t2 = 1#1), ∀ (k0_h7 : k0_cond7 v1437 v1439 = 1#1), ∀ a, (k0_off469 v2016) a + S1x16.size a ≤ S64x128.size a) ∧
  (∀ (k0_h5 : k0_cond5 k0_t2 = 1#1), ∀ (k0_h7 : k0_cond7 v1437 v1439 = 1#1), ∀ a, (k0_off471 v2016) a + S1x16.size a ≤ S64x128.size a) ∧
  (∀ (k0_h5 : k0_cond5 k0_t2 = 1#1), ∀ (k0_h7 : k0_cond7 v1437 v1439 = 1#1), ∀ a, (k0_off473 v2016) a + S1x16.size a ≤ S64x128.size a) ∧
  (∀ (k0_h5 : k0_cond5 k0_t2 = 1#1), ∀ (k0_h7 : k0_cond7 v1437 v1439 = 1#1), ∀ a, (k0_off475 v2016) a + S1x16.size a ≤ S64x128.size a) ∧
  (∀ (k0_h5 : k0_cond5 k0_t2 = 1#1), ∀ (k0_h7 : k0_cond7 v1437 v1439 = 1#1), ∀ a, (k0_off477 v2016) a + S1x16.size a ≤ S64x16.size a)
theorem k0_off461_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off461 v2016) a + S1x16.size a ≤ S64x128.size a := fun k0_t2 v1437 v1439 v2016 k0_hw26 k0_h5 k0_h7 => k0_hw26.1 k0_h5 k0_h7
theorem k0_off463_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off463 v2016) a + S1x16.size a ≤ S64x128.size a := fun k0_t2 v1437 v1439 v2016 k0_hw26 k0_h5 k0_h7 => k0_hw26.2.1 k0_h5 k0_h7
theorem k0_off465_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off465 v2016) a + S1x16.size a ≤ S64x128.size a := fun k0_t2 v1437 v1439 v2016 k0_hw26 k0_h5 k0_h7 => k0_hw26.2.2.1 k0_h5 k0_h7
theorem k0_off467_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off467 v2016) a + S1x16.size a ≤ S64x128.size a := fun k0_t2 v1437 v1439 v2016 k0_hw26 k0_h5 k0_h7 => k0_hw26.2.2.2.1 k0_h5 k0_h7
theorem k0_off469_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off469 v2016) a + S1x16.size a ≤ S64x128.size a := fun k0_t2 v1437 v1439 v2016 k0_hw26 k0_h5 k0_h7 => k0_hw26.2.2.2.2.1 k0_h5 k0_h7
theorem k0_off471_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off471 v2016) a + S1x16.size a ≤ S64x128.size a := fun k0_t2 v1437 v1439 v2016 k0_hw26 k0_h5 k0_h7 => k0_hw26.2.2.2.2.2.1 k0_h5 k0_h7
theorem k0_off473_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off473 v2016) a + S1x16.size a ≤ S64x128.size a := fun k0_t2 v1437 v1439 v2016 k0_hw26 k0_h5 k0_h7 => k0_hw26.2.2.2.2.2.2.1 k0_h5 k0_h7
theorem k0_off475_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off475 v2016) a + S1x16.size a ≤ S64x128.size a := fun k0_t2 v1437 v1439 v2016 k0_hw26 k0_h5 k0_h7 => k0_hw26.2.2.2.2.2.2.2.1 k0_h5 k0_h7
theorem k0_off477_inb : ∀ (k0_t2 : Fin k0_t2_loop.trips) (v1437 : BitVec 32) (v1439 : BitVec 32) (v2016 : BitVec 32) (k0_hw26 : k0_chk26 k0_t2 v1437 v1439 v2016), ∀ (k0_h5 : k0_cond5 k0_t2 = 1#1), ∀ (k0_h7 : k0_cond7 v1437 v1439 = 1#1), ∀ a, (k0_off477 v2016) a + S1x16.size a ≤ S64x16.size a := fun k0_t2 v1437 v1439 v2016 k0_hw26 k0_h5 k0_h7 => k0_hw26.2.2.2.2.2.2.2.2 k0_h5 k0_h7

def k0_off478 (v2097 : BitVec 32) : Fin 2 → Nat :=
  let v2098 : Index := Scalar.indexCast v2097
  let c0_557 : Index := 0#32
  ![v2098.toNat, 0]

def k0_off479 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_558 : BitVec 32 := 8#32
  let v2100 : BitVec 32 := Scalar.addi v57 c8_i32_558
  let v2101 : Index := Scalar.indexCast v2100
  let c0_559 : Index := 0#32
  ![v2101.toNat, 0]
def k0_off480 (v2097 : BitVec 32) : Fin 2 → Nat :=
  let v2107 : Index := Scalar.indexCast v2097
  let c16_561 : Index := 16#32
  ![v2107.toNat, 16]
def k0_off481 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_562 : BitVec 32 := 8#32
  let v2109 : BitVec 32 := Scalar.addi v57 c8_i32_562
  let v2110 : Index := Scalar.indexCast v2109
  let c16_563 : Index := 16#32
  ![v2110.toNat, 16]
def k0_off482 (v2097 : BitVec 32) : Fin 2 → Nat :=
  let v2116 : Index := Scalar.indexCast v2097
  let c32_565 : Index := 32#32
  ![v2116.toNat, 32]
def k0_off483 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_566 : BitVec 32 := 8#32
  let v2118 : BitVec 32 := Scalar.addi v57 c8_i32_566
  let v2119 : Index := Scalar.indexCast v2118
  let c32_567 : Index := 32#32
  ![v2119.toNat, 32]
def k0_off484 (v2097 : BitVec 32) : Fin 2 → Nat :=
  let v2125 : Index := Scalar.indexCast v2097
  let c48_569 : Index := 48#32
  ![v2125.toNat, 48]
def k0_off485 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_570 : BitVec 32 := 8#32
  let v2127 : BitVec 32 := Scalar.addi v57 c8_i32_570
  let v2128 : Index := Scalar.indexCast v2127
  let c48_571 : Index := 48#32
  ![v2128.toNat, 48]
def k0_off486 (v2097 : BitVec 32) : Fin 2 → Nat :=
  let v2134 : Index := Scalar.indexCast v2097
  let c64_573 : Index := 64#32
  ![v2134.toNat, 64]
def k0_off487 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_574 : BitVec 32 := 8#32
  let v2136 : BitVec 32 := Scalar.addi v57 c8_i32_574
  let v2137 : Index := Scalar.indexCast v2136
  let c64_575 : Index := 64#32
  ![v2137.toNat, 64]
def k0_off488 (v2097 : BitVec 32) : Fin 2 → Nat :=
  let v2143 : Index := Scalar.indexCast v2097
  let c80_577 : Index := 80#32
  ![v2143.toNat, 80]
def k0_off489 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_578 : BitVec 32 := 8#32
  let v2145 : BitVec 32 := Scalar.addi v57 c8_i32_578
  let v2146 : Index := Scalar.indexCast v2145
  let c80_579 : Index := 80#32
  ![v2146.toNat, 80]
def k0_off490 (v2097 : BitVec 32) : Fin 2 → Nat :=
  let v2152 : Index := Scalar.indexCast v2097
  let c96_581 : Index := 96#32
  ![v2152.toNat, 96]
def k0_off491 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_582 : BitVec 32 := 8#32
  let v2154 : BitVec 32 := Scalar.addi v57 c8_i32_582
  let v2155 : Index := Scalar.indexCast v2154
  let c96_583 : Index := 96#32
  ![v2155.toNat, 96]
def k0_off492 (v2097 : BitVec 32) : Fin 2 → Nat :=
  let v2161 : Index := Scalar.indexCast v2097
  let c112_585 : Index := 112#32
  ![v2161.toNat, 112]
def k0_off493 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c8_i32_586 : BitVec 32 := 8#32
  let v2163 : BitVec 32 := Scalar.addi v57 c8_i32_586
  let v2164 : Index := Scalar.indexCast v2163
  let c112_587 : Index := 112#32
  ![v2164.toNat, 112]
def k0_off494 (v2097 : BitVec 32) : Fin 2 → Nat :=
  let v2170 : Index := Scalar.indexCast v2097
  let c0_589 : Index := 0#32
  ![v2170.toNat, 0]

def k0_chk27 (k0_t2 : Fin k0_t2_loop.trips) (v1437 : BitVec 32) (v1439 : BitVec 32) (v2097 : BitVec 32) : Prop :=
  (∀ (k0_h5 : k0_cond5 k0_t2 = 1#1), ∀ (k0_h7 : k0_cond7 v1437 v1439 = 1#1), ∀ a, (k0_off478 v2097) a + S1x16.size a ≤ S64x128.size a) ∧
  (∀ (k0_h5 : k0_cond5 k0_t2 = 1#1), ∀ (k0_h7 : k0_cond7 v1437 v1439 = 1#1), ∀ a, (k0_off480 v2097) a + S1x16.size a ≤ S64x128.size a) ∧
  (∀ (k0_h5 : k0_cond5 k0_t2 = 1#1), ∀ (k0_h7 : k0_cond7 v1437 v1439 = 1#1), ∀ a, (k0_off482 v2097) a + S1x16.size a ≤ S64x128.size a) ∧
  (∀ (k0_h5 : k0_cond5 k0_t2 = 1#1), ∀ (k0_h7 : k0_cond7 v1437 v1439 = 1#1), ∀ a, (k0_off484 v2097) a + S1x16.size a ≤ S64x128.size a) ∧
  (∀ (k0_h5 : k0_cond5 k0_t2 = 1#1), ∀ (k0_h7 : k0_cond7 v1437 v1439 = 1#1), ∀ a, (k0_off486 v2097) a + S1x16.size a ≤ S64x128.size a) ∧
  (∀ (k0_h5 : k0_cond5 k0_t2 = 1#1), ∀ (k0_h7 : k0_cond7 v1437 v1439 = 1#1), ∀ a, (k0_off488 v2097) a + S1x16.size a ≤ S64x128.size a) ∧
  (∀ (k0_h5 : k0_cond5 k0_t2 = 1#1), ∀ (k0_h7 : k0_cond7 v1437 v1439 = 1#1), ∀ a, (k0_off490 v2097) a + S1x16.size a ≤ S64x128.size a) ∧
  (∀ (k0_h5 : k0_cond5 k0_t2 = 1#1), ∀ (k0_h7 : k0_cond7 v1437 v1439 = 1#1), ∀ a, (k0_off492 v2097) a + S1x16.size a ≤ S64x128.size a) ∧
  (∀ (k0_h5 : k0_cond5 k0_t2 = 1#1), ∀ (k0_h7 : k0_cond7 v1437 v1439 = 1#1), ∀ a, (k0_off494 v2097) a + S1x16.size a ≤ S64x16.size a)
theorem k0_off478_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off478 v2097) a + S1x16.size a ≤ S64x128.size a := fun k0_t2 v1437 v1439 v2097 k0_hw27 k0_h5 k0_h7 => k0_hw27.1 k0_h5 k0_h7
theorem k0_off480_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off480 v2097) a + S1x16.size a ≤ S64x128.size a := fun k0_t2 v1437 v1439 v2097 k0_hw27 k0_h5 k0_h7 => k0_hw27.2.1 k0_h5 k0_h7
theorem k0_off482_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off482 v2097) a + S1x16.size a ≤ S64x128.size a := fun k0_t2 v1437 v1439 v2097 k0_hw27 k0_h5 k0_h7 => k0_hw27.2.2.1 k0_h5 k0_h7
theorem k0_off484_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off484 v2097) a + S1x16.size a ≤ S64x128.size a := fun k0_t2 v1437 v1439 v2097 k0_hw27 k0_h5 k0_h7 => k0_hw27.2.2.2.1 k0_h5 k0_h7
theorem k0_off486_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off486 v2097) a + S1x16.size a ≤ S64x128.size a := fun k0_t2 v1437 v1439 v2097 k0_hw27 k0_h5 k0_h7 => k0_hw27.2.2.2.2.1 k0_h5 k0_h7
theorem k0_off488_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off488 v2097) a + S1x16.size a ≤ S64x128.size a := fun k0_t2 v1437 v1439 v2097 k0_hw27 k0_h5 k0_h7 => k0_hw27.2.2.2.2.2.1 k0_h5 k0_h7
theorem k0_off490_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off490 v2097) a + S1x16.size a ≤ S64x128.size a := fun k0_t2 v1437 v1439 v2097 k0_hw27 k0_h5 k0_h7 => k0_hw27.2.2.2.2.2.2.1 k0_h5 k0_h7
theorem k0_off492_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off492 v2097) a + S1x16.size a ≤ S64x128.size a := fun k0_t2 v1437 v1439 v2097 k0_hw27 k0_h5 k0_h7 => k0_hw27.2.2.2.2.2.2.2.1 k0_h5 k0_h7
theorem k0_off494_inb : ∀ (k0_t2 : Fin k0_t2_loop.trips) (v1437 : BitVec 32) (v1439 : BitVec 32) (v2097 : BitVec 32) (k0_hw27 : k0_chk27 k0_t2 v1437 v1439 v2097), ∀ (k0_h5 : k0_cond5 k0_t2 = 1#1), ∀ (k0_h7 : k0_cond7 v1437 v1439 = 1#1), ∀ a, (k0_off494 v2097) a + S1x16.size a ≤ S64x16.size a := fun k0_t2 v1437 v1439 v2097 k0_hw27 k0_h5 k0_h7 => k0_hw27.2.2.2.2.2.2.2.2 k0_h5 k0_h7

def k0_off495 (v2178 : BitVec 32) : Fin 2 → Nat :=
  let v2179 : Index := Scalar.indexCast v2178
  let c0_591 : Index := 0#32
  ![v2179.toNat, 0]

def k0_off496 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_592 : BitVec 32 := 9#32
  let v2181 : BitVec 32 := Scalar.addi v57 c9_i32_592
  let v2182 : Index := Scalar.indexCast v2181
  let c0_593 : Index := 0#32
  ![v2182.toNat, 0]
def k0_off497 (v2178 : BitVec 32) : Fin 2 → Nat :=
  let v2188 : Index := Scalar.indexCast v2178
  let c16_595 : Index := 16#32
  ![v2188.toNat, 16]
def k0_off498 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_596 : BitVec 32 := 9#32
  let v2190 : BitVec 32 := Scalar.addi v57 c9_i32_596
  let v2191 : Index := Scalar.indexCast v2190
  let c16_597 : Index := 16#32
  ![v2191.toNat, 16]
def k0_off499 (v2178 : BitVec 32) : Fin 2 → Nat :=
  let v2197 : Index := Scalar.indexCast v2178
  let c32_599 : Index := 32#32
  ![v2197.toNat, 32]
def k0_off500 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_600 : BitVec 32 := 9#32
  let v2199 : BitVec 32 := Scalar.addi v57 c9_i32_600
  let v2200 : Index := Scalar.indexCast v2199
  let c32_601 : Index := 32#32
  ![v2200.toNat, 32]
def k0_off501 (v2178 : BitVec 32) : Fin 2 → Nat :=
  let v2206 : Index := Scalar.indexCast v2178
  let c48_603 : Index := 48#32
  ![v2206.toNat, 48]
def k0_off502 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_604 : BitVec 32 := 9#32
  let v2208 : BitVec 32 := Scalar.addi v57 c9_i32_604
  let v2209 : Index := Scalar.indexCast v2208
  let c48_605 : Index := 48#32
  ![v2209.toNat, 48]
def k0_off503 (v2178 : BitVec 32) : Fin 2 → Nat :=
  let v2215 : Index := Scalar.indexCast v2178
  let c64_607 : Index := 64#32
  ![v2215.toNat, 64]
def k0_off504 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_608 : BitVec 32 := 9#32
  let v2217 : BitVec 32 := Scalar.addi v57 c9_i32_608
  let v2218 : Index := Scalar.indexCast v2217
  let c64_609 : Index := 64#32
  ![v2218.toNat, 64]
def k0_off505 (v2178 : BitVec 32) : Fin 2 → Nat :=
  let v2224 : Index := Scalar.indexCast v2178
  let c80_611 : Index := 80#32
  ![v2224.toNat, 80]
def k0_off506 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_612 : BitVec 32 := 9#32
  let v2226 : BitVec 32 := Scalar.addi v57 c9_i32_612
  let v2227 : Index := Scalar.indexCast v2226
  let c80_613 : Index := 80#32
  ![v2227.toNat, 80]
def k0_off507 (v2178 : BitVec 32) : Fin 2 → Nat :=
  let v2233 : Index := Scalar.indexCast v2178
  let c96_615 : Index := 96#32
  ![v2233.toNat, 96]
def k0_off508 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_616 : BitVec 32 := 9#32
  let v2235 : BitVec 32 := Scalar.addi v57 c9_i32_616
  let v2236 : Index := Scalar.indexCast v2235
  let c96_617 : Index := 96#32
  ![v2236.toNat, 96]
def k0_off509 (v2178 : BitVec 32) : Fin 2 → Nat :=
  let v2242 : Index := Scalar.indexCast v2178
  let c112_619 : Index := 112#32
  ![v2242.toNat, 112]
def k0_off510 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c9_i32_620 : BitVec 32 := 9#32
  let v2244 : BitVec 32 := Scalar.addi v57 c9_i32_620
  let v2245 : Index := Scalar.indexCast v2244
  let c112_621 : Index := 112#32
  ![v2245.toNat, 112]
def k0_off511 (v2178 : BitVec 32) : Fin 2 → Nat :=
  let v2251 : Index := Scalar.indexCast v2178
  let c0_623 : Index := 0#32
  ![v2251.toNat, 0]

def k0_chk28 (k0_t2 : Fin k0_t2_loop.trips) (v1437 : BitVec 32) (v1439 : BitVec 32) (v2178 : BitVec 32) : Prop :=
  (∀ (k0_h5 : k0_cond5 k0_t2 = 1#1), ∀ (k0_h7 : k0_cond7 v1437 v1439 = 1#1), ∀ a, (k0_off495 v2178) a + S1x16.size a ≤ S64x128.size a) ∧
  (∀ (k0_h5 : k0_cond5 k0_t2 = 1#1), ∀ (k0_h7 : k0_cond7 v1437 v1439 = 1#1), ∀ a, (k0_off497 v2178) a + S1x16.size a ≤ S64x128.size a) ∧
  (∀ (k0_h5 : k0_cond5 k0_t2 = 1#1), ∀ (k0_h7 : k0_cond7 v1437 v1439 = 1#1), ∀ a, (k0_off499 v2178) a + S1x16.size a ≤ S64x128.size a) ∧
  (∀ (k0_h5 : k0_cond5 k0_t2 = 1#1), ∀ (k0_h7 : k0_cond7 v1437 v1439 = 1#1), ∀ a, (k0_off501 v2178) a + S1x16.size a ≤ S64x128.size a) ∧
  (∀ (k0_h5 : k0_cond5 k0_t2 = 1#1), ∀ (k0_h7 : k0_cond7 v1437 v1439 = 1#1), ∀ a, (k0_off503 v2178) a + S1x16.size a ≤ S64x128.size a) ∧
  (∀ (k0_h5 : k0_cond5 k0_t2 = 1#1), ∀ (k0_h7 : k0_cond7 v1437 v1439 = 1#1), ∀ a, (k0_off505 v2178) a + S1x16.size a ≤ S64x128.size a) ∧
  (∀ (k0_h5 : k0_cond5 k0_t2 = 1#1), ∀ (k0_h7 : k0_cond7 v1437 v1439 = 1#1), ∀ a, (k0_off507 v2178) a + S1x16.size a ≤ S64x128.size a) ∧
  (∀ (k0_h5 : k0_cond5 k0_t2 = 1#1), ∀ (k0_h7 : k0_cond7 v1437 v1439 = 1#1), ∀ a, (k0_off509 v2178) a + S1x16.size a ≤ S64x128.size a) ∧
  (∀ (k0_h5 : k0_cond5 k0_t2 = 1#1), ∀ (k0_h7 : k0_cond7 v1437 v1439 = 1#1), ∀ a, (k0_off511 v2178) a + S1x16.size a ≤ S64x16.size a)
theorem k0_off495_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off495 v2178) a + S1x16.size a ≤ S64x128.size a := fun k0_t2 v1437 v1439 v2178 k0_hw28 k0_h5 k0_h7 => k0_hw28.1 k0_h5 k0_h7
theorem k0_off497_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off497 v2178) a + S1x16.size a ≤ S64x128.size a := fun k0_t2 v1437 v1439 v2178 k0_hw28 k0_h5 k0_h7 => k0_hw28.2.1 k0_h5 k0_h7
theorem k0_off499_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off499 v2178) a + S1x16.size a ≤ S64x128.size a := fun k0_t2 v1437 v1439 v2178 k0_hw28 k0_h5 k0_h7 => k0_hw28.2.2.1 k0_h5 k0_h7
theorem k0_off501_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off501 v2178) a + S1x16.size a ≤ S64x128.size a := fun k0_t2 v1437 v1439 v2178 k0_hw28 k0_h5 k0_h7 => k0_hw28.2.2.2.1 k0_h5 k0_h7
theorem k0_off503_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off503 v2178) a + S1x16.size a ≤ S64x128.size a := fun k0_t2 v1437 v1439 v2178 k0_hw28 k0_h5 k0_h7 => k0_hw28.2.2.2.2.1 k0_h5 k0_h7
theorem k0_off505_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off505 v2178) a + S1x16.size a ≤ S64x128.size a := fun k0_t2 v1437 v1439 v2178 k0_hw28 k0_h5 k0_h7 => k0_hw28.2.2.2.2.2.1 k0_h5 k0_h7
theorem k0_off507_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off507 v2178) a + S1x16.size a ≤ S64x128.size a := fun k0_t2 v1437 v1439 v2178 k0_hw28 k0_h5 k0_h7 => k0_hw28.2.2.2.2.2.2.1 k0_h5 k0_h7
theorem k0_off509_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off509 v2178) a + S1x16.size a ≤ S64x128.size a := fun k0_t2 v1437 v1439 v2178 k0_hw28 k0_h5 k0_h7 => k0_hw28.2.2.2.2.2.2.2.1 k0_h5 k0_h7
theorem k0_off511_inb : ∀ (k0_t2 : Fin k0_t2_loop.trips) (v1437 : BitVec 32) (v1439 : BitVec 32) (v2178 : BitVec 32) (k0_hw28 : k0_chk28 k0_t2 v1437 v1439 v2178), ∀ (k0_h5 : k0_cond5 k0_t2 = 1#1), ∀ (k0_h7 : k0_cond7 v1437 v1439 = 1#1), ∀ a, (k0_off511 v2178) a + S1x16.size a ≤ S64x16.size a := fun k0_t2 v1437 v1439 v2178 k0_hw28 k0_h5 k0_h7 => k0_hw28.2.2.2.2.2.2.2.2 k0_h5 k0_h7

def k0_off512 (v2259 : BitVec 32) : Fin 2 → Nat :=
  let v2260 : Index := Scalar.indexCast v2259
  let c0_625 : Index := 0#32
  ![v2260.toNat, 0]

def k0_off513 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_626 : BitVec 32 := 10#32
  let v2262 : BitVec 32 := Scalar.addi v57 c10_i32_626
  let v2263 : Index := Scalar.indexCast v2262
  let c0_627 : Index := 0#32
  ![v2263.toNat, 0]
def k0_off514 (v2259 : BitVec 32) : Fin 2 → Nat :=
  let v2269 : Index := Scalar.indexCast v2259
  let c16_629 : Index := 16#32
  ![v2269.toNat, 16]
def k0_off515 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_630 : BitVec 32 := 10#32
  let v2271 : BitVec 32 := Scalar.addi v57 c10_i32_630
  let v2272 : Index := Scalar.indexCast v2271
  let c16_631 : Index := 16#32
  ![v2272.toNat, 16]
def k0_off516 (v2259 : BitVec 32) : Fin 2 → Nat :=
  let v2278 : Index := Scalar.indexCast v2259
  let c32_633 : Index := 32#32
  ![v2278.toNat, 32]
def k0_off517 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_634 : BitVec 32 := 10#32
  let v2280 : BitVec 32 := Scalar.addi v57 c10_i32_634
  let v2281 : Index := Scalar.indexCast v2280
  let c32_635 : Index := 32#32
  ![v2281.toNat, 32]
def k0_off518 (v2259 : BitVec 32) : Fin 2 → Nat :=
  let v2287 : Index := Scalar.indexCast v2259
  let c48_637 : Index := 48#32
  ![v2287.toNat, 48]
def k0_off519 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_638 : BitVec 32 := 10#32
  let v2289 : BitVec 32 := Scalar.addi v57 c10_i32_638
  let v2290 : Index := Scalar.indexCast v2289
  let c48_639 : Index := 48#32
  ![v2290.toNat, 48]
def k0_off520 (v2259 : BitVec 32) : Fin 2 → Nat :=
  let v2296 : Index := Scalar.indexCast v2259
  let c64_641 : Index := 64#32
  ![v2296.toNat, 64]
def k0_off521 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_642 : BitVec 32 := 10#32
  let v2298 : BitVec 32 := Scalar.addi v57 c10_i32_642
  let v2299 : Index := Scalar.indexCast v2298
  let c64_643 : Index := 64#32
  ![v2299.toNat, 64]
def k0_off522 (v2259 : BitVec 32) : Fin 2 → Nat :=
  let v2305 : Index := Scalar.indexCast v2259
  let c80_645 : Index := 80#32
  ![v2305.toNat, 80]
def k0_off523 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_646 : BitVec 32 := 10#32
  let v2307 : BitVec 32 := Scalar.addi v57 c10_i32_646
  let v2308 : Index := Scalar.indexCast v2307
  let c80_647 : Index := 80#32
  ![v2308.toNat, 80]
def k0_off524 (v2259 : BitVec 32) : Fin 2 → Nat :=
  let v2314 : Index := Scalar.indexCast v2259
  let c96_649 : Index := 96#32
  ![v2314.toNat, 96]
def k0_off525 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_650 : BitVec 32 := 10#32
  let v2316 : BitVec 32 := Scalar.addi v57 c10_i32_650
  let v2317 : Index := Scalar.indexCast v2316
  let c96_651 : Index := 96#32
  ![v2317.toNat, 96]
def k0_off526 (v2259 : BitVec 32) : Fin 2 → Nat :=
  let v2323 : Index := Scalar.indexCast v2259
  let c112_653 : Index := 112#32
  ![v2323.toNat, 112]
def k0_off527 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c10_i32_654 : BitVec 32 := 10#32
  let v2325 : BitVec 32 := Scalar.addi v57 c10_i32_654
  let v2326 : Index := Scalar.indexCast v2325
  let c112_655 : Index := 112#32
  ![v2326.toNat, 112]
def k0_off528 (v2259 : BitVec 32) : Fin 2 → Nat :=
  let v2332 : Index := Scalar.indexCast v2259
  let c0_657 : Index := 0#32
  ![v2332.toNat, 0]

def k0_chk29 (k0_t2 : Fin k0_t2_loop.trips) (v1437 : BitVec 32) (v1439 : BitVec 32) (v2259 : BitVec 32) : Prop :=
  (∀ (k0_h5 : k0_cond5 k0_t2 = 1#1), ∀ (k0_h7 : k0_cond7 v1437 v1439 = 1#1), ∀ a, (k0_off512 v2259) a + S1x16.size a ≤ S64x128.size a) ∧
  (∀ (k0_h5 : k0_cond5 k0_t2 = 1#1), ∀ (k0_h7 : k0_cond7 v1437 v1439 = 1#1), ∀ a, (k0_off514 v2259) a + S1x16.size a ≤ S64x128.size a) ∧
  (∀ (k0_h5 : k0_cond5 k0_t2 = 1#1), ∀ (k0_h7 : k0_cond7 v1437 v1439 = 1#1), ∀ a, (k0_off516 v2259) a + S1x16.size a ≤ S64x128.size a) ∧
  (∀ (k0_h5 : k0_cond5 k0_t2 = 1#1), ∀ (k0_h7 : k0_cond7 v1437 v1439 = 1#1), ∀ a, (k0_off518 v2259) a + S1x16.size a ≤ S64x128.size a) ∧
  (∀ (k0_h5 : k0_cond5 k0_t2 = 1#1), ∀ (k0_h7 : k0_cond7 v1437 v1439 = 1#1), ∀ a, (k0_off520 v2259) a + S1x16.size a ≤ S64x128.size a) ∧
  (∀ (k0_h5 : k0_cond5 k0_t2 = 1#1), ∀ (k0_h7 : k0_cond7 v1437 v1439 = 1#1), ∀ a, (k0_off522 v2259) a + S1x16.size a ≤ S64x128.size a) ∧
  (∀ (k0_h5 : k0_cond5 k0_t2 = 1#1), ∀ (k0_h7 : k0_cond7 v1437 v1439 = 1#1), ∀ a, (k0_off524 v2259) a + S1x16.size a ≤ S64x128.size a) ∧
  (∀ (k0_h5 : k0_cond5 k0_t2 = 1#1), ∀ (k0_h7 : k0_cond7 v1437 v1439 = 1#1), ∀ a, (k0_off526 v2259) a + S1x16.size a ≤ S64x128.size a) ∧
  (∀ (k0_h5 : k0_cond5 k0_t2 = 1#1), ∀ (k0_h7 : k0_cond7 v1437 v1439 = 1#1), ∀ a, (k0_off528 v2259) a + S1x16.size a ≤ S64x16.size a)
theorem k0_off512_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off512 v2259) a + S1x16.size a ≤ S64x128.size a := fun k0_t2 v1437 v1439 v2259 k0_hw29 k0_h5 k0_h7 => k0_hw29.1 k0_h5 k0_h7
theorem k0_off514_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off514 v2259) a + S1x16.size a ≤ S64x128.size a := fun k0_t2 v1437 v1439 v2259 k0_hw29 k0_h5 k0_h7 => k0_hw29.2.1 k0_h5 k0_h7
theorem k0_off516_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off516 v2259) a + S1x16.size a ≤ S64x128.size a := fun k0_t2 v1437 v1439 v2259 k0_hw29 k0_h5 k0_h7 => k0_hw29.2.2.1 k0_h5 k0_h7
theorem k0_off518_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off518 v2259) a + S1x16.size a ≤ S64x128.size a := fun k0_t2 v1437 v1439 v2259 k0_hw29 k0_h5 k0_h7 => k0_hw29.2.2.2.1 k0_h5 k0_h7
theorem k0_off520_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off520 v2259) a + S1x16.size a ≤ S64x128.size a := fun k0_t2 v1437 v1439 v2259 k0_hw29 k0_h5 k0_h7 => k0_hw29.2.2.2.2.1 k0_h5 k0_h7
theorem k0_off522_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off522 v2259) a + S1x16.size a ≤ S64x128.size a := fun k0_t2 v1437 v1439 v2259 k0_hw29 k0_h5 k0_h7 => k0_hw29.2.2.2.2.2.1 k0_h5 k0_h7
theorem k0_off524_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off524 v2259) a + S1x16.size a ≤ S64x128.size a := fun k0_t2 v1437 v1439 v2259 k0_hw29 k0_h5 k0_h7 => k0_hw29.2.2.2.2.2.2.1 k0_h5 k0_h7
theorem k0_off526_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off526 v2259) a + S1x16.size a ≤ S64x128.size a := fun k0_t2 v1437 v1439 v2259 k0_hw29 k0_h5 k0_h7 => k0_hw29.2.2.2.2.2.2.2.1 k0_h5 k0_h7
theorem k0_off528_inb : ∀ (k0_t2 : Fin k0_t2_loop.trips) (v1437 : BitVec 32) (v1439 : BitVec 32) (v2259 : BitVec 32) (k0_hw29 : k0_chk29 k0_t2 v1437 v1439 v2259), ∀ (k0_h5 : k0_cond5 k0_t2 = 1#1), ∀ (k0_h7 : k0_cond7 v1437 v1439 = 1#1), ∀ a, (k0_off528 v2259) a + S1x16.size a ≤ S64x16.size a := fun k0_t2 v1437 v1439 v2259 k0_hw29 k0_h5 k0_h7 => k0_hw29.2.2.2.2.2.2.2.2 k0_h5 k0_h7

def k0_off529 (v2340 : BitVec 32) : Fin 2 → Nat :=
  let v2341 : Index := Scalar.indexCast v2340
  let c0_659 : Index := 0#32
  ![v2341.toNat, 0]

def k0_off530 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_660 : BitVec 32 := 11#32
  let v2343 : BitVec 32 := Scalar.addi v57 c11_i32_660
  let v2344 : Index := Scalar.indexCast v2343
  let c0_661 : Index := 0#32
  ![v2344.toNat, 0]
def k0_off531 (v2340 : BitVec 32) : Fin 2 → Nat :=
  let v2350 : Index := Scalar.indexCast v2340
  let c16_663 : Index := 16#32
  ![v2350.toNat, 16]
def k0_off532 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_664 : BitVec 32 := 11#32
  let v2352 : BitVec 32 := Scalar.addi v57 c11_i32_664
  let v2353 : Index := Scalar.indexCast v2352
  let c16_665 : Index := 16#32
  ![v2353.toNat, 16]
def k0_off533 (v2340 : BitVec 32) : Fin 2 → Nat :=
  let v2359 : Index := Scalar.indexCast v2340
  let c32_667 : Index := 32#32
  ![v2359.toNat, 32]
def k0_off534 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_668 : BitVec 32 := 11#32
  let v2361 : BitVec 32 := Scalar.addi v57 c11_i32_668
  let v2362 : Index := Scalar.indexCast v2361
  let c32_669 : Index := 32#32
  ![v2362.toNat, 32]
def k0_off535 (v2340 : BitVec 32) : Fin 2 → Nat :=
  let v2368 : Index := Scalar.indexCast v2340
  let c48_671 : Index := 48#32
  ![v2368.toNat, 48]
def k0_off536 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_672 : BitVec 32 := 11#32
  let v2370 : BitVec 32 := Scalar.addi v57 c11_i32_672
  let v2371 : Index := Scalar.indexCast v2370
  let c48_673 : Index := 48#32
  ![v2371.toNat, 48]
def k0_off537 (v2340 : BitVec 32) : Fin 2 → Nat :=
  let v2377 : Index := Scalar.indexCast v2340
  let c64_675 : Index := 64#32
  ![v2377.toNat, 64]
def k0_off538 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_676 : BitVec 32 := 11#32
  let v2379 : BitVec 32 := Scalar.addi v57 c11_i32_676
  let v2380 : Index := Scalar.indexCast v2379
  let c64_677 : Index := 64#32
  ![v2380.toNat, 64]
def k0_off539 (v2340 : BitVec 32) : Fin 2 → Nat :=
  let v2386 : Index := Scalar.indexCast v2340
  let c80_679 : Index := 80#32
  ![v2386.toNat, 80]
def k0_off540 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_680 : BitVec 32 := 11#32
  let v2388 : BitVec 32 := Scalar.addi v57 c11_i32_680
  let v2389 : Index := Scalar.indexCast v2388
  let c80_681 : Index := 80#32
  ![v2389.toNat, 80]
def k0_off541 (v2340 : BitVec 32) : Fin 2 → Nat :=
  let v2395 : Index := Scalar.indexCast v2340
  let c96_683 : Index := 96#32
  ![v2395.toNat, 96]
def k0_off542 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_684 : BitVec 32 := 11#32
  let v2397 : BitVec 32 := Scalar.addi v57 c11_i32_684
  let v2398 : Index := Scalar.indexCast v2397
  let c96_685 : Index := 96#32
  ![v2398.toNat, 96]
def k0_off543 (v2340 : BitVec 32) : Fin 2 → Nat :=
  let v2404 : Index := Scalar.indexCast v2340
  let c112_687 : Index := 112#32
  ![v2404.toNat, 112]
def k0_off544 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c11_i32_688 : BitVec 32 := 11#32
  let v2406 : BitVec 32 := Scalar.addi v57 c11_i32_688
  let v2407 : Index := Scalar.indexCast v2406
  let c112_689 : Index := 112#32
  ![v2407.toNat, 112]
def k0_off545 (v2340 : BitVec 32) : Fin 2 → Nat :=
  let v2413 : Index := Scalar.indexCast v2340
  let c0_691 : Index := 0#32
  ![v2413.toNat, 0]

def k0_chk30 (k0_t2 : Fin k0_t2_loop.trips) (v1437 : BitVec 32) (v1439 : BitVec 32) (v2340 : BitVec 32) : Prop :=
  (∀ (k0_h5 : k0_cond5 k0_t2 = 1#1), ∀ (k0_h7 : k0_cond7 v1437 v1439 = 1#1), ∀ a, (k0_off529 v2340) a + S1x16.size a ≤ S64x128.size a) ∧
  (∀ (k0_h5 : k0_cond5 k0_t2 = 1#1), ∀ (k0_h7 : k0_cond7 v1437 v1439 = 1#1), ∀ a, (k0_off531 v2340) a + S1x16.size a ≤ S64x128.size a) ∧
  (∀ (k0_h5 : k0_cond5 k0_t2 = 1#1), ∀ (k0_h7 : k0_cond7 v1437 v1439 = 1#1), ∀ a, (k0_off533 v2340) a + S1x16.size a ≤ S64x128.size a) ∧
  (∀ (k0_h5 : k0_cond5 k0_t2 = 1#1), ∀ (k0_h7 : k0_cond7 v1437 v1439 = 1#1), ∀ a, (k0_off535 v2340) a + S1x16.size a ≤ S64x128.size a) ∧
  (∀ (k0_h5 : k0_cond5 k0_t2 = 1#1), ∀ (k0_h7 : k0_cond7 v1437 v1439 = 1#1), ∀ a, (k0_off537 v2340) a + S1x16.size a ≤ S64x128.size a) ∧
  (∀ (k0_h5 : k0_cond5 k0_t2 = 1#1), ∀ (k0_h7 : k0_cond7 v1437 v1439 = 1#1), ∀ a, (k0_off539 v2340) a + S1x16.size a ≤ S64x128.size a) ∧
  (∀ (k0_h5 : k0_cond5 k0_t2 = 1#1), ∀ (k0_h7 : k0_cond7 v1437 v1439 = 1#1), ∀ a, (k0_off541 v2340) a + S1x16.size a ≤ S64x128.size a) ∧
  (∀ (k0_h5 : k0_cond5 k0_t2 = 1#1), ∀ (k0_h7 : k0_cond7 v1437 v1439 = 1#1), ∀ a, (k0_off543 v2340) a + S1x16.size a ≤ S64x128.size a) ∧
  (∀ (k0_h5 : k0_cond5 k0_t2 = 1#1), ∀ (k0_h7 : k0_cond7 v1437 v1439 = 1#1), ∀ a, (k0_off545 v2340) a + S1x16.size a ≤ S64x16.size a)
theorem k0_off529_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off529 v2340) a + S1x16.size a ≤ S64x128.size a := fun k0_t2 v1437 v1439 v2340 k0_hw30 k0_h5 k0_h7 => k0_hw30.1 k0_h5 k0_h7
theorem k0_off531_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off531 v2340) a + S1x16.size a ≤ S64x128.size a := fun k0_t2 v1437 v1439 v2340 k0_hw30 k0_h5 k0_h7 => k0_hw30.2.1 k0_h5 k0_h7
theorem k0_off533_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off533 v2340) a + S1x16.size a ≤ S64x128.size a := fun k0_t2 v1437 v1439 v2340 k0_hw30 k0_h5 k0_h7 => k0_hw30.2.2.1 k0_h5 k0_h7
theorem k0_off535_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off535 v2340) a + S1x16.size a ≤ S64x128.size a := fun k0_t2 v1437 v1439 v2340 k0_hw30 k0_h5 k0_h7 => k0_hw30.2.2.2.1 k0_h5 k0_h7
theorem k0_off537_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off537 v2340) a + S1x16.size a ≤ S64x128.size a := fun k0_t2 v1437 v1439 v2340 k0_hw30 k0_h5 k0_h7 => k0_hw30.2.2.2.2.1 k0_h5 k0_h7
theorem k0_off539_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off539 v2340) a + S1x16.size a ≤ S64x128.size a := fun k0_t2 v1437 v1439 v2340 k0_hw30 k0_h5 k0_h7 => k0_hw30.2.2.2.2.2.1 k0_h5 k0_h7
theorem k0_off541_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off541 v2340) a + S1x16.size a ≤ S64x128.size a := fun k0_t2 v1437 v1439 v2340 k0_hw30 k0_h5 k0_h7 => k0_hw30.2.2.2.2.2.2.1 k0_h5 k0_h7
theorem k0_off543_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off543 v2340) a + S1x16.size a ≤ S64x128.size a := fun k0_t2 v1437 v1439 v2340 k0_hw30 k0_h5 k0_h7 => k0_hw30.2.2.2.2.2.2.2.1 k0_h5 k0_h7
theorem k0_off545_inb : ∀ (k0_t2 : Fin k0_t2_loop.trips) (v1437 : BitVec 32) (v1439 : BitVec 32) (v2340 : BitVec 32) (k0_hw30 : k0_chk30 k0_t2 v1437 v1439 v2340), ∀ (k0_h5 : k0_cond5 k0_t2 = 1#1), ∀ (k0_h7 : k0_cond7 v1437 v1439 = 1#1), ∀ a, (k0_off545 v2340) a + S1x16.size a ≤ S64x16.size a := fun k0_t2 v1437 v1439 v2340 k0_hw30 k0_h5 k0_h7 => k0_hw30.2.2.2.2.2.2.2.2 k0_h5 k0_h7

def k0_off546 (v2421 : BitVec 32) : Fin 2 → Nat :=
  let v2422 : Index := Scalar.indexCast v2421
  let c0_693 : Index := 0#32
  ![v2422.toNat, 0]

def k0_off547 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_694 : BitVec 32 := 12#32
  let v2424 : BitVec 32 := Scalar.addi v57 c12_i32_694
  let v2425 : Index := Scalar.indexCast v2424
  let c0_695 : Index := 0#32
  ![v2425.toNat, 0]
def k0_off548 (v2421 : BitVec 32) : Fin 2 → Nat :=
  let v2431 : Index := Scalar.indexCast v2421
  let c16_697 : Index := 16#32
  ![v2431.toNat, 16]
def k0_off549 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_698 : BitVec 32 := 12#32
  let v2433 : BitVec 32 := Scalar.addi v57 c12_i32_698
  let v2434 : Index := Scalar.indexCast v2433
  let c16_699 : Index := 16#32
  ![v2434.toNat, 16]
def k0_off550 (v2421 : BitVec 32) : Fin 2 → Nat :=
  let v2440 : Index := Scalar.indexCast v2421
  let c32_701 : Index := 32#32
  ![v2440.toNat, 32]
def k0_off551 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_702 : BitVec 32 := 12#32
  let v2442 : BitVec 32 := Scalar.addi v57 c12_i32_702
  let v2443 : Index := Scalar.indexCast v2442
  let c32_703 : Index := 32#32
  ![v2443.toNat, 32]
def k0_off552 (v2421 : BitVec 32) : Fin 2 → Nat :=
  let v2449 : Index := Scalar.indexCast v2421
  let c48_705 : Index := 48#32
  ![v2449.toNat, 48]
def k0_off553 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_706 : BitVec 32 := 12#32
  let v2451 : BitVec 32 := Scalar.addi v57 c12_i32_706
  let v2452 : Index := Scalar.indexCast v2451
  let c48_707 : Index := 48#32
  ![v2452.toNat, 48]
def k0_off554 (v2421 : BitVec 32) : Fin 2 → Nat :=
  let v2458 : Index := Scalar.indexCast v2421
  let c64_709 : Index := 64#32
  ![v2458.toNat, 64]
def k0_off555 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_710 : BitVec 32 := 12#32
  let v2460 : BitVec 32 := Scalar.addi v57 c12_i32_710
  let v2461 : Index := Scalar.indexCast v2460
  let c64_711 : Index := 64#32
  ![v2461.toNat, 64]
def k0_off556 (v2421 : BitVec 32) : Fin 2 → Nat :=
  let v2467 : Index := Scalar.indexCast v2421
  let c80_713 : Index := 80#32
  ![v2467.toNat, 80]
def k0_off557 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_714 : BitVec 32 := 12#32
  let v2469 : BitVec 32 := Scalar.addi v57 c12_i32_714
  let v2470 : Index := Scalar.indexCast v2469
  let c80_715 : Index := 80#32
  ![v2470.toNat, 80]
def k0_off558 (v2421 : BitVec 32) : Fin 2 → Nat :=
  let v2476 : Index := Scalar.indexCast v2421
  let c96_717 : Index := 96#32
  ![v2476.toNat, 96]
def k0_off559 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_718 : BitVec 32 := 12#32
  let v2478 : BitVec 32 := Scalar.addi v57 c12_i32_718
  let v2479 : Index := Scalar.indexCast v2478
  let c96_719 : Index := 96#32
  ![v2479.toNat, 96]
def k0_off560 (v2421 : BitVec 32) : Fin 2 → Nat :=
  let v2485 : Index := Scalar.indexCast v2421
  let c112_721 : Index := 112#32
  ![v2485.toNat, 112]
def k0_off561 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c12_i32_722 : BitVec 32 := 12#32
  let v2487 : BitVec 32 := Scalar.addi v57 c12_i32_722
  let v2488 : Index := Scalar.indexCast v2487
  let c112_723 : Index := 112#32
  ![v2488.toNat, 112]
def k0_off562 (v2421 : BitVec 32) : Fin 2 → Nat :=
  let v2494 : Index := Scalar.indexCast v2421
  let c0_725 : Index := 0#32
  ![v2494.toNat, 0]

def k0_chk31 (k0_t2 : Fin k0_t2_loop.trips) (v1437 : BitVec 32) (v1439 : BitVec 32) (v2421 : BitVec 32) : Prop :=
  (∀ (k0_h5 : k0_cond5 k0_t2 = 1#1), ∀ (k0_h7 : k0_cond7 v1437 v1439 = 1#1), ∀ a, (k0_off546 v2421) a + S1x16.size a ≤ S64x128.size a) ∧
  (∀ (k0_h5 : k0_cond5 k0_t2 = 1#1), ∀ (k0_h7 : k0_cond7 v1437 v1439 = 1#1), ∀ a, (k0_off548 v2421) a + S1x16.size a ≤ S64x128.size a) ∧
  (∀ (k0_h5 : k0_cond5 k0_t2 = 1#1), ∀ (k0_h7 : k0_cond7 v1437 v1439 = 1#1), ∀ a, (k0_off550 v2421) a + S1x16.size a ≤ S64x128.size a) ∧
  (∀ (k0_h5 : k0_cond5 k0_t2 = 1#1), ∀ (k0_h7 : k0_cond7 v1437 v1439 = 1#1), ∀ a, (k0_off552 v2421) a + S1x16.size a ≤ S64x128.size a) ∧
  (∀ (k0_h5 : k0_cond5 k0_t2 = 1#1), ∀ (k0_h7 : k0_cond7 v1437 v1439 = 1#1), ∀ a, (k0_off554 v2421) a + S1x16.size a ≤ S64x128.size a) ∧
  (∀ (k0_h5 : k0_cond5 k0_t2 = 1#1), ∀ (k0_h7 : k0_cond7 v1437 v1439 = 1#1), ∀ a, (k0_off556 v2421) a + S1x16.size a ≤ S64x128.size a) ∧
  (∀ (k0_h5 : k0_cond5 k0_t2 = 1#1), ∀ (k0_h7 : k0_cond7 v1437 v1439 = 1#1), ∀ a, (k0_off558 v2421) a + S1x16.size a ≤ S64x128.size a) ∧
  (∀ (k0_h5 : k0_cond5 k0_t2 = 1#1), ∀ (k0_h7 : k0_cond7 v1437 v1439 = 1#1), ∀ a, (k0_off560 v2421) a + S1x16.size a ≤ S64x128.size a) ∧
  (∀ (k0_h5 : k0_cond5 k0_t2 = 1#1), ∀ (k0_h7 : k0_cond7 v1437 v1439 = 1#1), ∀ a, (k0_off562 v2421) a + S1x16.size a ≤ S64x16.size a)
theorem k0_off546_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off546 v2421) a + S1x16.size a ≤ S64x128.size a := fun k0_t2 v1437 v1439 v2421 k0_hw31 k0_h5 k0_h7 => k0_hw31.1 k0_h5 k0_h7
theorem k0_off548_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off548 v2421) a + S1x16.size a ≤ S64x128.size a := fun k0_t2 v1437 v1439 v2421 k0_hw31 k0_h5 k0_h7 => k0_hw31.2.1 k0_h5 k0_h7
theorem k0_off550_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off550 v2421) a + S1x16.size a ≤ S64x128.size a := fun k0_t2 v1437 v1439 v2421 k0_hw31 k0_h5 k0_h7 => k0_hw31.2.2.1 k0_h5 k0_h7
theorem k0_off552_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off552 v2421) a + S1x16.size a ≤ S64x128.size a := fun k0_t2 v1437 v1439 v2421 k0_hw31 k0_h5 k0_h7 => k0_hw31.2.2.2.1 k0_h5 k0_h7
theorem k0_off554_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off554 v2421) a + S1x16.size a ≤ S64x128.size a := fun k0_t2 v1437 v1439 v2421 k0_hw31 k0_h5 k0_h7 => k0_hw31.2.2.2.2.1 k0_h5 k0_h7
theorem k0_off556_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off556 v2421) a + S1x16.size a ≤ S64x128.size a := fun k0_t2 v1437 v1439 v2421 k0_hw31 k0_h5 k0_h7 => k0_hw31.2.2.2.2.2.1 k0_h5 k0_h7
theorem k0_off558_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off558 v2421) a + S1x16.size a ≤ S64x128.size a := fun k0_t2 v1437 v1439 v2421 k0_hw31 k0_h5 k0_h7 => k0_hw31.2.2.2.2.2.2.1 k0_h5 k0_h7
theorem k0_off560_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off560 v2421) a + S1x16.size a ≤ S64x128.size a := fun k0_t2 v1437 v1439 v2421 k0_hw31 k0_h5 k0_h7 => k0_hw31.2.2.2.2.2.2.2.1 k0_h5 k0_h7
theorem k0_off562_inb : ∀ (k0_t2 : Fin k0_t2_loop.trips) (v1437 : BitVec 32) (v1439 : BitVec 32) (v2421 : BitVec 32) (k0_hw31 : k0_chk31 k0_t2 v1437 v1439 v2421), ∀ (k0_h5 : k0_cond5 k0_t2 = 1#1), ∀ (k0_h7 : k0_cond7 v1437 v1439 = 1#1), ∀ a, (k0_off562 v2421) a + S1x16.size a ≤ S64x16.size a := fun k0_t2 v1437 v1439 v2421 k0_hw31 k0_h5 k0_h7 => k0_hw31.2.2.2.2.2.2.2.2 k0_h5 k0_h7

def k0_off563 (v2502 : BitVec 32) : Fin 2 → Nat :=
  let v2503 : Index := Scalar.indexCast v2502
  let c0_727 : Index := 0#32
  ![v2503.toNat, 0]

def k0_off564 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_728 : BitVec 32 := 13#32
  let v2505 : BitVec 32 := Scalar.addi v57 c13_i32_728
  let v2506 : Index := Scalar.indexCast v2505
  let c0_729 : Index := 0#32
  ![v2506.toNat, 0]
def k0_off565 (v2502 : BitVec 32) : Fin 2 → Nat :=
  let v2512 : Index := Scalar.indexCast v2502
  let c16_731 : Index := 16#32
  ![v2512.toNat, 16]
def k0_off566 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_732 : BitVec 32 := 13#32
  let v2514 : BitVec 32 := Scalar.addi v57 c13_i32_732
  let v2515 : Index := Scalar.indexCast v2514
  let c16_733 : Index := 16#32
  ![v2515.toNat, 16]
def k0_off567 (v2502 : BitVec 32) : Fin 2 → Nat :=
  let v2521 : Index := Scalar.indexCast v2502
  let c32_735 : Index := 32#32
  ![v2521.toNat, 32]
def k0_off568 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_736 : BitVec 32 := 13#32
  let v2523 : BitVec 32 := Scalar.addi v57 c13_i32_736
  let v2524 : Index := Scalar.indexCast v2523
  let c32_737 : Index := 32#32
  ![v2524.toNat, 32]
def k0_off569 (v2502 : BitVec 32) : Fin 2 → Nat :=
  let v2530 : Index := Scalar.indexCast v2502
  let c48_739 : Index := 48#32
  ![v2530.toNat, 48]
def k0_off570 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_740 : BitVec 32 := 13#32
  let v2532 : BitVec 32 := Scalar.addi v57 c13_i32_740
  let v2533 : Index := Scalar.indexCast v2532
  let c48_741 : Index := 48#32
  ![v2533.toNat, 48]
def k0_off571 (v2502 : BitVec 32) : Fin 2 → Nat :=
  let v2539 : Index := Scalar.indexCast v2502
  let c64_743 : Index := 64#32
  ![v2539.toNat, 64]
def k0_off572 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_744 : BitVec 32 := 13#32
  let v2541 : BitVec 32 := Scalar.addi v57 c13_i32_744
  let v2542 : Index := Scalar.indexCast v2541
  let c64_745 : Index := 64#32
  ![v2542.toNat, 64]
def k0_off573 (v2502 : BitVec 32) : Fin 2 → Nat :=
  let v2548 : Index := Scalar.indexCast v2502
  let c80_747 : Index := 80#32
  ![v2548.toNat, 80]
def k0_off574 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_748 : BitVec 32 := 13#32
  let v2550 : BitVec 32 := Scalar.addi v57 c13_i32_748
  let v2551 : Index := Scalar.indexCast v2550
  let c80_749 : Index := 80#32
  ![v2551.toNat, 80]
def k0_off575 (v2502 : BitVec 32) : Fin 2 → Nat :=
  let v2557 : Index := Scalar.indexCast v2502
  let c96_751 : Index := 96#32
  ![v2557.toNat, 96]
def k0_off576 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_752 : BitVec 32 := 13#32
  let v2559 : BitVec 32 := Scalar.addi v57 c13_i32_752
  let v2560 : Index := Scalar.indexCast v2559
  let c96_753 : Index := 96#32
  ![v2560.toNat, 96]
def k0_off577 (v2502 : BitVec 32) : Fin 2 → Nat :=
  let v2566 : Index := Scalar.indexCast v2502
  let c112_755 : Index := 112#32
  ![v2566.toNat, 112]
def k0_off578 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c13_i32_756 : BitVec 32 := 13#32
  let v2568 : BitVec 32 := Scalar.addi v57 c13_i32_756
  let v2569 : Index := Scalar.indexCast v2568
  let c112_757 : Index := 112#32
  ![v2569.toNat, 112]
def k0_off579 (v2502 : BitVec 32) : Fin 2 → Nat :=
  let v2575 : Index := Scalar.indexCast v2502
  let c0_759 : Index := 0#32
  ![v2575.toNat, 0]

def k0_chk32 (k0_t2 : Fin k0_t2_loop.trips) (v1437 : BitVec 32) (v1439 : BitVec 32) (v2502 : BitVec 32) : Prop :=
  (∀ (k0_h5 : k0_cond5 k0_t2 = 1#1), ∀ (k0_h7 : k0_cond7 v1437 v1439 = 1#1), ∀ a, (k0_off563 v2502) a + S1x16.size a ≤ S64x128.size a) ∧
  (∀ (k0_h5 : k0_cond5 k0_t2 = 1#1), ∀ (k0_h7 : k0_cond7 v1437 v1439 = 1#1), ∀ a, (k0_off565 v2502) a + S1x16.size a ≤ S64x128.size a) ∧
  (∀ (k0_h5 : k0_cond5 k0_t2 = 1#1), ∀ (k0_h7 : k0_cond7 v1437 v1439 = 1#1), ∀ a, (k0_off567 v2502) a + S1x16.size a ≤ S64x128.size a) ∧
  (∀ (k0_h5 : k0_cond5 k0_t2 = 1#1), ∀ (k0_h7 : k0_cond7 v1437 v1439 = 1#1), ∀ a, (k0_off569 v2502) a + S1x16.size a ≤ S64x128.size a) ∧
  (∀ (k0_h5 : k0_cond5 k0_t2 = 1#1), ∀ (k0_h7 : k0_cond7 v1437 v1439 = 1#1), ∀ a, (k0_off571 v2502) a + S1x16.size a ≤ S64x128.size a) ∧
  (∀ (k0_h5 : k0_cond5 k0_t2 = 1#1), ∀ (k0_h7 : k0_cond7 v1437 v1439 = 1#1), ∀ a, (k0_off573 v2502) a + S1x16.size a ≤ S64x128.size a) ∧
  (∀ (k0_h5 : k0_cond5 k0_t2 = 1#1), ∀ (k0_h7 : k0_cond7 v1437 v1439 = 1#1), ∀ a, (k0_off575 v2502) a + S1x16.size a ≤ S64x128.size a) ∧
  (∀ (k0_h5 : k0_cond5 k0_t2 = 1#1), ∀ (k0_h7 : k0_cond7 v1437 v1439 = 1#1), ∀ a, (k0_off577 v2502) a + S1x16.size a ≤ S64x128.size a) ∧
  (∀ (k0_h5 : k0_cond5 k0_t2 = 1#1), ∀ (k0_h7 : k0_cond7 v1437 v1439 = 1#1), ∀ a, (k0_off579 v2502) a + S1x16.size a ≤ S64x16.size a)
theorem k0_off563_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off563 v2502) a + S1x16.size a ≤ S64x128.size a := fun k0_t2 v1437 v1439 v2502 k0_hw32 k0_h5 k0_h7 => k0_hw32.1 k0_h5 k0_h7
theorem k0_off565_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off565 v2502) a + S1x16.size a ≤ S64x128.size a := fun k0_t2 v1437 v1439 v2502 k0_hw32 k0_h5 k0_h7 => k0_hw32.2.1 k0_h5 k0_h7
theorem k0_off567_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off567 v2502) a + S1x16.size a ≤ S64x128.size a := fun k0_t2 v1437 v1439 v2502 k0_hw32 k0_h5 k0_h7 => k0_hw32.2.2.1 k0_h5 k0_h7
theorem k0_off569_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off569 v2502) a + S1x16.size a ≤ S64x128.size a := fun k0_t2 v1437 v1439 v2502 k0_hw32 k0_h5 k0_h7 => k0_hw32.2.2.2.1 k0_h5 k0_h7
theorem k0_off571_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off571 v2502) a + S1x16.size a ≤ S64x128.size a := fun k0_t2 v1437 v1439 v2502 k0_hw32 k0_h5 k0_h7 => k0_hw32.2.2.2.2.1 k0_h5 k0_h7
theorem k0_off573_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off573 v2502) a + S1x16.size a ≤ S64x128.size a := fun k0_t2 v1437 v1439 v2502 k0_hw32 k0_h5 k0_h7 => k0_hw32.2.2.2.2.2.1 k0_h5 k0_h7
theorem k0_off575_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off575 v2502) a + S1x16.size a ≤ S64x128.size a := fun k0_t2 v1437 v1439 v2502 k0_hw32 k0_h5 k0_h7 => k0_hw32.2.2.2.2.2.2.1 k0_h5 k0_h7
theorem k0_off577_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off577 v2502) a + S1x16.size a ≤ S64x128.size a := fun k0_t2 v1437 v1439 v2502 k0_hw32 k0_h5 k0_h7 => k0_hw32.2.2.2.2.2.2.2.1 k0_h5 k0_h7
theorem k0_off579_inb : ∀ (k0_t2 : Fin k0_t2_loop.trips) (v1437 : BitVec 32) (v1439 : BitVec 32) (v2502 : BitVec 32) (k0_hw32 : k0_chk32 k0_t2 v1437 v1439 v2502), ∀ (k0_h5 : k0_cond5 k0_t2 = 1#1), ∀ (k0_h7 : k0_cond7 v1437 v1439 = 1#1), ∀ a, (k0_off579 v2502) a + S1x16.size a ≤ S64x16.size a := fun k0_t2 v1437 v1439 v2502 k0_hw32 k0_h5 k0_h7 => k0_hw32.2.2.2.2.2.2.2.2 k0_h5 k0_h7

def k0_off580 (v2583 : BitVec 32) : Fin 2 → Nat :=
  let v2584 : Index := Scalar.indexCast v2583
  let c0_761 : Index := 0#32
  ![v2584.toNat, 0]

def k0_off581 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_762 : BitVec 32 := 14#32
  let v2586 : BitVec 32 := Scalar.addi v57 c14_i32_762
  let v2587 : Index := Scalar.indexCast v2586
  let c0_763 : Index := 0#32
  ![v2587.toNat, 0]
def k0_off582 (v2583 : BitVec 32) : Fin 2 → Nat :=
  let v2593 : Index := Scalar.indexCast v2583
  let c16_765 : Index := 16#32
  ![v2593.toNat, 16]
def k0_off583 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_766 : BitVec 32 := 14#32
  let v2595 : BitVec 32 := Scalar.addi v57 c14_i32_766
  let v2596 : Index := Scalar.indexCast v2595
  let c16_767 : Index := 16#32
  ![v2596.toNat, 16]
def k0_off584 (v2583 : BitVec 32) : Fin 2 → Nat :=
  let v2602 : Index := Scalar.indexCast v2583
  let c32_769 : Index := 32#32
  ![v2602.toNat, 32]
def k0_off585 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_770 : BitVec 32 := 14#32
  let v2604 : BitVec 32 := Scalar.addi v57 c14_i32_770
  let v2605 : Index := Scalar.indexCast v2604
  let c32_771 : Index := 32#32
  ![v2605.toNat, 32]
def k0_off586 (v2583 : BitVec 32) : Fin 2 → Nat :=
  let v2611 : Index := Scalar.indexCast v2583
  let c48_773 : Index := 48#32
  ![v2611.toNat, 48]
def k0_off587 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_774 : BitVec 32 := 14#32
  let v2613 : BitVec 32 := Scalar.addi v57 c14_i32_774
  let v2614 : Index := Scalar.indexCast v2613
  let c48_775 : Index := 48#32
  ![v2614.toNat, 48]
def k0_off588 (v2583 : BitVec 32) : Fin 2 → Nat :=
  let v2620 : Index := Scalar.indexCast v2583
  let c64_777 : Index := 64#32
  ![v2620.toNat, 64]
def k0_off589 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_778 : BitVec 32 := 14#32
  let v2622 : BitVec 32 := Scalar.addi v57 c14_i32_778
  let v2623 : Index := Scalar.indexCast v2622
  let c64_779 : Index := 64#32
  ![v2623.toNat, 64]
def k0_off590 (v2583 : BitVec 32) : Fin 2 → Nat :=
  let v2629 : Index := Scalar.indexCast v2583
  let c80_781 : Index := 80#32
  ![v2629.toNat, 80]
def k0_off591 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_782 : BitVec 32 := 14#32
  let v2631 : BitVec 32 := Scalar.addi v57 c14_i32_782
  let v2632 : Index := Scalar.indexCast v2631
  let c80_783 : Index := 80#32
  ![v2632.toNat, 80]
def k0_off592 (v2583 : BitVec 32) : Fin 2 → Nat :=
  let v2638 : Index := Scalar.indexCast v2583
  let c96_785 : Index := 96#32
  ![v2638.toNat, 96]
def k0_off593 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_786 : BitVec 32 := 14#32
  let v2640 : BitVec 32 := Scalar.addi v57 c14_i32_786
  let v2641 : Index := Scalar.indexCast v2640
  let c96_787 : Index := 96#32
  ![v2641.toNat, 96]
def k0_off594 (v2583 : BitVec 32) : Fin 2 → Nat :=
  let v2647 : Index := Scalar.indexCast v2583
  let c112_789 : Index := 112#32
  ![v2647.toNat, 112]
def k0_off595 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c14_i32_790 : BitVec 32 := 14#32
  let v2649 : BitVec 32 := Scalar.addi v57 c14_i32_790
  let v2650 : Index := Scalar.indexCast v2649
  let c112_791 : Index := 112#32
  ![v2650.toNat, 112]
def k0_off596 (v2583 : BitVec 32) : Fin 2 → Nat :=
  let v2656 : Index := Scalar.indexCast v2583
  let c0_793 : Index := 0#32
  ![v2656.toNat, 0]

def k0_chk33 (k0_t2 : Fin k0_t2_loop.trips) (v1437 : BitVec 32) (v1439 : BitVec 32) (v2583 : BitVec 32) : Prop :=
  (∀ (k0_h5 : k0_cond5 k0_t2 = 1#1), ∀ (k0_h7 : k0_cond7 v1437 v1439 = 1#1), ∀ a, (k0_off580 v2583) a + S1x16.size a ≤ S64x128.size a) ∧
  (∀ (k0_h5 : k0_cond5 k0_t2 = 1#1), ∀ (k0_h7 : k0_cond7 v1437 v1439 = 1#1), ∀ a, (k0_off582 v2583) a + S1x16.size a ≤ S64x128.size a) ∧
  (∀ (k0_h5 : k0_cond5 k0_t2 = 1#1), ∀ (k0_h7 : k0_cond7 v1437 v1439 = 1#1), ∀ a, (k0_off584 v2583) a + S1x16.size a ≤ S64x128.size a) ∧
  (∀ (k0_h5 : k0_cond5 k0_t2 = 1#1), ∀ (k0_h7 : k0_cond7 v1437 v1439 = 1#1), ∀ a, (k0_off586 v2583) a + S1x16.size a ≤ S64x128.size a) ∧
  (∀ (k0_h5 : k0_cond5 k0_t2 = 1#1), ∀ (k0_h7 : k0_cond7 v1437 v1439 = 1#1), ∀ a, (k0_off588 v2583) a + S1x16.size a ≤ S64x128.size a) ∧
  (∀ (k0_h5 : k0_cond5 k0_t2 = 1#1), ∀ (k0_h7 : k0_cond7 v1437 v1439 = 1#1), ∀ a, (k0_off590 v2583) a + S1x16.size a ≤ S64x128.size a) ∧
  (∀ (k0_h5 : k0_cond5 k0_t2 = 1#1), ∀ (k0_h7 : k0_cond7 v1437 v1439 = 1#1), ∀ a, (k0_off592 v2583) a + S1x16.size a ≤ S64x128.size a) ∧
  (∀ (k0_h5 : k0_cond5 k0_t2 = 1#1), ∀ (k0_h7 : k0_cond7 v1437 v1439 = 1#1), ∀ a, (k0_off594 v2583) a + S1x16.size a ≤ S64x128.size a) ∧
  (∀ (k0_h5 : k0_cond5 k0_t2 = 1#1), ∀ (k0_h7 : k0_cond7 v1437 v1439 = 1#1), ∀ a, (k0_off596 v2583) a + S1x16.size a ≤ S64x16.size a)
theorem k0_off580_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off580 v2583) a + S1x16.size a ≤ S64x128.size a := fun k0_t2 v1437 v1439 v2583 k0_hw33 k0_h5 k0_h7 => k0_hw33.1 k0_h5 k0_h7
theorem k0_off582_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off582 v2583) a + S1x16.size a ≤ S64x128.size a := fun k0_t2 v1437 v1439 v2583 k0_hw33 k0_h5 k0_h7 => k0_hw33.2.1 k0_h5 k0_h7
theorem k0_off584_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off584 v2583) a + S1x16.size a ≤ S64x128.size a := fun k0_t2 v1437 v1439 v2583 k0_hw33 k0_h5 k0_h7 => k0_hw33.2.2.1 k0_h5 k0_h7
theorem k0_off586_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off586 v2583) a + S1x16.size a ≤ S64x128.size a := fun k0_t2 v1437 v1439 v2583 k0_hw33 k0_h5 k0_h7 => k0_hw33.2.2.2.1 k0_h5 k0_h7
theorem k0_off588_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off588 v2583) a + S1x16.size a ≤ S64x128.size a := fun k0_t2 v1437 v1439 v2583 k0_hw33 k0_h5 k0_h7 => k0_hw33.2.2.2.2.1 k0_h5 k0_h7
theorem k0_off590_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off590 v2583) a + S1x16.size a ≤ S64x128.size a := fun k0_t2 v1437 v1439 v2583 k0_hw33 k0_h5 k0_h7 => k0_hw33.2.2.2.2.2.1 k0_h5 k0_h7
theorem k0_off592_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off592 v2583) a + S1x16.size a ≤ S64x128.size a := fun k0_t2 v1437 v1439 v2583 k0_hw33 k0_h5 k0_h7 => k0_hw33.2.2.2.2.2.2.1 k0_h5 k0_h7
theorem k0_off594_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off594 v2583) a + S1x16.size a ≤ S64x128.size a := fun k0_t2 v1437 v1439 v2583 k0_hw33 k0_h5 k0_h7 => k0_hw33.2.2.2.2.2.2.2.1 k0_h5 k0_h7
theorem k0_off596_inb : ∀ (k0_t2 : Fin k0_t2_loop.trips) (v1437 : BitVec 32) (v1439 : BitVec 32) (v2583 : BitVec 32) (k0_hw33 : k0_chk33 k0_t2 v1437 v1439 v2583), ∀ (k0_h5 : k0_cond5 k0_t2 = 1#1), ∀ (k0_h7 : k0_cond7 v1437 v1439 = 1#1), ∀ a, (k0_off596 v2583) a + S1x16.size a ≤ S64x16.size a := fun k0_t2 v1437 v1439 v2583 k0_hw33 k0_h5 k0_h7 => k0_hw33.2.2.2.2.2.2.2.2 k0_h5 k0_h7

def k0_off597 (v2664 : BitVec 32) : Fin 2 → Nat :=
  let v2665 : Index := Scalar.indexCast v2664
  let c0_795 : Index := 0#32
  ![v2665.toNat, 0]

def k0_off598 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_796 : BitVec 32 := 15#32
  let v2667 : BitVec 32 := Scalar.addi v57 c15_i32_796
  let v2668 : Index := Scalar.indexCast v2667
  let c0_797 : Index := 0#32
  ![v2668.toNat, 0]
def k0_off599 (v2664 : BitVec 32) : Fin 2 → Nat :=
  let v2674 : Index := Scalar.indexCast v2664
  let c16_799 : Index := 16#32
  ![v2674.toNat, 16]
def k0_off600 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_800 : BitVec 32 := 15#32
  let v2676 : BitVec 32 := Scalar.addi v57 c15_i32_800
  let v2677 : Index := Scalar.indexCast v2676
  let c16_801 : Index := 16#32
  ![v2677.toNat, 16]
def k0_off601 (v2664 : BitVec 32) : Fin 2 → Nat :=
  let v2683 : Index := Scalar.indexCast v2664
  let c32_803 : Index := 32#32
  ![v2683.toNat, 32]
def k0_off602 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_804 : BitVec 32 := 15#32
  let v2685 : BitVec 32 := Scalar.addi v57 c15_i32_804
  let v2686 : Index := Scalar.indexCast v2685
  let c32_805 : Index := 32#32
  ![v2686.toNat, 32]
def k0_off603 (v2664 : BitVec 32) : Fin 2 → Nat :=
  let v2692 : Index := Scalar.indexCast v2664
  let c48_807 : Index := 48#32
  ![v2692.toNat, 48]
def k0_off604 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_808 : BitVec 32 := 15#32
  let v2694 : BitVec 32 := Scalar.addi v57 c15_i32_808
  let v2695 : Index := Scalar.indexCast v2694
  let c48_809 : Index := 48#32
  ![v2695.toNat, 48]
def k0_off605 (v2664 : BitVec 32) : Fin 2 → Nat :=
  let v2701 : Index := Scalar.indexCast v2664
  let c64_811 : Index := 64#32
  ![v2701.toNat, 64]
def k0_off606 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_812 : BitVec 32 := 15#32
  let v2703 : BitVec 32 := Scalar.addi v57 c15_i32_812
  let v2704 : Index := Scalar.indexCast v2703
  let c64_813 : Index := 64#32
  ![v2704.toNat, 64]
def k0_off607 (v2664 : BitVec 32) : Fin 2 → Nat :=
  let v2710 : Index := Scalar.indexCast v2664
  let c80_815 : Index := 80#32
  ![v2710.toNat, 80]
def k0_off608 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_816 : BitVec 32 := 15#32
  let v2712 : BitVec 32 := Scalar.addi v57 c15_i32_816
  let v2713 : Index := Scalar.indexCast v2712
  let c80_817 : Index := 80#32
  ![v2713.toNat, 80]
def k0_off609 (v2664 : BitVec 32) : Fin 2 → Nat :=
  let v2719 : Index := Scalar.indexCast v2664
  let c96_819 : Index := 96#32
  ![v2719.toNat, 96]
def k0_off610 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_820 : BitVec 32 := 15#32
  let v2721 : BitVec 32 := Scalar.addi v57 c15_i32_820
  let v2722 : Index := Scalar.indexCast v2721
  let c96_821 : Index := 96#32
  ![v2722.toNat, 96]
def k0_off611 (v2664 : BitVec 32) : Fin 2 → Nat :=
  let v2728 : Index := Scalar.indexCast v2664
  let c112_823 : Index := 112#32
  ![v2728.toNat, 112]
def k0_off612 (k0_t4 : Fin k0_t4_loop.trips) : Fin 2 → Nat :=
  let c0_i32_29 : BitVec 32 := 0#32
  let c1_i32_30 : BitVec 32 := 1#32
  let arg20 : BitVec 32 := Scf.iv c0_i32_29 c1_i32_30 k0_t4
  let c16_i32_35 : BitVec 32 := 16#32
  let v57 : BitVec 32 := Scalar.muli arg20 c16_i32_35
  let c15_i32_824 : BitVec 32 := 15#32
  let v2730 : BitVec 32 := Scalar.addi v57 c15_i32_824
  let v2731 : Index := Scalar.indexCast v2730
  let c112_825 : Index := 112#32
  ![v2731.toNat, 112]
def k0_off613 (v2664 : BitVec 32) : Fin 2 → Nat :=
  let v2737 : Index := Scalar.indexCast v2664
  let c0_827 : Index := 0#32
  ![v2737.toNat, 0]

def k0_chk34 (k0_t2 : Fin k0_t2_loop.trips) (v1437 : BitVec 32) (v1439 : BitVec 32) (v2664 : BitVec 32) : Prop :=
  (∀ (k0_h5 : k0_cond5 k0_t2 = 1#1), ∀ (k0_h7 : k0_cond7 v1437 v1439 = 1#1), ∀ a, (k0_off597 v2664) a + S1x16.size a ≤ S64x128.size a) ∧
  (∀ (k0_h5 : k0_cond5 k0_t2 = 1#1), ∀ (k0_h7 : k0_cond7 v1437 v1439 = 1#1), ∀ a, (k0_off599 v2664) a + S1x16.size a ≤ S64x128.size a) ∧
  (∀ (k0_h5 : k0_cond5 k0_t2 = 1#1), ∀ (k0_h7 : k0_cond7 v1437 v1439 = 1#1), ∀ a, (k0_off601 v2664) a + S1x16.size a ≤ S64x128.size a) ∧
  (∀ (k0_h5 : k0_cond5 k0_t2 = 1#1), ∀ (k0_h7 : k0_cond7 v1437 v1439 = 1#1), ∀ a, (k0_off603 v2664) a + S1x16.size a ≤ S64x128.size a) ∧
  (∀ (k0_h5 : k0_cond5 k0_t2 = 1#1), ∀ (k0_h7 : k0_cond7 v1437 v1439 = 1#1), ∀ a, (k0_off605 v2664) a + S1x16.size a ≤ S64x128.size a) ∧
  (∀ (k0_h5 : k0_cond5 k0_t2 = 1#1), ∀ (k0_h7 : k0_cond7 v1437 v1439 = 1#1), ∀ a, (k0_off607 v2664) a + S1x16.size a ≤ S64x128.size a) ∧
  (∀ (k0_h5 : k0_cond5 k0_t2 = 1#1), ∀ (k0_h7 : k0_cond7 v1437 v1439 = 1#1), ∀ a, (k0_off609 v2664) a + S1x16.size a ≤ S64x128.size a) ∧
  (∀ (k0_h5 : k0_cond5 k0_t2 = 1#1), ∀ (k0_h7 : k0_cond7 v1437 v1439 = 1#1), ∀ a, (k0_off611 v2664) a + S1x16.size a ≤ S64x128.size a) ∧
  (∀ (k0_h5 : k0_cond5 k0_t2 = 1#1), ∀ (k0_h7 : k0_cond7 v1437 v1439 = 1#1), ∀ a, (k0_off613 v2664) a + S1x16.size a ≤ S64x16.size a)
theorem k0_off597_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off597 v2664) a + S1x16.size a ≤ S64x128.size a := fun k0_t2 v1437 v1439 v2664 k0_hw34 k0_h5 k0_h7 => k0_hw34.1 k0_h5 k0_h7
theorem k0_off599_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off599 v2664) a + S1x16.size a ≤ S64x128.size a := fun k0_t2 v1437 v1439 v2664 k0_hw34 k0_h5 k0_h7 => k0_hw34.2.1 k0_h5 k0_h7
theorem k0_off601_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off601 v2664) a + S1x16.size a ≤ S64x128.size a := fun k0_t2 v1437 v1439 v2664 k0_hw34 k0_h5 k0_h7 => k0_hw34.2.2.1 k0_h5 k0_h7
theorem k0_off603_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off603 v2664) a + S1x16.size a ≤ S64x128.size a := fun k0_t2 v1437 v1439 v2664 k0_hw34 k0_h5 k0_h7 => k0_hw34.2.2.2.1 k0_h5 k0_h7
theorem k0_off605_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off605 v2664) a + S1x16.size a ≤ S64x128.size a := fun k0_t2 v1437 v1439 v2664 k0_hw34 k0_h5 k0_h7 => k0_hw34.2.2.2.2.1 k0_h5 k0_h7
theorem k0_off607_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off607 v2664) a + S1x16.size a ≤ S64x128.size a := fun k0_t2 v1437 v1439 v2664 k0_hw34 k0_h5 k0_h7 => k0_hw34.2.2.2.2.2.1 k0_h5 k0_h7
theorem k0_off609_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off609 v2664) a + S1x16.size a ≤ S64x128.size a := fun k0_t2 v1437 v1439 v2664 k0_hw34 k0_h5 k0_h7 => k0_hw34.2.2.2.2.2.2.1 k0_h5 k0_h7
theorem k0_off611_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off611 v2664) a + S1x16.size a ≤ S64x128.size a := fun k0_t2 v1437 v1439 v2664 k0_hw34 k0_h5 k0_h7 => k0_hw34.2.2.2.2.2.2.2.1 k0_h5 k0_h7
theorem k0_off613_inb : ∀ (k0_t2 : Fin k0_t2_loop.trips) (v1437 : BitVec 32) (v1439 : BitVec 32) (v2664 : BitVec 32) (k0_hw34 : k0_chk34 k0_t2 v1437 v1439 v2664), ∀ (k0_h5 : k0_cond5 k0_t2 = 1#1), ∀ (k0_h7 : k0_cond7 v1437 v1439 = 1#1), ∀ a, (k0_off613 v2664) a + S1x16.size a ≤ S64x16.size a := fun k0_t2 v1437 v1439 v2664 k0_hw34 k0_h5 k0_h7 => k0_hw34.2.2.2.2.2.2.2.2 k0_h5 k0_h7

def k0_cond8 (k0_t2 : Fin k0_t2_loop.trips) : BitVec 1 :=
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c2_i32_32 : BitVec 32 := 2#32
  let v53 : BitVec 32 := Scalar.addi v38 c2_i32_32
  let c5_i32_33 : BitVec 32 := 5#32
  let v54 : BitVec 1 := Scalar.cmpi .slt v53 c5_i32_33
  let v55 : BitVec 32 := Scalar.extui v54
  let c0_i32_34 : BitVec 32 := 0#32
  let v56 : BitVec 1 := Scalar.cmpi .ne v55 c0_i32_34
  v56

def k0_mult6 (i : grid0.Coords) (k0_t2 : Fin k0_t2_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c2_i32_35 : BitVec 32 := 2#32
  let v57 : BitVec 32 := Scalar.addi v38 c2_i32_35
  let c240_i32_36 : BitVec 32 := 240#32
  let v58 : BitVec 32 := Scalar.muli v57 c240_i32_36
  let v59 : BitVec 32 := Scalar.addi v2 v58
  v59
def k0_off614 (i : grid0.Coords) (k0_t2 : Fin k0_t2_loop.trips) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c2_i32_35 : BitVec 32 := 2#32
  let v57 : BitVec 32 := Scalar.addi v38 c2_i32_35
  let c240_i32_36 : BitVec 32 := 240#32
  let v58 : BitVec 32 := Scalar.muli v57 c240_i32_36
  let v59 : BitVec 32 := Scalar.addi v2 v58
  let v60 : BitVec 32 := v59
  let c0_i32_37 : BitVec 32 := 0#32
  ![v60.toNat, 0]
def k0_off615 (i : grid0.Coords) (k0_t2 : Fin k0_t2_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1200_i32 : BitVec 32 := 1200#32
  let v2 : BitVec 32 := Scalar.muli v1 c1200_i32
  let c0_i32_13 : BitVec 32 := 0#32
  let c1_i32_14 : BitVec 32 := 1#32
  let arg18 : BitVec 32 := Scf.iv c0_i32_13 c1_i32_14 k0_t2
  let c2_i32_18 : BitVec 32 := 2#32
  let v37 : BitVec 32 := Scalar.muli arg18 c2_i32_18
  let c1_i32_19 : BitVec 32 := 1#32
  let v38 : BitVec 32 := Scalar.addi v37 c1_i32_19
  let c2_i32_35 : BitVec 32 := 2#32
  let v57 : BitVec 32 := Scalar.addi v38 c2_i32_35
  let c240_i32_36 : BitVec 32 := 240#32
  let v58 : BitVec 32 := Scalar.muli v57 c240_i32_36
  let v59 : BitVec 32 := Scalar.addi v2 v58
  let v60 : BitVec 32 := v59
  ![v60.toNat]
def k0_off616 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_16_r1 : BitVec 32 := 0#32
  let c0_i32_17_r1 : BitVec 32 := 0#32
  ![v1.toNat, 0, 0]
def k0_off617 (i : grid0.Coords) : Fin 3 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32_16_r2 : BitVec 32 := 0#32
  let c0_i32_17_r2 : BitVec 32 := 0#32
  ![v1.toNat, 0, 0]
abbrev grid1 : Pipeline.Grid := ⟨1, ![17], ![false]⟩

def k1_cond2 (i : grid1.Coords) : BitVec 1 :=
  let arg0 : BitVec 32 := BitVec.ofNat 32 (i 0).val
  let c16_i32 : BitVec 32 := 16#32
  let v45 : BitVec 1 := Scalar.cmpi .eq arg0 c16_i32
  let v46 : BitVec 32 := Scalar.extui v45
  let c0_i32_19 : BitVec 32 := 0#32
  let v47 : BitVec 1 := Scalar.cmpi .ne v46 c0_i32_19
  v47

def cc1_transform_0 (i : grid1.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S3840x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x3840 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := .none

abbrev stage2_0 : Fin 1 → Memref sig .tc .vmem S32x64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S1x128 : Shape := ⟨2, ![1, 128]⟩
abbrev S1 : Shape := ⟨1, ![1]⟩
abbrev S100000 : Shape := ⟨1, ![100000]⟩
abbrev S128x1 : Shape := ⟨2, ![128, 1]⟩
abbrev S100000x1 : Shape := ⟨2, ![100000, 1]⟩
abbrev S1x1 : Shape := ⟨2, ![1, 1]⟩
abbrev S1x100000 : Shape := ⟨2, ![1, 100000]⟩
abbrev S64 : Shape := ⟨1, ![64]⟩
abbrev S64x1 : Shape := ⟨2, ![64, 1]⟩
abbrev S64x100000 : Shape := ⟨2, ![64, 100000]⟩
abbrev S_ : Shape := ⟨0, ![]⟩
abbrev S64x128 : Shape := ⟨2, ![64, 128]⟩

abbrev nBuf : Space → Nat
  | .hbm => 56
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1x128, .f32⟩
  | .hbm, ⟨2, _⟩ => ⟨S1, .f32⟩
  | .hbm, ⟨3, _⟩ => ⟨S100000, .i32⟩
  | .hbm, ⟨4, _⟩ => ⟨S128x1, .f32⟩
  | .hbm, ⟨5, _⟩ => ⟨S100000x1, .f32⟩
  | .hbm, ⟨6, _⟩ => ⟨S1x1, .f32⟩
  | .hbm, ⟨7, _⟩ => ⟨S100000x1, .f32⟩
  | .hbm, ⟨8, _⟩ => ⟨S100000x1, .f32⟩
  | .hbm, ⟨9, _⟩ => ⟨S100000, .f32⟩
  | .hbm, ⟨10, _⟩ => ⟨S1x100000, .i32⟩
  | .hbm, ⟨11, _⟩ => ⟨S64, .i32⟩
  | .hbm, ⟨12, _⟩ => ⟨S64x1, .i32⟩
  | .hbm, ⟨13, _⟩ => ⟨S64x100000, .i32⟩
  | .hbm, ⟨14, _⟩ => ⟨S64x100000, .i32⟩
  | .hbm, ⟨15, _⟩ => ⟨S64x100000, .i1⟩
  | .hbm, ⟨16, _⟩ => ⟨S1x100000, .f32⟩
  | .hbm, ⟨17, _⟩ => ⟨S_, .f32⟩
  | .hbm, ⟨18, _⟩ => ⟨S_, .f32⟩
  | .hbm, ⟨19, _⟩ => ⟨S64x100000, .f32⟩
  | .hbm, ⟨20, _⟩ => ⟨S64x100000, .f32⟩
  | .hbm, ⟨21, _⟩ => ⟨S64x100000, .f32⟩
  | .hbm, ⟨22, _⟩ => ⟨S_, .f32⟩
  | .hbm, ⟨23, _⟩ => ⟨S64, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S64, .f32⟩
  | .hbm, ⟨37, _⟩ => ⟨S100000x1, .i32⟩
  | .hbm, ⟨38, _⟩ => ⟨S64, .f32⟩
  | .hbm, ⟨39, _⟩ => ⟨S_, .i32⟩
  | .hbm, ⟨40, _⟩ => ⟨S100000, .i32⟩
  | .hbm, ⟨41, _⟩ => ⟨S100000, .i1⟩
  | .hbm, ⟨42, _⟩ => ⟨S_, .i32⟩
  | .hbm, ⟨43, _⟩ => ⟨S100000, .i32⟩
  | .hbm, ⟨44, _⟩ => ⟨S100000, .i32⟩
  | .hbm, ⟨45, _⟩ => ⟨S100000, .i32⟩
  | .hbm, ⟨46, _⟩ => ⟨S100000x1, .i32⟩
  | .hbm, ⟨47, _⟩ => ⟨S100000, .f32⟩
  | .hbm, ⟨48, _⟩ => ⟨S100000, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S64x128, .f32⟩
  | .hbm, ⟨54, _⟩ => ⟨S100000x1, .i32⟩
  | .hbm, ⟨55, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proof.Setup.lean ====
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.VecWindow
public import Idealize.ShloMosaic.Lib.ValueIdx
public import Idealize.ShloMosaic.Lib.Tactic
public import proofs.«01_k».proof.Proof.Gen.KernelIdeal.Skeleton

/-! The kernel's program as the launch theorem sees it, and the judgement `Runs`: a tile's program
that, from the resources before it, returns one value and leaves the resources after it. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 2) fun p => (pcfgs (F := F) p).Adm
abbrev K : SparseCore.Cfg τ sig (ΛP (F := F)) 1 := sc (F := F)
abbrev 𝒱₀ : Variants := Variants.none
abbrev 𝒱 : Variants := 𝒱₀.lift
abbrev v₀ : 𝒱.V := Sum.inl none

abbrev UH : Type := URounds (GSem nD τ sig) ℕ
/-- The rounds of the two pipelines' cells. -/
abbrev UP : Type := URounds (GSem nD τ sig) Unit
abbrev UU : Type := UH × (UP × Counters)

/-- The resources of the run. -/
abbrev MM (F : FTy → Type) := MT nD τ sig (HIx 1) (Elt F) ℕ UU ℕ

abbrev EH : Emb UH (MM F) := embL
/-- Where the pipelines' rounds lie. -/
abbrev EP : Emb UP (MM F) := (Emb.inl : Emb UP (UP × Counters)).trans embR

variable [FloatOps F]

abbrev D : Defs nD τ sig (Elt F) (ΛP (F := F)) := Pipeline.defs pcfgs defs₀

/-- A tile of the SparseCores. -/
abbrev tileThr (d : Dev nD) (c : Fin τ.nSC) (s : Fin τ.nSub) : Thread nD τ := V d c s

variable {d : Dev nD} {c : Fin τ.nSC} {s : Fin τ.nSub}

/-- From `P` the program returns `v` and leaves `P'`. -/
def Runs {α : Type} (d : Dev nD) (c : Fin τ.nSC) (s : Fin τ.nSub) (P : sProp (MM F))
    (p : Prog (TpuEff nD τ sig (Elt F) Λ₀ (.scVector c s)) α) (v : α) (P' : sProp (MM F)) : Prop :=
  ∀ Q : α → sProp (MM F),
    iprop(P ∗ (P' -∗ Q v)) ⊢ wp frame (wpE (defs₀ (F := F)) 𝒱₀ (V d c s) none) Set.univ p Q

theorem Runs.pure {α : Type} (P : sProp (MM F)) (v : α) :
    Runs d c s P (Pure.pure v) v P := by
  intro Q
  rw [wp_pure]
  iintro ⟨HP, HQ⟩
  imodintro
  iapply HQ; iexact HP

theorem Runs.bind {α β : Type} {P P' P'' : sProp (MM F)}
    {p : Prog (TpuEff nD τ sig (Elt F) Λ₀ (.scVector c s)) α}
    {k : α → Prog (TpuEff nD τ sig (Elt F) Λ₀ (.scVector c s)) β} {v : α} {u : β}
    (hp : Runs d c s P p v P') (hk : Runs d c s P' (k v) u P'') : Runs d c s P (p >>= k) u P'' := by
  intro Q
  rw [wp_bind]
  refine BIBase.Entails.trans ?_ (hp _)
  iintro ⟨HP, HQ⟩
  isplitl [HP]; · iexact HP
  iintro HP'
  iapply (hk Q)
  isplitl [HP']; · iexact HP'
  iexact HQ

theorem Runs.frame {α : Type} {P P' : sProp (MM F)}
    {p : Prog (TpuEff nD τ sig (Elt F) Λ₀ (.scVector c s)) α} {v : α}
    (hp : Runs d c s P p v P') (R : sProp (MM F)) : Runs d c s iprop(P ∗ R) p v iprop(P' ∗ R) := by
  intro Q
  refine BIBase.Entails.trans ?_ (hp _)
  iintro ⟨⟨HP, HR⟩, HQ⟩
  isplitl [HP]; · iexact HP
  iintro HP'
  iapply HQ
  isplitl [HP']; · iexact HP'
  iexact HR

theorem Runs.conseq {α : Type} {P P' R R' : sProp (MM F)}
    {p : Prog (TpuEff nD τ sig (Elt F) Λ₀ (.scVector c s)) α} {v : α}
    (hp : Runs d c s P p v P') (h : R ⊢ P) (h' : P' ⊢ R') : Runs d c s R p v R' := by
  intro Q
  refine BIBase.Entails.trans ?_ (hp _)
  iintro ⟨HR, HQ⟩
  isplitl [HR]; · iapply h; iexact HR
  iintro HP'
  iapply HQ; iapply h'; iexact HP'

theorem Runs.assume {P : sProp (MM F)} {C : Prop} {dec : Decidable C} (h : C) :
    Runs d c s P (Prog.lift (TpuEff.assume C dec)) ⟨h⟩ P := by
  intro Q
  refine BIBase.Entails.trans ?_ (wp_assume 𝒱₀ (V d c s) none Set.univ h)
  rw [wp_ret]
  iintro ⟨HP, HQ⟩
  imodintro
  iapply HQ; iexact HP

theorem Runs.dite {α : Type} {P P' : sProp (MM F)} {C : Prop} [dec : Decidable C]
    {p : C → Prog (TpuEff nD τ sig (Elt F) Λ₀ (.scVector c s)) α}
    {q : ¬ C → Prog (TpuEff nD τ sig (Elt F) Λ₀ (.scVector c s)) α} {v : α}
    (hp : ∀ h, Runs d c s P (p h) v P') (hq : ∀ h, Runs d c s P (q h) v P') :
    Runs d c s P (_root_.dite C p q) v P' := by
  by_cases h : C
  · rw [dif_pos h]; exact hp h
  · rw [dif_neg h]; exact hq h

/-- A memref of the tile held whole at the contents `X`. -/
def own {sp : Space} {sh : Shape} {e : EltTy} (d : Dev nD) (c : Fin τ.nSC) (s : Fin τ.nSub)
    (m : Memref sig .scVector sp sh e) (X : sh.Idx → Elt F e) : sProp (MM F) :=
  m.view.loc (V d c s) ↦[m.view.set]{fullShare} m.view.rep X

/-- A load of a memref held at `X` returns `X` at the elements read. -/
theorem Runs.load {cs : CoreSpace} {sh : Shape} {e : EltTy} (m : Memref sig .scVector cs sh e)
    (X : sh.Idx → Elt F e) (r : LoadRect sh) (hl : m.view.LoadsAt r) :
    Runs d c s (own d c s m X) (Prog.lift (.load m r hl)) (fun y => X (r.idx y))
      (own d c s m X) := by
  intro Q
  have hr : (fun y => X (r.idx y)) = m.view.readAt (Elt F) r (m.view.rep X) :=
    (View.readAt_rep m.view r X).symm
  rw [hr]
  unfold own
  iintro ⟨HP, HQ⟩
  iapply (wp_load 𝒱₀ (V d c s) none Set.univ (View.setOn_subset_set (v := m.view) _)) $$ HP
  iintro HP
  rw [wp_ret]
  imodintro
  iapply HQ; iexact HP

/-- A store over a unit-stride rectangle of a memref held at `X` leaves the payload there. -/
theorem Runs.store {cs : CoreSpace} {sh : Shape} {e : EltTy} (m : Memref sig .scVector cs sh e)
    (X : sh.Idx → Elt F e) (off size : Fin sh.rank → ℕ) (inb : ∀ a, off a + size a ≤ sh.size a)
    (w : (Rect.unit off size inb).shape.Idx → Elt F e)
    (hx : (m.access (Rect.unit off size inb)).Stores Finset.univ)
    (hm : Finset.univ = Finset.univ ∨ ∀ a, (Rect.unit off size inb).stride a = 1) :
    Runs d c s (own d c s m X) (Prog.lift (.store m (Rect.unit off size inb) w Finset.univ hx hm))
      ⟨⟩ (own d c s m (VecWindow.put X off size w)) := by
  intro Q
  have hr : m.view.read (Elt F) ((m.access (Rect.unit off size inb)).write (Elt F) (m.view.rep X) w
      Finset.univ) = VecWindow.put X off size w :=
    View.read_writes_rep_unit m.view X inb w rfl
  unfold own
  iintro ⟨HP, HQ⟩
  iapply (wp_store 𝒱₀ (V d c s) none Set.univ (m := m) (r := Rect.unit off size inb)
    (Mk := Finset.univ) (w := w) (hx := hx) (hm := hm) (f := m.view.rep X) (S := m.view.set)
    (by rw [View.setOn_univ]; exact View.set_slice_subset (v := m.view) _)) $$ HP
  iintro HP
  rw [wp_ret]
  imodintro
  iapply HQ
  iapply (pointsTo_rep_of_read (V d c s) m _ fullShare _ hr); iexact HP

end Cert.Proof
-- ==== Proof.Tc.lean ====
module

public import proofs.«01_k».proof.Proof.Setup

/-! The rules a TensorCore body is run by: what a program returns and leaves, from what it holds, for
loads and stores of whole blocks. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

variable {d : Dev nD}

/-- On the TensorCore: from `P` the program returns `v` and leaves `P'`. -/
def TcRuns {α : Type} (d : Dev nD) (P : sProp (MM F))
    (p : Prog (TpuEff nD τ sig (Elt F) Λ₀ .tc) α) (v : α) (P' : sProp (MM F)) : Prop :=
  ∀ Q : α → sProp (MM F),
    iprop(P ∗ (P' -∗ Q v)) ⊢ wp frame (wpE (defs₀ (F := F)) 𝒱₀ (d.tc) none) Set.univ p Q

theorem TcRuns.pure {α : Type} (P : sProp (MM F)) (v : α) : TcRuns d P (Pure.pure v) v P := by
  intro Q
  rw [wp_pure]
  iintro ⟨HP, HQ⟩
  imodintro
  iapply HQ; iexact HP

theorem TcRuns.bind {α β : Type} {P P' P'' : sProp (MM F)}
    {p : Prog (TpuEff nD τ sig (Elt F) Λ₀ .tc) α}
    {k : α → Prog (TpuEff nD τ sig (Elt F) Λ₀ .tc) β} {v : α} {u : β}
    (hp : TcRuns d P p v P') (hk : TcRuns d P' (k v) u P'') : TcRuns d P (p >>= k) u P'' := by
  intro Q
  rw [wp_bind]
  refine BIBase.Entails.trans ?_ (hp _)
  iintro ⟨HP, HQ⟩
  isplitl [HP]; · iexact HP
  iintro HP'
  iapply (hk Q)
  isplitl [HP']; · iexact HP'
  iexact HQ

theorem TcRuns.conseq {α : Type} {P P' R R' : sProp (MM F)}
    {p : Prog (TpuEff nD τ sig (Elt F) Λ₀ .tc) α} {v : α}
    (hp : TcRuns d P p v P') (h : R ⊢ P) (h' : P' ⊢ R') : TcRuns d R p v R' := by
  intro Q
  refine BIBase.Entails.trans ?_ (hp _)
  iintro ⟨HR, HQ⟩
  isplitl [HR]; · iapply h; iexact HR
  iintro HP'
  iapply HQ; iapply h'; iexact HP'

/-- A memref of the TensorCore held whole at the contents `X`. -/
abbrev has {sp : Space} {sh : Shape} {e : EltTy} (d : Dev nD) (m : Memref sig .tc sp sh e)
    (X : sh.Idx → Elt F e) : sProp (MM F) :=
  owns (d.tc) m fullShare X

theorem unit_idx {sh : Shape} (off : Fin sh.rank → ℕ) (h0 : ∀ a, off a = 0)
    (inb : ∀ a, off a + sh.size a ≤ sh.size a) (y : sh.Idx) :
    (Rect.unit off sh.size inb).toLoadRect.idx y = y := by
  funext a
  refine Fin.ext ?_
  show off a + 1 * (y a).val = (y a).val
  rw [h0 a]; omega

/-- A load of a whole block returns what it holds. -/
theorem TcRuns.load {cs : CoreSpace} {sh : Shape} {e : EltTy} (m : Memref sig .tc cs sh e)
    (X : sh.Idx → Elt F e) (R : sProp (MM F)) (off : Fin sh.rank → ℕ) (h0 : ∀ a, off a = 0)
    (inb : ∀ a, off a + sh.size a ≤ sh.size a)
    (hl : m.view.LoadsAt (Rect.unit off sh.size inb).toLoadRect) :
    TcRuns d iprop(has d m X ∗ R) (Prog.lift (.load m (Rect.unit off sh.size inb).toLoadRect hl)) X
      iprop(has d m X ∗ R) := by
  intro Q
  unfold has owns
  iintro ⟨⟨⟨%f, %hf, HP⟩, HR⟩, HQ⟩
  have hr : X = m.view.readAt (Elt F) (Rect.unit off sh.size inb).toLoadRect f := by
    subst hf
    funext y
    exact (congrArg (m.view.read (Elt F) f) (unit_idx off h0 inb y)).symm
  rw [hr]
  iapply (wp_load 𝒱₀ (d.tc) none Set.univ (View.setOn_subset_set (v := m.view) _)) $$ HP
  iintro HP
  rw [wp_ret]
  imodintro
  iapply HQ
  isplitl [HP]
  · iexists f
    isplitr
    · ipureintro; rw [← hr]; exact hf
    · iexact HP
  · iexact HR

set_option backward.isDefEq.respectTransparency.types false in
/-- A store of a whole block leaves the payload there. -/
theorem TcRuns.store {cs : CoreSpace} {sh : Shape} {e : EltTy} (m : Memref sig .tc cs sh e)
    (X : sh.Idx → Elt F e) (R : sProp (MM F)) (off : Fin sh.rank → ℕ) (h0 : ∀ a, off a = 0)
    (inb : ∀ a, off a + sh.size a ≤ sh.size a) (w : sh.Idx → Elt F e)
    (hx : (m.access (Rect.unit off sh.size inb)).Stores Finset.univ)
    (hm : Finset.univ = Finset.univ ∨ ∀ a, (Rect.unit off sh.size inb).stride a = 1) :
    TcRuns d iprop(has d m X ∗ R)
      (Prog.lift (.store m (Rect.unit off sh.size inb) w Finset.univ hx hm)) ⟨⟩
      iprop(has d m w ∗ R) := by
  intro Q
  unfold has owns
  iintro ⟨⟨⟨%f, %hf, HP⟩, HR⟩, HQ⟩
  have hr : m.view.read (Elt F) ((m.access (Rect.unit off sh.size inb)).write (Elt F) f w
      Finset.univ) = w := by
    exact View.read_writes_full m.view f inb w []
  iapply (wp_store 𝒱₀ (d.tc) none Set.univ (m := m) (r := Rect.unit off sh.size inb)
    (Mk := Finset.univ) (w := w) (hx := hx) (hm := hm) (f := f)
    (show (m.access (Rect.unit off sh.size inb)).setOn Finset.univ ⊆ m.view.set by
      rw [View.setOn_univ]; exact View.set_slice_subset (v := m.view) _)) $$ HP
  iintro HP
  rw [wp_ret]
  imodintro
  iapply HQ
  isplitl [HP]
  · iexists _
    isplitr
    · ipureintro
      exact hr
    · iexact HP
  · iexact HR

/-- The load, out of anything the memref is a part of. -/
theorem TcRuns.load_in {cs : CoreSpace} {sh : Shape} {e : EltTy} {m : Memref sig .tc cs sh e}
    {X : sh.Idx → Elt F e} {P : sProp (MM F)} {off : Fin sh.rank → ℕ}
    {inb : ∀ a, off a + sh.size a ≤ sh.size a}
    {hl : m.view.LoadsAt (Rect.unit off sh.size inb).toLoadRect} (h0 : ∀ a, off a = 0)
    (h : P ⊢ iprop(has d m X ∗ (has d m X -∗ P))) :
    TcRuns d P (Prog.lift (.load m (Rect.unit off sh.size inb).toLoadRect hl)) X P :=
  (TcRuns.load m X iprop(has d m X -∗ P) off h0 inb hl).conseq h (by
    iintro ⟨H, HP⟩
    iapply HP; iexact H)

/-- The store, into anything the memref is a part of. -/
theorem TcRuns.store_in {cs : CoreSpace} {sh : Shape} {e : EltTy} {m : Memref sig .tc cs sh e}
    {X : sh.Idx → Elt F e} {P P' : sProp (MM F)} {off : Fin sh.rank → ℕ}
    {inb : ∀ a, off a + sh.size a ≤ sh.size a} {w : sh.Idx → Elt F e}
    {hx : (m.access (Rect.unit off sh.size inb)).Stores Finset.univ}
    {hm : Finset.univ = Finset.univ ∨ ∀ a, (Rect.unit off sh.size inb).stride a = 1}
    (h0 : ∀ a, off a = 0) (h : P ⊢ iprop(has d m X ∗ (has d m w -∗ P'))) :
    TcRuns d P (Prog.lift (.store m (Rect.unit off sh.size inb) w Finset.univ hx hm)) ⟨⟩ P' :=
  (TcRuns.store m X iprop(has d m w -∗ P') off h0 inb w hx hm).conseq h (by
    iintro ⟨H, HP⟩
    iapply HP; iexact H)

/-! A conjunct out of a conjunction, and another back in its place. -/

section Places

variable {a₁ a₂ b : sProp (MM F)}

theorem place1 : iprop(a₁ ∗ a₂) ⊢ iprop(a₁ ∗ (b -∗ b ∗ a₂)) := by
  iintro ⟨H1, H2⟩
  isplitl [H1]; · iexact H1
  iintro H
  isplitl [H]; · iexact H
  iexact H2

/-- One conjunct further in. -/
theorem place_in {p q : sProp (MM F)} (h : p ⊢ iprop(a₂ ∗ (b -∗ q))) :
    iprop(a₁ ∗ p) ⊢ iprop(a₂ ∗ (b -∗ a₁ ∗ q)) := by
  refine BIBase.Entails.trans (sep_mono BIBase.Entails.rfl h) ?_
  iintro ⟨H1, H2, H3⟩
  isplitl [H2]; · iexact H2
  iintro H
  isplitl [H1]; · iexact H1
  iapply H3; iexact H

theorem place_last : a₁ ⊢ iprop(a₁ ∗ (b -∗ b)) := by
  iintro H1
  isplitl [H1]; · iexact H1
  iintro H
  iexact H

end Places

end Cert.Proof
-- ==== Proof.TcBody.lean ====
module

public import proofs.«01_k».proof.Proof.Tc

/-! One grid point of the TensorCore's partial sums: what the body adds to the running sums, and what it
hands over at the last point. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

/-- The running sums of the TensorCore's rows. -/
abbrev TcAcc (F : FTy → Type) : Type := (S64x128.Idx → F .f32) × (S64x1.Idx → F .f32)

/-- The running sums at the start. -/
def tcZero : TcAcc F := (k1_pay3, k1_pay4)

/-- The running sums after one more block: `X` its rows, `wt` the gate's weights, `B` the rows' segment ids. -/
def tcStep (i : grid1.Coords) (X : S3840x128.Idx → F .f32) (wt : S1x128.Idx → F .f32)
    (B : S1x1x3840.Idx → BitVec 32) (A : TcAcc F) : TcAcc F :=
  (k1_pay1 (k1_pay9 i X wt B A.1), k1_pay2 (k1_pay7 i X wt) (k1_pay8 B) A.2)

theorem first_iff (n : Fin 17) :
    Scalar.cmpi .ne (Scalar.extui (Scalar.cmpi .eq (BitVec.ofNat 32 n.val) 0#32) : BitVec 32) 0#32 = 1#1
      ↔ n.val = 0 := by
  revert n; decide

theorem last_iff (i : grid1.Coords) : k1_cond2 i = 1#1 ↔ (i 0).val = 16 := by
  have h : ∀ n : Fin 17,
      Scalar.cmpi .ne (Scalar.extui (Scalar.cmpi .eq (BitVec.ofNat 32 n.val) 16#32) : BitVec 32) 0#32 = 1#1
        ↔ n.val = 16 := by decide
  exact h (i 0)

/-- The running sums a point starts from. -/
def tcFrom (i : grid1.Coords) (A : TcAcc F) : TcAcc F := if (i 0).val = 0 then tcZero else A

variable {d : Dev nD}

theorem zero2 : ∀ a : Fin 2, (![0, 0] : Fin 2 → ℕ) a = 0 := by decide
theorem zero3 : ∀ a : Fin 3, (![0, 0, 0] : Fin 3 → ℕ) a = 0 := by decide

section Body

variable (i : grid1.Coords) (arg1 : Memref sig .tc .vmem S3840x128 .f32) (harg1 : arg1.IsWhole)
  (arg2 : Memref sig .tc .vmem S1x128 .f32) (harg2 : arg2.IsWhole)
  (arg3 : Memref sig .tc .vmem S1x1x3840 .i32) (harg3 : arg3.IsWhole)
  (arg4 : Memref sig .tc .vmem S64x128 .f32) (harg4 : arg4.IsWhole)
  (arg5 : Memref sig .tc .vmem S64x1 .f32) (harg5 : arg5.IsWhole)
  (arg6 : Memref sig .tc .vmem S64x128 .f32) (harg6 : arg6.IsWhole)
  (arg7 : Memref sig .tc .vmem S64x1 .f32) (harg7 : arg7.IsWhole)

/-- What a point holds: the blocks it reads, the two results' blocks, the running sums. -/
def tcHeld (X : S3840x128.Idx → F .f32) (wt : S1x128.Idx → F .f32) (B : S1x1x3840.Idx → BitVec 32)
    (Y : TcAcc F) (A : TcAcc F) : sProp (MM F) :=
  iprop(has d arg1 X ∗ has d arg2 wt ∗ has d arg3 B ∗ has d arg4 Y.1 ∗ has d arg5 Y.2
    ∗ has d arg6 A.1 ∗ has d arg7 A.2)

variable (X : S3840x128.Idx → F .f32) (wt : S1x128.Idx → F .f32) (B : S1x1x3840.Idx → BitVec 32)
  (Y A : TcAcc F)

/-- The first half: the sums reset at the first point, the blocks read. -/
theorem part1_run :
    TcRuns d (tcHeld (d := d) arg1 arg2 arg3 arg4 arg5 arg6 arg7 X wt B Y A)
      (k1_part1 (F := F) i arg1 harg1 arg2 harg2 arg3 harg3 arg4 harg4 arg5 harg5 arg6 harg6 arg7 harg7)
      ⟨BitVec.ofNat 32 (i 0).val, k1_pay7 i X wt, k1_pay8 B, k1_pay9 i X wt B (tcFrom i A).1⟩
      (tcHeld (d := d) arg1 arg2 arg3 arg4 arg5 arg6 arg7 X wt B Y (tcFrom i A)) := by
  rw [k1_part1_eq_skeleton]
  unfold k1_part1_skel tcHeld
  dsimp only
  have hc := first_iff (i 0)
  unfold tcFrom
  by_cases h : (i 0).val = 0
  · rw [dif_pos (hc.2 h), if_pos h]
    refine TcRuns.bind (TcRuns.load_in (X := A.1) zero2
      (place_in (place_in (place_in (place_in (place_in place1)))))) ?_
    refine TcRuns.bind (TcRuns.store_in (X := A.1) zero2
      (place_in (place_in (place_in (place_in (place_in place1)))))) ?_
    refine TcRuns.bind (TcRuns.load_in (X := A.2) zero2
      (place_in (place_in (place_in (place_in (place_in (place_in place_last))))))) ?_
    refine TcRuns.bind (TcRuns.store_in (X := A.2) zero2
      (place_in (place_in (place_in (place_in (place_in (place_in place_last))))))) ?_
    refine TcRuns.bind (TcRuns.load_in zero2 place1) ?_
    refine TcRuns.bind (TcRuns.load_in zero2 (place_in place1)) ?_
    refine TcRuns.bind (TcRuns.load_in zero3 (place_in (place_in place1))) ?_
    refine TcRuns.bind (TcRuns.load_in zero2
      (place_in (place_in (place_in (place_in (place_in place1)))))) ?_
    refine TcRuns.bind (TcRuns.load_in zero2
      (place_in (place_in (place_in (place_in (place_in place1)))))) ?_
    exact TcRuns.pure _ _
  · rw [dif_neg fun e => h (hc.1 e), if_neg h]
    refine TcRuns.bind (TcRuns.load_in zero2 place1) ?_
    refine TcRuns.bind (TcRuns.load_in zero2 (place_in place1)) ?_
    refine TcRuns.bind (TcRuns.load_in zero3 (place_in (place_in place1))) ?_
    refine TcRuns.bind (TcRuns.load_in zero2
      (place_in (place_in (place_in (place_in (place_in place1)))))) ?_
    refine TcRuns.bind (TcRuns.load_in zero2
      (place_in (place_in (place_in (place_in (place_in place1)))))) ?_
    exact TcRuns.pure _ _

/-- The results' blocks after a point: the running sums at the last point, else as before. -/
def tcOut (i : grid1.Coords) (Y A : TcAcc F) : TcAcc F := if (i 0).val = 16 then A else Y

/-- One grid point. -/
theorem body_run :
    TcRuns d (tcHeld (d := d) arg1 arg2 arg3 arg4 arg5 arg6 arg7 X wt B Y A)
      (cc1__tc_body (F := F) i arg1 harg1 arg2 harg2 arg3 harg3 arg4 harg4 arg5 harg5 arg6 harg6 arg7 harg7)
      ⟨⟩
      (tcHeld (d := d) arg1 arg2 arg3 arg4 arg5 arg6 arg7 X wt B
        (tcOut i Y (tcStep i X wt B (tcFrom i A))) (tcStep i X wt B (tcFrom i A))) := by
  rw [cc1__tc_body_eq_skeleton]
  unfold cc1__tc_body_skel
  refine TcRuns.bind (part1_run i arg1 harg1 arg2 harg2 arg3 harg3 arg4 harg4 arg5 harg5 arg6 harg6
    arg7 harg7 X wt B Y A) ?_
  unfold tcHeld
  refine TcRuns.bind (TcRuns.store_in zero2
    (place_in (place_in (place_in (place_in (place_in place1)))))) ?_
  refine TcRuns.bind (TcRuns.load_in zero2
    (place_in (place_in (place_in (place_in (place_in (place_in place_last))))))) ?_
  refine TcRuns.bind (TcRuns.load_in zero2
    (place_in (place_in (place_in (place_in (place_in (place_in place_last))))))) ?_
  refine TcRuns.bind (TcRuns.store_in zero2
    (place_in (place_in (place_in (place_in (place_in (place_in place_last))))))) ?_
  dsimp only
  unfold tcOut
  by_cases h : (i 0).val = 16
  · rw [dif_pos ((last_iff i).2 h), if_pos h]
    refine TcRuns.bind (TcRuns.load_in zero2
      (place_in (place_in (place_in (place_in (place_in place1)))))) ?_
    refine TcRuns.bind (TcRuns.load_in zero2 (place_in (place_in (place_in place1)))) ?_
    refine TcRuns.bind (TcRuns.store_in zero2 (place_in (place_in (place_in place1)))) ?_
    refine TcRuns.bind (TcRuns.load_in zero2
      (place_in (place_in (place_in (place_in (place_in (place_in place_last))))))) ?_
    refine TcRuns.bind (TcRuns.load_in zero2 (place_in (place_in (place_in (place_in place1))))) ?_
    refine TcRuns.bind (TcRuns.store_in zero2 (place_in (place_in (place_in (place_in place1))))) ?_
    exact TcRuns.pure _ _
  · rw [dif_neg fun e => h ((last_iff i).1 e), if_neg h]
    exact TcRuns.pure _ _

end Body

section Combine

variable (arg0 : Memref sig .tc .vmem S32x64x128 .f32) (harg0 : arg0.IsWhole)
  (arg1 : Memref sig .tc .vmem S32x64x16 .f32) (harg1 : arg1.IsWhole)
  (arg2 : Memref sig .tc .vmem S64x128 .f32) (harg2 : arg2.IsWhole)
  (arg3 : Memref sig .tc .vmem S64x1 .f32) (harg3 : arg3.IsWhole)
  (arg4 : Memref sig .tc .vmem S64x128 .f32) (harg4 : arg4.IsWhole)
  (V : S32x64x128.Idx → F .f32) (N : S32x64x16.Idx → F .f32) (Z Y : S64x128.Idx → F .f32)
  (M : S64x1.Idx → F .f32)

/-- The combining kernel: the tiles' partial sums and the TensorCore's, added and divided. -/
theorem combine_run :
    TcRuns d (iprop(has d arg0 V ∗ has d arg1 N ∗ has d arg2 Z ∗ has d arg3 M ∗ has d arg4 Y))
      (cc2__combine_body (F := F) arg0 harg0 arg1 harg1 arg2 harg2 arg3 harg3 arg4 harg4) ⟨⟩
      (iprop(has d arg0 V ∗ has d arg1 N ∗ has d arg2 Z ∗ has d arg3 M ∗ has d arg4 (k2_pay1 V Z N M))) := by
  rw [cc2__combine_body_eq_skeleton]
  unfold cc2__combine_body_skel
  refine TcRuns.bind (TcRuns.load_in zero3 place1) ?_
  refine TcRuns.bind (TcRuns.load_in zero2 (place_in (place_in place1))) ?_
  refine TcRuns.bind (TcRuns.load_in zero3 (place_in place1)) ?_
  refine TcRuns.bind (TcRuns.load_in zero2 (place_in (place_in (place_in place1)))) ?_
  refine TcRuns.bind (TcRuns.load_in (X := Y) zero2 (place_in (place_in (place_in (place_in place_last))))) ?_
  refine TcRuns.bind (TcRuns.store_in (X := Y) zero2 (place_in (place_in (place_in (place_in place_last))))) ?_
  exact TcRuns.pure _ _

end Combine

end Cert.Proof
-- ==== Proof.Combine.lean ====
module

public import proofs.«01_k».proof.Proof.TcBody
public import Idealize.ShloMosaic.Lib.Pipeline.Value
public import proofs.«01_k».proof.Proof.Gen.KernelIdeal.Launch
public import proofs.«01_k».proof.Proof.Gen.KernelIdeal.Points

/-! The combining kernel as a launch: what its five windows hold, and its body's obligation. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

open Idealize.ShloMosaic.Pipeline (Dat Cfg Window BodyObligation BodyObligationLoose)

/-- Contents of every buffer of every core. -/
abbrev Vals (F : FTy → Type) : Type :=
  (c : Dev nD) → (b : Ref sig .tc) → Buf (Elt F) ((c.tc : Thread nD τ).loc b)

variable (V : Vals F)

/-- The waits a TensorCore has on record once the SparseCores' call is over. -/
def below (c : Dev nD) : Set (SemLoc sig × HIx 1) :=
  {p | (K (F := F)).lev (SparseCore.T c, p.1) p.2 ≤ 8 * (inferInstance : SparseCore.Cfg.Blocks 1 1).fst 1}

omit [FloatOps F] in
/-- A window's block at index zero on every axis has each element at its own place. -/
theorem emb_all {G : Pipeline.Grid} (w : Window sig G) (t : Fin G.N) (h : ∀ a, w.index t a = 0)
    (y : (w.xblock (G.coords t)).Idx) (x : w.shape.Idx) (hx : ∀ a, (x a : ℕ) = y a) :
    (w.rect t).emb y = x :=
  funext fun a => Fin.ext ((Window.rect_emb_val_of_index_zero w t a (h a) y).trans (hx a).symm)

theorem read2_0 (f : S32x64x128.Idx → F .f32) : ((cfg2.win 0).blk t2_0).view.read (Elt F) f = f :=
  funext fun y => congrArg f (emb_all win2_0 t2_0 (by decide) y y fun _ => rfl)

theorem read2_1 (f : S32x64x16.Idx → F .f32) : ((cfg2.win 1).blk t2_0).view.read (Elt F) f = f :=
  funext fun y => congrArg f (emb_all win2_1 t2_0 (by decide) y y fun _ => rfl)

theorem read2_2 (f : S64x128.Idx → F .f32) : ((cfg2.win 2).blk t2_0).view.read (Elt F) f = f :=
  funext fun y => congrArg f (emb_all win2_2 t2_0 (by decide) y y fun _ => rfl)

theorem read2_3 (f : S64x1.Idx → F .f32) : ((cfg2.win 3).blk t2_0).view.read (Elt F) f = f :=
  funext fun y => congrArg f (emb_all win2_3 t2_0 (by decide) y y fun _ => rfl)

theorem read2_4 (f : S64x128.Idx → F .f32) : ((cfg2.win 4).blk t2_0).view.read (Elt F) f = f :=
  funext fun y => congrArg f (emb_all win2_4 t2_0 (by decide) y y fun _ => rfl)

/-- What the combining kernel stores. -/
def combined (c : Dev nD) : S64x128.Idx → F .f32 :=
  k2_pay1 (V c main_v3_0) (V c main_v4_0) (V c main_v3_1) (V c main_v4_1)

/-- The combining kernel's windows at the point: the operands as they were, the result stored. -/
def dat2 (c : Dev nD) : Dat τ (Elt F) (HIx 1) ℕ UU ℕ cfg2 c where
  A w := V c (Pipeline.arrRef spec2 w)
  after w _ := match w with
    | ⟨0, _⟩ => V c main_v3_0
    | ⟨1, _⟩ => V c main_v3_1
    | ⟨2, _⟩ => V c main_v4_0
    | ⟨3, _⟩ => V c main_v4_1
    | ⟨4, _⟩ => combined V c
  Φ _ := Pipeline.scopedRest (Ix := HIx 1) (Name := ℕ) (U := UU) (Lvl := ℕ) (Val := Elt F) spec2 c
  q _ := fullShare
  owed _ := 0
  recorded _ := below (F := F) c

theorem before2_0 (c : Dev nD) (x : S32x64x128.Idx → F .f32) : (dat2 V c).before 0 t2_0 x = V c main_v3_0 := by
  unfold Dat.before; rw [if_pos (by decide)]; exact read2_0 (F := F) _

theorem before2_1 (c : Dev nD) (x : S32x64x16.Idx → F .f32) : (dat2 V c).before 1 t2_0 x = V c main_v3_1 := by
  unfold Dat.before; rw [if_pos (by decide)]; exact read2_1 (F := F) _

theorem before2_2 (c : Dev nD) (x : S64x128.Idx → F .f32) : (dat2 V c).before 2 t2_0 x = V c main_v4_0 := by
  unfold Dat.before; rw [if_pos (by decide)]; exact read2_2 (F := F) _

theorem before2_3 (c : Dev nD) (x : S64x1.Idx → F .f32) : (dat2 V c).before 3 t2_0 x = V c main_v4_1 := by
  unfold Dat.before; rw [if_pos (by decide)]; exact read2_3 (F := F) _

set_option backward.isDefEq.respectTransparency.types false in
/-- The combining kernel meets its obligation. -/
theorem obligation2 (c : Dev nD) : BodyObligation (dat2 V c) (defs₀ (F := F)) 𝒱₀ none Set.univ := fun t => by
  obtain rfl := fin_N2 t
  rw [bigSep_W2, bigSep_W2]
  iintro ⟨HΦ, Howes, ⟨%d0, H0⟩, ⟨%d1, H1⟩, ⟨%d2, H2⟩, ⟨%d3, H3⟩, ⟨%d4, H4⟩⟩
  rw [show (dat2 V c).Φ t2_0.succ = (dat2 V c).Φ t2_0.castSucc from rfl,
    show (dat2 V c).owesAt none t2_0.succ = (dat2 V c).owesAt none t2_0.castSucc from rfl]
  rw [before2_0, before2_1, before2_2, before2_3]
  iapply (combine_run (d := c) (st2_0 t2_0) (hstage2_0 0) (st2_1 t2_0) (hstage2_1 0) (st2_2 t2_0) (hstage2_2 0)
    (st2_3 t2_0) (hstage2_3 0) (st2_4 t2_0) (hstage2_4 0) (V c main_v3_0) (V c main_v3_1) (V c main_v4_0)
    ((dat2 V c).before 4 t2_0 d4) (V c main_v4_1) _)
  isplitl [H0 H1 H2 H3 H4]
  · unfold has
    isplitl [H0]; · iexact H0
    isplitl [H1]; · iexact H1
    isplitl [H2]; · iexact H2
    isplitl [H3]; · iexact H3
    iexact H4
  unfold has
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The result's array afterwards. -/
theorem arr2 (c : Dev nD) : (dat2 V c).arrAt 4 cfg2.N = combined V c :=
  (dat2 V c).arrAt_eq_of_cover 4 (combined V c) (fun t _ => by
      obtain rfl := fin_N2 t
      exact (read2_4 _).symm) fun i =>
    ⟨t2_0, flush2_4 t2_0, by
      have h := View.emb_mem_set ((cfg2.win 4).blk t2_0).view i
      have e : ((cfg2.win 4).blk t2_0).view.emb i = i := emb_all win2_4 t2_0 (by decide) i i fun _ => rfl
      rw [e] at h; exact h⟩

end Cert.Proof
-- ==== Proof.Partial.lean ====
module

public import proofs.«01_k».proof.Proof.Combine
public import Idealize.ShloMosaic.Lib.Pointwise

/-! The TensorCore's partial sums as a launch: what its blocks hold at each of the seventeen points, and its body's
obligation. The last block of the rows overhangs the array; the body masks what lies past the end, so the sums do not
depend on it. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

open Idealize.ShloMosaic.Pipeline (Dat Cfg Window BodyObligation BodyObligationLoose)

variable (V : Vals F)

theorem coords_val : ∀ t : Fin grid1.N, (grid1.coords t 0).val = t.val := by decide

/-- The point of a number below 17. -/
def pt (n : ℕ) (h : n < 17) : Fin grid1.N := ⟨n, by rw [N_1]; exact h⟩

/-- The rows of block `n`, zero past the array's end. -/
def tcRows (x : S100000x128.Idx → F .f32) (n : ℕ) : S3840x128.Idx → F .f32 := fun y =>
  if h : (n + 10) * 3840 + (y 0).val < 100000 then x (ValueIdx.ix2 ⟨_, h⟩ (y 1)) else Scalar.ofBits .f32 0

/-- The segment ids of block `n`. -/
def tcSegs (b : S17x1x3840.Idx → BitVec 32) (n : Fin 17) : S1x1x3840.Idx → BitVec 32 := fun y => b (ValueIdx.ix3 n 0 (y 2))

/-- The running sums after `n` blocks. -/
def tcSums (x : S100000x128.Idx → F .f32) (wt : S1x128.Idx → F .f32) (b : S17x1x3840.Idx → BitVec 32) : ℕ → TcAcc F
  | 0 => tcZero
  | n + 1 => if h : n < 17 then tcStep (grid1.coords (pt n h)) (tcRows x n) wt (tcSegs b ⟨n, h⟩) (tcSums x wt b n)
      else tcSums x wt b n

/-! ## The mask -/

/-- Row `r` of block `i` is in the array exactly where the mask is set. -/
theorem mask_iff (i : grid1.Coords) (y : S3840x1.Idx) :
    k1_pay5 i y = 1#1 ↔ ((i 0).val + 10) * 3840 + (y 0).val < 100000 := by
  have h0 : (i 0).val < 17 := (i 0).isLt
  have h1 : (y 0).val < 3840 := (y 0).isLt
  unfold k1_pay5
  simp only [pointwise]
  have e : IntOp.addi (Scalar.muli (Scalar.addi (BitVec.ofNat 32 (i 0).val) 10#32) 3840#32)
      (BitVec.ofNat 32 (List.foldl (fun n a => n * S3840x1.size a + (y a).val) 0 [0]))
      = BitVec.ofNat 32 (((i 0).val + 10) * 3840 + (y 0).val) := by
    show (BitVec.ofNat 32 (i 0).val + 10#32) * 3840#32 + BitVec.ofNat 32 (0 * 3840 + (y 0).val) = _
    apply BitVec.eq_of_toNat_eq
    simp only [BitVec.toNat_add, BitVec.toNat_mul, BitVec.toNat_ofNat]
    omega
  refine Iff.trans (Eq.to_iff (congrArg (fun a => IntOp.cmpi CmpIPredicate.slt a 100000#32 = 1#1) e)) ?_
  generalize hn : ((i 0).val + 10) * 3840 + (y 0).val = n
  have hs : (BitVec.ofNat 32 n).slt 100000#32 = decide (n < 100000) := by
    rw [BitVec.slt_eq_decide, BitVec.toInt_eq_toNat_of_lt (by simp only [BitVec.toNat_ofNat]; omega)]
    simp only [BitVec.toNat_ofNat, Nat.mod_eq_of_lt (show n < 2 ^ 32 by omega)]
    rw [show (100000#32 : BitVec 32).toInt = 100000 from by decide]
    exact decide_eq_decide.2 (by omega)
  show BitVec.ofBool ((BitVec.ofNat 32 n).slt 100000#32) = 1#1 ↔ _
  rw [hs]
  by_cases h : n < 100000 <;> simp [h]

omit [FloatOps F] in
theorem select_congr (c : BitVec 1) (a b z : F .f32) (h : c = 1#1 → a = b) :
    Scalar.select c a z = Scalar.select c b z := by
  unfold Scalar.select
  split
  · exact h ‹_›
  · rfl

/-- A step depends on its rows only where they are in the array. -/
theorem tcStep_congr (i : grid1.Coords) (X X' : S3840x128.Idx → F .f32) (wt : S1x128.Idx → F .f32)
    (B : S1x1x3840.Idx → BitVec 32) (A : TcAcc F)
    (h : ∀ y, ((i 0).val + 10) * 3840 + (y 0).val < 100000 → X y = X' y) : tcStep i X wt B A = tcStep i X' wt B A := by
  have e : k1_pay6 i X = k1_pay6 i X' := by
    funext y
    unfold k1_pay6
    simp only [pointwise]
    exact select_congr _ _ _ _ fun hm => h y ((mask_iff i _).1 hm)
  unfold tcStep k1_pay9 k1_pay7
  rw [e]

/-! ## The windows -/

theorem xsize1_0 : ∀ t : Fin grid1.N, win1_0.xsize (grid1.coords t) 0 = min 3840 (100000 - (t.val + 10) * 3840) := by
  decide

theorem index1_0 : ∀ t : Fin grid1.N, win1_0.index t 0 = t.val + 10 ∧ win1_0.index t 1 = 0 := by
  decide

theorem index1_2 : ∀ t : Fin grid1.N, win1_2.index t 0 = t.val ∧ win1_2.index t 1 = 0 ∧ win1_2.index t 2 = 0 := by
  decide

/-- A fetched block of rows has the array's rows wherever they are in the array. -/
theorem rows_fetched (t : Fin grid1.N) (x : S100000x128.Idx → F .f32) (g : S3840x128.Idx → F .f32) (y : S3840x128.Idx)
    (h : (t.val + 10) * 3840 + (y 0).val < 100000) :
    win1_0.fill (grid1.coords t) g ((win1_0.blk t).view.read (Elt F) x) y = tcRows x t.val y := by
  have hm : win1_0.moved (grid1.coords t) y = true := (win1_0.moved_iff _ y).mpr fun a => by
    match a with
    | ⟨0, _⟩ =>
      refine Nat.lt_of_lt_of_eq ?_ (xsize1_0 t).symm
      have := (y 0).isLt
      refine Nat.lt_min.2 ⟨this, ?_⟩
      show (y 0).val < _
      omega
    | ⟨1, _⟩ => exact (y 1).isLt
  unfold Window.fill
  rw [dif_pos hm]
  unfold tcRows
  rw [dif_pos h]
  refine congrArg x (funext fun a => Fin.ext ?_)
  refine (Pipeline.Window.rect_emb_val win1_0 t _ a).trans ?_
  match a with
  | ⟨0, _⟩ => exact congrArg (fun n => n * 3840 + (y 0).val) (index1_0 t).1
  | ⟨1, _⟩ => exact (congrArg (fun n => n * 128 + (y 1).val) (index1_0 t).2).trans (by simp [ValueIdx.ix2])

end Cert.Proof
-- ==== Proof.PartialRun.lean ====
module

public import proofs.«01_k».proof.Proof.Partial
public import Idealize.ShloMosaic.Lib.Pipeline.Frame

/-! The TensorCore's partial sums, point by point: the body's obligation, and the two results' arrays afterwards. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

open Idealize.ShloMosaic.Pipeline (Dat Cfg Window BodyObligation BodyObligationLoose)

variable (V : Vals F)

/-- The running sums of core `c` after `n` blocks. -/
abbrev sumsOf (c : Dev nD) (n : ℕ) : TcAcc F := tcSums (V c main_arg0) (V c main_arg1) (V c main_v2) n

/-- The staging buffers of the combining kernel, at anything. -/
def others (c : Dev nD) : sProp (MM F) :=
  iprop((∃ f : Buf (Elt F) ((c.tc : Thread nD τ).loc cc2_stg0_0), ((c.tc : Thread nD τ).loc cc2_stg0_0) ↦{fullShare} f)
    ∗ (∃ f : Buf (Elt F) ((c.tc : Thread nD τ).loc cc2_stg1_0), ((c.tc : Thread nD τ).loc cc2_stg1_0) ↦{fullShare} f)
    ∗ (∃ f : Buf (Elt F) ((c.tc : Thread nD τ).loc cc2_stg2_0), ((c.tc : Thread nD τ).loc cc2_stg2_0) ↦{fullShare} f)
    ∗ (∃ f : Buf (Elt F) ((c.tc : Thread nD τ).loc cc2_stg3_0), ((c.tc : Thread nD τ).loc cc2_stg3_0) ↦{fullShare} f)
    ∗ (∃ f : Buf (Elt F) ((c.tc : Thread nD τ).loc cc2_stg4_0), ((c.tc : Thread nD τ).loc cc2_stg4_0) ↦{fullShare} f))

/-- Between points: the running sums after `n` blocks, anything before the first. -/
def running (c : Dev nD) (n : ℕ) : sProp (MM F) :=
  iprop(∃ A : TcAcc F, ⌜n ≠ 0 → A = sumsOf V c n⌝ ∗ has c (Memref.whole cc1_scratch0) A.1
    ∗ has c (Memref.whole cc1_scratch1) A.2 ∗ others c)

variable [∀ e, Nonempty (Elt F e)]

/-- The launch's windows at each point. -/
def dat1 (c : Dev nD) : Dat τ (Elt F) (HIx 1) ℕ UU ℕ cfg1 c where
  A w := V c (Pipeline.arrRef spec1 w)
  after w t := match w with
    | ⟨0, _⟩ => win1_0.fill (grid1.coords t) (fun _ => Classical.arbitrary _)
        ((win1_0.blk t).view.read (Elt F) (V c main_arg0))
    | ⟨1, _⟩ => V c main_arg1
    | ⟨2, _⟩ => tcSegs (V c main_v2) ⟨t.val, Nat.lt_of_lt_of_eq t.isLt N_1⟩
    | ⟨3, _⟩ => (sumsOf V c (t.val + 1)).1
    | ⟨4, _⟩ => (sumsOf V c (t.val + 1)).2
  Φ n := running V c n.val
  q _ := fullShare
  owed _ := 0
  recorded _ := below (F := F) c

theorem before1_0 (c : Dev nD) (t : Fin cfg1.N) (g : S3840x128.Idx → F .f32) :
    (dat1 V c).before 0 t g
      = win1_0.fill (grid1.coords t) g ((win1_0.blk t).view.read (Elt F) (V c main_arg0)) :=
  (dat1 V c).before_fetched 0 t (fetch1_0 t) g

omit [∀ e, Nonempty (Elt F e)] in
theorem read1_1 (t : Fin grid1.N) (f : S1x128.Idx → F .f32) : (win1_1.blk t).view.read (Elt F) f = f :=
  funext fun y => congrArg f (emb_all win1_1 t ((by decide : ∀ (t : Fin grid1.N) a, win1_1.index t a = 0) t) y y fun _ => rfl)

theorem before1_1 (c : Dev nD) (t : Fin cfg1.N) (g : S1x128.Idx → F .f32) :
    (dat1 V c).before 1 t g = V c main_arg1 := by
  by_cases hf : (cfg1.win 1).fetch t = true
  · exact ((dat1 V c).before_fetched 1 t hf g).trans (read1_1 (F := F) t (V c main_arg1))
  · exact (dat1 V c).before_unfetched_in 1 rfl t (Bool.eq_false_iff.mpr hf) (fun _ => rfl) g

theorem before1_2 (c : Dev nD) (t : Fin cfg1.N) (g : S1x1x3840.Idx → BitVec 32) :
    (dat1 V c).before 2 t g = tcSegs (V c main_v2) ⟨t.val, Nat.lt_of_lt_of_eq t.isLt N_1⟩ := by
  refine ((dat1 V c).before_fetched 2 t (fetch1_2 t) g).trans (funext fun y => ?_)
  refine congrArg (V c main_v2) (funext fun a => Fin.ext ?_)
  refine (Pipeline.Window.rect_emb_val win1_2 t y a).trans ?_
  have h0 : (y 0).val = 0 := Nat.lt_one_iff.1 (y 0).isLt
  have h1 : (y 1).val = 0 := Nat.lt_one_iff.1 (y 1).isLt
  match a with
  | ⟨0, _⟩ => exact (congrArg₂ (fun n m => n * 1 + m) (index1_2 t).1 h0).trans (by simp [ValueIdx.ix3])
  | ⟨1, _⟩ => exact (congrArg₂ (fun n m => n * 1 + m) (index1_2 t).2.1 h1).trans (by simp [ValueIdx.ix3])
  | ⟨2, _⟩ => exact (congrArg (fun n => n * 3840 + (y 2).val) (index1_2 t).2.2).trans (by simp [ValueIdx.ix3])

omit [∀ e, Nonempty (Elt F e)] in
/-- One point's step, from whatever the fetched block holds past the array's end. -/
theorem sums_succ (c : Dev nD) (t : Fin grid1.N) (g : S3840x128.Idx → F .f32) (A : TcAcc F)
    (hA : t.val ≠ 0 → A = sumsOf V c t.val) :
    tcStep (grid1.coords t) (win1_0.fill (grid1.coords t) g ((win1_0.blk t).view.read (Elt F) (V c main_arg0)))
        (V c main_arg1) (tcSegs (V c main_v2) ⟨t.val, Nat.lt_of_lt_of_eq t.isLt N_1⟩) (tcFrom (grid1.coords t) A)
      = sumsOf V c (t.val + 1) := by
  have h17 : t.val < 17 := Nat.lt_of_lt_of_eq t.isLt N_1
  have e : tcFrom (grid1.coords t) A = sumsOf V c t.val := by
    unfold tcFrom
    rw [coords_val]
    by_cases h : t.val = 0
    · rw [if_pos h, h]; rfl
    · rw [if_neg h, hA h]
  rw [e]
  refine (tcStep_congr _ _ (tcRows (V c main_arg0) t.val) _ _ _ fun y hy => ?_).trans ?_
  · rw [coords_val] at hy
    exact rows_fetched t _ g y hy
  · show _ = tcSums _ _ _ (t.val + 1)
    rw [tcSums, dif_pos h17]
    rfl

/-- The rows' block is left as it was fetched, whatever lies past the array's end. -/
theorem leaves1_0 (c : Dev nD) (t : Fin cfg1.N) (g : S3840x128.Idx → F .f32) :
    has c (st1_0 t) (win1_0.fill (grid1.coords t) g ((win1_0.blk t).view.read (Elt F) (V c main_arg0)))
      ⊢ (dat1 V c).leaves 0 t := by
  show _ ⊢ iprop(∃ d, owns c.tc (st1_0 t) fullShare (win1_0.fill (grid1.coords t) d
    (win1_0.cut (grid1.coords t) (win1_0.fill (grid1.coords t) (fun _ => Classical.arbitrary _)
      ((win1_0.blk t).view.read (Elt F) (V c main_arg0))))))
  rw [Window.cut_fill]
  unfold has
  iintro H
  iexists g
  iexact H

/-- The results' blocks: what is left of them after a point. -/
theorem leaves1 (c : Dev nD) (t : Fin cfg1.N) (g3 : S64x128.Idx → F .f32) (g4 : S64x1.Idx → F .f32)
    (Y : TcAcc F) (h3 : (dat1 V c).before 3 t g3 = Y.1) (h4 : (dat1 V c).before 4 t g4 = Y.2) :
    iprop(has c (st1_3 t) (tcOut (grid1.coords t) Y (sumsOf V c (t.val + 1))).1
        ∗ has c (st1_4 t) (tcOut (grid1.coords t) Y (sumsOf V c (t.val + 1))).2)
      ⊢ iprop((dat1 V c).leaves 3 t ∗ (dat1 V c).leaves 4 t) := by
  have h17 : t.val < 17 := Nat.lt_of_lt_of_eq t.isLt N_1
  unfold tcOut has
  rw [coords_val]
  by_cases h : t.val = 16
  · have hi : k1_cond2 (grid1.coords t) = 1#1 := (last_iff _).2 ((coords_val t).trans h)
    have hi3 : cfg1.idle 3 (cfg1.grid.coords t) = false := by
      show (!(k1_cond2 (grid1.coords t) == 1#1)) = false
      rw [hi]; rfl
    rw [if_pos h]
    unfold Dat.leaves
    rw [hi3]
    exact BIBase.Entails.rfl
  · have hi : k1_cond2 (grid1.coords t) ≠ 1#1 := fun e => h ((coords_val t).symm.trans ((last_iff _).1 e))
    have hi3 : cfg1.idle 3 (cfg1.grid.coords t) = true := by
      show (!(k1_cond2 (grid1.coords t) == 1#1)) = true
      rw [beq_eq_false_iff_ne.2 hi]; rfl
    have hi4 : cfg1.idle 4 (cfg1.grid.coords t) = true := hi3
    rw [if_neg h, Dat.leaves_idle _ _ _ hi3 (Bool.eq_false_iff.2 fun e => h (by have := (flush1_3 t).1 e; omega)),
      Dat.leaves_idle _ _ _ hi4 (Bool.eq_false_iff.2 fun e => h (by have := (flush1_4 t).1 e; omega))]
    iintro ⟨H3, H4⟩
    isplitl [H3]
    · iexists g3; rw [h3]; iexact H3
    · iexists g4; rw [h4]; iexact H4

set_option backward.isDefEq.respectTransparency.types false in
/-- The partial sums' body meets its obligation. -/
theorem obligation1 (c : Dev nD) : BodyObligationLoose (dat1 V c) (defs₀ (F := F)) 𝒱₀ none Set.univ := fun t => by
  show _ ⊢ wp _ _ _ _ fun _ => iprop((dat1 V c).Φ t.succ ∗ (dat1 V c).owesAt none t.succ
    ∗ bigSep Finset.univ fun w : Fin 5 => (dat1 V c).leaves w t)
  rw [bigSep_W1, bigSep_W1]
  rw [show (dat1 V c).Φ t.succ = running V c (t.val + 1) from rfl,
    show (dat1 V c).Φ t.castSucc = running V c t.val from rfl,
    show (dat1 V c).owesAt none t.succ = (dat1 V c).owesAt none t.castSucc from rfl]
  unfold running
  iintro ⟨⟨%A, %hA, Hs0, Hs1, Hrest⟩, Howes, ⟨%d0, H0⟩, ⟨%d1, H1⟩, ⟨%d2, H2⟩, ⟨%d3, H3⟩, ⟨%d4, H4⟩⟩
  rw [before1_0, before1_1, before1_2]
  iapply (body_run (d := c) (grid1.coords t) (st1_0 t) (hstage1_0 ((cfg1.slots t 0).cast nbuf1_0))
    (st1_1 t) (hstage1_1 ((cfg1.slots t 1).cast nbuf1_1)) (st1_2 t) (hstage1_2 ((cfg1.slots t 2).cast nbuf1_2))
    (st1_3 t) (hstage1_3 ((cfg1.slots t 3).cast nbuf1_3)) (st1_4 t) (hstage1_4 ((cfg1.slots t 4).cast nbuf1_4))
    (Memref.whole cc1_scratch0) (Memref.isWhole_whole _) (Memref.whole cc1_scratch1) (Memref.isWhole_whole _)
    (win1_0.fill (grid1.coords t) d0 ((win1_0.blk t).view.read (Elt F) (V c main_arg0))) (V c main_arg1)
    (tcSegs (V c main_v2) ⟨t.val, Nat.lt_of_lt_of_eq t.isLt N_1⟩)
    ((dat1 V c).before 3 t d3, (dat1 V c).before 4 t d4) A _)
  unfold tcHeld
  isplitl [H0 H1 H2 H3 H4 Hs0 Hs1]
  · unfold has
    isplitl [H0]; · iexact H0
    isplitl [H1]; · iexact H1
    isplitl [H2]; · iexact H2
    isplitl [H3]; · iexact H3
    isplitl [H4]; · iexact H4
    isplitl [Hs0]; · iexact Hs0
    iexact Hs1
  rw [sums_succ V c t d0 A hA]
  iintro ⟨H0, H1, H2, H3, H4, Hs0, Hs1⟩
  isplitl [Hs0 Hs1 Hrest]
  · iexists (sumsOf V c (t.val + 1))
    isplitr; · ipureintro; exact fun _ => rfl
    isplitl [Hs0]; · iexact Hs0
    isplitl [Hs1]; · iexact Hs1
    iexact Hrest
  isplitl [Howes]; · iexact Howes
  isplitl [H0]
  · iapply (leaves1_0 V c t d0); iexact H0
  isplitl [H1]; · unfold has; iexact H1
  isplitl [H2]; · unfold has; iexact H2
  iapply (leaves1 V c t d3 d4 ((dat1 V c).before 3 t d3, (dat1 V c).before 4 t d4) rfl rfl)
  isplitl [H3]; · iexact H3
  iexact H4

end Cert.Proof
-- ==== Proof.Regions.lean ====
module

public import proofs.«01_k».proof.Proof.PartialRun
public import Idealize.ShloMosaic.Lib.Pipeline.RegionsLoop

/-! The TensorCore's two launches over @main's state: every unscoped buffer held at a valuation, left at the valuation
with the results' arrays updated. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

open Idealize.ShloMosaic.Pipeline (Dat Cfg Window BodyObligation BodyObligationLoose)

variable (V : Vals F) [∀ e, Nonempty (Elt F e)]

omit [∀ e, Nonempty (Elt F e)] in
theorem read1_3 (t : Fin grid1.N) (f : S64x128.Idx → F .f32) : (win1_3.blk t).view.read (Elt F) f = f :=
  funext fun y => congrArg f (emb_all win1_3 t ((by decide : ∀ (t : Fin grid1.N) a, win1_3.index t a = 0) t) y y fun _ => rfl)

omit [∀ e, Nonempty (Elt F e)] in
theorem read1_4 (t : Fin grid1.N) (f : S64x1.Idx → F .f32) : (win1_4.blk t).view.read (Elt F) f = f :=
  funext fun y => congrArg f (emb_all win1_4 t ((by decide : ∀ (t : Fin grid1.N) a, win1_4.index t a = 0) t) y y fun _ => rfl)

/-- The last point. -/
abbrev last1 : Fin grid1.N := pt 16 (by decide)

/-- The partial weighted sums' array afterwards. -/
theorem arr1_3 (c : Dev nD) : (dat1 V c).arrAt 3 cfg1.N = (sumsOf V c 17).1 :=
  (dat1 V c).arrAt_eq_of_cover 3 (sumsOf V c 17).1 (fun t ht => by
      have h : t.val = 16 := by
        have := (flush1_3 t).1 ht
        have : t.val < 17 := Nat.lt_of_lt_of_eq t.isLt N_1
        omega
      refine Eq.trans ?_ (read1_3 (F := F) t (sumsOf V c 17).1).symm
      show (sumsOf V c (t.val + 1)).1 = _
      rw [h]) fun i =>
    ⟨last1, (flush1_3 last1).2 rfl, by
      have h := View.emb_mem_set ((cfg1.win 3).blk last1).view i
      have e : ((cfg1.win 3).blk last1).view.emb i = i := emb_all win1_3 last1 (by decide) i i fun _ => rfl
      rw [e] at h; exact h⟩

/-- The partial weights' array afterwards. -/
theorem arr1_4 (c : Dev nD) : (dat1 V c).arrAt 4 cfg1.N = (sumsOf V c 17).2 :=
  (dat1 V c).arrAt_eq_of_cover 4 (sumsOf V c 17).2 (fun t ht => by
      have h : t.val = 16 := by
        have := (flush1_4 t).1 ht
        have : t.val < 17 := Nat.lt_of_lt_of_eq t.isLt N_1
        omega
      refine Eq.trans ?_ (read1_4 (F := F) t (sumsOf V c 17).2).symm
      show (sumsOf V c (t.val + 1)).2 = _
      rw [h]) fun i =>
    ⟨last1, (flush1_4 last1).2 rfl, by
      have h := View.emb_mem_set ((cfg1.win 4).blk last1).view i
      have e : ((cfg1.win 4).blk last1).view.emb i = i := emb_all win1_4 last1 (by decide) i i fun _ => rfl
      rw [e] at h; exact h⟩

variable (adm : (p : Fin 2) → (pcfgs (F := F) p).Adm)

/-- Both launches' windows, at one valuation. -/
def pdats : (p : Fin 2) → (c : Dev nD) → Dat τ (Elt F) (HIx 1) ℕ UU ℕ (Pipeline.pin (pcfgs (F := F)) adm p) c
  | ⟨0, _⟩ => dat1 V
  | ⟨1, _⟩ => dat2 V

/-- What else @main's core holds between the launches. -/
abbrev free (c : Dev nD) : sProp (MM F) :=
  iprop(∃ W : Waits sig (HIx 1), ⌜∀ p ∈ W, p ∈ below (F := F) c⌝ ∗ owes (c.tc : Thread nD τ) (0 : CellTallies nD τ sig (HIx 1)) W)

variable (V' : Vals F)

omit [∀ e, Nonempty (Elt F e)] in
/-- Before the first point the running sums' buffers hold anything. -/
theorem running_start (c : Dev nD) :
    (Pipeline.scopedRest (Ix := HIx 1) (Name := ℕ) (U := UU) (Lvl := ℕ) (Val := Elt F) spec1 c : sProp (MM F))
      ⊢ running V c 0 := by
  rw [scopedRest1_eq]
  unfold running others has
  iintro ⟨⟨%f, H0⟩, ⟨%g, H1⟩, Hr⟩
  iexists ((f, g) : TcAcc F)
  isplitr; · ipureintro; exact fun h => absurd rfl h
  rw [owns_whole, owns_whole]
  isplitl [H0]; · iexact H0
  isplitl [H1]; · iexact H1
  iexact Hr

omit [∀ e, Nonempty (Elt F e)] in
/-- After the last they are given back. -/
theorem running_end (c : Dev nD) (n : ℕ) :
    running V c n
      ⊢ (Pipeline.scopedRest (Ix := HIx 1) (Name := ℕ) (U := UU) (Lvl := ℕ) (Val := Elt F) spec1 c : sProp (MM F)) := by
  rw [scopedRest1_eq]
  unfold running others has
  simp only [owns_whole]
  iintro ⟨%A, -, H0, H1, Hr⟩
  isplitl [H0]; · iexists A.1; iexact H0
  isplitl [H1]; · iexists A.2; iexact H1
  iexact Hr

set_option backward.isDefEq.respectTransparency.types false in
/-- The partial sums' launch. -/
def reg1 (h0 : ∀ c, V' c main_v4_0 = (sumsOf V c 17).1) (h1 : ∀ c, V' c main_v4_1 = (sumsOf V c 17).2)
    (hne : ∀ c (b : Ref sig .tc), b ≠ main_v4_0 → b ≠ main_v4_1 → V' c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := obligation1 V c
  hwaits := Pipeline.hwaits_of_owed_zero _ _ _ _ (K (F := F)).L (K (F := F)).lev 0 fun _ _ => rfl
  pre c := iprop(unscopedBufs c (V c) ∗ free c)
  post c := iprop(unscopedBufs c (V' c) ∗ free c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) launch1.win
      launch1.arr_whole c ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = running V c 0 from rfl]
    iintro ⟨-, -, Hr⟩
    iapply (running_start V c); iexact Hr
  hout c := by
    rw [Pipeline.ownSems0_none, show (pdats V adm 0 c).Φ (Fin.last _) = running V c 17 from rfl]
    iintro Hr
    isplitr; · iempintro
    isplitr; · iempintro
    iapply (running_end V c 17); iexact Hr
  hexit c := by
    have hjoin := Pipeline.unscopedBufs_of_arrays (p := 0) (pcfgs (F := F)) adm (Ix := HIx 1) (Name := ℕ) (U := UU) (Lvl := ℕ)
      launch1.win launch1.arr_whole c
      (pdats V adm) ((pdats V adm 0 c).share_full fun _ => rfl) (V c) (V' c) ((pdats V adm 0 c).arrAt · cfg1.N)
      (fun w => by
        fin_cases w
        · exact ((pdats V adm 0 c).arrAt_in 0 rfl _).trans (hne c main_arg0 (by decide) (by decide)).symm
        · exact ((pdats V adm 0 c).arrAt_in 1 rfl _).trans (hne c main_arg1 (by decide) (by decide)).symm
        · exact ((pdats V adm 0 c).arrAt_in 2 rfl _).trans (hne c main_v2 (by decide) (by decide)).symm
        · exact (arr1_3 V c).trans (h0 c).symm
        · exact (arr1_4 V c).trans (h1 c).symm)
      (fun b hb => hne c b (fun h => hb (h ▸ Finset.mem_image.mpr ⟨3, Finset.mem_univ _, rfl⟩))
        (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact fun p hp => (hW hp).elim id fun ⟨_, _, e⟩ => e ▸ Nat.zero_le _
    iexact HO

set_option backward.isDefEq.respectTransparency.types false in
/-- The combining launch. -/
def reg2 (hout : ∀ c, V' c main_v5 = combined V c) (hne : ∀ c (b : Ref sig .tc), b ≠ main_v5 → V' c b = V c b) :
    Pipeline.RegionSeg (pcfgs (F := F)) adm (pdats V adm) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (obligation2 V c).loose
  hwaits := Pipeline.hwaits_of_owed_zero _ _ _ _ (K (F := F)).L (K (F := F)).lev 1 fun _ _ => rfl
  pre c := iprop(unscopedBufs c (V c) ∗ free c)
  post c := iprop(unscopedBufs c (V' c) ∗ free c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats V adm) launch2.win
      launch2.arr_whole c ((pdats V adm 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 1 c).Φ 0 = Pipeline.scopedRest spec2 c from rfl]
    iintro ⟨-, -, Hr⟩; iexact Hr
  hout c := by
    rw [Pipeline.ownSems0_none, show (pdats V adm 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c
      (pdats V adm) ((pdats V adm 1 c).share_full fun _ => rfl) (V c) (V' c) ((pdats V adm 1 c).arrAt · cfg2.N)
      (fun w => by
        fin_cases w
        · exact ((pdats V adm 1 c).arrAt_in 0 rfl _).trans (hne c main_v3_0 (by decide)).symm
        · exact ((pdats V adm 1 c).arrAt_in 1 rfl _).trans (hne c main_v3_1 (by decide)).symm
        · exact ((pdats V adm 1 c).arrAt_in 2 rfl _).trans (hne c main_v4_0 (by decide)).symm
        · exact ((pdats V adm 1 c).arrAt_in 3 rfl _).trans (hne c main_v4_1 (by decide)).symm
        · exact (arr2 V c).trans (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; · ipureintro; exact fun p hp => (hW hp).elim id fun ⟨_, _, e⟩ => e ▸ Nat.zero_le _
    iexact HO

end Cert.Proof
-- ==== Proof.Dma.lean ====
module

public import proofs.«01_k».proof.Proof.Setup
public import Idealize.ShloMosaic.Lib.Transfers

/-! A tile's local copies and counted loops, as rules of the judgement `Runs`. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers

variable {F : FTy → Type}

/-- Where the counters of the copies in flight live. -/
abbrev EC : UEmb Counters (MM F) := countersEmb

/-- A copy in flight keeps what is not its own. -/
theorem flight_frame (thr : Thread nD τ) (sm : SemLoc sig) (N : ℕ) (D R : sProp (MM F)) :
    iprop(Flight EC thr sm (default : HIx 1) N D ∗ R)
      ⊢ Flight EC thr sm (default : HIx 1) N iprop(D ∗ R) := by
  unfold Flight
  iintro ⟨⟨⟨%P, HP, %hcap, %hpeek⟩, Hcred⟩, HR⟩
  isplitl [HP HR]
  · iexists iprop(P ∗ R)
    isplitl [HP HR]; · isplitl [HP] <;> iassumption
    isplit
    · ipureintro
      intro C
      refine BIBase.Entails.trans ?_ (hcap C)
      iintro ⟨⟨HP, HR⟩, HC⟩
      isplitl [HP]; · iexact HP
      iintro ⟨Hv, HD⟩
      iapply HC
      isplitl [Hv]; · iexact Hv
      isplitl [HD] <;> iassumption
    · ipureintro
      intro C
      refine BIBase.Entails.trans ?_ (hpeek C)
      iintro ⟨⟨HP, HR⟩, HC⟩
      isplitl [HP]; · iexact HP
      iintro HP
      iapply HC
      isplitl [HP] <;> iassumption
  · iexact Hcred

variable [FloatOps F]
variable {d : Dev nD} {c : Fin τ.nSC} {s : Fin τ.nSub}

/-- What a tile owes the launch, with the waits it has recorded beyond `W`. -/
def duty (d : Dev nD) (c : Fin τ.nSC) (s : Fin τ.nSub) (O : CellTallies nD τ sig (HIx 1))
    (W : Waits sig (HIx 1)) : sProp (MM F) :=
  iprop(MayWaits (V d c s) (default : HIx 1) O
    ∗ ∃ W', ⌜∀ p ∈ W', p ∈ W ∨ p.2 = none ∨ p.2 = some 0⌝ ∗ owes (V d c s) O W')

/-- A local copy is issued: it is in flight, with the source's share and the destination in it. -/
theorem Runs.dma {sp sp' : Space} {sh : Shape} {e : EltTy} (src : Memref sig .scVector sp sh e)
    (dst : Memref sig .scVector sp' sh e) (sm : DmaSem sig) {hsrc : src.view.WordExact}
    {hdst : dst.view.WordExact} {hsem : DmaTarget.Typed (nD := nD) (p := .scVector c s) sp (.dma sm) (.here dst)}
    {S : Finset (Idx (src.view.loc (V d c s)))} {Sd : Finset (Idx (dst.view.loc (V d c s)))}
    {q : PosShare TreeShare} (fs : Buf (Elt F) (src.view.loc (V d c s)))
    (fd : Buf (Elt F) (dst.view.loc (V d c s)))
    (hS : src.view.set ⊆ S) (hSd : dst.view.set ⊆ Sd) (hN : 0 < sh.numel) :
    Runs d c s iprop((src.view.loc (V d c s) ↦[S]{q} fs) ∗ (dst.view.loc (V d c s) ↦[Sd]{fullShare} fd)
        ∗ semVal (V d c s, .dma sm) 0)
      (Prog.lift (.enqueueDma src (.here dst) (.dma sm) hsrc hdst hsem)) ⟨⟩
      (Flight EC (V d c s) (.dma sm) (default : HIx 1) dst.view.dmaCredit
        iprop((dst.view.loc (V d c s) ↦[Sd]{fullShare}
            (dst.view.write (Elt F) fd (src.view.read (Elt F) fs) Finset.univ))
          ∗ (src.view.loc (V d c s) ↦[S]{q} fs))) := by
  intro Q
  iintro ⟨⟨Hs, Hd, Hv⟩, HQ⟩
  ihave Hs' := (pointsTo_split_subset (ℓ := src.view.loc (V d c s)) (q := q) (f := fs) hS).1 $$ Hs
  icases Hs' with ⟨Hs, Hr⟩
  iapply (wp_dmaLocal (via := .same) EC 𝒱₀ (V d c s) none (default : HIx 1) dst.view.dmaCredit rfl
    (View.dmaCredit_pos _ hN) hSd) $$ [Hs Hd Hv]
  · isplitl [Hs]; · iexact Hs
    isplitl [Hd] <;> iassumption
  iintro HF
  ihave HF := (flight_frame (V d c s) (.dma sm) dst.view.dmaCredit _ _) $$ [HF Hr]
  · isplitl [HF]; · iexact HF
    iexact Hr
  rw [wp_ret]
  imodintro
  iapply HQ
  iapply (Flight_mono EC (V d c s) ?_) $$ HF
  iintro ⟨⟨Hd, Hs⟩, Hr⟩
  isplitl [Hd]; · iexact Hd
  iapply (pointsTo_split_subset (ℓ := src.view.loc (V d c s)) (q := q) (f := fs) hS).2
  isplitl [Hs] <;> iassumption

/-- A wait for a copy in flight gives back what the copy delivers. -/
theorem Runs.wait {sp sp' : Space} {sh sh' : Shape} {e e' : EltTy} {κ' : Kind}
    (srcw : Memref sig .scVector sp sh' e')
    (dstw : Memref sig κ' sp' sh e) (sm : DmaSem sig) {hsrc : srcw.view.WordExact}
    {hdst : dstw.view.WordExact} {N : ℕ} (hN : dstw.view.dmaCredit = N) (D : sProp (MM F))
    (O : CellTallies nD τ sig (HIx 1)) (W : Waits sig (HIx 1)) :
    Runs d c s iprop(Flight EC (V d c s) (.dma sm) (default : HIx 1) N D ∗ duty d c s O W)
      (Prog.lift (.waitDma2 sm srcw dstw hsrc hdst)) ⟨⟩
      iprop(D ∗ semVal (V d c s, .dma sm) 0 ∗ duty d c s O W) := by
  intro Q
  unfold duty
  iintro ⟨⟨HF, #Hmw, %W', %hW', HO⟩, HQ⟩
  ihave Hmw' := (MayWaits.elim (c := V d c s) (ι := (default : HIx 1)) (O := O) (.dma sm)) $$ Hmw
  iapply (wp_waitLocalO EC 𝒱₀ (V d c s) none (default : HIx 1) hN) $$ [HF HO Hmw']
  · isplitl [HF]; · iexact HF
    isplitl [HO] <;> iassumption
  iintro ⟨HD, Hv, HO⟩
  rw [wp_ret]
  imodintro
  iapply HQ
  isplitl [HD]; · iexact HD
  isplitl [Hv]; · iexact Hv
  isplitr; · iexact Hmw
  iexists _
  isplitr
  swap; · iexact HO
  ipureintro
  intro p hp
  rcases Finset.mem_insert.mp hp with hp | hp
  · exact .inr (.inl (hp ▸ rfl))
  · exact hW' p hp

theorem Runs.exists {α β : Type} {P : β → sProp (MM F)} {P' : sProp (MM F)} {v : α}
    {p : Prog (TpuEff nD τ sig (Elt F) Λ₀ (.scVector c s)) α}
    (h : ∀ b, Runs d c s (P b) p v P') : Runs d c s iprop(∃ b, P b) p v P' := by
  intro Q
  iintro ⟨⟨%b, HP⟩, HQ⟩
  iapply (h b Q)
  isplitl [HP] <;> iassumption

theorem Runs.fact {α : Type} {φ : Prop} {P P' : sProp (MM F)} {v : α}
    {p : Prog (TpuEff nD τ sig (Elt F) Λ₀ (.scVector c s)) α}
    (h : φ → Runs d c s P p v P') : Runs d c s iprop(⌜φ⌝ ∗ P) p v P' := by
  intro Q
  iintro ⟨⟨%hφ, HP⟩, HQ⟩
  iapply (h hφ Q)
  isplitl [HP] <;> iassumption

/-- A counted loop whose trips take `I n` to `I (n + 1)`, its carried word at zero throughout. -/
theorem Runs.loop {lp : Scf.Loop 32} (hok : lp.OK)
    (body : Fin lp.trips → BitVec 32 → Prog (TpuEff nD τ sig (Elt F) Λ₀ (.scVector c s)) (BitVec 32))
    (I : ℕ → sProp (MM F))
    (h : ∀ n : Fin lp.trips, Runs d c s (I n.val) (body n 0#32) 0#32 (I (n.val + 1))) :
    Runs d c s (I 0) (Scf.Loop.for lp hok 0#32 body) 0#32 (I lp.trips) := by
  intro Q
  refine BIBase.Entails.trans ?_ (Scf.wp_for Idealize.ShloMosaic.frame (wpE (defs₀ (F := F)) 𝒱₀ (V d c s) none)
    Set.univ _ _ _ hok 0#32 body (fun n acc => iprop(⌜acc = 0#32⌝ ∗ I n)) ?_)
  · iintro ⟨HI, HQ⟩
    isplitl [HI]
    · isplitr; · ipureintro; rfl
      iexact HI
    · iintro %acc ⟨%ha, HI⟩
      subst ha
      iapply HQ; iexact HI
  · intro n acc
    iintro ⟨%ha, HI⟩
    subst ha
    iapply (h n _)
    isplitl [HI]; · iexact HI
    iintro HI
    isplitr; · ipureintro; rfl
    iexact HI

/-- Two runs whose states differ by a rearrangement. -/
theorem Runs.swap {α : Type} {P P' R : sProp (MM F)} {v : α}
    {p : Prog (TpuEff nD τ sig (Elt F) Λ₀ (.scVector c s)) α} (h : Runs d c s P p v P')
    {S : sProp (MM F)} (h₁ : S ⊢ iprop(P ∗ R)) : Runs d c s S p v iprop(P' ∗ R) :=
  (h.frame R).conseq h₁ BIBase.Entails.rfl

end Cert.Proof
-- ==== Proof.GroupProg.lean ====
module

public import proofs.«01_k».proof.Proof.Gen.KernelIdeal.Skeleton

@[expose] public section

noncomputable section

namespace Cert.Proof

open Idealize.ShloMosaic Idealize.SL.Sem Cert.KernelIdeal Cert.KernelIdeal.Gen

variable {F : FTy → Type} [FloatOps F]
variable {c : Fin τ.nSC} {s : Fin τ.nSub}

/-- Sixteen lanes of floats. -/
abbrev V16 (F : FTy → Type) := FVec F S16 .f32

/-- A loaded row piece as sixteen lanes. -/
def lanes (v : Vec F S1x16 .f32) : V16 F := shapeCast S16 v shapeCasts_S1x16_S16

/-- Sixteen lanes as a row piece to be stored. -/
def piece (v : V16 F) : Vec F S1x16 .f32 := shapeCast S1x16 v shapeCasts_S16_S1x16

/-- Lane `j` of sixteen lanes. -/
def lane {α : Type} (v : S16.Idx → α) (j : ℕ) (h : S16.Slices ![j] S1) : α :=
  extractAt ![0] (extractStridedSlice S1 ![j] v h) inpos_S1_p0

/-- The sum of the sixteen lanes, added in pairs. -/
def laneSum (v : V16 F) : F .f32 :=
  Scalar.addf
    (Scalar.addf
      (Scalar.addf (Scalar.addf (lane v 0 slices_S16_o0_S1) (lane v 1 slices_S16_o1_S1))
        (Scalar.addf (lane v 2 slices_S16_o2_S1) (lane v 3 slices_S16_o3_S1)))
      (Scalar.addf (Scalar.addf (lane v 4 slices_S16_o4_S1) (lane v 5 slices_S16_o5_S1))
        (Scalar.addf (lane v 6 slices_S16_o6_S1) (lane v 7 slices_S16_o7_S1))))
    (Scalar.addf
      (Scalar.addf (Scalar.addf (lane v 8 slices_S16_o8_S1) (lane v 9 slices_S16_o9_S1))
        (Scalar.addf (lane v 10 slices_S16_o10_S1) (lane v 11 slices_S16_o11_S1)))
      (Scalar.addf (Scalar.addf (lane v 12 slices_S16_o12_S1) (lane v 13 slices_S16_o13_S1))
        (Scalar.addf (lane v 14 slices_S16_o14_S1) (lane v 15 slices_S16_o15_S1))))

/-- The product of a row with the gate's weights: eight pieces multiplied lane by lane, added in
pairs, and the lanes added. -/
def dotRow (w x : Fin 8 → V16 F) : F .f32 :=
  laneSum (addf (addf (addf (mulf (x 0) (w 0)) (mulf (x 1) (w 1)))
      (addf (mulf (x 2) (w 2)) (mulf (x 3) (w 3))))
    (addf (addf (mulf (x 4) (w 4)) (mulf (x 5) (w 5)))
      (addf (mulf (x 6) (w 6)) (mulf (x 7) (w 7)))))

/-- The exponential of a gate in every lane. -/
def gateExp (g : F .f32) : V16 F := exp (broadcast S16 g)

/-- Row `i` of group `t` of a chunk of 240 rows, from column `k`. -/
def xOff {n : ℕ} (t : Fin n) (i k : ℕ) : Fin 2 → ℕ :=
  ![(Scalar.indexCast (Scalar.addi (Scalar.muli (Scf.iv 0#32 1#32 t) 16#32)
    (BitVec.ofNat 32 i))).toNat, k]

/-- The sixteen segment numbers of group `t`. -/
def bOff {n : ℕ} (t : Fin n) : Fin 1 → ℕ :=
  ![(Scalar.indexCast (Scalar.muli (Scf.iv 0#32 1#32 t) 16#32)).toNat]

/-- The accumulator's row of segment `w`, from column `k`. -/
def sOff (w : BitVec 32) (k : ℕ) : Fin 2 → ℕ := ![(Scalar.indexCast w).toNat, k]

theorem xOff_row (t : Fin 15) {i : ℕ} (hi : i < 16) :
    (Scalar.indexCast (Scalar.addi (Scalar.muli (Scf.iv 0#32 1#32 t) 16#32)
      (BitVec.ofNat 32 i))).toNat = 16 * t + i := by
  revert t i hi; decide

theorem xOff_inb (t : Fin 15) {i k : ℕ} (hi : i < 16) (hk : k + 16 ≤ 128) :
    ∀ a, xOff t i k a + S1x16.size a ≤ S240x128.size a := by
  intro a
  have h := xOff_row t hi
  have ht := t.2
  fin_cases a
  · show (Scalar.indexCast _).toNat + 1 ≤ 240
    rw [h]; omega
  · exact hk

theorem bOff_eq (t : Fin 15) : (Scalar.indexCast (Scalar.muli (Scf.iv 0#32 1#32 t) 16#32)).toNat
    = 16 * t := by
  revert t; decide

theorem bOff_inb (t : Fin 15) : ∀ a, bOff t a + S16.size a ≤ S256.size a := by
  intro a
  have h := bOff_eq t
  have ht := t.2
  fin_cases a
  show (Scalar.indexCast _).toNat + 16 ≤ 256
  rw [h]; omega

theorem sOff_inb {w : BitVec 32} (hw : w.toNat < 64) {k : ℕ} (hk : k + 16 ≤ 128) :
    ∀ a, sOff w k a + S1x16.size a ≤ S64x128.size a := by
  intro a
  fin_cases a
  · exact hw
  · exact hk

theorem sOff_inb' {w : BitVec 32} (hw : w.toNat < 64) :
    ∀ a, sOff w 0 a + S1x16.size a ≤ S64x16.size a := by
  intro a
  fin_cases a
  · exact hw
  · exact le_refl _

/-- The operations of a tile of the SparseCore call. -/
abbrev TileProg (F : FTy → Type) (c : Fin τ.nSC) (s : Fin τ.nSub) (α : Type) :=
  Prog (TpuEff nD τ sig (Elt F) Λ₀ (.scVector c s)) α

/-- Read sixteen columns of row `i` of the group. -/
def ldX (xb : Memref sig .scVector .vmem S240x128 .f32) (t : Fin 15) (i k : ℕ) (hi : i < 16)
    (hk : k + 16 ≤ 128) : TileProg F c s (V16 F) := do
  let v ← Prog.lift (.load xb (Rect.unit (s := S240x128) (xOff t i k) S1x16.size
    (xOff_inb t hi hk)).toLoadRect (View.loadsAt_vmem h_S1x16))
  pure (lanes v)

/-- Read the eight pieces of row `i` of the group. -/
def ldRow (xb : Memref sig .scVector .vmem S240x128 .f32) (t : Fin 15) (i : ℕ) (hi : i < 16) :
    TileProg F c s (Fin 8 → V16 F) := do
  let x0 ← ldX xb t i 0 hi (by decide)
  let x1 ← ldX xb t i 16 hi (by decide)
  let x2 ← ldX xb t i 32 hi (by decide)
  let x3 ← ldX xb t i 48 hi (by decide)
  let x4 ← ldX xb t i 64 hi (by decide)
  let x5 ← ldX xb t i 80 hi (by decide)
  let x6 ← ldX xb t i 96 hi (by decide)
  let x7 ← ldX xb t i 112 hi (by decide)
  pure ![x0, x1, x2, x3, x4, x5, x6, x7]

/-- The gate of row `i` of the group. -/
def gateRow (xb : Memref sig .scVector .vmem S240x128 .f32) (t : Fin 15) (w : Fin 8 → V16 F)
    (i : ℕ) (hi : i < 16) : TileProg F c s (F .f32) := do
  let x ← ldRow xb t i hi
  pure (dotRow w x)

/-- The gates of the sixteen rows of the group. -/
def gates (xb : Memref sig .scVector .vmem S240x128 .f32) (t : Fin 15) (w : Fin 8 → V16 F) :
    TileProg F c s (Fin 16 → F .f32) := do
  let g0 ← gateRow xb t w 0 (by decide)
  let g1 ← gateRow xb t w 1 (by decide)
  let g2 ← gateRow xb t w 2 (by decide)
  let g3 ← gateRow xb t w 3 (by decide)
  let g4 ← gateRow xb t w 4 (by decide)
  let g5 ← gateRow xb t w 5 (by decide)
  let g6 ← gateRow xb t w 6 (by decide)
  let g7 ← gateRow xb t w 7 (by decide)
  let g8 ← gateRow xb t w 8 (by decide)
  let g9 ← gateRow xb t w 9 (by decide)
  let g10 ← gateRow xb t w 10 (by decide)
  let g11 ← gateRow xb t w 11 (by decide)
  let g12 ← gateRow xb t w 12 (by decide)
  let g13 ← gateRow xb t w 13 (by decide)
  let g14 ← gateRow xb t w 14 (by decide)
  let g15 ← gateRow xb t w 15 (by decide)
  pure ![g0, g1, g2, g3, g4, g5, g6, g7, g8, g9, g10, g11, g12, g13, g14, g15]

/-- One row of a group of one segment added to the eight sums held in registers. -/
def fastRow (xb : Memref sig .scVector .vmem S240x128 .f32) (t : Fin 15) (i : ℕ) (hi : i < 16)
    (g : F .f32) (f : Fin 8 → V16 F) : TileProg F c s (Fin 8 → V16 F) := do
  let x0 ← ldX xb t i 0 hi (by decide)
  let x1 ← ldX xb t i 16 hi (by decide)
  let x2 ← ldX xb t i 32 hi (by decide)
  let x3 ← ldX xb t i 48 hi (by decide)
  let x4 ← ldX xb t i 64 hi (by decide)
  let x5 ← ldX xb t i 80 hi (by decide)
  let x6 ← ldX xb t i 96 hi (by decide)
  let x7 ← ldX xb t i 112 hi (by decide)
  pure ![addf (f 0) (mulf (gateExp g) x0), addf (f 1) (mulf (gateExp g) x1),
    addf (f 2) (mulf (gateExp g) x2), addf (f 3) (mulf (gateExp g) x3),
    addf (f 4) (mulf (gateExp g) x4), addf (f 5) (mulf (gateExp g) x5),
    addf (f 6) (mulf (gateExp g) x6), addf (f 7) (mulf (gateExp g) x7)]

/-- The eight weighted sums of a group whose rows are all of one segment. -/
def fastSums (xb : Memref sig .scVector .vmem S240x128 .f32) (t : Fin 15) (z : V16 F)
    (g : Fin 16 → F .f32) : TileProg F c s (Fin 8 → V16 F) := do
  let f ← fastRow xb t 0 (by decide) (g 0) ![z, z, z, z, z, z, z, z]
  let f ← fastRow xb t 1 (by decide) (g 1) f
  let f ← fastRow xb t 2 (by decide) (g 2) f
  let f ← fastRow xb t 3 (by decide) (g 3) f
  let f ← fastRow xb t 4 (by decide) (g 4) f
  let f ← fastRow xb t 5 (by decide) (g 5) f
  let f ← fastRow xb t 6 (by decide) (g 6) f
  let f ← fastRow xb t 7 (by decide) (g 7) f
  let f ← fastRow xb t 8 (by decide) (g 8) f
  let f ← fastRow xb t 9 (by decide) (g 9) f
  let f ← fastRow xb t 10 (by decide) (g 10) f
  let f ← fastRow xb t 11 (by decide) (g 11) f
  let f ← fastRow xb t 12 (by decide) (g 12) f
  let f ← fastRow xb t 13 (by decide) (g 13) f
  let f ← fastRow xb t 14 (by decide) (g 14) f
  fastRow xb t 15 (by decide) (g 15) f

/-- The sum of the exponentials of the group's gates, in every lane. -/
def expSum (z : V16 F) (g : Fin 16 → F .f32) : V16 F :=
  addf (addf (addf (addf (addf (addf (addf (addf (addf (addf (addf (addf (addf (addf (addf (addf z
    (gateExp (g 0))) (gateExp (g 1))) (gateExp (g 2))) (gateExp (g 3))) (gateExp (g 4)))
    (gateExp (g 5))) (gateExp (g 6))) (gateExp (g 7))) (gateExp (g 8))) (gateExp (g 9)))
    (gateExp (g 10))) (gateExp (g 11))) (gateExp (g 12))) (gateExp (g 13))) (gateExp (g 14)))
    (gateExp (g 15))

/-- Add sixteen lanes to the piece of segment `w` from column `k` of the weighted sums. -/
def bumpV (va : Memref sig .scVector .vmem S64x128 .f32) (w : BitVec 32) (hw : w.toNat < 64)
    (k : ℕ) (hk : k + 16 ≤ 128) (u : V16 F) : TileProg F c s PUnit := do
  let v ← Prog.lift (.load va (Rect.unit (s := S64x128) (sOff w k) S1x16.size
    (sOff_inb hw hk)).toLoadRect (View.loadsAt_vmem h_S1x16))
  let _ ← Prog.lift (.load va (Rect.unit (s := S64x128) (sOff w k) S1x16.size
    (sOff_inb hw hk)).toLoadRect (View.loadsAt_vmem h_S1x16))
  Prog.lift (.store va (Rect.unit (s := S64x128) (sOff w k) S1x16.size (sOff_inb hw hk))
    (piece (addf (lanes v) u)) Finset.univ (View.stores_vmem_bits_univ h_S1x16 rfl) (.inl rfl))

/-- Add sixteen lanes to the row of segment `w` of the sums of exponentials. -/
def bumpS (sa : Memref sig .scVector .vmem S64x16 .f32) (w : BitVec 32) (hw : w.toNat < 64)
    (u : V16 F) : TileProg F c s PUnit := do
  let v ← Prog.lift (.load sa (Rect.unit (s := S64x16) (sOff w 0) S1x16.size
    (sOff_inb' hw)).toLoadRect (View.loadsAt_vmem h_S1x16))
  let _ ← Prog.lift (.load sa (Rect.unit (s := S64x16) (sOff w 0) S1x16.size
    (sOff_inb' hw)).toLoadRect (View.loadsAt_vmem h_S1x16))
  Prog.lift (.store sa (Rect.unit (s := S64x16) (sOff w 0) S1x16.size (sOff_inb' hw))
    (piece (addf (lanes v) u)) Finset.univ (View.stores_vmem_bits_univ h_S1x16 rfl) (.inl rfl))

/-- The group of one segment: its sums, then one addition to the segment's accumulators. -/
def fastGroup (xb : Memref sig .scVector .vmem S240x128 .f32)
    (va : Memref sig .scVector .vmem S64x128 .f32) (sa : Memref sig .scVector .vmem S64x16 .f32)
    (t : Fin 15) (z : V16 F) (g : Fin 16 → F .f32) (w : BitVec 32) (hw : w.toNat < 64) :
    TileProg F c s PUnit := do
  let f ← fastSums xb t z g
  bumpV va w hw 0 (by decide) (f 0)
  bumpV va w hw 16 (by decide) (f 1)
  bumpV va w hw 32 (by decide) (f 2)
  bumpV va w hw 48 (by decide) (f 3)
  bumpV va w hw 64 (by decide) (f 4)
  bumpV va w hw 80 (by decide) (f 5)
  bumpV va w hw 96 (by decide) (f 6)
  bumpV va w hw 112 (by decide) (f 7)
  bumpS sa w hw (expSum z g)
  pure ⟨⟩

/-- One piece of one row of a group of several segments: read, multiply, add. -/
def slowPiece (xb : Memref sig .scVector .vmem S240x128 .f32)
    (va : Memref sig .scVector .vmem S64x128 .f32) (t : Fin 15) (i : ℕ) (hi : i < 16)
    (e : V16 F) (w : BitVec 32) (hw : w.toNat < 64) (k : ℕ) (hk : k + 16 ≤ 128) :
    TileProg F c s PUnit := do
  let v ← Prog.lift (.load va (Rect.unit (s := S64x128) (sOff w k) S1x16.size
    (sOff_inb hw hk)).toLoadRect (View.loadsAt_vmem h_S1x16))
  let x ← ldX xb t i k hi hk
  let _ ← Prog.lift (.load va (Rect.unit (s := S64x128) (sOff w k) S1x16.size
    (sOff_inb hw hk)).toLoadRect (View.loadsAt_vmem h_S1x16))
  Prog.lift (.store va (Rect.unit (s := S64x128) (sOff w k) S1x16.size (sOff_inb hw hk))
    (piece (addf (lanes v) (mulf e x))) Finset.univ (View.stores_vmem_bits_univ h_S1x16 rfl)
    (.inl rfl))

/-- One row of a group of several segments, added to its own segment's accumulators. -/
def slowRow (xb : Memref sig .scVector .vmem S240x128 .f32)
    (va : Memref sig .scVector .vmem S64x128 .f32) (sa : Memref sig .scVector .vmem S64x16 .f32)
    (C : BitVec 32 → Prop) (dec : ∀ w, Decidable (C w)) (hC : ∀ w, C w → w.toNat < 64)
    (t : Fin 15) (i : ℕ) (hi : i < 16) (g : F .f32) (w : BitVec 32) : TileProg F c s PUnit := do
  let hw ← Prog.lift (TpuEff.assume (C w) (dec w))
  slowPiece xb va t i hi (gateExp g) w (hC w hw.down) 0 (by decide)
  slowPiece xb va t i hi (gateExp g) w (hC w hw.down) 16 (by decide)
  slowPiece xb va t i hi (gateExp g) w (hC w hw.down) 32 (by decide)
  slowPiece xb va t i hi (gateExp g) w (hC w hw.down) 48 (by decide)
  slowPiece xb va t i hi (gateExp g) w (hC w hw.down) 64 (by decide)
  slowPiece xb va t i hi (gateExp g) w (hC w hw.down) 80 (by decide)
  slowPiece xb va t i hi (gateExp g) w (hC w hw.down) 96 (by decide)
  slowPiece xb va t i hi (gateExp g) w (hC w hw.down) 112 (by decide)
  bumpS sa w (hC w hw.down) (gateExp g)

/-- A group of several segments, row by row. -/
def slowGroup (xb : Memref sig .scVector .vmem S240x128 .f32)
    (va : Memref sig .scVector .vmem S64x128 .f32) (sa : Memref sig .scVector .vmem S64x16 .f32)
    (C : BitVec 32 → Prop) (dec : ∀ w, Decidable (C w)) (hC : ∀ w, C w → w.toNat < 64)
    (t : Fin 15) (g : Fin 16 → F .f32) (b : IVec S16 32) : TileProg F c s PUnit := do
  slowRow xb va sa C dec hC t 0 (by decide) (g 0) (lane b 0 slices_S16_o0_S1)
  slowRow xb va sa C dec hC t 1 (by decide) (g 1) (lane b 1 slices_S16_o1_S1)
  slowRow xb va sa C dec hC t 2 (by decide) (g 2) (lane b 2 slices_S16_o2_S1)
  slowRow xb va sa C dec hC t 3 (by decide) (g 3) (lane b 3 slices_S16_o3_S1)
  slowRow xb va sa C dec hC t 4 (by decide) (g 4) (lane b 4 slices_S16_o4_S1)
  slowRow xb va sa C dec hC t 5 (by decide) (g 5) (lane b 5 slices_S16_o5_S1)
  slowRow xb va sa C dec hC t 6 (by decide) (g 6) (lane b 6 slices_S16_o6_S1)
  slowRow xb va sa C dec hC t 7 (by decide) (g 7) (lane b 7 slices_S16_o7_S1)
  slowRow xb va sa C dec hC t 8 (by decide) (g 8) (lane b 8 slices_S16_o8_S1)
  slowRow xb va sa C dec hC t 9 (by decide) (g 9) (lane b 9 slices_S16_o9_S1)
  slowRow xb va sa C dec hC t 10 (by decide) (g 10) (lane b 10 slices_S16_o10_S1)
  slowRow xb va sa C dec hC t 11 (by decide) (g 11) (lane b 11 slices_S16_o11_S1)
  slowRow xb va sa C dec hC t 12 (by decide) (g 12) (lane b 12 slices_S16_o12_S1)
  slowRow xb va sa C dec hC t 13 (by decide) (g 13) (lane b 13 slices_S16_o13_S1)
  slowRow xb va sa C dec hC t 14 (by decide) (g 14) (lane b 14 slices_S16_o14_S1)
  slowRow xb va sa C dec hC t 15 (by decide) (g 15) (lane b 15 slices_S16_o15_S1)
  pure ⟨⟩

/-- One group of sixteen rows: its segment numbers, its gates, and its rows added to the
accumulators, by one addition where the first and last row share a segment, else row by row. -/
def group (xb : Memref sig .scVector .vmem S240x128 .f32)
    (bb : Memref sig .scVector .vmem S256 .i32)
    (va : Memref sig .scVector .vmem S64x128 .f32) (sa : Memref sig .scVector .vmem S64x16 .f32)
    (CF : BitVec 32 → BitVec 32 → Prop) (decF : ∀ lo hi, Decidable (CF lo hi))
    (hF : ∀ lo hi, CF lo hi → k0_cond6 lo hi = 1#1 → lo.toNat < 64)
    (CS : BitVec 32 → BitVec 32 → BitVec 32 → Prop) (decS : ∀ lo hi w, Decidable (CS lo hi w))
    (hS : ∀ lo hi, k0_cond7 lo hi = 1#1 → ∀ w, CS lo hi w → w.toNat < 64)
    (w : Fin 8 → V16 F) (z : V16 F) (t : Fin 15) : TileProg F c s (BitVec 32) := do
  let b : Vec F S16 .i32 ← Prog.lift (.load bb (Rect.unit (s := S256) (bOff t) S16.size (bOff_inb t)).toLoadRect
    (View.loadsAt_vmem h_S16))
  let g ← gates xb t w
  let hf ← Prog.lift (TpuEff.assume (CF (lane (α := BitVec 32) b 0 slices_S16_o0_S1) (lane (α := BitVec 32) b 15 slices_S16_o15_S1))
    (decF _ _))
  if h : k0_cond6 (lane (α := BitVec 32) b 0 slices_S16_o0_S1) (lane (α := BitVec 32) b 15 slices_S16_o15_S1) = 1#1 then do
    fastGroup xb va sa t z g _ (hF _ _ hf.down h)
  else do
    pure ⟨⟩
  if h : k0_cond7 (lane (α := BitVec 32) b 0 slices_S16_o0_S1) (lane (α := BitVec 32) b 15 slices_S16_o15_S1) = 1#1 then do
    slowGroup xb va sa (CS _ _) (decS _ _) (hS _ _ h) t g b
  else do
    pure ⟨⟩
  pure 0#32

end Cert.Proof
-- ==== Proof.Model.lean ====
module

public import proofs.«01_k».proof.Proof.GroupProg
public import Idealize.ShloMosaic.Lib.ValueIdx

/-! What one group of sixteen rows does to a tile's two accumulators, over any floats. -/

@[expose] public section

noncomputable section

namespace Cert.Proof

open Idealize.ShloMosaic Idealize.SL.Sem Cert.KernelIdeal Cert.KernelIdeal.Gen
open Idealize.ShloMosaic.ValueIdx

variable {F : FTy → Type} [FloatOps F]

/-- A chunk of 240 rows. -/
abbrev Chunk (F : FTy → Type) := S240x128.Idx → F .f32
/-- A chunk's segment numbers, and sixteen words beyond them. -/
abbrev Segs := S256.Idx → BitVec 32
/-- The weighted sums of the 64 segments. -/
abbrev VAcc (F : FTy → Type) := S64x128.Idx → F .f32
/-- The sums of exponentials of the 64 segments, each in sixteen lanes. -/
abbrev SAcc (F : FTy → Type) := S64x16.Idx → F .f32

/-- Row `i` of group `t`. -/
def growN (t : Fin 15) {i : ℕ} (hi : i < 16) : Fin 240 := ⟨16 * t + i, by omega⟩

/-- Sixteen columns from `k` of row `i` of group `t`. -/
def xAt (X : Chunk F) (t : Fin 15) {i k : ℕ} (hi : i < 16) (hk : k + 16 ≤ 128) : V16 F :=
  fun l => X (ix2 (growN t hi) ⟨k + (l 0).val, by have h : (l 0).val < 16 := (l 0).isLt; omega⟩)

/-- The eight pieces of row `i` of group `t`. -/
def xs (X : Chunk F) (t : Fin 15) {i : ℕ} (hi : i < 16) : Fin 8 → V16 F :=
  fun k => xAt X t hi (k := 16 * k) (by omega)

/-- The segment numbers of group `t`. -/
def bAt (B : Segs) (t : Fin 15) : IVec S16 32 :=
  fun l => B (ix1 ⟨16 * t + (l 0).val, by have h : (l 0).val < 16 := (l 0).isLt; omega⟩)

/-- The gates of group `t`. -/
def gatesAt (w : Fin 8 → V16 F) (X : Chunk F) (t : Fin 15) : Fin 16 → F .f32 :=
  fun i => dotRow w (xs X t i.isLt)

/-- One row added to the eight register sums. -/
def fastStep (X : Chunk F) (t : Fin 15) (g : Fin 16 → F .f32) (f : Fin 8 → V16 F) (i : Fin 16) :
    Fin 8 → V16 F :=
  fun k => addf (f k) (mulf (gateExp (g i)) (xs X t i.isLt k))

/-- The eight register sums of a group. -/
def fastAt (X : Chunk F) (t : Fin 15) (z : V16 F) (g : Fin 16 → F .f32) : Fin 8 → V16 F :=
  (List.finRange 16).foldl (fastStep X t g) fun _ => z

/-- The lanes `u` added to columns `k …` of segment `w`. -/
def addAt (Vv : VAcc F) (w : BitVec 32) (k : ℕ) (u : V16 F) : VAcc F := fun y =>
  if h : (y 0).val = w.toNat ∧ k ≤ (y 1).val ∧ (y 1).val < k + 16 then
    FloatOps.addf (Vv y) (u (ix1 ⟨(y 1).val - k, by omega⟩)) else Vv y

/-- A whole row, in eight pieces, added to segment `w`. -/
def addRow (Vv : VAcc F) (w : BitVec 32) (u : Fin 8 → V16 F) : VAcc F := fun y =>
  if (y 0).val = w.toNat then
    FloatOps.addf (Vv y) (u ⟨(y 1).val / 16, by have h : (y 1).val < 128 := (y 1).isLt; omega⟩
      (ix1 ⟨(y 1).val % 16, by omega⟩)) else Vv y

/-- The lanes `u` added to the sums of exponentials of segment `w`. -/
def addS (Sv : SAcc F) (w : BitVec 32) (u : V16 F) : SAcc F := fun y =>
  if (y 0).val = w.toNat then FloatOps.addf (Sv y) (u (ix1 (y 1))) else Sv y

/-- One row of a group of several segments. -/
def slowStep (X : Chunk F) (t : Fin 15) (g : Fin 16 → F .f32) (b : IVec S16 32)
    (A : VAcc F × SAcc F) (i : Fin 16) : VAcc F × SAcc F :=
  (addRow A.1 (b (ix1 i)) fun k => mulf (gateExp (g i)) (xs X t i.isLt k),
    addS A.2 (b (ix1 i)) (gateExp (g i)))

/-- The accumulators after group `t`. -/
def groupAt (w : Fin 8 → V16 F) (z : V16 F) (X : Chunk F) (B : Segs) (t : Fin 15)
    (A : VAcc F × SAcc F) : VAcc F × SAcc F :=
  if bAt B t (ix1 0) = bAt B t (ix1 15) then
    (addRow A.1 (bAt B t (ix1 0)) (fastAt X t z (gatesAt w X t)),
      addS A.2 (bAt B t (ix1 0)) (expSum z (gatesAt w X t)))
  else (List.finRange 16).foldl (slowStep X t (gatesAt w X t) (bAt B t)) A

/-- The first `n` pieces of a row added to segment `w`. -/
def addTo (Vv : VAcc F) (w : BitVec 32) (u : Fin 8 → V16 F) (n : ℕ) : VAcc F := fun y =>
  if (y 1).val < 16 * n then addRow Vv w u y else Vv y

theorem addTo_succ (Vv : VAcc F) (w : BitVec 32) (u : Fin 8 → V16 F) (n : Fin 8) :
    addAt (addTo Vv w u n.val) w (16 * n.val) (u n) = addTo Vv w u (n.val + 1) := by
  funext y
  unfold addAt addTo
  by_cases h : (y 0).val = w.toNat ∧ 16 * n.val ≤ (y 1).val ∧ (y 1).val < 16 * n.val + 16
  · rw [dif_pos h, if_neg (by omega), if_pos (by omega)]
    unfold addRow
    rw [if_pos h.1]
    have e1 : (⟨(y 1).val / 16, by have h : (y 1).val < 128 := (y 1).isLt; omega⟩ : Fin 8) = n :=
      Fin.ext (by show (y 1).val / 16 = n.val; omega)
    have e2 : (⟨(y 1).val % 16, by omega⟩ : Fin 16) = ⟨(y 1).val - 16 * n.val, by omega⟩ :=
      Fin.ext (by show (y 1).val % 16 = (y 1).val - 16 * n.val; omega)
    rw [e1, e2]
  · rw [dif_neg h]
    by_cases h0 : (y 0).val = w.toNat
    · by_cases h1 : (y 1).val < 16 * n.val
      · rw [if_pos h1, if_pos (by omega)]
      · rw [if_neg h1, if_neg (by omega)]
    · have e : addRow Vv w u y = Vv y := by unfold addRow; rw [if_neg h0]
      rw [e, ite_self, ite_self]

/-- Eight additions, one for each piece, are the addition of the row. -/
theorem addAt_eight (Vv : VAcc F) (w : BitVec 32) (u : Fin 8 → V16 F) :
    addAt (addAt (addAt (addAt (addAt (addAt (addAt (addAt Vv w 0 (u 0)) w 16 (u 1)) w 32 (u 2))
      w 48 (u 3)) w 64 (u 4)) w 80 (u 5)) w 96 (u 6)) w 112 (u 7) = addRow Vv w u := by
  have h0 : addTo Vv w u 0 = Vv := by funext y; unfold addTo; rw [if_neg (by omega)]
  have h8 : addTo Vv w u 8 = addRow Vv w u := by
    funext y; unfold addTo; rw [if_pos (by have h : (y 1).val < 128 := (y 1).isLt; omega)]
  have e0 : addAt Vv w 0 (u 0) = addTo Vv w u 1 := by
    have h := addTo_succ Vv w u 0
    rwa [show addTo Vv w u (0 : Fin 8).val = Vv from h0] at h
  rw [e0, show addAt (addTo Vv w u 1) w 16 (u 1) = addTo Vv w u 2 from addTo_succ Vv w u 1,
    show addAt (addTo Vv w u 2) w 32 (u 2) = addTo Vv w u 3 from addTo_succ Vv w u 2,
    show addAt (addTo Vv w u 3) w 48 (u 3) = addTo Vv w u 4 from addTo_succ Vv w u 3,
    show addAt (addTo Vv w u 4) w 64 (u 4) = addTo Vv w u 5 from addTo_succ Vv w u 4,
    show addAt (addTo Vv w u 5) w 80 (u 5) = addTo Vv w u 6 from addTo_succ Vv w u 5,
    show addAt (addTo Vv w u 6) w 96 (u 6) = addTo Vv w u 7 from addTo_succ Vv w u 6,
    show addAt (addTo Vv w u 7) w 112 (u 7) = addTo Vv w u 8 from addTo_succ Vv w u 7]
  exact h8

end Cert.Proof
-- ==== Proof.GroupRun.lean ====
module

public import proofs.«01_k».proof.Proof.Setup
public import proofs.«01_k».proof.Proof.Model
public import Idealize.ShloMosaic.Lib.ValueLayout

/-! The program of one group of sixteen rows leaves the accumulators that the model gives. -/

@[expose] public section

noncomputable section

namespace Cert.Proof

open Cert.KernelIdeal Cert.KernelIdeal.Gen
open Idealize.ShloMosaic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]
variable {d : Dev nD} {c : Fin τ.nSC} {s : Fin τ.nSub}
variable (xb : Memref sig .scVector .vmem S240x128 .f32)
variable (bb : Memref sig .scVector .vmem S256 .i32)
variable (va : Memref sig .scVector .vmem S64x128 .f32)
variable (sa : Memref sig .scVector .vmem S64x16 .f32)

theorem lanes_apply (v : Vec F S1x16 .f32) (l : S16.Idx) : lanes v l = v (ix2 0 (l 0)) := by
  obtain ⟨i, rfl⟩ : ∃ i, l = ix1 i := ⟨l 0, by funext a; fin_cases a; rfl⟩
  exact shapeCast_1a_a_apply _ _ _

theorem piece_apply (v : V16 F) (y : S1x16.Idx) : piece v y = v (ix1 (y 1)) := by
  rw [eq_ix2 y]
  exact shapeCast_a_1a_apply _ _ _ _

theorem lane_apply {α : Type} (v : S16.Idx → α) (j : ℕ) (hj : j < 16) (h : S16.Slices ![j] S1) :
    lane v j h = v (ix1 ⟨j, hj⟩) := by
  unfold lane extractAt
  refine extractStridedSlice_apply _ _ _ _ _ ?_
  intro a; fin_cases a; rfl

theorem load_x (X : Chunk F) (t : Fin 15) (i k : ℕ) (hi : i < 16) (hk : k + 16 ≤ 128) :
    lanes (F := F) (fun y => X ((Rect.unit (s := S240x128) (xOff t i k) S1x16.size
      (xOff_inb t hi hk)).toLoadRect.idx y)) = xAt X t hi hk := by
  funext l
  rw [lanes_apply]
  unfold xAt
  congr 1
  funext a
  fin_cases a
  · exact Fin.ext (by
      show (Scalar.indexCast _).toNat + 1 * 0 = 16 * t.val + i
      rw [xOff_row t hi]; rfl)
  · exact Fin.ext (by show k + 1 * (l 0).val = k + (l 0).val; omega)

theorem ldX_run (X : Chunk F) (t : Fin 15) (i k : ℕ) (hi : i < 16) (hk : k + 16 ≤ 128) :
    Runs d c s (own d c s xb X) (ldX xb t i k hi hk) (xAt X t hi hk) (own d c s xb X) := by
  refine (Runs.load xb X _ _).bind ?_
  rw [← load_x X t i k hi hk]
  exact Runs.pure _ _

theorem xs_eq (X : Chunk F) (t : Fin 15) {i : ℕ} (hi : i < 16) :
    xs X t hi = ![xAt X t hi (k := 0) (by decide), xAt X t hi (k := 16) (by decide),
      xAt X t hi (k := 32) (by decide), xAt X t hi (k := 48) (by decide),
      xAt X t hi (k := 64) (by decide), xAt X t hi (k := 80) (by decide),
      xAt X t hi (k := 96) (by decide), xAt X t hi (k := 112) (by decide)] := by
  funext k; fin_cases k <;> rfl

theorem gateRow_run (X : Chunk F) (t : Fin 15) (w : Fin 8 → V16 F) (i : ℕ) (hi : i < 16) :
    Runs d c s (own d c s xb X) (gateRow xb t w i hi) (dotRow w (xs X t hi)) (own d c s xb X) := by
  have hr : Runs d c s (own d c s xb X) (ldRow xb t i hi) (xs X t hi) (own d c s xb X) := by
    rw [xs_eq]
    exact (ldX_run xb X t i _ hi _).bind <| (ldX_run xb X t i _ hi _).bind <|
      (ldX_run xb X t i _ hi _).bind <| (ldX_run xb X t i _ hi _).bind <|
      (ldX_run xb X t i _ hi _).bind <| (ldX_run xb X t i _ hi _).bind <|
      (ldX_run xb X t i _ hi _).bind <| (ldX_run xb X t i _ hi _).bind <| Runs.pure _ _
  exact hr.bind (Runs.pure _ _)

theorem gates_run (X : Chunk F) (t : Fin 15) (w : Fin 8 → V16 F) :
    Runs d c s (own d c s xb X) (gates xb t w) (gatesAt w X t) (own d c s xb X) := by
  have e : gatesAt w X t = ![dotRow w (xs X t (i := 0) (by decide)), dotRow w (xs X t (i := 1) (by decide))
     , dotRow w (xs X t (i := 2) (by decide)), dotRow w (xs X t (i := 3) (by decide))
     , dotRow w (xs X t (i := 4) (by decide)), dotRow w (xs X t (i := 5) (by decide))
     , dotRow w (xs X t (i := 6) (by decide)), dotRow w (xs X t (i := 7) (by decide))
     , dotRow w (xs X t (i := 8) (by decide)), dotRow w (xs X t (i := 9) (by decide))
     , dotRow w (xs X t (i := 10) (by decide)), dotRow w (xs X t (i := 11) (by decide))
     , dotRow w (xs X t (i := 12) (by decide)), dotRow w (xs X t (i := 13) (by decide))
     , dotRow w (xs X t (i := 14) (by decide)), dotRow w (xs X t (i := 15) (by decide))
     ] := by
    funext i; fin_cases i <;> rfl
  rw [e]
  have h := fun i hi => gateRow_run (d := d) (c := c) (s := s) xb X t w i hi
  exact (h 0 _).bind <| (h 1 _).bind <| (h 2 _).bind <| (h 3 _).bind <| (h 4 _).bind <| (h 5 _).bind <| (h 6 _).bind <| (h 7 _).bind <| (h 8 _).bind <| (h 9 _).bind <| (h 10 _).bind <| (h 11 _).bind <| (h 12 _).bind <| (h 13 _).bind <| (h 14 _).bind <| (h 15 _).bind <| Runs.pure _ _

theorem fastRow_run (X : Chunk F) (t : Fin 15) (g : Fin 16 → F .f32) (f : Fin 8 → V16 F)
    (i : ℕ) (hi : i < 16) :
    Runs d c s (own d c s xb X) (fastRow xb t i hi (g ⟨i, hi⟩) f) (fastStep X t g f ⟨i, hi⟩)
      (own d c s xb X) := by
  have e : fastStep X t g f ⟨i, hi⟩ =
      ![addf (f 0) (mulf (gateExp (g ⟨i, hi⟩)) (xAt X t hi (k := 0) (by decide))),
        addf (f 1) (mulf (gateExp (g ⟨i, hi⟩)) (xAt X t hi (k := 16) (by decide))),
        addf (f 2) (mulf (gateExp (g ⟨i, hi⟩)) (xAt X t hi (k := 32) (by decide))),
        addf (f 3) (mulf (gateExp (g ⟨i, hi⟩)) (xAt X t hi (k := 48) (by decide))),
        addf (f 4) (mulf (gateExp (g ⟨i, hi⟩)) (xAt X t hi (k := 64) (by decide))),
        addf (f 5) (mulf (gateExp (g ⟨i, hi⟩)) (xAt X t hi (k := 80) (by decide))),
        addf (f 6) (mulf (gateExp (g ⟨i, hi⟩)) (xAt X t hi (k := 96) (by decide))),
        addf (f 7) (mulf (gateExp (g ⟨i, hi⟩)) (xAt X t hi (k := 112) (by decide)))] := by
    funext k; fin_cases k <;> rfl
  rw [e]
  exact (ldX_run xb X t i _ hi _).bind <| (ldX_run xb X t i _ hi _).bind <|
      (ldX_run xb X t i _ hi _).bind <| (ldX_run xb X t i _ hi _).bind <|
      (ldX_run xb X t i _ hi _).bind <| (ldX_run xb X t i _ hi _).bind <|
      (ldX_run xb X t i _ hi _).bind <| (ldX_run xb X t i _ hi _).bind <| Runs.pure _ _

theorem fastSums_run (X : Chunk F) (t : Fin 15) (z : V16 F) (g : Fin 16 → F .f32) :
    Runs d c s (own d c s xb X) (fastSums xb t z g) (fastAt X t z g) (own d c s xb X) := by
  have e : (![z, z, z, z, z, z, z, z] : Fin 8 → V16 F) = fun _ => z := by
    funext k; fin_cases k <;> rfl
  have h := fun f i hi => fastRow_run (d := d) (c := c) (s := s) xb X t g f i hi
  unfold fastSums
  rw [e]
  exact (h _ 0 _).bind <| (h _ 1 _).bind <| (h _ 2 _).bind <| (h _ 3 _).bind <| (h _ 4 _).bind <| (h _ 5 _).bind <| (h _ 6 _).bind <| (h _ 7 _).bind <| (h _ 8 _).bind <| (h _ 9 _).bind <| (h _ 10 _).bind <| (h _ 11 _).bind <| (h _ 12 _).bind <| (h _ 13 _).bind <| (h _ 14 _).bind <| h _ 15 _

theorem load_v (Vv : VAcc F) {w : BitVec 32} (hw : w.toNat < 64) {k : ℕ} (hk : k + 16 ≤ 128)
    (u : V16 F) :
    VecWindow.put (s := S64x128) Vv (sOff w k) S1x16.size (piece (addf (lanes (F := F) (fun y =>
      Vv ((Rect.unit (s := S64x128) (sOff w k) S1x16.size (sOff_inb hw hk)).toLoadRect.idx y))) u))
      = addAt Vv w k u := by
  funext y
  unfold VecWindow.put addAt
  by_cases h : (y 0).val = w.toNat ∧ k ≤ (y 1).val ∧ (y 1).val < k + 16
  · have h' : ∀ a, sOff w k a ≤ (y a).val ∧ (y a).val < sOff w k a + S1x16.size a := by
      intro a; fin_cases a
      · exact ⟨le_of_eq h.1.symm, by show (y 0).val < w.toNat + 1; omega⟩
      · exact h.2
    rw [dif_pos h, dif_pos h', piece_apply]
    show FloatOps.addf (lanes _ _) _ = _
    rw [lanes_apply]
    congr 1
    · congr 1
      funext a; fin_cases a
      · exact Fin.ext (by show w.toNat + 1 * 0 = (y 0).val; omega)
      · exact Fin.ext (by show k + 1 * ((y 1).val - k) = (y 1).val; omega)
  · have h' : ¬ ∀ a, sOff w k a ≤ (y a).val ∧ (y a).val < sOff w k a + S1x16.size a := by
      intro hh
      have h0 : w.toNat ≤ (y 0).val ∧ (y 0).val < w.toNat + 1 := hh 0
      have h1 : k ≤ (y 1).val ∧ (y 1).val < k + 16 := hh 1
      exact h ⟨by omega, h1⟩
    rw [dif_neg h, dif_neg h']

theorem load_s (Sv : SAcc F) {w : BitVec 32} (hw : w.toNat < 64) (u : V16 F) :
    VecWindow.put (s := S64x16) Sv (sOff w 0) S1x16.size (piece (addf (lanes (F := F) (fun y =>
      Sv ((Rect.unit (s := S64x16) (sOff w 0) S1x16.size (sOff_inb' hw)).toLoadRect.idx y))) u))
      = addS Sv w u := by
  funext y
  unfold VecWindow.put addS
  by_cases h : (y 0).val = w.toNat
  · have h' : ∀ a, sOff w 0 a ≤ (y a).val ∧ (y a).val < sOff w 0 a + S1x16.size a := by
      intro a; fin_cases a
      · exact ⟨le_of_eq h.symm, by show (y 0).val < w.toNat + 1; omega⟩
      · exact ⟨Nat.zero_le _, by show (y 1).val < 0 + 16; have h : (y 1).val < 16 := (y 1).isLt; omega⟩
    rw [if_pos h, dif_pos h', piece_apply]
    show FloatOps.addf (lanes _ _) _ = _
    rw [lanes_apply]
    congr 1
    · congr 1
      funext a; fin_cases a
      · exact Fin.ext (by show w.toNat + 1 * 0 = (y 0).val; omega)
      · exact Fin.ext (by show 0 + 1 * ((y 1).val - 0) = (y 1).val; omega)
  · have h' : ¬ ∀ a, sOff w 0 a ≤ (y a).val ∧ (y a).val < sOff w 0 a + S1x16.size a := by
      intro hh
      have h0 : w.toNat ≤ (y 0).val ∧ (y 0).val < w.toNat + 1 := hh 0
      exact h (by omega)
    rw [if_neg h, dif_neg h']

theorem bumpV_run (Vv : VAcc F) (w : BitVec 32) (hw : w.toNat < 64) (k : ℕ) (hk : k + 16 ≤ 128)
    (u : V16 F) :
    Runs d c s (own d c s va Vv) (bumpV va w hw k hk u) ⟨⟩ (own d c s va (addAt Vv w k u)) := by
  rw [← load_v Vv hw hk u]
  exact (Runs.load va Vv _ _).bind <| (Runs.load va Vv _ _).bind <| Runs.store va Vv _ _ _ _ _ _

theorem bumpS_run (Sv : SAcc F) (w : BitVec 32) (hw : w.toNat < 64) (u : V16 F) :
    Runs d c s (own d c s sa Sv) (bumpS sa w hw u) ⟨⟩ (own d c s sa (addS Sv w u)) := by
  rw [← load_s Sv hw u]
  exact (Runs.load sa Sv _ _).bind <| (Runs.load sa Sv _ _).bind <| Runs.store sa Sv _ _ _ _ _ _

/-- The tile's chunk, its segment numbers and its two accumulators, all held whole. -/
def st (d : Dev nD) (c : Fin τ.nSC) (s : Fin τ.nSub) (X : Chunk F) (B : Segs) (A : VAcc F × SAcc F) :
    sProp (MM F) :=
  iprop(own d c s xb X ∗ own d c s bb B ∗ own d c s va A.1 ∗ own d c s sa A.2)

variable {xb bb va sa}

theorem Runs.onX {α : Type} {p : TileProg F c s α} {v : α} {X : Chunk F}
    (h : Runs d c s (own d c s xb X) p v (own d c s xb X)) (B : Segs) (A : VAcc F × SAcc F) :
    Runs d c s (st xb bb va sa d c s X B A) p v (st xb bb va sa d c s X B A) :=
  h.frame _

theorem Runs.onB {α : Type} {p : TileProg F c s α} {v : α} {B : Segs}
    (h : Runs d c s (own d c s bb B) p v (own d c s bb B)) (X : Chunk F) (A : VAcc F × SAcc F) :
    Runs d c s (st xb bb va sa d c s X B A) p v (st xb bb va sa d c s X B A) := by
  refine (h.frame iprop(own d c s xb X ∗ own d c s va A.1 ∗ own d c s sa A.2)).conseq ?_ ?_
  · unfold st; iintro ⟨Hx, Hb, Hv, Hs⟩; iframe
  · unfold st; iintro ⟨Hb, Hx, Hv, Hs⟩; iframe

theorem Runs.onV {α : Type} {p : TileProg F c s α} {v : α} {V V' : VAcc F}
    (h : Runs d c s (own d c s va V) p v (own d c s va V')) (X : Chunk F) (B : Segs) (S : SAcc F) :
    Runs d c s (st xb bb va sa d c s X B (V, S)) p v (st xb bb va sa d c s X B (V', S)) := by
  refine (h.frame iprop(own d c s xb X ∗ own d c s bb B ∗ own d c s sa S)).conseq ?_ ?_
  · unfold st; iintro ⟨Hx, Hb, Hv, Hs⟩; iframe
  · unfold st; iintro ⟨Hv, Hx, Hb, Hs⟩; iframe

theorem Runs.onS {α : Type} {p : TileProg F c s α} {v : α} {S S' : SAcc F}
    (h : Runs d c s (own d c s sa S) p v (own d c s sa S')) (X : Chunk F) (B : Segs) (V : VAcc F) :
    Runs d c s (st xb bb va sa d c s X B (V, S)) p v (st xb bb va sa d c s X B (V, S')) := by
  refine (h.frame iprop(own d c s xb X ∗ own d c s bb B ∗ own d c s va V)).conseq ?_ ?_
  · unfold st; iintro ⟨Hx, Hb, Hv, Hs⟩; iframe
  · unfold st; iintro ⟨Hs, Hx, Hb, Hv⟩; iframe

theorem slowPiece_run (X : Chunk F) (B : Segs) (V : VAcc F) (S : SAcc F) (t : Fin 15) (i : ℕ)
    (hi : i < 16) (e : V16 F) (w : BitVec 32) (hw : w.toNat < 64) (k : ℕ) (hk : k + 16 ≤ 128) :
    Runs d c s (st xb bb va sa d c s X B (V, S)) (slowPiece xb va t i hi e w hw k hk) ⟨⟩
      (st xb bb va sa d c s X B (addAt V w k (mulf e (xAt X t hi hk)), S)) := by
  rw [← load_v V hw hk]
  exact ((Runs.load va V _ _).onV X B S).bind <| ((ldX_run xb X t i k hi hk).onX B (V, S)).bind <|
    ((Runs.load va V _ _).onV X B S).bind <| (Runs.store va V _ _ _ _ _ _).onV X B S

theorem slowRow_run (C : BitVec 32 → Prop) (dec : ∀ w, Decidable (C w))
    (hC : ∀ w, C w → w.toNat < 64) (hC' : ∀ w, w.toNat < 64 → C w) (X : Chunk F) (B : Segs)
    (A : VAcc F × SAcc F) (t : Fin 15) (g : Fin 16 → F .f32) (b : IVec S16 32) (i : ℕ) (hi : i < 16)
    (hs : S16.Slices ![i] S1) (hw : (b (ix1 ⟨i, hi⟩)).toNat < 64) :
    Runs d c s (st xb bb va sa d c s X B A)
      (slowRow xb va sa C dec hC t i hi (g ⟨i, hi⟩) (lane b i hs)) ⟨⟩
      (st xb bb va sa d c s X B (slowStep X t g b A ⟨i, hi⟩)) := by
  obtain ⟨V, S⟩ := A
  unfold slowStep
  rw [lane_apply b i hi hs, ← addAt_eight]
  have h := fun V k hk => slowPiece_run (d := d) (c := c) (s := s) (xb := xb) (bb := bb) (va := va)
    (sa := sa) X B V S t i hi (gateExp (g ⟨i, hi⟩)) (b (ix1 ⟨i, hi⟩)) hw k hk
  exact (Runs.assume (hC' _ hw)).bind <| (h _ 0 _).bind <| (h _ 16 _).bind <| (h _ 32 _).bind <|
    (h _ 48 _).bind <| (h _ 64 _).bind <| (h _ 80 _).bind <| (h _ 96 _).bind <|
    (h _ 112 _).bind <| (bumpS_run sa S _ hw _).onS X B _

theorem slowGroup_run (C : BitVec 32 → Prop) (dec : ∀ w, Decidable (C w))
    (hC : ∀ w, C w → w.toNat < 64) (hC' : ∀ w, w.toNat < 64 → C w) (X : Chunk F) (B : Segs)
    (A : VAcc F × SAcc F) (t : Fin 15) (g : Fin 16 → F .f32) (b : IVec S16 32)
    (hb : ∀ i, (b (ix1 i)).toNat < 64) :
    Runs d c s (st xb bb va sa d c s X B A) (slowGroup xb va sa C dec hC t g b) ⟨⟩
      (st xb bb va sa d c s X B ((List.finRange 16).foldl (slowStep X t g b) A)) := by
  have h := fun A i hi hs => slowRow_run (d := d) (c := c) (s := s) (xb := xb) (bb := bb) (va := va)
    (sa := sa) C dec hC hC' X B A t g b i hi hs (hb _)
  exact (h _ 0 _ _).bind <| (h _ 1 _ _).bind <| (h _ 2 _ _).bind <| (h _ 3 _ _).bind <| (h _ 4 _ _).bind <| (h _ 5 _ _).bind <| (h _ 6 _ _).bind <| (h _ 7 _ _).bind <| (h _ 8 _ _).bind <| (h _ 9 _ _).bind <| (h _ 10 _ _).bind <| (h _ 11 _ _).bind <| (h _ 12 _ _).bind <| (h _ 13 _ _).bind <| (h _ 14 _ _).bind <| (h _ 15 _ _).bind <| Runs.pure _ _

theorem fastGroup_run (X : Chunk F) (B : Segs) (A : VAcc F × SAcc F) (t : Fin 15) (z : V16 F)
    (g : Fin 16 → F .f32) (w : BitVec 32) (hw : w.toNat < 64) :
    Runs d c s (st xb bb va sa d c s X B A) (fastGroup xb va sa t z g w hw) ⟨⟩
      (st xb bb va sa d c s X B (addRow A.1 w (fastAt X t z g), addS A.2 w (expSum z g))) := by
  obtain ⟨V, S⟩ := A
  rw [← addAt_eight]
  have h := fun V k hk u => (bumpV_run (d := d) (c := c) (s := s) va V w hw k hk u).onV
    (xb := xb) (bb := bb) (sa := sa) X B S
  exact ((fastSums_run xb X t z g).onX B (V, S)).bind <| (h _ 0 _ _).bind <| (h _ 16 _ _).bind <|
    (h _ 32 _ _).bind <| (h _ 48 _ _).bind <| (h _ 64 _ _).bind <| (h _ 80 _ _).bind <|
    (h _ 96 _ _).bind <| (h _ 112 _ _).bind <| ((bumpS_run sa S _ hw _).onS X B _).bind <|
    Runs.pure _ _

theorem load_b (B : Segs) (t : Fin 15) :
    (fun y => B ((Rect.unit (s := S256) (bOff t) S16.size (bOff_inb t)).toLoadRect.idx y))
      = bAt B t := by
  funext y
  unfold bAt
  congr 1
  funext a; fin_cases a
  exact Fin.ext (by
    show (Scalar.indexCast _).toNat + 1 * (y 0).val = 16 * t.val + (y 0).val
    rw [bOff_eq t]; omega)

theorem cond6_iff (lo hi : BitVec 32) : k0_cond6 lo hi = 1#1 ↔ lo = hi := by
  have e : k0_cond6 lo hi = BitVec.ofBool (lo == hi) := by
    show Scalar.cmpi .ne (Scalar.extui (BitVec.ofBool (lo == hi)) : BitVec 32) 0#32 = _
    cases lo == hi <;> decide
  rw [e]
  by_cases h : lo = hi
  · subst h; simp
  · simp [beq_eq_false_iff_ne.2 h, h]

theorem cond7_iff (lo hi : BitVec 32) : k0_cond7 lo hi = 1#1 ↔ lo ≠ hi := by
  have e : k0_cond7 lo hi = BitVec.ofBool (lo != hi) := by
    show Scalar.cmpi .ne (Scalar.extui (BitVec.ofBool (lo != hi)) : BitVec 32) 0#32 = _
    cases lo != hi <;> decide
  rw [e]
  by_cases h : lo = hi
  · subst h; simp
  · simp [bne_iff_ne.2 h, h]

/-- A group's program takes the accumulators to those of the model. -/
theorem group_run (CF : BitVec 32 → BitVec 32 → Prop) (decF : ∀ lo hi, Decidable (CF lo hi))
    (hF : ∀ lo hi, CF lo hi → k0_cond6 lo hi = 1#1 → lo.toNat < 64)
    (CS : BitVec 32 → BitVec 32 → BitVec 32 → Prop) (decS : ∀ lo hi w, Decidable (CS lo hi w))
    (hS : ∀ lo hi, k0_cond7 lo hi = 1#1 → ∀ w, CS lo hi w → w.toNat < 64)
    (hF' : ∀ lo hi, lo.toNat < 64 → CF lo hi) (hS' : ∀ lo hi w, w.toNat < 64 → CS lo hi w)
    (w : Fin 8 → V16 F) (z : V16 F) (X : Chunk F) (B : Segs)
    (hB : ∀ n : Fin 256, n.val < 240 → (B (ix1 n)).toNat < 64) (t : Fin 15) (A : VAcc F × SAcc F) :
    Runs d c s (st xb bb va sa d c s X B A)
      (group xb bb va sa CF decF hF CS decS hS w z t) 0#32
      (st xb bb va sa d c s X B (groupAt w z X B t A)) := by
  have hb : ∀ i, (bAt B t (ix1 i)).toNat < 64 := fun i => hB _ (by
    show 16 * t.val + i.val < 240; omega)
  have hl : lane (bAt B t) 0 slices_S16_o0_S1 = bAt B t (ix1 0) := lane_apply _ 0 (by decide) _
  have hh : lane (bAt B t) 15 slices_S16_o15_S1 = bAt B t (ix1 15) := lane_apply _ 15 (by decide) _
  have hload := (Runs.load (d := d) (c := c) (s := s) (F := F) bb B
    (Rect.unit (s := S256) (bOff t) S16.size (bOff_inb t)).toLoadRect (View.loadsAt_vmem h_S16)).onB
    (xb := xb) (va := va) (sa := sa) X A
  rw [load_b] at hload
  refine hload.bind <| ((gates_run xb X t w).onX B A).bind <|
    (Runs.assume (hF' _ _ (by rw [hl]; exact hb 0))).bind ?_
  by_cases he : bAt B t (ix1 0) = bAt B t (ix1 15)
  · have e : groupAt w z X B t A = (addRow A.1 (lane (bAt B t) 0 slices_S16_o0_S1)
        (fastAt X t z (gatesAt w X t)), addS A.2 (lane (bAt B t) 0 slices_S16_o0_S1)
          (expSum z (gatesAt w X t))) := by
      unfold groupAt; rw [if_pos he, hl]
    rw [e]
    have h6 : k0_cond6 (lane (bAt B t) 0 slices_S16_o0_S1) (lane (bAt B t) 15 slices_S16_o15_S1)
        = 1#1 := (cond6_iff _ _).2 (by rw [hl, hh, he])
    have h7 : ¬ k0_cond7 (lane (bAt B t) 0 slices_S16_o0_S1) (lane (bAt B t) 15 slices_S16_o15_S1)
        = 1#1 := fun h => (cond7_iff _ _).1 h (by rw [hl, hh, he])
    rw [dif_pos h6]
    refine (fastGroup_run X B A t z _ _ _).bind ?_
    rw [dif_neg h7]
    exact Runs.pure _ _
  · have e : groupAt w z X B t A = (List.finRange 16).foldl (slowStep X t (gatesAt w X t)
        (bAt B t)) A := by
      unfold groupAt; rw [if_neg he]
    rw [e]
    have h6 : ¬ k0_cond6 (lane (bAt B t) 0 slices_S16_o0_S1) (lane (bAt B t) 15 slices_S16_o15_S1)
        = 1#1 := fun h => he (by have := (cond6_iff _ _).1 h; rwa [hl, hh] at this)
    have h7 : k0_cond7 (lane (bAt B t) 0 slices_S16_o0_S1) (lane (bAt B t) 15 slices_S16_o15_S1)
        = 1#1 := (cond7_iff _ _).2 (by rw [hl, hh]; exact he)
    rw [dif_neg h6]
    beta_reduce
    rw [dif_pos h7]
    exact (slowGroup_run _ _ _ (hS' _ _) X B A t _ _ hb).bind (Runs.pure _ _)

end Cert.Proof
-- ==== Proof.Chunks.lean ====
module

public import proofs.«01_k».proof.Proof.Dma
public import proofs.«01_k».proof.Proof.GroupRun

/-! A chunk of 240 rows: its two copies in, and its fifteen groups. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]
variable {d : Dev nD} {c : Fin τ.nSC} {s : Fin τ.nSub}

/-! ### The model -/

/-- The rows `r, …, r + 239` of the input. -/
def chunkAt (x : S100000x128.Idx → F .f32) (r : ℕ) : Chunk F := fun y =>
  x (ix2 ⟨(r + (y 0).val) % 100000, Nat.mod_lt _ (by decide)⟩ (y 1))

/-- The segment number of row `r`. -/
def segAt (b : S100000.Idx → BitVec 32) (r : ℕ) : BitVec 32 :=
  b (ix1 ⟨r % 100000, Nat.mod_lt _ (by decide)⟩)

/-- The segment numbers of the rows from `r`. -/
def segsFrom (b : S100000.Idx → BitVec 32) (r : ℕ) : Segs := fun y => segAt b (r + (y 0).val)

/-- The first 240 words are the segment numbers of the rows from `r`. -/
def Agree (b : S100000.Idx → BitVec 32) (r : ℕ) (B : Segs) : Prop :=
  ∀ n : Fin 256, n.val < 240 → B (ix1 n) = segAt b (r + n.val)

/-- The accumulators after the first `n` groups of a chunk. -/
def groupsAt (w : Fin 8 → V16 F) (z : V16 F) (X : Chunk F) (B : Segs) (A : VAcc F × SAcc F) :
    ℕ → VAcc F × SAcc F
  | 0 => A
  | n + 1 => if h : n < 15 then groupAt w z X B ⟨n, h⟩ (groupsAt w z X B A n) else groupsAt w z X B A n

/-- The accumulators after the first `n` chunks of the rows from `r`. -/
def chunksAt (w : Fin 8 → V16 F) (z : V16 F) (x : S100000x128.Idx → F .f32)
    (b : S100000.Idx → BitVec 32) (r : ℕ) (A : VAcc F × SAcc F) : ℕ → VAcc F × SAcc F
  | 0 => A
  | n + 1 => groupsAt w z (chunkAt x (r + n * 240)) (segsFrom b (r + n * 240))
      (chunksAt w z x b r A n) 15

theorem bAt_agree {b : S100000.Idx → BitVec 32} {r : ℕ} {B : Segs} (h : Agree b r B) (t : Fin 15) :
    bAt B t = bAt (segsFrom b r) t := by
  funext l
  have hl : (l 0).val < 16 := (l 0).isLt
  exact h ⟨16 * t + (l 0).val, by omega⟩ (by show 16 * t.val + (l 0).val < 240; omega)

/-- A group uses no more than its own segment numbers. -/
theorem groupAt_agree {b : S100000.Idx → BitVec 32} {r : ℕ} {B : Segs} (h : Agree b r B)
    (w : Fin 8 → V16 F) (z : V16 F) (X : Chunk F) (t : Fin 15) (A : VAcc F × SAcc F) :
    groupAt w z X B t A = groupAt w z X (segsFrom b r) t A := by
  unfold groupAt
  rw [bAt_agree h t]

theorem groupsAt_agree {b : S100000.Idx → BitVec 32} {r : ℕ} {B : Segs} (h : Agree b r B)
    (w : Fin 8 → V16 F) (z : V16 F) (X : Chunk F) (A : VAcc F × SAcc F) (n : ℕ) :
    groupsAt w z X B A n = groupsAt w z X (segsFrom b r) A n := by
  induction n with
  | zero => rfl
  | succ n ih =>
    show (if h : n < 15 then _ else _) = (if h : n < 15 then _ else _)
    rw [ih]
    split
    · exact groupAt_agree h _ _ _ _ _
    · rfl

/-! ### Copies -/

/-- A memref held whole at a share. -/
def ownq {sp : Space} {sh : Shape} {e : EltTy} (d : Dev nD) (c : Fin τ.nSC) (s : Fin τ.nSub)
    (q : PosShare TreeShare) (m : Memref sig .scVector sp sh e) (X : sh.Idx → Elt F e) : sProp (MM F) :=
  m.view.loc (V d c s) ↦[m.view.set]{q} m.view.rep X

/-- Reading a part of a memref that holds `X`. -/
theorem read_part {sp : Space} {sh : Shape} {e : EltTy} (m : Memref sig .scVector sp sh e)
    (r : Rect sh) (hs : ∀ a, r.stride a = 1) (X : sh.Idx → Elt F e) :
    (m.slice r hs).view.read (Elt F) (m.view.rep X) = fun y => X (r.emb y) :=
  funext fun y => congrFun (View.read_rep m.view X) (r.emb y)

/-- A copy of the whole of `dst` from within memory held on `S`. -/
theorem Runs.copy {sp sp' : Space} {sh : Shape} {e : EltTy} (src : Memref sig .scVector sp sh e)
    (dst : Memref sig .scVector sp' sh e) (sm : DmaSem sig) {hsrc : src.view.WordExact}
    {hdst : dst.view.WordExact}
    {hsem : DmaTarget.Typed (nD := nD) (p := .scVector c s) sp (.dma sm) (.here dst)}
    {S : Finset (Idx (src.view.loc (V d c s)))} {q : PosShare TreeShare}
    (fs : Buf (Elt F) (src.view.loc (V d c s))) (Y Z : sh.Idx → Elt F e)
    (hS : src.view.set ⊆ S) (hN : 0 < sh.numel) (hZ : src.view.read (Elt F) fs = Z) :
    Runs d c s iprop((src.view.loc (V d c s) ↦[S]{q} fs) ∗ own d c s dst Y ∗ semVal (V d c s, .dma sm) 0)
      (Prog.lift (.enqueueDma src (.here dst) (.dma sm) hsrc hdst hsem)) ⟨⟩
      (Flight EC (V d c s) (.dma sm) (default : HIx 1) dst.view.dmaCredit
        iprop(own d c s dst Z ∗ (src.view.loc (V d c s) ↦[S]{q} fs))) := by
  refine (Runs.dma src dst sm (hsrc := hsrc) (hdst := hdst) (hsem := hsem) fs (dst.view.rep Y) hS
    (Finset.Subset.refl _) hN).conseq BIBase.Entails.rfl ?_
  refine Flight_mono EC (V d c s) ?_
  iintro ⟨Hd, Hs⟩
  isplitl [Hd]
  · unfold own
    iapply (pointsTo_rep_of_read (V d c s) dst _ fullShare Z ?_) $$ Hd
    rw [View.read_write_univ, hZ]
  · iexact Hs

variable {xm : Memref sig .scVector .hbm S100000x128 .f32} {bm : Memref sig .scVector .hbm S100000 .i32}
variable {xb : Memref sig .scVector .vmem S240x128 .f32} {bb : Memref sig .scVector .vmem S256 .i32}
variable {va : Memref sig .scVector .vmem S64x128 .f32} {sa : Memref sig .scVector .vmem S64x16 .f32}
variable {smx smb : DmaSem sig} {q : PosShare TreeShare}
variable {x : S100000x128.Idx → F .f32} {b : S100000.Idx → BitVec 32}

/-- The first 240 words of a buffer of 256. -/
abbrev firstWords (bb : Memref sig .scVector .vmem S256 .i32) : Memref sig .scVector .vmem S240 .i32 :=
  bb.slice (Rect.unit (s := S256) ![0] S240.size inb_S256_S240_0) (fun _ => rfl)

/-- What a chunk's buffer of segment numbers holds. -/
def segBuf (d : Dev nD) (c : Fin τ.nSC) (s : Fin τ.nSub) (bb : Memref sig .scVector .vmem S256 .i32)
    (b : S100000.Idx → BitVec 32) (r : ℕ) : sProp (MM F) :=
  iprop(∃ B : Segs, ⌜Agree b r B⌝ ∗ own d c s bb B)

/-- The copy of the rows from `r` in flight. -/
def inX (d : Dev nD) (c : Fin τ.nSC) (s : Fin τ.nSub) (q : PosShare TreeShare)
    (xm : Memref sig .scVector .hbm S100000x128 .f32) (xb : Memref sig .scVector .vmem S240x128 .f32)
    (smx : DmaSem sig) (x : S100000x128.Idx → F .f32) (r : ℕ) : sProp (MM F) :=
  Flight EC (V d c s) (.dma smx) (default : HIx 1) xb.view.dmaCredit
    iprop(own d c s xb (chunkAt x r) ∗ ownq d c s q xm x)

/-- The copy of the segment numbers of the rows from `r` in flight. -/
def inB (d : Dev nD) (c : Fin τ.nSC) (s : Fin τ.nSub) (q : PosShare TreeShare)
    (bm : Memref sig .scVector .hbm S100000 .i32) (bb : Memref sig .scVector .vmem S256 .i32)
    (smb : DmaSem sig) (b : S100000.Idx → BitVec 32) (r : ℕ) : sProp (MM F) :=
  Flight EC (V d c s) (.dma smb) (default : HIx 1) (firstWords bb).view.dmaCredit
    iprop(segBuf d c s bb b r ∗ ownq d c s q bm b)

theorem chunk_read {r : ℕ} {off : Fin 2 → ℕ} (hoff : off = ![r, 0]) (hr : r + 240 ≤ 100000)
    (inb : ∀ a, off a + S240x128.size a ≤ S100000x128.size a) (x : S100000x128.Idx → F .f32) :
    (fun y => x ((Rect.unit (s := S100000x128) off S240x128.size inb).emb y)) = chunkAt x r := by
  subst hoff
  funext y
  have hy : (y 0).val < 240 := (y 0).isLt
  unfold chunkAt
  congr 1
  funext a
  fin_cases a
  · exact Fin.ext (by show r + 1 * (y 0).val = (r + (y 0).val) % 100000; omega)
  · exact Fin.ext (by show 0 + 1 * (y 1).val = (y 1).val; omega)

theorem segs_read {r : ℕ} {off : Fin 1 → ℕ} (hoff : off = ![r]) (hr : r + 240 ≤ 100000)
    (inb : ∀ a, off a + S240.size a ≤ S100000.size a) (b : S100000.Idx → BitVec 32) (y : S240.Idx) :
    b ((Rect.unit (s := S100000) off S240.size inb).emb y) = segAt b (r + (y 0).val) := by
  subst hoff
  have hy : (y 0).val < 240 := (y 0).isLt
  unfold segAt
  congr 1
  funext a
  fin_cases a
  exact Fin.ext (by show r + 1 * (y 0).val = (r + (y 0).val) % 100000; omega)

/-- The copy of the rows from `r` is issued. -/
theorem issueX {r : ℕ} {off : Fin 2 → ℕ} (hoff : off = ![r, 0]) (hr : r + 240 ≤ 100000)
    (inb : ∀ a, off a + S240x128.size a ≤ S100000x128.size a)
    (hs : ∀ a, (Rect.unit (s := S100000x128) off S240x128.size inb).stride a = 1)
    {hsrc : (xm.slice (Rect.unit off S240x128.size inb) hs).view.WordExact} {hdst : xb.view.WordExact}
    {hsem : DmaTarget.Typed (nD := nD) (p := .scVector c s) .hbm (.dma smx) (.here xb)} :
    Runs d c s iprop((∃ Y, own d c s xb Y) ∗ ownq d c s q xm x ∗ semVal (V d c s, .dma smx) 0)
      (Prog.lift (.enqueueDma (xm.slice (Rect.unit off S240x128.size inb) hs) (.here xb) (.dma smx)
        hsrc hdst hsem)) ⟨⟩
      (inX d c s q xm xb smx x r) := by
  have hread : (xm.slice (Rect.unit off S240x128.size inb) hs).view.read (Elt F) (xm.view.rep x)
      = chunkAt x r :=
    (read_part xm _ hs x).trans (chunk_read hoff hr inb x)
  intro Q
  unfold inX ownq
  iintro ⟨⟨⟨%Y, HY⟩, Hx, Hv⟩, HQ⟩
  iapply (Runs.copy (d := d) (xm.slice (Rect.unit off S240x128.size inb) hs) xb smx (hsrc := hsrc)
    (hdst := hdst) (hsem := hsem) (S := xm.view.set) (q := q) (xm.view.rep x) Y (chunkAt x r)
    (View.set_slice_subset (v := xm.view) _) (show 0 < S240x128.numel by decide) hread Q)
  isplitr [HQ]
  · isplitl [Hx]; · iexact Hx
    isplitl [HY] <;> iassumption
  · iexact HQ

/-- The copy of the segment numbers of the rows from `r` is issued. -/
theorem issueB {r : ℕ} {off : Fin 1 → ℕ} (hoff : off = ![r]) (hr : r + 240 ≤ 100000)
    (inb : ∀ a, off a + S240.size a ≤ S100000.size a)
    (hs : ∀ a, (Rect.unit (s := S100000) off S240.size inb).stride a = 1)
    {hsrc : (bm.slice (Rect.unit off S240.size inb) hs).view.WordExact}
    {hdst : (firstWords bb).view.WordExact}
    {hsem : DmaTarget.Typed (nD := nD) (p := .scVector c s) .hbm (.dma smb) (.here (firstWords bb))} :
    Runs (F := F) d c s iprop((∃ B, own d c s bb B) ∗ ownq d c s q bm b ∗ semVal (V d c s, .dma smb) 0)
      (Prog.lift (.enqueueDma (bm.slice (Rect.unit off S240.size inb) hs) (.here (firstWords bb))
        (.dma smb) hsrc hdst hsem)) ⟨⟩
      (inB d c s q bm bb smb b r) := by
  refine Runs.conseq (P := iprop(∃ Y, (bm.view.loc (V d c s) ↦[bm.view.set]{q} bm.view.rep b)
    ∗ own d c s bb Y ∗ semVal (V d c s, .dma smb) 0)) (Runs.exists fun Y => ?_) ?_ BIBase.Entails.rfl
  swap
  · unfold ownq
    iintro ⟨⟨%Y, HY⟩, Hx, Hv⟩
    iexists Y
    iframe
  unfold inB
  refine (Runs.dma (F := F) (d := d) (bm.slice (Rect.unit off S240.size inb) hs) (firstWords bb) smb
    (hsrc := hsrc) (hdst := hdst) (hsem := hsem) (S := bm.view.set) (Sd := bb.view.set) (q := q)
    (bm.view.rep b) (bb.view.rep Y) (View.set_slice_subset (v := bm.view) _)
    (View.set_slice_subset (v := bb.view) _) (show 0 < S240.numel by decide)).conseq
      BIBase.Entails.rfl (Flight_mono EC (V d c s) ?_)
  iintro ⟨Hd, Hs⟩
  isplitl [Hd]
  swap; · unfold ownq; iexact Hs
  unfold segBuf own
  iexists (bb.view.read (Elt F) ((firstWords bb).view.write (Elt F) (bb.view.rep Y)
    ((bm.slice (Rect.unit off S240.size inb) hs).view.read (Elt F) (bm.view.rep b)) Finset.univ))
  isplitr
  · ipureintro
    intro n hn
    have e : ix1 n = (Rect.unit (s := S256) ![0] S240.size inb_S256_S240_0).emb
        (ix1 (⟨n.val, hn⟩ : Fin 240)) := by
      funext a; fin_cases a
      exact Fin.ext (by show n.val = 0 + 1 * n.val; omega)
    rw [e]
    refine (View.read_slice_write_emb (v := bb.view) _ _ _ (Finset.mem_univ _)).trans ?_
    refine (congrFun (read_part (F := F) bm _ hs b) _).trans ?_
    exact segs_read hoff hr inb b _
  · iapply (pointsTo_rep_of_read (V d c s) bb _ fullShare _ rfl) $$ Hd

/-! ### The groups of a chunk -/

/-- The fifteen groups of a chunk. -/
theorem groups_run {lp : Scf.Loop 32} (hok : lp.OK) (h15 : lp.trips = 15)
    {body : Fin lp.trips → BitVec 32 → TileProg F c s (BitVec 32)} {w : Fin 8 → V16 F} {z : V16 F}
    {X : Chunk F} {r : ℕ} {A : VAcc F × SAcc F}
    (h : ∀ B, Agree b r B → ∀ t A, Runs d c s (st xb bb va sa d c s X B A) (body t 0#32) 0#32
      (st xb bb va sa d c s X B (groupAt w z X B (Fin.cast h15 t) A))) :
    Runs d c s iprop(own d c s xb X ∗ segBuf d c s bb b r ∗ own d c s va A.1 ∗ own d c s sa A.2)
      (Scf.Loop.for lp hok 0#32 body) 0#32
      iprop(own d c s xb X ∗ segBuf d c s bb b r
        ∗ own d c s va (groupsAt w z X (segsFrom b r) A 15).1
        ∗ own d c s sa (groupsAt w z X (segsFrom b r) A 15).2) := by
  intro Q
  unfold segBuf
  iintro ⟨⟨HX, ⟨%B, %hB, HB⟩, HV, HS⟩, HQ⟩
  have hl := Runs.loop (d := d) (c := c) (s := s) hok body
    (fun n => st xb bb va sa d c s X B (groupsAt w z X B A n)) (fun n => by
      have e : groupsAt w z X B A (n.val + 1)
          = groupAt w z X B (Fin.cast h15 n) (groupsAt w z X B A n.val) := by
        show (if h : n.val < 15 then _ else _) = _
        rw [dif_pos (h15 ▸ n.isLt)]; rfl
      beta_reduce
      rw [e]
      exact h B hB n _)
  rw [h15] at hl
  have e15 := groupsAt_agree hB w z X A 15
  have e0 : groupsAt w z X B A 0 = A := rfl
  rw [e15, e0] at hl
  iapply (hl Q)
  isplitr [HQ]
  · unfold st; iframe
  · unfold st
    iintro ⟨HX, HB, HV, HS⟩
    iapply HQ
    isplitl [HX]; · iexact HX
    isplitl [HB]
    · iexists B
      isplitr; · ipureintro; exact hB
      iexact HB
    isplitl [HV] <;> iassumption

/-! ### One slot of the double buffer -/

/-- A slot with no copy in flight. -/
def idle (d : Dev nD) (c : Fin τ.nSC) (s : Fin τ.nSub) (q : PosShare TreeShare)
    (xm : Memref sig .scVector .hbm S100000x128 .f32) (bm : Memref sig .scVector .hbm S100000 .i32)
    (xb : Memref sig .scVector .vmem S240x128 .f32) (bb : Memref sig .scVector .vmem S256 .i32)
    (smx smb : DmaSem sig) (x : S100000x128.Idx → F .f32) (b : S100000.Idx → BitVec 32) :
    sProp (MM F) :=
  iprop(((∃ Y, own d c s xb Y) ∗ ownq d c s q xm x ∗ semVal (V d c s, .dma smx) 0)
    ∗ ((∃ B, own d c s bb B) ∗ ownq d c s q bm b ∗ semVal (V d c s, .dma smb) 0))

/-- A slot with the rows from `r` in flight. -/
def busy (d : Dev nD) (c : Fin τ.nSC) (s : Fin τ.nSub) (q : PosShare TreeShare)
    (xm : Memref sig .scVector .hbm S100000x128 .f32) (bm : Memref sig .scVector .hbm S100000 .i32)
    (xb : Memref sig .scVector .vmem S240x128 .f32) (bb : Memref sig .scVector .vmem S256 .i32)
    (smx smb : DmaSem sig) (x : S100000x128.Idx → F .f32) (b : S100000.Idx → BitVec 32) (r : ℕ) :
    sProp (MM F) :=
  iprop(inX d c s q xm xb smx x r ∗ inB d c s q bm bb smb b r)

/-- The two accumulators and what the tile owes. -/
def acc (d : Dev nD) (c : Fin τ.nSC) (s : Fin τ.nSub) (va : Memref sig .scVector .vmem S64x128 .f32)
    (sa : Memref sig .scVector .vmem S64x16 .f32) (O : CellTallies nD τ sig (HIx 1))
    (W : Waits sig (HIx 1)) (A : VAcc F × SAcc F) : sProp (MM F) :=
  iprop(own d c s va A.1 ∗ own d c s sa A.2 ∗ duty d c s O W)

variable {O : CellTallies nD τ sig (HIx 1)} {W : Waits sig (HIx 1)}

/-- A slot receives its chunk and folds it into the accumulators. -/
theorem recv_then {α : Type} {srcx : Memref sig .scVector .hbm S240x128 .f32}
    {srcb : Memref sig .scVector .hbm S240 .i32} {h₁ : srcx.view.WordExact} {h₂ : xb.view.WordExact}
    {h₃ : srcb.view.WordExact} {h₄ : (firstWords bb).view.WordExact}
    {lp : TileProg F c s (BitVec 32)} {k : BitVec 32 → TileProg F c s α} {v : α} {r : ℕ}
    {A A' : VAcc F × SAcc F} {R P : sProp (MM F)}
    (hl : Runs d c s iprop(own d c s xb (chunkAt x r) ∗ segBuf d c s bb b r ∗ own d c s va A.1
        ∗ own d c s sa A.2) lp 0#32
      iprop(own d c s xb (chunkAt x r) ∗ segBuf d c s bb b r ∗ own d c s va A'.1 ∗ own d c s sa A'.2))
    (hk : Runs d c s iprop((idle d c s q xm bm xb bb smx smb x b ∗ acc d c s va sa O W A') ∗ R)
      (k 0#32) v P) :
    Runs d c s iprop((busy d c s q xm bm xb bb smx smb x b r ∗ acc d c s va sa O W A) ∗ R)
      (Prog.lift (.waitDma2 smx srcx xb h₁ h₂) >>= fun _ =>
        Prog.lift (.waitDma2 smb srcb (firstWords bb) h₃ h₄) >>= fun _ => lp >>= k) v P := by
  refine Runs.bind (((Runs.wait srcx xb smx (hsrc := h₁) (hdst := h₂) rfl
    iprop(own d c s xb (chunkAt x r) ∗ ownq d c s q xm x) O W).frame
      iprop(inB d c s q bm bb smb b r ∗ own d c s va A.1 ∗ own d c s sa A.2 ∗ R)).conseq
        ?_ BIBase.Entails.rfl) ?_
  · unfold busy acc inX
    iintro ⟨⟨⟨HX, HB⟩, HV, HS, HD⟩, HR⟩
    iframe
  refine Runs.bind (((Runs.wait srcb (firstWords bb) smb (hsrc := h₃) (hdst := h₄) rfl
    iprop(segBuf d c s bb b r ∗ ownq d c s q bm b) O W).frame
      iprop((own d c s xb (chunkAt x r) ∗ ownq d c s q xm x) ∗ semVal (V d c s, .dma smx) 0
        ∗ own d c s va A.1 ∗ own d c s sa A.2 ∗ R)).conseq ?_ BIBase.Entails.rfl) ?_
  · unfold inB
    iintro ⟨⟨HX, Hs, HD⟩, HB, HV, HS, HR⟩
    iframe
  refine Runs.bind ((hl.frame iprop(ownq d c s q bm b ∗ ownq d c s q xm x
    ∗ semVal (V d c s, .dma smx) 0 ∗ semVal (V d c s, .dma smb) 0 ∗ duty d c s O W ∗ R)).conseq
      ?_ ?_) hk
  · iintro ⟨⟨⟨HB, Hb⟩, Hsb, HD⟩, ⟨HX, Hx⟩, Hsx, HV, HS, HR⟩
    iframe
  · unfold idle acc segBuf
    iintro ⟨⟨HX, ⟨%B, %hB, HB⟩, HV, HS⟩, Hb, Hx, Hsx, Hsb, HD, HR⟩
    isplitr [HR]
    swap; · iexact HR
    isplitr [HV HS HD]
    swap; · iframe
    isplitl [HX Hx Hsx]
    · isplitl [HX]; · iexists (chunkAt x r); iexact HX
      iframe
    · isplitl [HB]; · iexists B; iexact HB
      iframe

/-- A slot with no copy in flight issues those of the rows from `r`. -/
theorem send_then {α : Type} {r : ℕ} {off : Fin 2 → ℕ} {off' : Fin 1 → ℕ} (hoff : off = ![r, 0])
    (hoff' : off' = ![r]) (hr : r + 240 ≤ 100000)
    {inb : ∀ a, off a + S240x128.size a ≤ S100000x128.size a}
    {hs : ∀ a, (Rect.unit (s := S100000x128) off S240x128.size inb).stride a = 1}
    {hsrc : (xm.slice (Rect.unit off S240x128.size inb) hs).view.WordExact} {hdst : xb.view.WordExact}
    {hsem : DmaTarget.Typed (nD := nD) (p := .scVector c s) .hbm (.dma smx) (.here xb)}
    {inb' : ∀ a, off' a + S240.size a ≤ S100000.size a}
    {hs' : ∀ a, (Rect.unit (s := S100000) off' S240.size inb').stride a = 1}
    {hsrc' : (bm.slice (Rect.unit off' S240.size inb') hs').view.WordExact}
    {hdst' : (firstWords bb).view.WordExact}
    {hsem' : DmaTarget.Typed (nD := nD) (p := .scVector c s) .hbm (.dma smb) (.here (firstWords bb))}
    {k : TileProg F c s α} {v : α} {A : VAcc F × SAcc F} {R P : sProp (MM F)}
    (hk : Runs d c s iprop((busy d c s q xm bm xb bb smx smb x b r ∗ acc d c s va sa O W A) ∗ R)
      k v P) :
    Runs d c s iprop((idle d c s q xm bm xb bb smx smb x b ∗ acc d c s va sa O W A) ∗ R)
      (Prog.lift (.enqueueDma (xm.slice (Rect.unit off S240x128.size inb) hs) (.here xb) (.dma smx)
        hsrc hdst hsem) >>= fun _ =>
        Prog.lift (.enqueueDma (bm.slice (Rect.unit off' S240.size inb') hs') (.here (firstWords bb))
          (.dma smb) hsrc' hdst' hsem') >>= fun _ => k) v P := by
  refine Runs.bind (((issueX hoff hr inb hs (hsrc := hsrc) (hdst := hdst) (hsem := hsem) (q := q)
    (x := x)).frame iprop(((∃ B, own d c s bb B) ∗ ownq d c s q bm b
      ∗ semVal (V d c s, .dma smb) 0) ∗ acc d c s va sa O W A ∗ R)).conseq ?_ BIBase.Entails.rfl) ?_
  · unfold idle
    iintro ⟨⟨⟨HX, HB⟩, HA⟩, HR⟩
    isplitl [HX]; · iexact HX
    isplitl [HB]; · iexact HB
    iframe
  refine Runs.bind (((issueB hoff' hr inb' hs' (hsrc := hsrc') (hdst := hdst') (hsem := hsem') (q := q)
    (b := b)).frame iprop(inX d c s q xm xb smx x r ∗ acc d c s va sa O W A ∗ R)).conseq ?_ ?_) hk
  · iintro ⟨HX, HB, HA, HR⟩
    isplitl [HB]; · iexact HB
    iframe
  · unfold busy
    iintro ⟨HB, HX, HA, HR⟩
    iframe

end Cert.Proof
-- ==== Proof.GroupEqA.lean ====
module

public import proofs.«01_k».proof.Proof.GroupProg

@[expose] public section

noncomputable section

namespace Cert.Proof

open Idealize.ShloMosaic Idealize.SL.Sem Cert.KernelIdeal Cert.KernelIdeal.Gen

variable {F : FTy → Type} [FloatOps F]

theorem hF0 (t2 : Fin k0_t2_loop.trips) (h : k0_cond1 t2 = 1#1) (lo hi : BitVec 32)
    (hc : k0_chk1 t2 lo hi) (h6 : k0_cond6 lo hi = 1#1) : lo.toNat < 64 :=
  hc.1 h h6 0

theorem hS0 (t2 : Fin k0_t2_loop.trips) (h : k0_cond1 t2 = 1#1) (lo hi : BitVec 32)
    (h7 : k0_cond7 lo hi = 1#1) (w : BitVec 32) (hc : k0_chk2 t2 lo hi w) : w.toNat < 64 :=
  hc.1 h h7 0

set_option maxRecDepth 65536 in
set_option maxHeartbeats 4000000 in
theorem k0_t3_eq (i : grid0.Coords) (arg2 : Memref sig .scVector .hbm S100000x128 .f32) (harg2 : arg2.IsWhole) (arg3 : Memref sig .scVector .hbm S1x128 .f32) (harg3 : arg3.IsWhole) (arg4 : Memref sig .scVector .hbm S100000 .i32) (harg4 : arg4.IsWhole) (arg5 : Memref sig .scVector .hbm S32x64x128 .f32) (harg5 : arg5.IsWhole) (arg6 : Memref sig .scVector .hbm S32x64x16 .f32) (harg6 : arg6.IsWhole) (arg7 : Memref sig .scVector .vmem S240x128 .f32) (harg7 : arg7.IsWhole) (arg8 : Memref sig .scVector .vmem S240x128 .f32) (harg8 : arg8.IsWhole) (arg9 : Memref sig .scVector .vmem S256 .i32) (harg9 : arg9.IsWhole) (arg10 : Memref sig .scVector .vmem S256 .i32) (harg10 : arg10.IsWhole) (arg11 : Memref sig .scVector .vmem S128 .f32) (harg11 : arg11.IsWhole) (arg12 : Memref sig .scVector .vmem S64x128 .f32) (harg12 : arg12.IsWhole) (arg13 : Memref sig .scVector .vmem S64x16 .f32) (harg13 : arg13.IsWhole) (arg14 : DmaSems sig S_) (arg15 : DmaSems sig S_) (arg16 : DmaSems sig S_) (arg17 : DmaSems sig S_) (v32_r0 : DmaSems sig S_) (v32_r1 : DmaSems sig S_) (v32_r2 : DmaSems sig S_) (v2 : BitVec 32) (v3 v4 v5 v6 v7 v8 v9 v10 v11 : V16 F)
    (t2 : Fin k0_t2_loop.trips) (h : k0_cond1 t2 = 1#1) (t : Fin 15) (u : BitVec 32) :
    k0_t3_body i arg2 harg2 arg3 harg3 arg4 harg4 arg5 harg5 arg6 harg6 arg7 harg7 arg8 harg8 arg9 harg9 arg10 harg10 arg11 harg11 arg12 harg12 arg13 harg13 arg14 arg15 arg16 arg17 v32_r0 v32_r1 v32_r2 v2 v3 v4 v5 v6 v7 v8 v9 v10 v11 t2 h t u =
      group arg7 arg9 arg12 arg13 (k0_chk1 t2) (k0_chk1.dec t2) (hF0 t2 h)
        (k0_chk2 t2) (k0_chk2.dec t2) (hS0 t2 h) ![v3, v4, v5, v6, v7, v8, v9, v10] v11 t := rfl

end Cert.Proof
-- ==== Proof.GroupEqB.lean ====
module

public import proofs.«01_k».proof.Proof.GroupProg

@[expose] public section

noncomputable section

namespace Cert.Proof

open Idealize.ShloMosaic Idealize.SL.Sem Cert.KernelIdeal Cert.KernelIdeal.Gen

variable {F : FTy → Type} [FloatOps F]

theorem hF1 (t2 : Fin k0_t2_loop.trips) (h : k0_cond5 t2 = 1#1) (lo hi : BitVec 32)
    (hc : k0_chk18 t2 lo hi) (h6 : k0_cond6 lo hi = 1#1) : lo.toNat < 64 :=
  hc.1 h h6 0

theorem hS1 (t2 : Fin k0_t2_loop.trips) (h : k0_cond5 t2 = 1#1) (lo hi : BitVec 32)
    (h7 : k0_cond7 lo hi = 1#1) (w : BitVec 32) (hc : k0_chk19 t2 lo hi w) : w.toNat < 64 :=
  hc.1 h h7 0

set_option maxRecDepth 65536 in
set_option maxHeartbeats 4000000 in
theorem k0_t4_eq (i : grid0.Coords) (arg2 : Memref sig .scVector .hbm S100000x128 .f32) (harg2 : arg2.IsWhole) (arg3 : Memref sig .scVector .hbm S1x128 .f32) (harg3 : arg3.IsWhole) (arg4 : Memref sig .scVector .hbm S100000 .i32) (harg4 : arg4.IsWhole) (arg5 : Memref sig .scVector .hbm S32x64x128 .f32) (harg5 : arg5.IsWhole) (arg6 : Memref sig .scVector .hbm S32x64x16 .f32) (harg6 : arg6.IsWhole) (arg7 : Memref sig .scVector .vmem S240x128 .f32) (harg7 : arg7.IsWhole) (arg8 : Memref sig .scVector .vmem S240x128 .f32) (harg8 : arg8.IsWhole) (arg9 : Memref sig .scVector .vmem S256 .i32) (harg9 : arg9.IsWhole) (arg10 : Memref sig .scVector .vmem S256 .i32) (harg10 : arg10.IsWhole) (arg11 : Memref sig .scVector .vmem S128 .f32) (harg11 : arg11.IsWhole) (arg12 : Memref sig .scVector .vmem S64x128 .f32) (harg12 : arg12.IsWhole) (arg13 : Memref sig .scVector .vmem S64x16 .f32) (harg13 : arg13.IsWhole) (arg14 : DmaSems sig S_) (arg15 : DmaSems sig S_) (arg16 : DmaSems sig S_) (arg17 : DmaSems sig S_) (v32_r0 : DmaSems sig S_) (v32_r1 : DmaSems sig S_) (v32_r2 : DmaSems sig S_) (v2 : BitVec 32) (v3 v4 v5 v6 v7 v8 v9 v10 v11 : V16 F)
    (t2 : Fin k0_t2_loop.trips) (h : k0_cond5 t2 = 1#1) (t : Fin 15) (u : BitVec 32) :
    k0_t4_body i arg2 harg2 arg3 harg3 arg4 harg4 arg5 harg5 arg6 harg6 arg7 harg7 arg8 harg8 arg9 harg9 arg10 harg10 arg11 harg11 arg12 harg12 arg13 harg13 arg14 arg15 arg16 arg17 v32_r0 v32_r1 v32_r2 v2 v3 v4 v5 v6 v7 v8 v9 v10 v11 t2 h t u =
      group arg8 arg10 arg12 arg13 (k0_chk18 t2) (k0_chk18.dec t2) (hF1 t2 h)
        (k0_chk19 t2) (k0_chk19.dec t2) (hS1 t2 h) ![v3, v4, v5, v6, v7, v8, v9, v10] v11 t := rfl

end Cert.Proof
-- ==== Proof.Pairs.lean ====
module

public import proofs.«01_k».proof.Proof.Chunks
public import proofs.«01_k».proof.Proof.GroupEqA
public import proofs.«01_k».proof.Proof.GroupEqB

/-! A tile's five chunks, double-buffered in two slots. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

/-! ### Where the chunks lie -/

/-- The first row of a tile. -/
def row0 (i : grid0.Coords) : ℕ := ((i 0).val * 16 + (i 1).val) * 1200

theorem row0_le (i : grid0.Coords) : row0 i + 1200 ≤ 38400 := by
  have h0 : (i 0).val < 2 := (i 0).isLt
  have h1 : (i 1).val < 16 := (i 1).isLt
  unfold row0; omega

theorem off10_eq (i : grid0.Coords) :
    k0_off10 i 0#32 = ![row0 i, 0] ∧ k0_off10 i 240#32 = ![row0 i + 240, 0] := by
  unfold k0_off10 row0
  generalize i 0 = a
  generalize i 1 = b
  revert a b
  decide +kernel

theorem off11_eq (i : grid0.Coords) :
    k0_off11 i 0#32 = ![row0 i] ∧ k0_off11 i 240#32 = ![row0 i + 240] := by
  unfold k0_off11 row0
  generalize i 0 = a
  generalize i 1 = b
  revert a b
  decide +kernel

theorem off312_eq (i : grid0.Coords) (t : Fin k0_t2_loop.trips) :
    k0_off312 i t = ![row0 i + (2 * t.val + 2) * 240, 0]
      ∧ k0_off313 i t = ![row0 i + (2 * t.val + 2) * 240] := by
  unfold k0_off312 k0_off313 row0
  generalize i 0 = a
  generalize i 1 = b
  revert a b t
  decide +kernel

theorem off614_eq (i : grid0.Coords) (t : Fin k0_t2_loop.trips) :
    k0_off614 i t = ![row0 i + (2 * t.val + 1 + 2) * 240, 0]
      ∧ k0_off615 i t = ![row0 i + (2 * t.val + 1 + 2) * 240] := by
  unfold k0_off614 k0_off615 row0
  generalize i 0 = a
  generalize i 1 = b
  revert a b t
  decide +kernel

theorem conds (t : Fin k0_t2_loop.trips) :
    (k0_cond1 t = 1#1 ↔ 2 * t.val < 5) ∧ (k0_cond4 t = 1#1 ↔ 2 * t.val + 2 < 5)
      ∧ (k0_cond5 t = 1#1 ↔ 2 * t.val + 1 < 5) ∧ (k0_cond8 t = 1#1 ↔ 2 * t.val + 1 + 2 < 5) := by
  revert t
  decide +kernel

variable (i : grid0.Coords) (arg2 : Memref sig .scVector .hbm S100000x128 .f32)
variable (harg2 : arg2.IsWhole) (arg3 : Memref sig .scVector .hbm S1x128 .f32)
variable (harg3 : arg3.IsWhole) (arg4 : Memref sig .scVector .hbm S100000 .i32)
variable (harg4 : arg4.IsWhole) (arg5 : Memref sig .scVector .hbm S32x64x128 .f32)
variable (harg5 : arg5.IsWhole) (arg6 : Memref sig .scVector .hbm S32x64x16 .f32)
variable (harg6 : arg6.IsWhole) (arg7 : Memref sig .scVector .vmem S240x128 .f32)
variable (harg7 : arg7.IsWhole) (arg8 : Memref sig .scVector .vmem S240x128 .f32)
variable (harg8 : arg8.IsWhole) (arg9 : Memref sig .scVector .vmem S256 .i32)
variable (harg9 : arg9.IsWhole) (arg10 : Memref sig .scVector .vmem S256 .i32)
variable (harg10 : arg10.IsWhole) (arg11 : Memref sig .scVector .vmem S128 .f32)
variable (harg11 : arg11.IsWhole) (arg12 : Memref sig .scVector .vmem S64x128 .f32)
variable (harg12 : arg12.IsWhole) (arg13 : Memref sig .scVector .vmem S64x16 .f32)
variable (harg13 : arg13.IsWhole) (arg14 : DmaSems sig S_) (arg15 : DmaSems sig S_)
variable (arg16 : DmaSems sig S_) (arg17 : DmaSems sig S_) (v32_r0 : DmaSems sig S_)
variable (v32_r1 : DmaSems sig S_) (v32_r2 : DmaSems sig S_)
variable (v2 : BitVec 32) (v3 v4 v5 v6 v7 v8 v9 v10 v11 : V16 F)
variable {d : Dev nD} {x : S100000x128.Idx → F .f32} {b : S100000.Idx → BitVec 32}
variable {O : CellTallies nD τ sig (HIx 1)} {W : Waits sig (HIx 1)} {q₀ q₁ : PosShare TreeShare}

/-- The SparseCore a tile runs on. -/
abbrev coreOf (i : grid0.Coords) : Fin τ.nSC := (i 0).castLE hcore0
/-- The tile's number on it. -/
abbrev tileOf (i : grid0.Coords) : Fin τ.nSub := (i 1).castLE hsub0

theorem agree_lt {r : ℕ} {B : Segs} (hb : ∀ y, (b y).toNat < 64) (h : Agree b r B) :
    ∀ n : Fin 256, n.val < 240 → (B (ix1 n)).toNat < 64 :=
  fun n hn => by rw [h n hn]; exact hb _

/-- The groups of a chunk in the first slot. -/
theorem groupsA_run (hb : ∀ y, (b y).toNat < 64) (r : ℕ) (A : VAcc F × SAcc F)
    (t2 : Fin k0_t2_loop.trips) (h : k0_cond1 t2 = 1#1) :
    Runs d (coreOf i) (tileOf i)
      iprop(own d (coreOf i) (tileOf i) arg7 (chunkAt x r) ∗ segBuf d (coreOf i) (tileOf i) arg9 b r ∗ own d (coreOf i) (tileOf i) arg12 A.1
        ∗ own d (coreOf i) (tileOf i) arg13 A.2)
      (Scf.Loop.for k0_t3_loop (k0_t3_ok t2 h) 0#32 (k0_t3_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 v3 v4 v5 v6 v7 v8 v9 v10 v11 t2 h)) 0#32
      iprop(own d (coreOf i) (tileOf i) arg7 (chunkAt x r) ∗ segBuf d (coreOf i) (tileOf i) arg9 b r
        ∗ own d (coreOf i) (tileOf i) arg12 (groupsAt ![v3, v4, v5, v6, v7, v8, v9, v10] v11 (chunkAt x r) (segsFrom b r) A 15).1
        ∗ own d (coreOf i) (tileOf i) arg13 (groupsAt ![v3, v4, v5, v6, v7, v8, v9, v10] v11 (chunkAt x r) (segsFrom b r) A 15).2) := by
  refine groups_run _ rfl fun B hB t A => ?_
  refine (k0_t3_eq i arg2 harg2 arg3 harg3 arg4 harg4 arg5 harg5 arg6 harg6 arg7 harg7 arg8 harg8 arg9 harg9
    arg10 harg10 arg11 harg11 arg12 harg12 arg13 harg13 arg14 arg15 arg16 arg17 v32_r0 v32_r1
    v32_r2 v2 v3 v4 v5 v6 v7 v8 v9 v10 v11 t2 h t 0#32) ▸ ?_
  exact group_run _ _ _ _ _ _
    (fun lo hi hl => ⟨fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb' hl⟩)
    (fun lo hi w hl => ⟨fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb' hl⟩) _ _ _ _ (agree_lt hb hB) t A

/-- The groups of a chunk in the second slot. -/
theorem groupsB_run (hb : ∀ y, (b y).toNat < 64) (r : ℕ) (A : VAcc F × SAcc F)
    (t2 : Fin k0_t2_loop.trips) (h : k0_cond5 t2 = 1#1) :
    Runs d (coreOf i) (tileOf i)
      iprop(own d (coreOf i) (tileOf i) arg8 (chunkAt x r) ∗ segBuf d (coreOf i) (tileOf i) arg10 b r ∗ own d (coreOf i) (tileOf i) arg12 A.1
        ∗ own d (coreOf i) (tileOf i) arg13 A.2)
      (Scf.Loop.for k0_t4_loop (k0_t4_ok t2 h) 0#32 (k0_t4_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 v3 v4 v5 v6 v7 v8 v9 v10 v11 t2 h)) 0#32
      iprop(own d (coreOf i) (tileOf i) arg8 (chunkAt x r) ∗ segBuf d (coreOf i) (tileOf i) arg10 b r
        ∗ own d (coreOf i) (tileOf i) arg12 (groupsAt ![v3, v4, v5, v6, v7, v8, v9, v10] v11 (chunkAt x r) (segsFrom b r) A 15).1
        ∗ own d (coreOf i) (tileOf i) arg13 (groupsAt ![v3, v4, v5, v6, v7, v8, v9, v10] v11 (chunkAt x r) (segsFrom b r) A 15).2) := by
  refine groups_run _ rfl fun B hB t A => ?_
  refine (k0_t4_eq i arg2 harg2 arg3 harg3 arg4 harg4 arg5 harg5 arg6 harg6 arg7 harg7 arg8 harg8 arg9 harg9
    arg10 harg10 arg11 harg11 arg12 harg12 arg13 harg13 arg14 arg15 arg16 arg17 v32_r0 v32_r1
    v32_r2 v2 v3 v4 v5 v6 v7 v8 v9 v10 v11 t2 h t 0#32) ▸ ?_
  exact group_run _ _ _ _ _ _
    (fun lo hi hl => ⟨fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb' hl⟩)
    (fun lo hi w hl => ⟨fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb hl (by decide), fun _ _ => sOff_inb hl (by decide),
      fun _ _ => sOff_inb' hl⟩) _ _ _ _ (agree_lt hb hB) t A

/-- A slot before chunk `j`: in flight if there is one. -/
def slot (d : Dev nD) (c : Fin τ.nSC) (s : Fin τ.nSub) (q : PosShare TreeShare)
    (xm : Memref sig .scVector .hbm S100000x128 .f32) (bm : Memref sig .scVector .hbm S100000 .i32)
    (xb : Memref sig .scVector .vmem S240x128 .f32) (bb : Memref sig .scVector .vmem S256 .i32)
    (smx smb : DmaSem sig) (x : S100000x128.Idx → F .f32) (b : S100000.Idx → BitVec 32) (r j : ℕ) :
    sProp (MM F) :=
  if j < 5 then busy d c s q xm bm xb bb smx smb x b (r + j * 240)
  else idle d c s q xm bm xb bb smx smb x b

theorem swap₁ (P A R : sProp (MM F)) : iprop((P ∗ A) ∗ R) ⊢ iprop((R ∗ A) ∗ P) := by
  iintro ⟨⟨HP, HA⟩, HR⟩
  iframe

/-- The state before pair `n` of chunks. -/
def pairs (d : Dev nD) (q₀ q₁ : PosShare TreeShare) (i : grid0.Coords)
    (arg2 : Memref sig .scVector .hbm S100000x128 .f32) (arg4 : Memref sig .scVector .hbm S100000 .i32)
    (arg7 arg8 : Memref sig .scVector .vmem S240x128 .f32) (arg9 arg10 : Memref sig .scVector .vmem S256 .i32)
    (arg12 : Memref sig .scVector .vmem S64x128 .f32) (arg13 : Memref sig .scVector .vmem S64x16 .f32)
    (m₁ m₂ m₃ m₄ : DmaSem sig) (x : S100000x128.Idx → F .f32) (b : S100000.Idx → BitVec 32)
    (O : CellTallies nD τ sig (HIx 1)) (W : Waits sig (HIx 1)) (w : Fin 8 → V16 F) (z : V16 F)
    (A : VAcc F × SAcc F) (n : ℕ) : sProp (MM F) :=
  iprop((slot d (coreOf i) (tileOf i) q₀ arg2 arg4 arg7 arg9 m₁ m₃ x b (row0 i) (2 * n)
      ∗ acc d (coreOf i) (tileOf i) arg12 arg13 O W (chunksAt w z x b (row0 i) A (min (2 * n) 5)))
    ∗ slot d (coreOf i) (tileOf i) q₁ arg2 arg4 arg8 arg10 m₂ m₄ x b (row0 i) (2 * n + 1))

/-- One pair of chunks. -/
theorem pair_run (hb : ∀ y, (b y).toNat < 64) (A : VAcc F × SAcc F) (t2 : Fin k0_t2_loop.trips) :
    Runs d (coreOf i) (tileOf i)
      (pairs d q₀ q₁ i arg2 arg4 arg7 arg8 arg9 arg10 arg12 arg13 arg14.sem arg15.sem arg16.sem
        arg17.sem x b O W ![v3, v4, v5, v6, v7, v8, v9, v10] v11 A t2.val)
      (k0_t2_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 v3 v4 v5 v6 v7 v8 v9 v10 v11 t2 0#32) 0#32
      (pairs d q₀ q₁ i arg2 arg4 arg7 arg8 arg9 arg10 arg12 arg13 arg14.sem arg15.sem arg16.sem
        arg17.sem x b O W ![v3, v4, v5, v6, v7, v8, v9, v10] v11 A (t2.val + 1)) := by
  have hr := row0_le i
  have ht : t2.val < 3 := t2.isLt
  obtain ⟨c1, c4, c5, c8⟩ := conds t2
  unfold k0_t2_body
  have h1 : k0_cond1 t2 = 1#1 := c1.2 (by omega)
  rw [dif_pos h1]
  unfold pairs
  rw [show min (2 * t2.val) 5 = 2 * t2.val by omega]
  have on : ∀ {q xb bb m m' j}, j < 5 → slot d (coreOf i) (tileOf i) q arg2 arg4 xb bb m m' x b (row0 i) j
      = busy d (coreOf i) (tileOf i) q arg2 arg4 xb bb m m' x b (row0 i + j * 240) := by
    intros; unfold slot; rw [if_pos (by assumption)]
  have off : ∀ {q xb bb m m' j}, ¬ j < 5 → slot d (coreOf i) (tileOf i) q arg2 arg4 xb bb m m' x b (row0 i) j
      = idle d (coreOf i) (tileOf i) q arg2 arg4 xb bb m m' x b := by
    intros; unfold slot; rw [if_neg (by assumption)]
  rw [on (j := 2 * t2.val) (by omega)]
  refine recv_then (groupsA_run i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 v3 v4 v5 v6 v7 v8 v9 v10 v11 hb _ _ t2 h1) ?_
  by_cases h2 : t2.val < 2
  · have h4 : k0_cond4 t2 = 1#1 := c4.2 (by omega)
    have h5 : k0_cond5 t2 = 1#1 := c5.2 (by omega)
    rw [dif_pos h4]
    refine send_then (off312_eq i t2).1 (off312_eq i t2).2 (by omega) ?_
    rw [on (j := 2 * t2.val + 1) (by omega), on (j := 2 * (t2.val + 1)) (by omega),
      show min (2 * (t2.val + 1)) 5 = 2 * t2.val + 1 + 1 by omega]
    beta_reduce
    rw [dif_pos h5]
    refine Runs.conseq (P := iprop((busy d (coreOf i) (tileOf i) q₁ arg2 arg4 arg8 arg10 arg15.sem
        arg17.sem x b (row0 i + (2 * t2.val + 1) * 240) ∗ acc d (coreOf i) (tileOf i) arg12 arg13 O W
        (chunksAt ![v3, v4, v5, v6, v7, v8, v9, v10] v11 x b (row0 i) A (2 * t2.val + 1)))
      ∗ busy d (coreOf i) (tileOf i) q₀ arg2 arg4 arg7 arg9 arg14.sem arg16.sem x b
        (row0 i + (2 * t2.val + 2) * 240))) ?_
      (swap₁ _ _ _) (BIBase.Entails.rfl (P := iprop((busy d (coreOf i) (tileOf i) q₀ arg2 arg4 arg7 arg9 arg14.sem arg16.sem x b
        (row0 i + (2 * t2.val + 2) * 240) ∗ acc d (coreOf i) (tileOf i) arg12 arg13 O W
        (chunksAt ![v3, v4, v5, v6, v7, v8, v9, v10] v11 x b (row0 i) A (2 * t2.val + 1 + 1)))
        ∗ slot d (coreOf i) (tileOf i) q₁ arg2 arg4 arg8 arg10 arg15.sem arg17.sem x b (row0 i)
          (2 * (t2.val + 1) + 1))))
    refine recv_then (groupsB_run i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 v3 v4 v5 v6 v7 v8 v9 v10 v11 hb _ _ t2 h5) ?_
    by_cases h3 : t2.val < 1
    · have h8 : k0_cond8 t2 = 1#1 := c8.2 (by omega)
      rw [dif_pos h8]
      refine send_then (off614_eq i t2).1 (off614_eq i t2).2 (by omega) ?_
      rw [on (j := 2 * (t2.val + 1) + 1) (by omega)]
      exact (Runs.pure _ _).conseq BIBase.Entails.rfl (swap₁ _ _ _)
    · have h8 : ¬ k0_cond8 t2 = 1#1 := fun h => by have := c8.1 h; omega
      rw [dif_neg h8]
      rw [off (j := 2 * (t2.val + 1) + 1) (by omega)]
      exact (Runs.pure _ _).conseq BIBase.Entails.rfl (swap₁ _ _ _)
  · have h4 : ¬ k0_cond4 t2 = 1#1 := fun h => by have := c4.1 h; omega
    have h5 : ¬ k0_cond5 t2 = 1#1 := fun h => by have := c5.1 h; omega
    rw [dif_neg h4]
    beta_reduce
    rw [dif_neg h5, off (j := 2 * t2.val + 1) (by omega), off (j := 2 * (t2.val + 1)) (by omega),
      off (j := 2 * (t2.val + 1) + 1) (by omega),
      show min (2 * (t2.val + 1)) 5 = 2 * t2.val + 1 by omega]
    exact Runs.pure _ _

end Cert.Proof
-- ==== Proof.Tile.lean ====
module

public import proofs.«01_k».proof.Proof.Pairs

/-! A tile's whole program: it clears its accumulators, folds its 1200 rows into them, and copies them out. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

/-! ### Clearing -/

/-- The float zero. -/
abbrev zeroF : F .f32 := Scalar.ofBits .f32 0x00000000#32

/-- The accumulators all zero. -/
def zeroAcc : VAcc F × SAcc F := (fun _ => zeroF, fun _ => zeroF)

/-- The rows before `t`, and the first `k` pieces of row `t`, cleared. -/
def clr (V : VAcc F) (t k : ℕ) : VAcc F := fun y =>
  if (y 0).val < t ∨ ((y 0).val = t ∧ (y 1).val < 16 * k) then zeroF else V y

/-- The rows before `t` cleared. -/
def clrS (S : SAcc F) (t : ℕ) : SAcc F := fun y => if (y 0).val < t then zeroF else S y

theorem put_clr (V : VAcc F) (t k : ℕ) :
    VecWindow.put (s := S64x128) (clr V t k) ![t, 16 * k] S1x16.size
      (shapeCast S1x16 (k0_pay1125 (F := F)) shapeCasts_S16_S1x16) = clr V t (k + 1) := by
  funext y
  unfold VecWindow.put clr
  by_cases h : (y 0).val = t ∧ 16 * k ≤ (y 1).val ∧ (y 1).val < 16 * k + 16
  · have h' : ∀ a, (![t, 16 * k] : Fin 2 → ℕ) a ≤ (y a).val
        ∧ (y a).val < (![t, 16 * k] : Fin 2 → ℕ) a + S1x16.size a := by
      intro a; fin_cases a
      · exact ⟨le_of_eq h.1.symm, by show (y 0).val < t + 1; omega⟩
      · exact h.2
    rw [dif_pos h', if_pos (by omega)]
    rfl
  · have h' : ¬ ∀ a, (![t, 16 * k] : Fin 2 → ℕ) a ≤ (y a).val
        ∧ (y a).val < (![t, 16 * k] : Fin 2 → ℕ) a + S1x16.size a := by
      intro hh
      have h0 : t ≤ (y 0).val ∧ (y 0).val < t + 1 := hh 0
      have h1 : 16 * k ≤ (y 1).val ∧ (y 1).val < 16 * k + 16 := hh 1
      exact h ⟨by omega, h1⟩
    rw [dif_neg h']
    by_cases h2 : (y 0).val < t ∨ ((y 0).val = t ∧ (y 1).val < 16 * k)
    · rw [if_pos h2, if_pos (by omega)]
    · rw [if_neg h2, if_neg (by omega)]

theorem put_clrS (S : SAcc F) (t : ℕ) :
    VecWindow.put (s := S64x16) (clrS S t) ![t, 0] S1x16.size
      (shapeCast S1x16 (k0_pay1125 (F := F)) shapeCasts_S16_S1x16) = clrS S (t + 1) := by
  funext y
  have hy : (y 1).val < 16 := (y 1).isLt
  unfold VecWindow.put clrS
  by_cases h : (y 0).val = t
  · have h' : ∀ a, (![t, 0] : Fin 2 → ℕ) a ≤ (y a).val
        ∧ (y a).val < (![t, 0] : Fin 2 → ℕ) a + S1x16.size a := by
      intro a; fin_cases a
      · exact ⟨le_of_eq h.symm, by show (y 0).val < t + 1; omega⟩
      · exact ⟨Nat.zero_le _, by show (y 1).val < 0 + 16; omega⟩
    rw [dif_pos h', if_pos (by omega)]
    rfl
  · have h' : ¬ ∀ a, (![t, 0] : Fin 2 → ℕ) a ≤ (y a).val
        ∧ (y a).val < (![t, 0] : Fin 2 → ℕ) a + S1x16.size a := by
      intro hh
      have h0 : t ≤ (y 0).val ∧ (y 0).val < t + 1 := hh 0
      exact h (by omega)
    rw [dif_neg h']
    by_cases h2 : (y 0).val < t
    · rw [if_pos h2, if_pos (by omega)]
    · rw [if_neg h2, if_neg (by omega)]

theorem clr_row (V : VAcc F) (t : ℕ) : clr V t 8 = clr V (t + 1) 0 := by
  funext y
  have hy : (y 1).val < 128 := (y 1).isLt
  unfold clr
  by_cases h : (y 0).val < t + 1
  · rw [if_pos (by omega), if_pos (by omega)]
  · rw [if_neg (by omega), if_neg (by omega)]

theorem clr_zero (V : VAcc F) : clr V 0 0 = V := by
  funext y; unfold clr; rw [if_neg (by omega)]

theorem clr_all (V : VAcc F) : clr V 64 0 = zeroAcc.1 := by
  funext y
  have hy : (y 0).val < 64 := (y 0).isLt
  unfold clr; rw [if_pos (by omega)]; rfl

theorem clrS_zero (S : SAcc F) : clrS S 0 = S := by
  funext y; unfold clrS; rw [if_neg (by omega)]

theorem clrS_all (S : SAcc F) : clrS S 64 = zeroAcc.2 := by
  funext y
  have hy : (y 0).val < 64 := (y 0).isLt
  unfold clrS; rw [if_pos (by omega)]; rfl

theorem clrOffs (t : Fin k0_t1_loop.trips) :
    (k0_off1 t = ![t.val, 16 * 0] ∧ k0_off2 t = ![t.val, 16 * 1] ∧ k0_off3 t = ![t.val, 16 * 2]
      ∧ k0_off4 t = ![t.val, 16 * 3]) ∧ (k0_off5 t = ![t.val, 16 * 4] ∧ k0_off6 t = ![t.val, 16 * 5]
      ∧ k0_off7 t = ![t.val, 16 * 6] ∧ k0_off8 t = ![t.val, 16 * 7]) ∧ k0_off9 t = ![t.val, 0] := by
  revert t
  decide +kernel

variable {d : Dev nD} {c : Fin τ.nSC} {s : Fin τ.nSub}

theorem swap₀ (P R : sProp (MM F)) : iprop(P ∗ R) ⊢ iprop(R ∗ P) := by
  iintro ⟨HP, HR⟩
  iframe

/-- One piece of a row cleared. -/
theorem clrV_run (va : Memref sig .scVector .vmem S64x128 .f32) (V : VAcc F) {t k : ℕ}
    {off : Fin 2 → ℕ} (hoff : off = ![t, 16 * k])
    {inb : ∀ a, off a + S1x16.size a ≤ S64x128.size a}
    {hl : va.view.LoadsAt (Rect.unit (s := S64x128) off S1x16.size inb).toLoadRect}
    {hx : (va.access (Rect.unit (s := S64x128) off S1x16.size inb)).Stores Finset.univ}
    {hm : Finset.univ = Finset.univ ∨ ∀ a, (Rect.unit (s := S64x128) off S1x16.size inb).stride a = 1}
    {α : Type} {p : TileProg F c s α} {v : α} {P R : sProp (MM F)}
    (hp : Runs d c s iprop(own d c s va (clr V t (k + 1)) ∗ R) p v P) :
    Runs d c s iprop(own d c s va (clr V t k) ∗ R)
      (Prog.lift (.load va (Rect.unit (s := S64x128) off S1x16.size inb).toLoadRect hl) >>= fun _ =>
        Prog.lift (.store va (Rect.unit (s := S64x128) off S1x16.size inb)
          (shapeCast S1x16 (k0_pay1125 (F := F)) shapeCasts_S16_S1x16) Finset.univ hx hm) >>= fun _ => p)
      v P := by
  subst hoff
  refine Runs.bind ((Runs.load va _ _ _).frame R) ?_
  refine Runs.bind ((Runs.store va (clr V t k) _ _ _ _ _ _).frame R) ?_
  rw [put_clr]
  exact hp

variable (i : grid0.Coords) (arg2 : Memref sig .scVector .hbm S100000x128 .f32)
variable (harg2 : arg2.IsWhole) (arg3 : Memref sig .scVector .hbm S1x128 .f32)
variable (harg3 : arg3.IsWhole) (arg4 : Memref sig .scVector .hbm S100000 .i32)
variable (harg4 : arg4.IsWhole) (arg5 : Memref sig .scVector .hbm S32x64x128 .f32)
variable (harg5 : arg5.IsWhole) (arg6 : Memref sig .scVector .hbm S32x64x16 .f32)
variable (harg6 : arg6.IsWhole) (arg7 : Memref sig .scVector .vmem S240x128 .f32)
variable (harg7 : arg7.IsWhole) (arg8 : Memref sig .scVector .vmem S240x128 .f32)
variable (harg8 : arg8.IsWhole) (arg9 : Memref sig .scVector .vmem S256 .i32)
variable (harg9 : arg9.IsWhole) (arg10 : Memref sig .scVector .vmem S256 .i32)
variable (harg10 : arg10.IsWhole) (arg11 : Memref sig .scVector .vmem S128 .f32)
variable (harg11 : arg11.IsWhole) (arg12 : Memref sig .scVector .vmem S64x128 .f32)
variable (harg12 : arg12.IsWhole) (arg13 : Memref sig .scVector .vmem S64x16 .f32)
variable (harg13 : arg13.IsWhole) (arg14 : DmaSems sig S_) (arg15 : DmaSems sig S_)
variable (arg16 : DmaSems sig S_) (arg17 : DmaSems sig S_) (v32_r0 : DmaSems sig S_)
variable (v32_r1 : DmaSems sig S_) (v32_r2 : DmaSems sig S_)
variable {x : S100000x128.Idx → F .f32} {b : S100000.Idx → BitVec 32} {wt : S1x128.Idx → F .f32}
variable {O : CellTallies nD τ sig (HIx 1)} {W : Waits sig (HIx 1)} {q₀ q₁ qw : PosShare TreeShare}

/-- One row of each accumulator cleared. -/
theorem clrRow_run (V : VAcc F) (S : SAcc F) (t : Fin k0_t1_loop.trips) :
    Runs d (coreOf i) (tileOf i)
      iprop(own d (coreOf i) (tileOf i) arg12 (clr V t.val 0)
        ∗ own d (coreOf i) (tileOf i) arg13 (clrS S t.val))
      (k0_t1_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 t 0#32) 0#32
      iprop(own d (coreOf i) (tileOf i) arg12 (clr V (t.val + 1) 0)
        ∗ own d (coreOf i) (tileOf i) arg13 (clrS S (t.val + 1))) := by
  obtain ⟨⟨o1, o2, o3, o4⟩, ⟨o5, o6, o7, o8⟩, o9⟩ := clrOffs t
  unfold k0_t1_body
  refine clrV_run arg12 V o1 <| clrV_run arg12 V o2 <| clrV_run arg12 V o3 <| clrV_run arg12 V o4 <|
    clrV_run arg12 V o5 <| clrV_run arg12 V o6 <| clrV_run arg12 V o7 <| clrV_run arg12 V o8 ?_
  rw [clr_row, ← put_clrS, ← o9]
  refine Runs.conseq ?_ (swap₀ _ _) (swap₀ _ _)
  refine Runs.bind ((Runs.load arg13 _ _ _).frame _) ?_
  exact Runs.bind ((Runs.store arg13 (clrS S t.val) _ _ _ _ _ _).frame _) (Runs.pure _ _)

/-- Both accumulators cleared. -/
theorem clear_run (V : VAcc F) (S : SAcc F) :
    Runs d (coreOf i) (tileOf i)
      iprop(own d (coreOf i) (tileOf i) arg12 V ∗ own d (coreOf i) (tileOf i) arg13 S)
      (Scf.Loop.for k0_t1_loop k0_t1_ok 0#32 (k0_t1_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2)) 0#32
      iprop(own d (coreOf i) (tileOf i) arg12 zeroAcc.1 ∗ own d (coreOf i) (tileOf i) arg13 zeroAcc.2) := by
  have h := Runs.loop (d := d) k0_t1_ok (k0_t1_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2)
    (fun n => iprop(own d (coreOf i) (tileOf i) arg12 (clr V n 0)
      ∗ own d (coreOf i) (tileOf i) arg13 (clrS S n))) (clrRow_run i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 V S)
  rw [show k0_t1_loop.trips = 64 from rfl, clr_zero, clrS_zero, clr_all, clrS_all] at h
  exact h

end Cert.Proof
-- ==== Proof.TileRun.lean ====
module

public import proofs.«01_k».proof.Proof.Tile
public import Idealize.ShloMosaic.Lib.Pipeline.Value

/-! A tile's whole program: it clears its accumulators, folds its 1200 rows into them, and copies them out. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

/-! ### The gate's weights -/

/-- The weights as one row. -/
def wRow (wt : S1x128.Idx → F .f32) : S128.Idx → F .f32 := fun y => wt (ix2 0 (y 0))

/-- Sixteen of the weights. -/
def wAt (wt : S1x128.Idx → F .f32) (k : ℕ) (hk : k + 16 ≤ 128) : V16 F := fun l =>
  wt (ix2 0 ⟨k + (l 0).val, by have h : (l 0).val < 16 := (l 0).isLt; omega⟩)

/-- The weights in eight pieces. -/
def wPieces (wt : S1x128.Idx → F .f32) : Fin 8 → V16 F :=
  ![wAt wt 0 (by decide), wAt wt 16 (by decide), wAt wt 32 (by decide), wAt wt 48 (by decide),
    wAt wt 64 (by decide), wAt wt 80 (by decide), wAt wt 96 (by decide), wAt wt 112 (by decide)]

theorem load_w (wt : S1x128.Idx → F .f32) (k : ℕ) (hk : k + 16 ≤ 128)
    (inb : ∀ a, (![k] : Fin 1 → ℕ) a + S16.size a ≤ S128.size a) :
    (fun y => wRow wt ((Rect.unit (s := S128) ![k] S16.size inb).toLoadRect.idx y)) = wAt wt k hk := by
  funext y
  unfold wRow wAt
  congr 1
  funext a
  fin_cases a
  · rfl
  · exact Fin.ext (by show k + 1 * (y 0).val = k + (y 0).val; omega)

/-- The accumulators of a tile at its end. -/
def tileAcc (x : S100000x128.Idx → F .f32) (wt : S1x128.Idx → F .f32) (b : S100000.Idx → BitVec 32)
    (r : ℕ) : VAcc F × SAcc F :=
  chunksAt (wPieces wt) k0_pay1125 x b r zeroAcc 5

/-- The weights as a tile copies them. -/
abbrev wSrc (m : Memref sig .scVector .hbm S1x128 .f32) : Memref sig .scVector .hbm S128 .f32 :=
  (m.slice (Rect.unit (s := S1x128) ![0, 0] S1x128.size inb_S1x128_S1x128_0_0) (fun _ => rfl)).squeeze
    S128 squeezes_S1x128_S128

theorem wSrc_read (m : Memref sig .scVector .hbm S1x128 .f32) (wt : S1x128.Idx → F .f32) :
    (wSrc m).view.read (Elt F) (m.view.rep wt) = wRow wt := by
  have h := Memref.read_squeeze_slice (Val := Elt F) m (Rect.unit (s := S1x128) ![0, 0] S1x128.size
    inb_S1x128_S1x128_0_0) (fun _ => rfl) squeezes_S1x128_S128 (by decide) (m.view.rep wt)
  refine h.trans ?_
  rw [View.readAt_rep]
  funext y
  have e : y = ix1 (y 0) := by funext a; fin_cases a; rfl
  rw [e]
  refine (shapeCast_1a_a_apply (a := 128) _ _ (y 0)).trans ?_
  show wt _ = wt _
  congr 1
  funext a
  fin_cases a
  · rfl
  · exact Fin.ext (by show 0 + 1 * (y 0).val = (y 0).val; omega)

theorem wSrc_sub (m : Memref sig .scVector .hbm S1x128 .f32) : (wSrc m).view.set ⊆ m.view.set := by
  have h : (wSrc m).view.set = (m.view.slice (Rect.unit (s := S1x128) ![0, 0] S1x128.size
    inb_S1x128_S1x128_0_0)).set := View.set_reshape _ _
  rw [h]
  exact View.set_slice_subset m.view _

/-- A tile's block of the weighted sums. -/
abbrev outV (i : grid0.Coords) (m : Memref sig .scVector .hbm S32x64x128 .f32) :
    Memref sig .scVector .hbm S64x128 .f32 :=
  (m.slice (Rect.unit (s := S32x64x128) (k0_off616 i) S1x64x128.size (k0_off616_inb i))
    (fun _ => rfl)).squeeze S64x128 squeezes_S1x64x128_S64x128

/-- A tile's block of the sums of exponentials. -/
abbrev outS (i : grid0.Coords) (m : Memref sig .scVector .hbm S32x64x16 .f32) :
    Memref sig .scVector .hbm S64x16 .f32 :=
  (m.slice (Rect.unit (s := S32x64x16) (k0_off617 i) S1x64x16.size (k0_off617_inb i))
    (fun _ => rfl)).squeeze S64x16 squeezes_S1x64x16_S64x16

variable (i : grid0.Coords) (arg2 : Memref sig .scVector .hbm S100000x128 .f32)
variable (harg2 : arg2.IsWhole) (arg3 : Memref sig .scVector .hbm S1x128 .f32)
variable (harg3 : arg3.IsWhole) (arg4 : Memref sig .scVector .hbm S100000 .i32)
variable (harg4 : arg4.IsWhole) (arg5 : Memref sig .scVector .hbm S32x64x128 .f32)
variable (harg5 : arg5.IsWhole) (arg6 : Memref sig .scVector .hbm S32x64x16 .f32)
variable (harg6 : arg6.IsWhole) (arg7 : Memref sig .scVector .vmem S240x128 .f32)
variable (harg7 : arg7.IsWhole) (arg8 : Memref sig .scVector .vmem S240x128 .f32)
variable (harg8 : arg8.IsWhole) (arg9 : Memref sig .scVector .vmem S256 .i32)
variable (harg9 : arg9.IsWhole) (arg10 : Memref sig .scVector .vmem S256 .i32)
variable (harg10 : arg10.IsWhole) (arg11 : Memref sig .scVector .vmem S128 .f32)
variable (harg11 : arg11.IsWhole) (arg12 : Memref sig .scVector .vmem S64x128 .f32)
variable (harg12 : arg12.IsWhole) (arg13 : Memref sig .scVector .vmem S64x16 .f32)
variable (harg13 : arg13.IsWhole) (arg14 : DmaSems sig S_) (arg15 : DmaSems sig S_)
variable (arg16 : DmaSems sig S_) (arg17 : DmaSems sig S_) (v32_r0 : DmaSems sig S_)
variable (v32_r1 : DmaSems sig S_) (v32_r2 : DmaSems sig S_)
variable (v2 : BitVec 32) {d : Dev nD} {x : S100000x128.Idx → F .f32} {b : S100000.Idx → BitVec 32}
variable {wt : S1x128.Idx → F .f32}
variable {O : CellTallies nD τ sig (HIx 1)} {W : Waits sig (HIx 1)} {q₀ q₁ qw : PosShare TreeShare}

/-- The first slot with its rows in flight and its segment numbers not yet. -/
def half (d : Dev nD) (q : PosShare TreeShare) (i : grid0.Coords)
    (xm : Memref sig .scVector .hbm S100000x128 .f32) (bm : Memref sig .scVector .hbm S100000 .i32)
    (xb : Memref sig .scVector .vmem S240x128 .f32) (bb : Memref sig .scVector .vmem S256 .i32)
    (smx smb : DmaSem sig) (x : S100000x128.Idx → F .f32) (b : S100000.Idx → BitVec 32) :
    sProp (MM F) :=
  iprop(inX d (coreOf i) (tileOf i) q xm xb smx x (row0 i)
    ∗ ((∃ B, own d (coreOf i) (tileOf i) bb B) ∗ ownq d (coreOf i) (tileOf i) q bm b
      ∗ semVal (V d (coreOf i) (tileOf i), .dma smb) 0))

/-- The weights' buffer and their source. -/
def wts (d : Dev nD) (q : PosShare TreeShare) (i : grid0.Coords)
    (wm : Memref sig .scVector .hbm S1x128 .f32) (wb : Memref sig .scVector .vmem S128 .f32)
    (sm : DmaSem sig) (wt : S1x128.Idx → F .f32) (Y : S128.Idx → F .f32) : sProp (MM F) :=
  iprop(ownq d (coreOf i) (tileOf i) q wm wt ∗ own d (coreOf i) (tileOf i) wb Y
    ∗ semVal (V d (coreOf i) (tileOf i), .dma sm) 0)

/-- The first part: the weights loaded, the accumulators cleared, and the first rows asked for. -/
theorem part179_run (Y : S128.Idx → F .f32) (V : VAcc F) (S : SAcc F) :
    Runs d (coreOf i) (tileOf i)
      iprop(wts d qw i arg3 arg11 v32_r0.sem wt Y
        ∗ acc d (coreOf i) (tileOf i) arg12 arg13 O W (V, S)
        ∗ idle d (coreOf i) (tileOf i) q₀ arg2 arg4 arg7 arg9 arg14.sem arg16.sem x b)
      (k0_part179 (F := F) i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2)
      ⟨Scalar.muli (Scalar.addi (Scalar.muli (BitVec.ofNat 32 (i 0).val) 16#32) (BitVec.ofNat 32 (i 1).val))
        1200#32, wAt wt 0 (by decide), wAt wt 16 (by decide), wAt wt 32 (by decide), wAt wt 48 (by decide),
        wAt wt 64 (by decide), wAt wt 80 (by decide), wAt wt 96 (by decide), wAt wt 112 (by decide),
        k0_pay1125⟩
      iprop(wts d qw i arg3 arg11 v32_r0.sem wt (wRow wt)
        ∗ acc d (coreOf i) (tileOf i) arg12 arg13 O W zeroAcc
        ∗ half d q₀ i arg2 arg4 arg7 arg9 arg14.sem arg16.sem x b) := by
  rw [k0_part179_eq_skeleton]
  unfold k0_part179_skel
  have hc := Runs.copy (d := d) (c := coreOf i) (s := tileOf i) (wSrc arg3) arg11 v32_r0.sem
    (hsrc := (View.wordExact_bits rfl).reshape _ _) (hdst := harg11.wordExact)
    (hsem := ⟨Or.inl rfl, trivial⟩) (S := arg3.view.set) (q := qw) (arg3.view.rep wt) Y (wRow wt)
    (wSrc_sub arg3)
    (by decide) (wSrc_read arg3 wt)
  refine Runs.bind ((hc.frame iprop(acc d (coreOf i) (tileOf i) arg12 arg13 O W (V, S)
    ∗ idle d (coreOf i) (tileOf i) q₀ arg2 arg4 arg7 arg9 arg14.sem arg16.sem x b)).conseq ?_
      BIBase.Entails.rfl) ?_
  · unfold wts ownq
    iintro ⟨⟨H1, H2, H3⟩, H4, H5⟩
    iframe
  have hw := Runs.wait (d := d) (c := coreOf i) (s := tileOf i) (wSrc arg3) arg11 v32_r0.sem
    (hsrc := (View.wordExact_bits rfl).reshape _ _) (hdst := harg11.wordExact) rfl
    iprop(own d (coreOf i) (tileOf i) arg11 (wRow wt)
      ∗ ((wSrc arg3).view.loc (Idealize.ShloMosaic.SparseCore.V d (coreOf i) (tileOf i))
        ↦[arg3.view.set]{qw} arg3.view.rep wt)) O W
  refine Runs.bind ((hw.frame iprop(own d (coreOf i) (tileOf i) arg12 V
    ∗ own d (coreOf i) (tileOf i) arg13 S
    ∗ idle d (coreOf i) (tileOf i) q₀ arg2 arg4 arg7 arg9 arg14.sem arg16.sem x b)).conseq ?_ ?_
      (R' := iprop(own d (coreOf i) (tileOf i) arg11 (wRow wt)
        ∗ (ownq d (coreOf i) (tileOf i) qw arg3 wt
          ∗ semVal (Idealize.ShloMosaic.SparseCore.V d (coreOf i) (tileOf i), .dma v32_r0.sem) 0
          ∗ acc d (coreOf i) (tileOf i) arg12 arg13 O W (V, S)
          ∗ idle d (coreOf i) (tileOf i) q₀ arg2 arg4 arg7 arg9 arg14.sem arg16.sem x b)))) ?_
  · unfold acc
    iintro ⟨H1, ⟨H2, H3, H4⟩, H5⟩
    iframe
  · unfold acc ownq
    iintro ⟨⟨⟨H1, H2⟩, H3, H4⟩, H5, H6, H7⟩
    iframe
  have ld : ∀ (k : ℕ) (hk : k + 16 ≤ 128) (inb : ∀ a, (![k] : Fin 1 → ℕ) a + S16.size a ≤ S128.size a) R,
      Runs d (coreOf i) (tileOf i) iprop(own d (coreOf i) (tileOf i) arg11 (wRow wt) ∗ R)
        (Prog.lift (.load arg11 (Rect.unit (s := S128) ![k] S16.size inb).toLoadRect
          (View.loadsAt_vmem h_S16))) (wAt wt k hk)
        iprop(own d (coreOf i) (tileOf i) arg11 (wRow wt) ∗ R) := by
    intro k hk inb R
    rw [← load_w wt k hk inb]
    exact (Runs.load arg11 (wRow wt) _ _).frame R
  refine (ld 0 (by decide) _ _).bind <| (ld 16 (by decide) _ _).bind <| (ld 32 (by decide) _ _).bind <|
    (ld 48 (by decide) _ _).bind <| (ld 64 (by decide) _ _).bind <| (ld 80 (by decide) _ _).bind <|
    (ld 96 (by decide) _ _).bind <| (ld 112 (by decide) _ _).bind ?_
  refine Runs.bind (((clear_run i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 V S).frame
    iprop(duty d (coreOf i) (tileOf i) O W ∗ wts d qw i arg3 arg11 v32_r0.sem wt (wRow wt)
      ∗ idle d (coreOf i) (tileOf i) q₀ arg2 arg4 arg7 arg9 arg14.sem arg16.sem x b)).conseq ?_
        BIBase.Entails.rfl) ?_
  · unfold acc wts
    iintro ⟨H1, H2, H3, ⟨H4, H5, H6⟩, H7⟩
    iframe
  have hr := row0_le i
  refine Runs.bind (((issueX (q := q₀) (xm := arg2) (xb := arg7) (smx := arg14.sem) (x := x) (off10_eq i).1
    (by omega) (k0_off10_inb i 0) (fun _ => rfl)).frame
    iprop(((∃ B, own d (coreOf i) (tileOf i) arg9 B) ∗ ownq d (coreOf i) (tileOf i) q₀ arg4 b
      ∗ semVal (Idealize.ShloMosaic.SparseCore.V d (coreOf i) (tileOf i), .dma arg16.sem) 0)
      ∗ acc d (coreOf i) (tileOf i) arg12 arg13 O W zeroAcc
      ∗ wts d qw i arg3 arg11 v32_r0.sem wt (wRow wt))).conseq ?_ ?_) (Runs.pure _ _)
  · unfold acc idle
    iintro ⟨⟨H1, H2⟩, H3, H4, H5, H6⟩
    isplitl [H5]; · iexact H5
    isplitl [H6]; · iexact H6
    iframe
  · unfold half
    iintro ⟨H1, H2, H3, H4⟩
    isplitl [H4]; · iexact H4
    isplitl [H3]; · iexact H3
    isplitl [H1]; · iexact H1
    iexact H2

/-- A tile's block of a result and the semaphore of its copy. -/
def block {sh : Shape} (d : Dev nD) (i : grid0.Coords) (m : Memref sig .scVector .hbm sh .f32)
    (sm : DmaSem sig) (Y : sh.Idx → F .f32) : sProp (MM F) :=
  iprop(own d (coreOf i) (tileOf i) m Y ∗ semVal (V d (coreOf i) (tileOf i), .dma sm) 0)

/-- An accumulator copied out. -/
theorem flush_then {sh : Shape} {α : Type} (src : Memref sig .scVector .vmem sh .f32)
    (dst : Memref sig .scVector .hbm sh .f32) (sm : DmaSem sig)
    {h₁ : src.view.WordExact} {h₂ : dst.view.WordExact} {h₃ : src.view.WordExact}
    {h₄ : dst.view.WordExact}
    {hsem : DmaTarget.Typed (nD := nD) (p := .scVector (coreOf i) (tileOf i)) .vmem (.dma sm) (.here dst)}
    (hN : 0 < sh.numel) {X Y : sh.Idx → F .f32} {R P : sProp (MM F)}
    {k : TileProg F (coreOf i) (tileOf i) α} {v : α}
    (hk : Runs d (coreOf i) (tileOf i) iprop(own d (coreOf i) (tileOf i) src X
      ∗ block d i dst sm X ∗ duty d (coreOf i) (tileOf i) O W ∗ R) k v P) :
    Runs d (coreOf i) (tileOf i) iprop(own d (coreOf i) (tileOf i) src X
      ∗ block d i dst sm Y ∗ duty d (coreOf i) (tileOf i) O W ∗ R)
      (Prog.lift (.enqueueDma src (.here dst) (.dma sm) h₁ h₂ hsem) >>= fun _ =>
        Prog.lift (.waitDma2 sm src dst h₃ h₄) >>= fun _ => k) v P := by
  have hc := Runs.copy (d := d) (c := coreOf i) (s := tileOf i) src dst sm (hsrc := h₁) (hdst := h₂)
    (hsem := hsem) (S := src.view.set) (q := fullShare) (src.view.rep X) Y X (Finset.Subset.refl _) hN
    (View.read_rep (Val := Elt F) src.view X)
  refine Runs.bind ((hc.frame iprop(duty d (coreOf i) (tileOf i) O W ∗ R)).conseq ?_
    BIBase.Entails.rfl) ?_
  · unfold block own
    iintro ⟨H1, ⟨H2, H3⟩, H4, H5⟩
    iframe
  have hw := Runs.wait (d := d) (c := coreOf i) (s := tileOf i) src dst sm (hsrc := h₃) (hdst := h₄) rfl
    iprop(own d (coreOf i) (tileOf i) dst X
      ∗ (src.view.loc (Idealize.ShloMosaic.SparseCore.V d (coreOf i) (tileOf i))
        ↦[src.view.set]{fullShare} src.view.rep X)) O W
  refine Runs.bind ((hw.frame R).conseq ?_ ?_) hk
  · iintro ⟨H1, H2, H3⟩
    iframe
  · unfold block own
    iintro ⟨⟨⟨H1, H2⟩, H3, H4⟩, H5⟩
    iframe

/-- The second part: the other copies in, the five chunks, and the accumulators copied out. -/
theorem part180_run (hb : ∀ y, (b y).toNat < 64) (YV : VAcc F) (YS : SAcc F) :
    Runs d (coreOf i) (tileOf i)
      iprop(half d q₀ i arg2 arg4 arg7 arg9 arg14.sem arg16.sem x b
        ∗ idle d (coreOf i) (tileOf i) q₁ arg2 arg4 arg8 arg10 arg15.sem arg17.sem x b
        ∗ acc d (coreOf i) (tileOf i) arg12 arg13 O W zeroAcc
        ∗ block d i (outV i arg5) v32_r1.sem YV ∗ block d i (outS i arg6) v32_r2.sem YS)
      (k0_part180 (F := F) i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 (wAt wt 0 (by decide)) (wAt wt 16 (by decide))
        (wAt wt 32 (by decide)) (wAt wt 48 (by decide)) (wAt wt 64 (by decide)) (wAt wt 80 (by decide))
        (wAt wt 96 (by decide)) (wAt wt 112 (by decide)) k0_pay1125) ⟨⟩
      iprop(idle d (coreOf i) (tileOf i) q₀ arg2 arg4 arg7 arg9 arg14.sem arg16.sem x b
        ∗ idle d (coreOf i) (tileOf i) q₁ arg2 arg4 arg8 arg10 arg15.sem arg17.sem x b
        ∗ acc d (coreOf i) (tileOf i) arg12 arg13 O W (tileAcc x wt b (row0 i))
        ∗ block d i (outV i arg5) v32_r1.sem (tileAcc x wt b (row0 i)).1
        ∗ block d i (outS i arg6) v32_r2.sem (tileAcc x wt b (row0 i)).2) := by
  rw [k0_part180_eq_skeleton]
  unfold k0_part180_skel
  have hr := row0_le i
  have hB := issueB (F := F) (d := d) (c := coreOf i) (s := tileOf i) (q := q₀) (bm := arg4) (bb := arg9)
    (smb := arg16.sem) (b := b) (off11_eq i).1 (by omega) (k0_off11_inb i 0) (fun _ => rfl)
    (hsrc := View.wordExact_bits rfl) (hdst := View.wordExact_bits rfl) (hsem := ⟨Or.inl rfl, trivial⟩)
  refine Runs.bind ((hB.frame iprop((acc d (coreOf i) (tileOf i) arg12 arg13 O W zeroAcc
      ∗ block d i (outV i arg5) v32_r1.sem YV ∗ block d i (outS i arg6) v32_r2.sem YS
      ∗ inX d (coreOf i) (tileOf i) q₀ arg2 arg7 arg14.sem x (row0 i))
    ∗ idle d (coreOf i) (tileOf i) q₁ arg2 arg4 arg8 arg10 arg15.sem arg17.sem x b)).conseq ?_ ?_
    (R' := iprop((idle d (coreOf i) (tileOf i) q₁ arg2 arg4 arg8 arg10 arg15.sem arg17.sem x b
      ∗ acc d (coreOf i) (tileOf i) arg12 arg13 O W zeroAcc)
      ∗ busy d (coreOf i) (tileOf i) q₀ arg2 arg4 arg7 arg9 arg14.sem arg16.sem x b (row0 i)
      ∗ block d i (outV i arg5) v32_r1.sem YV ∗ block d i (outS i arg6) v32_r2.sem YS))) ?_
  · unfold half
    iintro ⟨⟨H1, H2⟩, H3, H4, H5, H6⟩
    isplitl [H2]; · iexact H2
    iframe
  · unfold busy
    iintro ⟨H1, ⟨H2, H3, H4, H5⟩, H6⟩
    iframe
  refine send_then (off10_eq i).2 (off11_eq i).2 (by omega) ?_
  have hp := Runs.loop (d := d) k0_t2_ok (k0_t2_body i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 (wAt wt 0 (by decide)) (wAt wt 16 (by decide))
        (wAt wt 32 (by decide)) (wAt wt 48 (by decide)) (wAt wt 64 (by decide)) (wAt wt 80 (by decide))
        (wAt wt 96 (by decide)) (wAt wt 112 (by decide)) k0_pay1125)
    (pairs d q₀ q₁ i arg2 arg4 arg7 arg8 arg9 arg10 arg12 arg13 arg14.sem arg15.sem arg16.sem
      arg17.sem x b O W (wPieces wt) k0_pay1125 zeroAcc)
    (pair_run i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 v2 _ _ _ _ _ _ _ _ _ hb zeroAcc)
  have e0 : pairs (F := F) d q₀ q₁ i arg2 arg4 arg7 arg8 arg9 arg10 arg12 arg13 arg14.sem arg15.sem arg16.sem
      arg17.sem x b O W (wPieces wt) k0_pay1125 zeroAcc 0
      = iprop((busy d (coreOf i) (tileOf i) q₀ arg2 arg4 arg7 arg9 arg14.sem arg16.sem x b (row0 i)
        ∗ acc d (coreOf i) (tileOf i) arg12 arg13 O W zeroAcc)
        ∗ busy d (coreOf i) (tileOf i) q₁ arg2 arg4 arg8 arg10 arg15.sem arg17.sem x b (row0 i + 240)) := by
    unfold pairs slot
    rw [if_pos (by decide), if_pos (by decide), show row0 i + 2 * 0 * 240 = row0 i by omega,
      show row0 i + (2 * 0 + 1) * 240 = row0 i + 240 by omega]
    rfl
  have e3 : pairs (F := F) d q₀ q₁ i arg2 arg4 arg7 arg8 arg9 arg10 arg12 arg13 arg14.sem arg15.sem arg16.sem
      arg17.sem x b O W (wPieces wt) k0_pay1125 zeroAcc k0_t2_loop.trips
      = iprop((idle d (coreOf i) (tileOf i) q₀ arg2 arg4 arg7 arg9 arg14.sem arg16.sem x b
        ∗ acc d (coreOf i) (tileOf i) arg12 arg13 O W (tileAcc x wt b (row0 i)))
        ∗ idle d (coreOf i) (tileOf i) q₁ arg2 arg4 arg8 arg10 arg15.sem arg17.sem x b) := by
    rw [show k0_t2_loop.trips = 3 from rfl]
    unfold pairs slot
    rw [if_neg (by decide), if_neg (by decide)]
    rfl
  rw [e0, e3] at hp
  refine Runs.bind ((hp.frame iprop(block d i (outV i arg5) v32_r1.sem YV
    ∗ block d i (outS i arg6) v32_r2.sem YS)).conseq ?_ ?_
    (R' := iprop(own d (coreOf i) (tileOf i) arg12 (tileAcc x wt b (row0 i)).1
      ∗ block d i (outV i arg5) v32_r1.sem YV ∗ duty d (coreOf i) (tileOf i) O W
      ∗ own d (coreOf i) (tileOf i) arg13 (tileAcc x wt b (row0 i)).2
      ∗ block d i (outS i arg6) v32_r2.sem YS
      ∗ idle d (coreOf i) (tileOf i) q₀ arg2 arg4 arg7 arg9 arg14.sem arg16.sem x b
      ∗ idle d (coreOf i) (tileOf i) q₁ arg2 arg4 arg8 arg10 arg15.sem arg17.sem x b))) ?_
  · iintro ⟨⟨H1, H2⟩, H3, H4, H5⟩
    iframe
  · unfold acc
    iintro ⟨⟨⟨H1, H2, H3, H4⟩, H5⟩, H6, H7⟩
    iframe
  refine flush_then i arg12 (outV i arg5) v32_r1.sem (by decide) ?_
  refine Runs.conseq (P := iprop(own d (coreOf i) (tileOf i) arg13 (tileAcc x wt b (row0 i)).2
      ∗ block d i (outS i arg6) v32_r2.sem YS ∗ duty d (coreOf i) (tileOf i) O W
      ∗ own d (coreOf i) (tileOf i) arg12 (tileAcc x wt b (row0 i)).1
      ∗ block d i (outV i arg5) v32_r1.sem (tileAcc x wt b (row0 i)).1
      ∗ idle d (coreOf i) (tileOf i) q₀ arg2 arg4 arg7 arg9 arg14.sem arg16.sem x b
      ∗ idle d (coreOf i) (tileOf i) q₁ arg2 arg4 arg8 arg10 arg15.sem arg17.sem x b))
    (flush_then i arg13 (outS i arg6) v32_r2.sem (by decide) (Runs.pure _ _)) ?_ ?_
  · iintro ⟨H1, H2, H3, H4, H5, H6, H7⟩
    iframe
  · unfold acc
    iintro ⟨H1, H2, H3, H4, H5, H6, H7⟩
    iframe

/-- The tile's whole program. -/
theorem tile_run (hb : ∀ y, (b y).toNat < 64) (Y : S128.Idx → F .f32) (V₀ YV : VAcc F)
    (S₀ YS : SAcc F) :
    Runs d (coreOf i) (tileOf i)
      iprop(wts d qw i arg3 arg11 v32_r0.sem wt Y
        ∗ acc d (coreOf i) (tileOf i) arg12 arg13 O W (V₀, S₀)
        ∗ idle d (coreOf i) (tileOf i) q₀ arg2 arg4 arg7 arg9 arg14.sem arg16.sem x b
        ∗ idle d (coreOf i) (tileOf i) q₁ arg2 arg4 arg8 arg10 arg15.sem arg17.sem x b
        ∗ block d i (outV i arg5) v32_r1.sem YV ∗ block d i (outS i arg6) v32_r2.sem YS)
      (cc0__sc_partials (F := F) i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2) ⟨⟩
      iprop(wts d qw i arg3 arg11 v32_r0.sem wt (wRow wt)
        ∗ idle d (coreOf i) (tileOf i) q₀ arg2 arg4 arg7 arg9 arg14.sem arg16.sem x b
        ∗ idle d (coreOf i) (tileOf i) q₁ arg2 arg4 arg8 arg10 arg15.sem arg17.sem x b
        ∗ acc d (coreOf i) (tileOf i) arg12 arg13 O W (tileAcc x wt b (row0 i))
        ∗ block d i (outV i arg5) v32_r1.sem (tileAcc x wt b (row0 i)).1
        ∗ block d i (outS i arg6) v32_r2.sem (tileAcc x wt b (row0 i)).2) := by
  rw [cc0__sc_partials_eq_skeleton]
  unfold cc0__sc_partials_skel
  refine Runs.bind (((part179_run (d := d) (x := x) (b := b) (wt := wt) (O := O) (W := W) (q₀ := q₀) (qw := qw) i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 Y V₀ S₀).frame
    iprop(idle d (coreOf i) (tileOf i) q₁ arg2 arg4 arg8 arg10 arg15.sem arg17.sem x b
        ∗ block d i (outV i arg5) v32_r1.sem YV ∗ block d i (outS i arg6) v32_r2.sem YS)).conseq ?_
      BIBase.Entails.rfl) ?_
  · iintro ⟨H1, H2, H3, H4, H5, H6⟩
    iframe
  refine Runs.bind (((part180_run (d := d) (x := x) (b := b) (wt := wt) (O := O) (W := W) (q₀ := q₀) (q₁ := q₁) i arg2 harg2 arg3 harg3 arg4 harg4 arg5 harg5 arg6 harg6 arg7 harg7 arg8 harg8 arg9 harg9
        arg10 harg10 arg11 harg11 arg12 harg12 arg13 harg13 arg14 arg15 arg16 arg17 v32_r0 v32_r1
        v32_r2 _ hb YV YS).frame
    iprop(wts d qw i arg3 arg11 v32_r0.sem wt (wRow wt))).conseq ?_ ?_) (Runs.pure _ _)
  · iintro ⟨⟨H1, H2, H3⟩, H4, H5, H6⟩
    iframe
  · iintro ⟨⟨H1, H2, H3, H4, H5⟩, H6⟩
    iframe

end Cert.Proof
-- ==== Proof.Blocks.lean ====
module

public import proofs.«01_k».proof.Proof.TileRun
public import Idealize.ShloMosaic.Lib.ValueLayout

/-! The SparseCores' two results: a block for every tile, the blocks apart and together the whole, and
what every block holds when its tile has run. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

/-! ### The arrays of a device -/

abbrev xLoc (d : Dev nD) : Loc nD τ sig := (SparseCore.T d).loc main_arg0
abbrev wLoc (d : Dev nD) : Loc nD τ sig := (SparseCore.T d).loc main_arg1
abbrev gLoc (d : Dev nD) : Loc nD τ sig := (SparseCore.T d).loc main_arg2
abbrev bLoc (d : Dev nD) : Loc nD τ sig := (SparseCore.T d).loc main_arg3
abbrev vLoc (d : Dev nD) : Loc nD τ sig := (SparseCore.T d).loc main_v3_0
abbrev sLoc (d : Dev nD) : Loc nD τ sig := (SparseCore.T d).loc main_v3_1

abbrev vMem : Memref sig .scVector .hbm S32x64x128 .f32 := Memref.whole main_v3_0_scv
abbrev sMem : Memref sig .scVector .hbm S32x64x16 .f32 := Memref.whole main_v3_1_scv

/-! ### Blocks -/

theorem vDiv : 32 ∣ S32x64x128.size 0 := ⟨1, rfl⟩
theorem sDiv : 32 ∣ S32x64x16.size 0 := ⟨1, rfl⟩
abbrev vPart (n : Fin 32) : Rect S32x64x128 := Rect.part (s := S32x64x128) (a₀ := 0) vDiv n
abbrev sPart (n : Fin 32) : Rect S32x64x16 := Rect.part (s := S32x64x16) (a₀ := 0) sDiv n
/-- The elements of a tile's block. -/
abbrev vSet (n : Fin 32) : Finset S32x64x128.Idx := (vMem.view.slice (vPart n)).set
abbrev sSet (n : Fin 32) : Finset S32x64x16.Idx := (sMem.view.slice (sPart n)).set

/-- The tile's number. -/
def wid (i : grid0.Coords) : Fin 32 :=
  ⟨16 * (i 0).val + (i 1).val, by
    have h0 : (i 0).val < 2 := (i 0).isLt
    have h1 : (i 1).val < 16 := (i 1).isLt
    omega⟩

theorem vRect_eq (i : grid0.Coords) :
    Rect.unit (s := S32x64x128) (k0_off616 i) S1x64x128.size (k0_off616_inb i) = vPart (wid i) := by
  unfold vPart Rect.part Rect.block
  congr 1 <;> funext a
  · rw [k0_off616_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem sRect_eq (i : grid0.Coords) :
    Rect.unit (s := S32x64x16) (k0_off617 i) S1x64x16.size (k0_off617_inb i) = sPart (wid i) := by
  unfold sPart Rect.part Rect.block
  congr 1 <;> funext a
  · rw [k0_off617_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem outV_set (i : grid0.Coords) : (outV i vMem).view.set = vSet (wid i) := by
  show ((vMem.view.slice (Rect.unit (s := S32x64x128) (k0_off616 i) S1x64x128.size (k0_off616_inb i))).reshape
    S64x128 squeezes_S1x64x128_S64x128.numel_eq).set = (vMem.view.slice (vPart (wid i))).set
  rw [View.set_reshape]
  exact vRect_eq i ▸ rfl

theorem outS_set (i : grid0.Coords) : (outS i sMem).view.set = sSet (wid i) := by
  show ((sMem.view.slice (Rect.unit (s := S32x64x16) (k0_off617 i) S1x64x16.size (k0_off617_inb i))).reshape
    S64x16 squeezes_S1x64x16_S64x16.numel_eq).set = (sMem.view.slice (sPart (wid i))).set
  rw [View.set_reshape]
  exact sRect_eq i ▸ rfl

theorem vSet_eq (n : Fin 32) : vSet n = (vPart n).set := by
  show ((View.whole (main_v3_0_scv : Ref sig .scVector)).slice (vPart n)).set = _
  rw [View.set_slice]; exact Finset.map_refl

theorem sSet_eq (n : Fin 32) : sSet n = (sPart n).set := by
  show ((View.whole (main_v3_1_scv : Ref sig .scVector)).slice (sPart n)).set = _
  rw [View.set_slice]; exact Finset.map_refl

theorem vSet_disjoint : ∀ i ∈ (Finset.univ : Finset (Fin 32)), ∀ j ∈ (Finset.univ : Finset (Fin 32)),
    i ≠ j → Disjoint (vSet i) (vSet j) :=
  fun i _ j _ h => by rw [vSet_eq, vSet_eq]; exact Rect.part_disjoint vDiv h

theorem sSet_disjoint : ∀ i ∈ (Finset.univ : Finset (Fin 32)), ∀ j ∈ (Finset.univ : Finset (Fin 32)),
    i ≠ j → Disjoint (sSet i) (sSet j) :=
  fun i _ j _ h => by rw [sSet_eq, sSet_eq]; exact Rect.part_disjoint sDiv h

theorem vSet_cover : (Finset.univ : Finset (Fin 32)).biUnion vSet = Finset.univ :=
  (Finset.biUnion_congr rfl fun i _ => vSet_eq i).trans (Rect.biUnion_part vDiv)

theorem sSet_cover : (Finset.univ : Finset (Fin 32)).biUnion sSet = Finset.univ :=
  (Finset.biUnion_congr rfl fun i _ => sSet_eq i).trans (Rect.biUnion_part sDiv)

/-! ### What the blocks hold -/

variable (x : S100000x128.Idx → F .f32) (wt : S1x128.Idx → F .f32) (b : S100000.Idx → BitVec 32)

/-- The weighted sums of the tiles. -/
def tilesV : S32x64x128.Idx → F .f32 := fun y =>
  (tileAcc x wt b ((y 0).val * 1200)).1 (ix2 (y 1) (y 2))

/-- The sums of exponentials of the tiles. -/
def tilesS : S32x64x16.Idx → F .f32 := fun y =>
  (tileAcc x wt b ((y 0).val * 1200)).2 (ix2 (y 1) (y 2))

theorem row0_wid (i : grid0.Coords) : (wid i).val * 1200 = row0 i := by
  unfold wid row0
  show (16 * (i 0).val + (i 1).val) * 1200 = _
  ring

/-! The index a block's element has in the whole result. -/

theorem vIdx (i : grid0.Coords) (y : S64x128.Idx) :
    (Rect.unit (s := S32x64x128) (k0_off616 i) S1x64x128.size (k0_off616_inb i)).emb
      (ix3 (0 : Fin 1) (y 0) (y 1)) = ix3 (wid i) (y 0) (y 1) := by
  funext a
  refine Fin.ext ?_
  match a with
  | 0 =>
    have h : k0_off616 i 0 = 16 * (i 0).val + (i 1).val := congrFun (k0_off616_eq i) 0
    show k0_off616 i 0 + 1 * 0 = (wid i).val
    simp [h, wid]
  | 1 =>
    have h : k0_off616 i 1 = 0 := congrFun (k0_off616_eq i) 1
    show k0_off616 i 1 + 1 * (y 0).val = (y 0).val
    omega
  | 2 =>
    have h : k0_off616 i 2 = 0 := congrFun (k0_off616_eq i) 2
    show k0_off616 i 2 + 1 * (y 1).val = (y 1).val
    omega

theorem sIdx (i : grid0.Coords) (y : S64x16.Idx) :
    (Rect.unit (s := S32x64x16) (k0_off617 i) S1x64x16.size (k0_off617_inb i)).emb
      (ix3 (0 : Fin 1) (y 0) (y 1)) = ix3 (wid i) (y 0) (y 1) := by
  funext a
  refine Fin.ext ?_
  match a with
  | 0 =>
    have h : k0_off617 i 0 = 16 * (i 0).val + (i 1).val := congrFun (k0_off617_eq i) 0
    show k0_off617 i 0 + 1 * 0 = (wid i).val
    simp [h, wid]
  | 1 =>
    have h : k0_off617 i 1 = 0 := congrFun (k0_off617_eq i) 1
    show k0_off617 i 1 + 1 * (y 0).val = (y 0).val
    omega
  | 2 =>
    have h : k0_off617 i 2 = 0 := congrFun (k0_off617_eq i) 2
    show k0_off617 i 2 + 1 * (y 1).val = (y 1).val
    omega

theorem read_outV (i : grid0.Coords) :
    (outV i vMem).view.read (Elt F) (tilesV x wt b) = (tileAcc x wt b (row0 i)).1 := by
  funext y
  have h := congrFun (Memref.read_squeeze_slice (Val := Elt F) vMem
    (Rect.unit (s := S32x64x128) (k0_off616 i) S1x64x128.size (k0_off616_inb i)) (fun _ => rfl)
    squeezes_S1x64x128_S64x128 squeezes_S1x64x128_S64x128.numel_eq (tilesV x wt b)) y
  refine h.trans ?_
  conv_lhs => rw [eq_ix2 y]
  refine (shapeCast_1ab_ab_apply (a := 64) (b := 128) _ _ (y 0) (y 1)).trans ?_
  show tilesV x wt b ((Rect.unit (s := S32x64x128) (k0_off616 i) S1x64x128.size (k0_off616_inb i)).emb
    (ix3 (0 : Fin 1) (y 0) (y 1))) = _
  rw [vIdx]
  show (tileAcc x wt b ((wid i).val * 1200)).1 (ix2 (y 0) (y 1)) = _
  rw [row0_wid]
  exact congrArg _ (eq_ix2 y).symm

theorem read_outS (i : grid0.Coords) :
    (outS i sMem).view.read (Elt F) (tilesS x wt b) = (tileAcc x wt b (row0 i)).2 := by
  funext y
  have h := congrFun (Memref.read_squeeze_slice (Val := Elt F) sMem
    (Rect.unit (s := S32x64x16) (k0_off617 i) S1x64x16.size (k0_off617_inb i)) (fun _ => rfl)
    squeezes_S1x64x16_S64x16 squeezes_S1x64x16_S64x16.numel_eq (tilesS x wt b)) y
  refine h.trans ?_
  conv_lhs => rw [eq_ix2 y]
  refine (shapeCast_1ab_ab_apply (a := 64) (b := 16) _ _ (y 0) (y 1)).trans ?_
  show tilesS x wt b ((Rect.unit (s := S32x64x16) (k0_off617 i) S1x64x16.size (k0_off617_inb i)).emb
    (ix3 (0 : Fin 1) (y 0) (y 1))) = _
  rw [sIdx]
  show (tileAcc x wt b ((wid i).val * 1200)).2 (ix2 (y 0) (y 1)) = _
  rw [row0_wid]
  exact congrArg _ (eq_ix2 y).symm

/-! ### The arrays split and joined -/

/-- The share of the arrays read by tile `n`. -/
abbrev tok (n : Fin 32) : PosShare TreeShare := shareTok fullShare 32 n

theorem vBlocks (d : Dev nD) (f : Buf (Elt F) (vLoc d)) :
    (vLoc d ↦{fullShare} f : sProp (MM F))
      = bigSep Finset.univ fun n : Fin 32 => vLoc d ↦[vSet n]{fullShare} f := by
  rw [← pointsTo_biUnion Finset.univ (ℓ := vLoc d) vSet vSet_disjoint, vSet_cover]

theorem sBlocks (d : Dev nD) (f : Buf (Elt F) (sLoc d)) :
    (sLoc d ↦{fullShare} f : sProp (MM F))
      = bigSep Finset.univ fun n : Fin 32 => sLoc d ↦[sSet n]{fullShare} f := by
  rw [← pointsTo_biUnion Finset.univ (ℓ := sLoc d) sSet sSet_disjoint, sSet_cover]

end Cert.Proof
-- ==== Proof.TileBody.lean ====
module

public import proofs.«01_k».proof.Proof.Blocks

/-! A tile's task, from what the launch hands the tile to what the tile hands back. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

variable (m : (ℓ : Loc nD τ sig) → Buf (Elt F) ℓ)

/-! ### What a tile is handed and hands back -/

/-- What a tile reads: its share of the rows, of the gate's weights and of the segment ids. -/
def readP (d : Dev nD) (n : Fin 32) : sProp (MM F) :=
  iprop((xLoc d ↦{tok n} m (xLoc d)) ∗ (wLoc d ↦{tok n} m (wLoc d)) ∗ bLoc d ↦{tok n} m (bLoc d))

/-- A tile's blocks of the two results. -/
def blockP (d : Dev nD) (n : Fin 32) (fv : Buf (Elt F) (vLoc d)) (fs : Buf (Elt F) (sLoc d)) :
    sProp (MM F) :=
  iprop((vLoc d ↦[vSet n]{fullShare} fv) ∗ sLoc d ↦[sSet n]{fullShare} fs)

/-- What a tile is handed. -/
def goP (d : Dev nD) (n : Fin 32) : sProp (MM F) :=
  iprop(readP m d n ∗ blockP d n (m (vLoc d)) (m (sLoc d)))

/-- What a tile hands back. -/
def tdP (d : Dev nD) (n : Fin 32) : sProp (MM F) :=
  iprop(readP m d n ∗ blockP d n (tilesV (m (xLoc d)) (m (wLoc d)) (m (bLoc d)))
    (tilesS (m (xLoc d)) (m (wLoc d)) (m (bLoc d))))

/-! ### Whole buffers -/

/-- A family over a finite set, the members of a list first. -/
theorem bigSep_list {I : Type} [DecidableEq I] (Φ : I → sProp (MM F)) :
    ∀ (l : List I) (s : Finset I), l.Nodup → (∀ a ∈ l, a ∈ s) →
      bigSep s Φ = l.foldr (fun a R => iprop(Φ a ∗ R)) (bigSep (l.foldl Finset.erase s) Φ)
  | [], _, _, _ => rfl
  | a :: l, s, hn, hs => by
    rw [SparseCore.bigSep_erase' (hs a (by simp)),
      bigSep_list Φ l (s.erase a) (List.nodup_cons.1 hn).2 fun b hb =>
        Finset.mem_erase.2 ⟨fun e => (List.nodup_cons.1 hn).1 (e ▸ hb), hs b (by simp [hb])⟩]
    rfl

theorem rep_whole {κ : Kind} (r : Ref sig κ) (X : r.ty.shape.Idx → Elt F r.ty.elt) :
    (View.whole r).rep X = X := by
  have h := View.read_rep (Val := Elt F) (View.whole r) X
  exact h

/-- A whole buffer of a tile's, held. -/
theorem own_whole (d : Dev nD) (c : Fin τ.nSC) (s : Fin τ.nSub) (r : Ref sig .scVector)
    (X : r.ty.shape.Idx → Elt F r.ty.elt) :
    own d c s (Memref.whole r) X
      = ((V d c s).loc r ↦{fullShare} (X : Buf (Elt F) ((V d c s).loc r)) : sProp (MM F)) := by
  unfold own
  show (((V d c s).loc r) ↦[(View.whole r).set]{fullShare} (View.whole r).rep X : sProp (MM F)) = _
  rw [View.set_whole, rep_whole]

theorem ownq_whole (d : Dev nD) (c : Fin τ.nSC) (s : Fin τ.nSub) (q : PosShare TreeShare)
    (r : Ref sig .scVector) (X : r.ty.shape.Idx → Elt F r.ty.elt) :
    ownq d c s q (Memref.whole r) X
      = ((V d c s).loc r ↦{q} (X : Buf (Elt F) ((V d c s).loc r)) : sProp (MM F)) := by
  unfold ownq
  show (((V d c s).loc r) ↦[(View.whole r).set]{q} (View.whole r).rep X : sProp (MM F)) = _
  rw [View.set_whole, rep_whole]

/-! ### The tile's scratch -/

/-- The tile's scratch buffers. -/
abbrev scratch : List (Ref sig .scVector) :=
  [cc0_scratch0, cc0_scratch1, cc0_scratch2, cc0_scratch3, cc0_scratch4, cc0_scratch5, cc0_scratch6]

/-- The tile's transfer semaphores. -/
abbrev sems : List (DmaSem sig) :=
  [cc0_scratch7.sem, cc0_scratch8.sem, cc0_scratch9.sem, cc0_scratch10.sem, cc0_scoped0.sem,
    cc0_scoped1.sem, cc0_scoped2.sem]

/-- A tile's own buffers: the scratch, each at some contents, and the rest. -/
theorem tile_bufs (d : Dev nD) (c : Fin τ.nSC) (s : Fin τ.nSub) :
    (SparseCore.Cfg.ownBufs (V d c s) : sProp (MM F))
      = (scratch.map (Proc.scVector c s).devRef).foldr
          (fun b R => iprop((∃ f, ((d, b) : Loc nD τ sig) ↦{fullShare} f) ∗ R))
          (bigSep ((scratch.map (Proc.scVector c s).devRef).foldl Finset.erase
            (SparseCore.Cfg.ownRefs (τ := τ) (.scVector c s)))
            fun b => iprop(∃ f, ((d, b) : Loc nD τ sig) ↦{fullShare} f)) := by
  unfold SparseCore.Cfg.ownBufs
  refine bigSep_list _ _ _ (List.Nodup.map (Proc.devRef_injective _)
    (show scratch.Nodup by simp only [scratch]; decide)) fun a ha => ?_
  obtain ⟨r, hr, rfl⟩ := List.mem_map.1 ha
  refine SparseCore.Cfg.mem_ownRefs_of_owner ?_
  simp only [scratch, List.mem_cons, List.not_mem_nil, _root_.or_false] at hr
  rcases hr with rfl | rfl | rfl | rfl | rfl | rfl | rfl <;> rfl

/-- A tile's own semaphores: the transfers', and the rest. -/
theorem tile_sems (d : Dev nD) (c : Fin τ.nSC) (s : Fin τ.nSub) :
    (SparseCore.Cfg.ownSems0 (V d c s) : sProp (MM F))
      = (sems.map fun g => ((V d c s, .dma g) : GSem nD τ sig)).foldr
          (fun g R => iprop(semVal g 0 ∗ R))
          (bigSep ((sems.map fun g => ((V d c s, .dma g) : GSem nD τ sig)).foldl Finset.erase
            (SparseCore.Cfg.ownCells (V d c s))) fun g => semVal g 0) := by
  unfold SparseCore.Cfg.ownSems0
  refine bigSep_list _ _ _ (List.Nodup.map (fun a b h => by simpa using h) (by decide)) fun a ha => ?_
  obtain ⟨g, hg, rfl⟩ := List.mem_map.1 ha
  refine SparseCore.Cfg.mem_ownCells.2 ⟨rfl, ?_⟩
  simp only [sems, List.mem_cons, List.not_mem_nil, _root_.or_false] at hg
  show (SemLoc.dma g : SemLoc sig).isScoped .scVector = true
  rcases hg with rfl | rfl | rfl | rfl | rfl | rfl | rfl <;> decide

/-! ### The blocks in the body's spelling -/

theorem blockV_eq (d : Dev nD) (i : grid0.Coords) (f : Buf (Elt F) (vLoc d)) :
    (vLoc d ↦[vSet (wid i)]{fullShare} f : sProp (MM F))
      = own d (coreOf i) (tileOf i) (outV i vMem) ((outV i vMem).view.read (Elt F) f) := by
  rw [← outV_set]
  exact pointsTo_rep (c := V d (coreOf i) (tileOf i)) (outV i vMem) f fullShare

theorem blockS_eq (d : Dev nD) (i : grid0.Coords) (f : Buf (Elt F) (sLoc d)) :
    (sLoc d ↦[sSet (wid i)]{fullShare} f : sProp (MM F))
      = own d (coreOf i) (tileOf i) (outS i sMem) ((outS i sMem).view.read (Elt F) f) := by
  rw [← outS_set]
  exact pointsTo_rep (c := V d (coreOf i) (tileOf i)) (outS i sMem) f fullShare

theorem share_halves (q : PosShare TreeShare) {ℓ : Loc nD τ sig} (f : Buf (Elt F) ℓ) :
    (ℓ ↦{q} f : sProp (MM F)) ⊣⊢ iprop((ℓ ↦{q.left} f) ∗ ℓ ↦{q.right} f) :=
  pointsTo_share (PosShare.mem_left_op_right q)

/-! ### The task -/

/-- The tile's task: from its share and blocks, with its scratch at anything, to the blocks at the
tile's sums. -/
theorem tile_task (hb : ∀ d y, (m (bLoc d) y : BitVec 32).toNat < 64) (hF : (K (F := F)).Facts)
    (d : Dev nD) (i : grid0.Coords)
    (O : CellTallies nD τ sig (HIx 1)) (W : Waits sig (HIx 1)) (hO : ∀ g, O g none = 0) :
    iprop(levAts (K (F := F)).L (K (F := F)).lev ∗ emp ∗ goP m d (wid i)
        ∗ scopedBufs (V d (coreOf i) (tileOf i))
        ∗ scopedSems0 (V d (coreOf i) (tileOf i))
        ∗ owes (V d (coreOf i) (tileOf i)) O W)
      ⊢ wp frame (wpE (defs₀ (F := F)) 𝒱₀ (V d (coreOf i) (tileOf i)) none) Set.univ
          (cc0__sc_partials (F := F) i (Memref.whole main_arg0_scv) (Memref.isWhole_whole _)
            (Memref.whole main_arg1_scv) (Memref.isWhole_whole _) (Memref.whole main_arg3_scv)
            (Memref.isWhole_whole _) vMem (Memref.isWhole_whole _) sMem (Memref.isWhole_whole _)
            (Memref.whole cc0_scratch0) (Memref.isWhole_whole _) (Memref.whole cc0_scratch1)
            (Memref.isWhole_whole _) (Memref.whole cc0_scratch2) (Memref.isWhole_whole _)
            (Memref.whole cc0_scratch3) (Memref.isWhole_whole _) (Memref.whole cc0_scratch4)
            (Memref.isWhole_whole _) (Memref.whole cc0_scratch5) (Memref.isWhole_whole _)
            (Memref.whole cc0_scratch6) (Memref.isWhole_whole _) cc0_scratch7 cc0_scratch8
            cc0_scratch9 cc0_scratch10 cc0_scoped0 cc0_scoped1 cc0_scoped2)
          fun _ => iprop(tdP m d (wid i)
            ∗ scopedBufs (V d (coreOf i) (tileOf i))
            ∗ scopedSems0 (V d (coreOf i) (tileOf i))
            ∗ ∃ W', ⌜∀ p ∈ W', p ∈ W ∨ p.2 = none ∨ p.2 = some (0 : Fin 1)⌝
              ∗ owes (V d (coreOf i) (tileOf i)) O W') := by
  rw [(K (F := F)).scopedBufs_V hF d (coreOf i) (tileOf i),
    SparseCore.Cfg.scopedSems0_V (Val := Elt F) d (coreOf i) (tileOf i), tile_sems, tile_bufs]
  simp only [scratch, sems, List.map, List.foldr]
  unfold goP tdP readP blockP
  iintro ⟨#Hlv, -, ⟨⟨Hx, Hw, Hb⟩, Hv, Hs⟩, ⟨⟨%f0, H0⟩, ⟨%f1, H1⟩, ⟨%f2, H2⟩, ⟨%f3, H3⟩, ⟨%f4, H4⟩, ⟨%f5, H5⟩, ⟨%f6, H6⟩, Hbufs⟩, ⟨S0, S1, S2, S3, S4, S5, S6, Hsems⟩, HO⟩
  ihave Hmw := (show levAts (K (F := F)).L (K (F := F)).lev
      ⊢ Transfers.MayWaits (V d (coreOf i) (tileOf i)) (default : HIx 1) O from
    (K (F := F)).mayWaits_none (thr := V d (coreOf i) (tileOf i)) hO) $$ Hlv
  ihave Hx' := (share_halves (tok (wid i)) (m (xLoc d))).1 $$ Hx
  icases Hx' with ⟨Hx0, Hx1⟩
  ihave Hb' := (share_halves (tok (wid i)) (m (bLoc d))).1 $$ Hb
  icases Hb' with ⟨Hb0, Hb1⟩
  ihave Hv' := (Entails.of_eq (blockV_eq d i _)) $$ Hv
  ihave Hs' := (Entails.of_eq (blockS_eq d i _)) $$ Hs
  have R := tile_run (F := F) (d := d) (x := m (xLoc d)) (b := m (bLoc d)) (wt := m (wLoc d))
    (O := O) (W := W) (q₀ := (tok (wid i)).left) (q₁ := (tok (wid i)).right) (qw := tok (wid i)) i
    (Memref.whole main_arg0_scv) (Memref.isWhole_whole _)
    (Memref.whole main_arg1_scv) (Memref.isWhole_whole _) (Memref.whole main_arg3_scv)
    (Memref.isWhole_whole _) vMem (Memref.isWhole_whole _) sMem (Memref.isWhole_whole _)
    (Memref.whole cc0_scratch0) (Memref.isWhole_whole _) (Memref.whole cc0_scratch1)
    (Memref.isWhole_whole _) (Memref.whole cc0_scratch2) (Memref.isWhole_whole _)
    (Memref.whole cc0_scratch3) (Memref.isWhole_whole _) (Memref.whole cc0_scratch4)
    (Memref.isWhole_whole _) (Memref.whole cc0_scratch5) (Memref.isWhole_whole _)
    (Memref.whole cc0_scratch6) (Memref.isWhole_whole _) cc0_scratch7 cc0_scratch8
    cc0_scratch9 cc0_scratch10 cc0_scoped0 cc0_scoped1 cc0_scoped2 (hb d) f4 f5
    ((outV i vMem).view.read (Elt F) (m (vLoc d))) f6
    ((outS i sMem).view.read (Elt F) (m (sLoc d)))
  ihave H0' := (Entails.of_eq (own_whole d (coreOf i) (tileOf i) cc0_scratch0 f0).symm) $$ H0
  ihave H1' := (Entails.of_eq (own_whole d (coreOf i) (tileOf i) cc0_scratch1 f1).symm) $$ H1
  ihave H2' := (Entails.of_eq (own_whole d (coreOf i) (tileOf i) cc0_scratch2 f2).symm) $$ H2
  ihave H3' := (Entails.of_eq (own_whole d (coreOf i) (tileOf i) cc0_scratch3 f3).symm) $$ H3
  ihave H4' := (Entails.of_eq (own_whole d (coreOf i) (tileOf i) cc0_scratch4 f4).symm) $$ H4
  ihave H5' := (Entails.of_eq (own_whole d (coreOf i) (tileOf i) cc0_scratch5 f5).symm) $$ H5
  ihave H6' := (Entails.of_eq (own_whole d (coreOf i) (tileOf i) cc0_scratch6 f6).symm) $$ H6
  ihave Hx0' := (Entails.of_eq (ownq_whole d (coreOf i) (tileOf i) (tok (wid i)).left main_arg0_scv (m (xLoc d))).symm) $$ Hx0
  ihave Hx1' := (Entails.of_eq (ownq_whole d (coreOf i) (tileOf i) (tok (wid i)).right main_arg0_scv (m (xLoc d))).symm) $$ Hx1
  ihave Hb0' := (Entails.of_eq (ownq_whole d (coreOf i) (tileOf i) (tok (wid i)).left main_arg3_scv (m (bLoc d))).symm) $$ Hb0
  ihave Hb1' := (Entails.of_eq (ownq_whole d (coreOf i) (tileOf i) (tok (wid i)).right main_arg3_scv (m (bLoc d))).symm) $$ Hb1
  ihave Hw' := (Entails.of_eq (ownq_whole d (coreOf i) (tileOf i) (tok (wid i)) main_arg1_scv (m (wLoc d))).symm) $$ Hw
  iapply (R _)
  isplitl [Hx0' Hx1' Hw' Hb0' Hb1' Hv' Hs' H0' H1' H2' H3' H4' H5' H6' S0 S1 S2 S3 S4 S5 S6 HO Hmw]
  · unfold wts acc idle block duty
    isplitl [Hw' H4' S4]
    · iframe
    isplitl [H5' H6' Hmw HO]
    · isplitl [H5']; · iexact H5'
      isplitl [H6']; · iexact H6'
      isplitl [Hmw]; · iexact Hmw
      iexists W
      isplitr
      · ipureintro; exact fun p h => .inl h
      · iexact HO
    isplitl [H0' H2' Hx0' Hb0' S0 S2]
    · isplitl [H0' Hx0' S0]
      · isplitl [H0']; · iexists f0; iexact H0'
        iframe
      · isplitl [H2']; · iexists f2; iexact H2'
        iframe
    isplitl [H1' H3' Hx1' Hb1' S1 S3]
    · isplitl [H1' Hx1' S1]
      · isplitl [H1']; · iexists f1; iexact H1'
        iframe
      · isplitl [H3']; · iexists f3; iexact H3'
        iframe
    iframe
  unfold wts acc idle block duty
  iintro ⟨⟨Hw, H4, S4⟩, ⟨⟨⟨%g0, H0⟩, Hx0, S0⟩, ⟨%g2, H2⟩, Hb0, S2⟩,
    ⟨⟨⟨%g1, H1⟩, Hx1, S1⟩, ⟨%g3, H3⟩, Hb1, S3⟩, ⟨H5, H6, -, HO⟩, ⟨Hv, S5⟩, ⟨Hs, S6⟩⟩
  isplitl [Hx0 Hx1 Hw Hb0 Hb1 Hv Hs]
  · isplitl [Hx0 Hx1 Hw Hb0 Hb1]
    · isplitl [Hx0 Hx1]
      · iapply (share_halves (tok (wid i)) (m (xLoc d))).2
        isplitl [Hx0]
        · iapply (Entails.of_eq (ownq_whole d (coreOf i) (tileOf i) (tok (wid i)).left main_arg0_scv (m (xLoc d))))
          iexact Hx0
        · iapply (Entails.of_eq (ownq_whole d (coreOf i) (tileOf i) (tok (wid i)).right main_arg0_scv (m (xLoc d))))
          iexact Hx1
      isplitl [Hw]
      · iapply (Entails.of_eq (ownq_whole d (coreOf i) (tileOf i) (tok (wid i)) main_arg1_scv (m (wLoc d))))
        iexact Hw
      · iapply (share_halves (tok (wid i)) (m (bLoc d))).2
        isplitl [Hb0]
        · iapply (Entails.of_eq (ownq_whole d (coreOf i) (tileOf i) (tok (wid i)).left main_arg3_scv (m (bLoc d))))
          iexact Hb0
        · iapply (Entails.of_eq (ownq_whole d (coreOf i) (tileOf i) (tok (wid i)).right main_arg3_scv (m (bLoc d))))
          iexact Hb1
    isplitl [Hv]
    · rw [blockV_eq, read_outV]; iexact Hv
    · rw [blockS_eq, read_outS]; iexact Hs
  isplitl [H0 H1 H2 H3 H4 H5 H6 Hbufs]
  · isplitl [H0]
    · iexists g0; iapply (Entails.of_eq (own_whole d (coreOf i) (tileOf i) cc0_scratch0 g0)); iexact H0
    isplitl [H1]
    · iexists g1; iapply (Entails.of_eq (own_whole d (coreOf i) (tileOf i) cc0_scratch1 g1)); iexact H1
    isplitl [H2]
    · iexists g2; iapply (Entails.of_eq (own_whole d (coreOf i) (tileOf i) cc0_scratch2 g2)); iexact H2
    isplitl [H3]
    · iexists g3; iapply (Entails.of_eq (own_whole d (coreOf i) (tileOf i) cc0_scratch3 g3)); iexact H3
    isplitl [H4]
    · iexists (wRow (m (wLoc d))); iapply (Entails.of_eq (own_whole d (coreOf i) (tileOf i) cc0_scratch4 (wRow (m (wLoc d))))); iexact H4
    isplitl [H5]
    · iexists _; iapply (Entails.of_eq (own_whole d (coreOf i) (tileOf i) cc0_scratch5 (tileAcc (m (xLoc d)) (m (wLoc d)) (m (bLoc d)) (row0 i)).1)); iexact H5
    isplitl [H6]
    · iexists _; iapply (Entails.of_eq (own_whole d (coreOf i) (tileOf i) cc0_scratch6 (tileAcc (m (xLoc d)) (m (wLoc d)) (m (bLoc d)) (row0 i)).2)); iexact H6
    iexact Hbufs
  isplitl [S0 S1 S2 S3 S4 S5 S6 Hsems]
  · iframe
  iexact HO

end Cert.Proof
-- ==== Proof.Launch.lean ====
module

public import proofs.«01_k».proof.Proof.TileBody

/-! The SparseCores' launch: what the call hands its two cores and their tiles and what they hand back. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

variable (m : (ℓ : Loc nD τ sig) → Buf (Elt F) ℓ)

/-- The number of tile `i` of core `c`. -/
def num (c : Fin 2) (i : Fin 16) : Fin 32 := ⟨16 * c.val + i.val, by omega⟩

theorem nCore_eq : (K (F := F)).nCore 0 = 2 := rfl
theorem nSub_eq : (K (F := F)).nSub 0 = 16 := rfl

/-- What core `c` is handed. -/
def coreGo (d : Dev nD) (c : Fin 2) : sProp (MM F) :=
  bigSep Finset.univ fun i : Fin 16 => goP m d (num c i)

/-- What core `c` hands back. -/
def coreTd (d : Dev nD) (c : Fin 2) : sProp (MM F) :=
  bigSep Finset.univ fun i : Fin 16 => tdP m d (num c i)

instance goP_storable (d : Dev nD) (n : Fin 32) :
    BI.Storable (upEmb : UEmb _ (MM F)) (goP m d n) := by
  unfold goP readP blockP; infer_instance
instance tdP_storable (d : Dev nD) (n : Fin 32) :
    BI.Storable (upEmb : UEmb _ (MM F)) (tdP m d n) := by
  unfold tdP readP blockP; infer_instance
instance coreGo_storable (d : Dev nD) (c : Fin 2) :
    BI.Storable (upEmb : UEmb _ (MM F)) (coreGo m d c) := by
  unfold coreGo; infer_instance
instance coreTd_storable (d : Dev nD) (c : Fin 2) :
    BI.Storable (upEmb : UEmb _ (MM F)) (coreTd m d c) := by
  unfold coreTd; infer_instance

/-- The call's payloads: every core its tiles' parts, every tile its share of what is read and its
blocks of the results, which come back at the tile's sums. -/
def P : (K (F := F)).Pay (nD := nD) (Val := Elt F) (Name := ℕ) (U := UU) where
  st := fun q d c => match q with | 0 => coreGo m d (Fin.cast nCore_eq c)
  dn := fun q d c => match q with | 0 => coreTd m d (Fin.cast nCore_eq c)
  go := fun q d c i => match q with | 0 => goP m d (num (Fin.cast nCore_eq c) (Fin.cast nSub_eq i))
  td := fun q d c i => match q with | 0 => tdP m d (num (Fin.cast nCore_eq c) (Fin.cast nSub_eq i))
  x := fun _ _ => iprop(emp)

instance P_storable : (P (F := F) m).IsStorable where
  st q d c := match q with | 0 => coreGo_storable m d (Fin.cast nCore_eq c)
  dn q d c := match q with | 0 => coreTd_storable m d (Fin.cast nCore_eq c)
  go q d c i := match q with | 0 => goP_storable m d (num (Fin.cast nCore_eq c) (Fin.cast nSub_eq i))
  td q d c i := match q with | 0 => tdP_storable m d (num (Fin.cast nCore_eq c) (Fin.cast nSub_eq i))

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- A tile's coordinates. -/
def coords (c : Fin (grid0.bound 0)) (s : Fin (grid0.bound 1)) : grid0.Coords :=
  fun | 0 => c | 1 => s | ⟨_ + 2, h⟩ => absurd h (Nat.not_lt.2 (Nat.le_add_left _ _))

/-- The body a tile runs. -/
theorem defs₀_tile (c : Fin τ.nSC) (s : Fin τ.nSub) :
    defs₀ (F := F) (.scVector c s) 0 ()
      = SparseCore.onTile hcore0 hsub0 (fun c s => cc0__sc_partials (F := F) (coords c s)
            (Memref.whole main_arg0_scv) (Memref.isWhole_whole _)
            (Memref.whole main_arg1_scv) (Memref.isWhole_whole _) (Memref.whole main_arg3_scv)
            (Memref.isWhole_whole _) vMem (Memref.isWhole_whole _) sMem (Memref.isWhole_whole _)
            (Memref.whole cc0_scratch0) (Memref.isWhole_whole _) (Memref.whole cc0_scratch1)
            (Memref.isWhole_whole _) (Memref.whole cc0_scratch2) (Memref.isWhole_whole _)
            (Memref.whole cc0_scratch3) (Memref.isWhole_whole _) (Memref.whole cc0_scratch4)
            (Memref.isWhole_whole _) (Memref.whole cc0_scratch5) (Memref.isWhole_whole _)
            (Memref.whole cc0_scratch6) (Memref.isWhole_whole _) cc0_scratch7 cc0_scratch8
            cc0_scratch9 cc0_scratch10 cc0_scoped0 cc0_scoped1 cc0_scoped2) ⟨⟩ c s := rfl

/-- Every tile's task is the one of its number. -/
theorem tileObl (hb : ∀ d y, (m (bLoc d) y : BitVec 32).toNat < 64) :
    (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 :=
    ⟨c.isLt, i.isLt⟩
  change _ ⊢ wp _ _ _ (Pipeline.liftProg (defs₀ (F := F)
    (.scVector ((K (F := F)).core 0 c) ((K (F := F)).sub 0 i)) 0 ())) _
  refine BI.Entails.trans ?_ (Pipeline.wp_liftProg (D (F := F)) (Pipeline.defs_kernel pcfgs defs₀) 𝒱₀ _
    Set.univ none _ _)
  rw [defs₀_tile]
  simp only [SparseCore.onTile, hci, and_self, ↓reduceDIte]
  exact tile_task m hb facts d (coords ⟨_, hci.1⟩ ⟨_, hci.2⟩) O W hO

theorem bigSep_tiles (Φ : Fin 16 → sProp (MM F)) :
    (bigSep Finset.univ fun i : Fin ((K (F := F)).nSub 0) => Φ (Fin.cast nSub_eq i))
      = bigSep Finset.univ Φ :=
  bigSep_congr fun _ _ => congrArg Φ (Fin.ext rfl)

/-- A core's part is its tiles' parts, on the way in and on the way out. -/
theorem vecSplit : (K (F := F)).VecSplit' (P m) 0 := by
  intro d c
  show coreGo m d (Fin.cast nCore_eq c) ⊢ |={Set.univ}=> iprop(
    (bigSep Finset.univ fun i : Fin ((K (F := F)).nSub 0) =>
        goP m d (num (Fin.cast nCore_eq c) (Fin.cast nSub_eq i)))
      ∗ ((bigSep Finset.univ fun i : Fin ((K (F := F)).nSub 0) =>
          tdP m d (num (Fin.cast nCore_eq c) (Fin.cast nSub_eq i))) -∗ coreTd m d (Fin.cast nCore_eq c)))
  rw [bigSep_tiles (fun i => goP m d (num (Fin.cast nCore_eq c) i)),
    bigSep_tiles (fun i => tdP m d (num (Fin.cast nCore_eq c) i))]
  unfold coreGo coreTd
  iintro H
  imodintro
  isplitl [H]
  · iexact H
  iintro H
  iexact H

/-! ### The cores' parts out of the arrays -/

/-- A family over the tiles' numbers, by core and tile. -/
theorem bigSep_num (Φ : Fin 32 → sProp (MM F)) :
    (bigSep Finset.univ fun c : Fin ((K (F := F)).nCore 0) =>
        bigSep Finset.univ fun i : Fin 16 => Φ (num (Fin.cast nCore_eq c) i))
      = bigSep Finset.univ Φ := by
  let e : Fin ((K (F := F)).nCore 0) × Fin 16 ≃ Fin 32 :=
    { toFun := fun a => num (Fin.cast nCore_eq a.1) a.2
      invFun := fun n => (⟨n.val / 16, show n.val / 16 < 2 by omega⟩, ⟨n.val % 16, by omega⟩)
      left_inv := fun a => by
        have h := a.2.isLt
        refine Prod.ext (Fin.ext ?_) (Fin.ext ?_)
        · show (16 * a.1.val + a.2.val) / 16 = a.1.val; omega
        · show (16 * a.1.val + a.2.val) % 16 = a.2.val; omega
      right_inv := fun n => Fin.ext (by show 16 * (n.val / 16) + n.val % 16 = n.val; omega) }
  rw [bigSep_univ_equiv e Φ, bigSep_univ_prod]
  rfl

/-- Everything the call is handed. -/
theorem cores_go (d : Dev nD) :
    iprop((xLoc d ↦{fullShare} m (xLoc d)) ∗ (wLoc d ↦{fullShare} m (wLoc d))
        ∗ (bLoc d ↦{fullShare} m (bLoc d)) ∗ (vLoc d ↦{fullShare} m (vLoc d))
        ∗ (sLoc d ↦{fullShare} m (sLoc d)))
      ⊢ (iprop(((xLoc d ↦{shareDrop fullShare 32} m (xLoc d)) ∗ (wLoc d ↦{shareDrop fullShare 32} m (wLoc d))
        ∗ bLoc d ↦{shareDrop fullShare 32} m (bLoc d))
        ∗ bigSep Finset.univ fun c : Fin ((K (F := F)).nCore 0) => (P m).st 0 d c) : sProp (MM F)) := by
  show _ ⊢ iprop(_ ∗ bigSep Finset.univ fun c : Fin ((K (F := F)).nCore 0) =>
    bigSep Finset.univ fun i : Fin 16 => goP m d (num (Fin.cast nCore_eq c) i))
  rw [bigSep_num (fun n => goP m d n)]
  unfold goP readP blockP
  rw [bigSep_sep', bigSep_sep', bigSep_sep', bigSep_sep', ← vBlocks, ← sBlocks]
  iintro ⟨Hx, Hw, Hb, Hv, Hs⟩
  ihave Hx' := (pointsTo_toks_split fullShare 32) $$ Hx
  ihave Hw' := (pointsTo_toks_split fullShare 32) $$ Hw
  ihave Hb' := (pointsTo_toks_split fullShare 32) $$ Hb
  icases Hx' with ⟨Hx0, Hx⟩
  icases Hw' with ⟨Hw0, Hw⟩
  icases Hb' with ⟨Hb0, Hb⟩
  iframe

/-- Everything the call hands back. -/
theorem cores_td (d : Dev nD) :
    iprop(((xLoc d ↦{shareDrop fullShare 32} m (xLoc d)) ∗ (wLoc d ↦{shareDrop fullShare 32} m (wLoc d))
        ∗ bLoc d ↦{shareDrop fullShare 32} m (bLoc d))
        ∗ bigSep Finset.univ fun c : Fin ((K (F := F)).nCore 0) => (P m).dn 0 d c)
      ⊢ (iprop((xLoc d ↦{fullShare} m (xLoc d)) ∗ (wLoc d ↦{fullShare} m (wLoc d))
        ∗ (bLoc d ↦{fullShare} m (bLoc d))
        ∗ (vLoc d ↦{fullShare} tilesV (m (xLoc d)) (m (wLoc d)) (m (bLoc d)))
        ∗ (sLoc d ↦{fullShare} tilesS (m (xLoc d)) (m (wLoc d)) (m (bLoc d)))) : sProp (MM F)) := by
  show iprop(_ ∗ bigSep Finset.univ fun c : Fin ((K (F := F)).nCore 0) =>
    bigSep Finset.univ fun i : Fin 16 => tdP m d (num (Fin.cast nCore_eq c) i)) ⊢ _
  rw [bigSep_num (fun n => tdP m d n)]
  unfold tdP readP blockP
  rw [bigSep_sep', bigSep_sep', bigSep_sep', bigSep_sep', ← vBlocks, ← sBlocks]
  iintro ⟨⟨Hx0, Hw0, Hb0⟩, ⟨Hx, Hw, Hb⟩, Hv, Hs⟩
  ihave Hx' := (pointsTo_toks_join fullShare 32 (ℓ := xLoc d) (f := m (xLoc d)) (S := Finset.univ)) $$ [Hx0 Hx]
  · iframe
  ihave Hw' := (pointsTo_toks_join fullShare 32 (ℓ := wLoc d) (f := m (wLoc d)) (S := Finset.univ)) $$ [Hw0 Hw]
  · iframe
  ihave Hb' := (pointsTo_toks_join fullShare 32 (ℓ := bLoc d) (f := m (bLoc d)) (S := Finset.univ)) $$ [Hb0 Hb]
  · iframe
  iframe

end Cert.Proof
-- ==== Proof.Host.lean ====
module

public import proofs.«01_k».proof.Proof.Regions
public import proofs.«01_k».proof.Proof.Launch
public import Idealize.ShloMosaic.Lib.StableHlo.Run

/-! The host's part of @main: the operations that cut and pad the segment numbers, and the contents of every array
after each part of @main. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]

variable (m : (ℓ : Loc nD τ sig) → Buf (Elt F) ℓ)

/-- The operations the host runs, in order: the rows left to the TensorCore are cut from the segment numbers, -/
def op1 : HloOp τ sig (Elt F) :=
  StableHlo.unary main_arg3 main_v0
    ((extractStridedSlice S61600 ![38400] · slices_S100000_S61600_38400) :
      (⟨S100000, .i32⟩ : BufTy).Contents (Elt F) → (⟨S61600, .i32⟩ : BufTy).Contents (Elt F))
/-- the padding word is written, -/
def op2 : HloOp τ sig (Elt F) := StableHlo.nullary main_c (constantI S_ 32 0#32)
/-- and copied, -/
def op3 : HloOp τ sig (Elt F) := StableHlo.TRef.unary (StableHlo.TRef.of main_c : StableHlo.TRef sig ⟨S_, .i32⟩) main_call0.v0 id
/-- the cut is padded to whole blocks, -/
def op4 : HloOp τ sig (Elt F) :=
  StableHlo.TRef.binary (StableHlo.TRef.of main_v0 : StableHlo.TRef sig ⟨S61600, .i32⟩) main_call0.v0 main_call0.v1
    (fun x v => pad S65280 ![0] ![3680] ![0] x v pads_S61600_S65280_036800 h_S_)
/-- and the blocks are laid out one after another. -/
def op5 : HloOp τ sig (Elt F) :=
  StableHlo.reshape main_v1 main_v2 (rfl : (.i32 : EltTy) = .i32) shapeCasts_S65280_S17x1x3840

/-- The contents at the launch, and after the host's operations. -/
def launchV (d : Dev nD) : Valuation τ sig (Elt F) := fun b => m (d, b)
def hostV (d : Dev nD) : Valuation τ sig (Elt F) :=
  op5.result (op4.result (op3.result (op2.result (op1.result (launchV m d)))))

theorem hostV_of (d : Dev nD) {r : Ref sig .tc} (h0 : r ≠ main_v0) (hc : r ≠ main_c) (hc0 : r ≠ main_call0_v0)
    (h1 : r ≠ main_v1) (h2 : r ≠ main_v2) : hostV m d (Proc.devRef .tc r) = m ((SparseCore.T d).loc r) := by
  unfold hostV op5 op4 op3 op2 op1
  rw [StableHlo.reshape_result_ne _ _ _ _ _ _ _ h2, StableHlo.binary_result_ne _ _ _ _ _ _ _ _ h1, StableHlo.unary_result_ne _ _ _ _ _ _ hc0,
    StableHlo.nullary_result_ne _ _ _ _ hc, StableHlo.unary_result_ne _ _ _ _ _ _ h0]
  rfl

/-- The padded segment numbers of the TensorCore's rows. -/
def padded (b : S100000.Idx → BitVec 32) : S17x1x3840.Idx → BitVec 32 :=
  shapeCast S17x1x3840 (pad S65280 ![0] ![3680] ![0] (extractStridedSlice S61600 ![38400] b slices_S100000_S61600_38400)
    (constantI S_ 32 0#32) pads_S61600_S65280_036800 h_S_) shapeCasts_S65280_S17x1x3840

theorem hostV_v2 (d : Dev nD) : hostV m d (Proc.devRef .tc main_v2) = padded (m (bLoc d)) := by
  unfold hostV op5 op4 op3 op2 op1
  rw [StableHlo.reshape_result, StableHlo.binary_result, StableHlo.unary_result_ne _ _ _ _ _ _ (by decide),
   StableHlo.unary_result, StableHlo.nullary_result_ne _ _ _ _ (by decide), StableHlo.nullary_result, StableHlo.unary_result]
  rfl

end Cert.Proof
-- ==== Proof.Parts.lean ====
module

public import proofs.«01_k».proof.Proof.Host

/-! The three parts of @main on the TensorCore: the host's operations, the SparseCores' call, and the TensorCore's two
launches, each from the contents of the arrays before it to the contents after it. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]
open Idealize.ShloMosaic.StableHlo (held)

variable (m : (ℓ : Loc nD τ sig) → Buf (Elt F) ℓ)

/-! ## The contents of the arrays -/

/-- After the host's operations, -/
def Vh : Vals F := fun c b => hostV m c (Proc.devRef .tc b)
/-- after the SparseCores' call, -/
def Vs : Vals F := fun c =>
  Function.update (Function.update (Vh m c) main_v3_0 (tilesV (m (xLoc c)) (m (wLoc c)) (m (bLoc c))))
    main_v3_1 (tilesS (m (xLoc c)) (m (wLoc c)) (m (bLoc c)))
/-- after the TensorCore's own sums, -/
def Vp : Vals F := fun c =>
  Function.update (Function.update (Vs m c) main_v4_0 (sumsOf (Vs m) c 17).1) main_v4_1 (sumsOf (Vs m) c 17).2
/-- and at the end. -/
def Vc : Vals F := fun c => Function.update (Vp m c) main_v5 (combined (Vp m) c)

theorem Vh_arg (d : Dev nD) {r : Ref sig .tc} (h : r ∉ ({main_v0, main_c, main_call0_v0, main_v1, main_v2} : Finset (Ref sig .tc))) :
    Vh m d r = m ((SparseCore.T d).loc r) := by
  simp only [Finset.mem_insert, Finset.mem_singleton, not_or] at h
  exact hostV_of m d h.1 h.2.1 h.2.2.1 h.2.2.2.1 h.2.2.2.2

theorem Vs_v (d : Dev nD) : Vs m d main_v3_0 = tilesV (m (xLoc d)) (m (wLoc d)) (m (bLoc d)) := by
  unfold Vs; rw [Function.update_of_ne (by decide), Function.update_self]
theorem Vs_s (d : Dev nD) : Vs m d main_v3_1 = tilesS (m (xLoc d)) (m (wLoc d)) (m (bLoc d)) := by
  unfold Vs; rw [Function.update_self]
theorem Vs_of (d : Dev nD) {r : Ref sig .tc} (h0 : r ≠ main_v3_0) (h1 : r ≠ main_v3_1) : Vs m d r = Vh m d r := by
  unfold Vs; rw [Function.update_of_ne h1, Function.update_of_ne h0]

theorem Vp_0 (d : Dev nD) : Vp m d main_v4_0 = (sumsOf (Vs m) d 17).1 := by
  unfold Vp; rw [Function.update_of_ne (by decide), Function.update_self]
theorem Vp_1 (d : Dev nD) : Vp m d main_v4_1 = (sumsOf (Vs m) d 17).2 := by
  unfold Vp; rw [Function.update_self]
theorem Vp_of (d : Dev nD) (r : Ref sig .tc) (h0 : r ≠ main_v4_0) (h1 : r ≠ main_v4_1) : Vp m d r = Vs m d r := by
  unfold Vp; rw [Function.update_of_ne h1, Function.update_of_ne h0]

theorem Vc_out (d : Dev nD) : Vc m d main_v5 = combined (Vp m) d := by unfold Vc; rw [Function.update_self]
theorem Vc_of (d : Dev nD) (r : Ref sig .tc) (h : r ≠ main_v5) : Vc m d r = Vp m d r := by
  unfold Vc; rw [Function.update_of_ne h]

/-- @main's result, as a function of its arguments. -/
def pooled (x : S100000x128.Idx → F .f32) (wt : S1x128.Idx → F .f32) (b : S100000.Idx → BitVec 32) : S64x128.Idx → F .f32 :=
  k2_pay1 (tilesV x wt b) (tcSums x wt (padded b) 17).1 (tilesS x wt b) (tcSums x wt (padded b) 17).2

theorem Vc_v5 (d : Dev nD) : Vc m d main_v5 = pooled (m (xLoc d)) (m (wLoc d)) (m (bLoc d)) := by
  rw [Vc_out]
  unfold combined
  rw [Vp_0, Vp_1, Vp_of m d main_v3_0 (by decide) (by decide), Vp_of m d main_v3_1 (by decide) (by decide), Vs_v, Vs_s]
  unfold sumsOf
  rw [Vs_of m d (r := main_arg0) (by decide) (by decide), Vs_of m d (r := main_arg1) (by decide) (by decide),
    Vs_of m d (r := main_v2) (by decide) (by decide), Vh_arg m d (r := main_arg0) (by decide), Vh_arg m d (r := main_arg1) (by decide),
    show Vh m d main_v2 = padded (m (bLoc d)) from hostV_v2 m d]
  rfl

theorem Vc_arg (d : Dev nD) {r : Ref sig .tc} (h : r ∈ ({main_arg0, main_arg1, main_arg2, main_arg3} : Finset (Ref sig .tc))) :
    Vc m d r = m ((SparseCore.T d).loc r) := by
  simp only [Finset.mem_insert, Finset.mem_singleton] at h
  rcases h with rfl | rfl | rfl | rfl <;>
    rw [Vc_of m d _ (by decide), Vp_of m d _ (by decide) (by decide), Vs_of m d (by decide) (by decide), Vh_arg m d (by decide)]

/-! ## The arrays held -/

/-- The arrays of @main. -/
def arrays : Finset (DevRef τ sig) := (StableHlo.tcRefs τ sig).filter (¬ ·.isScoped)

theorem unscoped_held (d : Dev nD) (W : Valuation τ sig (Elt F)) :
    (unscopedBufs d (fun b => W (Proc.devRef .tc b)) : sProp (MM F)) = held (SparseCore.T d) arrays W := by
  unfold unscopedBufs held arrays StableHlo.tcRefs
  rw [Finset.filter_map, bigSep_map]
  rfl

/-- The five arrays of the SparseCores' call. -/
def callRefs : Finset (Ref sig .tc) := {main_arg0, main_arg1, main_arg3, main_v3_0, main_v3_1}
/-- The arrays of @main beside them. -/
def besides : Finset (Ref sig .tc) :=
  {main_arg2, main_v0, main_c, main_call0_v0, main_v1, main_v2, main_v4_0, main_v4_1, main_v5}

theorem unscoped_split (d : Dev nD) (W : (b : Ref sig .tc) → Buf (Elt F) ((d.tc : Thread nD τ).loc b)) :
    (unscopedBufs d W : sProp (MM F))
      = iprop(((xLoc d ↦{fullShare} W main_arg0) ∗ (wLoc d ↦{fullShare} W main_arg1) ∗ (bLoc d ↦{fullShare} W main_arg3)
        ∗ (vLoc d ↦{fullShare} W main_v3_0) ∗ (sLoc d ↦{fullShare} W main_v3_1))
        ∗ bigSep besides fun r => ((d.tc : Thread nD τ).loc r) ↦{fullShare} W r) := by
  unfold unscopedBufs
  rw [show (Finset.univ.filter fun b : Ref sig .tc => ¬ b.isScoped) = callRefs ∪ besides by decide, bigSep_union (by decide)]
  unfold callRefs
  rw [SparseCore.bigSep_insert' (by decide), SparseCore.bigSep_insert' (by decide), SparseCore.bigSep_insert' (by decide),
    SparseCore.bigSep_insert' (by decide), bigSep_singleton]
  rfl

end Cert.Proof
-- ==== Proof.Main.lean ====
module

public import proofs.«01_k».proof.Proof.Parts

/-! @main on the TensorCore: the host's operations, the SparseCores' call and the TensorCore's two launches, one
after another. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]
open Idealize.ShloMosaic.StableHlo (held)

variable (m : (ℓ : Loc nD τ sig) → Buf (Elt F) ℓ) (ρ : Dev nD → PrngReg)

/-- The host's operations, as @main runs them. -/
def hostProg : Prog (TpuEff nD τ sig (Elt F) (SparseCore.Sig (ΛP (F := F)) 1) .tc) PUnit := do
  hlo rfl op1 (fun _ => .ret ⟨⟩)
  hlo rfl op2 (fun _ => .ret ⟨⟩)
  hlo rfl op3 (fun _ => .ret ⟨⟩)
  hlo rfl op4 (fun _ => .ret ⟨⟩)
  hlo rfl op5 (fun _ => .ret ⟨⟩)

/-- The TensorCore's two launches. -/
def tcProg : Prog (TpuEff nD τ sig (Elt F) (ΛP (F := F)) .tc) PUnit := do
  Prog.lift (.customCall (Pipeline.entry 0) ())
  Prog.lift (.customCall (Pipeline.entry 1) ())

theorem main_eq (d : Dev nD) :
    (main (F := F) d) = (do hostProg; sc.run d 0; SparseCore.liftProg tcProg) := by
  rfl

theorem op1_sub : (op1 (F := F)).bufs ⊆ arrays := by show ({_, _} : Finset (DevRef τ sig)) ⊆ arrays; decide
theorem op2_sub : (op2 (F := F)).bufs ⊆ arrays := by show ({_} : Finset (DevRef τ sig)) ⊆ arrays; decide
theorem op3_sub : (op3 (F := F)).bufs ⊆ arrays := by show ({_, _} : Finset (DevRef τ sig)) ⊆ arrays; decide
theorem op4_sub : (op4 (F := F)).bufs ⊆ arrays := by show ({_, _, _} : Finset (DevRef τ sig)) ⊆ arrays; decide
theorem op5_sub : (op5 (F := F)).bufs ⊆ arrays := by show ({_, _} : Finset (DevRef τ sig)) ⊆ arrays; decide

/-- The host's operations take the arrays from their contents at the launch to `hostV`. -/
theorem host_run (d : Dev nD) :
    iprop(boundary (SparseCore.T d) ∗ held (SparseCore.T d) arrays (launchV m d))
      ⊢ (wp frame (wpE ((K (F := F)).defs (D (F := F))) 𝒱 (SparseCore.T d) none) Set.univ hostProg
          fun _ => iprop(boundary (SparseCore.T d) ∗ held (SparseCore.T d) arrays (hostV m d)) : sProp (MM F)) := by
  unfold hostProg hostV
  simp only [wp_bind, wp_pure]
  iintro H
  iapply (StableHlo.wp_hlo_within 𝒱 (SparseCore.T d) none Set.univ (op := op1) (S := arrays) op1_sub (V := launchV m d)) $$ H
  iintro H
  rw [wp_ret]; imodintro
  iapply (StableHlo.wp_hlo_within 𝒱 (SparseCore.T d) none Set.univ (op := op2) (S := arrays) op2_sub) $$ H
  iintro H
  rw [wp_ret]; imodintro
  iapply (StableHlo.wp_hlo_within 𝒱 (SparseCore.T d) none Set.univ (op := op3) (S := arrays) op3_sub) $$ H
  iintro H
  rw [wp_ret]; imodintro
  iapply (StableHlo.wp_hlo_within 𝒱 (SparseCore.T d) none Set.univ (op := op4) (S := arrays) op4_sub) $$ H
  iintro H
  rw [wp_ret]; imodintro
  iapply (StableHlo.wp_hlo_within 𝒱 (SparseCore.T d) none Set.univ (op := op5) (S := arrays) op5_sub) $$ H
  iintro H
  rw [wp_ret]; imodintro
  iexact H

/-- No table is fetched ahead. -/
abbrev adm : (p : Fin 2) → (pcfgs (F := F) p).Adm := fun p => (cfgs p).toPCfg_adm

/-- The ghost state of the two launches' cells on one core. -/
def launchGhost (c : Dev nD) : sProp (MM F) :=
  iprop((bigSep Finset.univ fun p => Pipeline.cellsGhost (Pipeline.pin (pcfgs (F := F)) adm) EP p c)
    ∗ bigSep Finset.univ fun p => Pipeline.toksInit (Pipeline.pin (pcfgs (F := F)) adm) EP p c)

theorem sep_fin_two (Φ : Fin 2 → sProp (MM F)) : (bigSep Finset.univ Φ) ⊢ iprop(Φ 0 ∗ Φ 1) :=
  Entails.of_eq (BI.bigSep_fin_two Φ)

section
variable (V V' : Vals F) [∀ e, Nonempty (Elt F e)]

theorem reg1_pre (h0 h1 hne) (c : Dev nD) :
    (reg1 V adm V' h0 h1 hne).pre c = iprop(unscopedBufs c (V c) ∗ free c) := rfl
theorem reg1_post (h0 h1 hne) (c : Dev nD) :
    (reg1 V adm V' h0 h1 hne).post c = iprop(unscopedBufs c (V' c) ∗ free c) := rfl
theorem reg2_pre (h0 hne) (c : Dev nD) :
    (reg2 V adm V' h0 hne).pre c = iprop(unscopedBufs c (V c) ∗ free c) := rfl
theorem reg2_post (h0 hne) (c : Dev nD) :
    (reg2 V adm V' h0 hne).post c = iprop(unscopedBufs c (V' c) ∗ free c) := rfl

end

set_option backward.isDefEq.respectTransparency.types false in
/-- The TensorCore's launches take the arrays from `Vs` to `Vc`. -/
theorem tc_run [∀ e, Nonempty (Elt F e)] (d : Dev nD) :
    iprop(levAts (K (F := F)).L (K (F := F)).lev ∗ boundary d.tc ∗ (unscopedBufs d (Vs m d) ∗ free d) ∗ launchGhost d)
      ⊢ (wp frame (wpE (D (F := F)) 𝒱 d.tc none) Set.univ tcProg
          fun _ => iprop(boundary d.tc ∗ (unscopedBufs d (Vc m d) ∗ free d)) : sProp (MM F)) := by
  unfold tcProg launchGhost
  iintro ⟨#Hl, Hb, Hpre, Hg, Ht⟩
  ihave Hg' := (sep_fin_two fun p => Pipeline.cellsGhost (Pipeline.pin (pcfgs (F := F)) adm) EP p d) $$ Hg
  ihave Ht' := (sep_fin_two fun p => Pipeline.toksInit (Pipeline.pin (pcfgs (F := F)) adm) EP p d) $$ Ht
  icases Hg' with ⟨Hg0, Hg1⟩
  icases Ht' with ⟨Ht0, Ht1⟩
  iapply (Pipeline.RegionSeg.wp (pcfgs (F := F)) adm (pdats (Vs m) adm) none Gen.cellOf_inj EP defs₀ 𝒱₀ (K (F := F)).L (K (F := F)).lev
    (reg1 (Vs m) adm (Vp m) (Vp_0 m) (Vp_1 m) (Vp_of m)) d none (fun _ h => nomatch h))
  rw [reg1_pre, reg1_post]
  isplitr [Hb Hpre Hg0 Ht0]
  · iintro ⟨Hb, Hpre⟩
    iapply (Pipeline.RegionSeg.wp (pcfgs (F := F)) adm (pdats (Vp m) adm) none Gen.cellOf_inj EP defs₀ 𝒱₀ (K (F := F)).L (K (F := F)).lev
      (reg2 (Vp m) adm (Vc m) (Vc_out m) (Vc_of m)) d none (fun _ h => nomatch h))
    rw [reg2_pre, reg2_post]
    isplitr [Hb Hpre Hg1 Ht1]
    · iintro ⟨Hb, Hpre⟩
      rw [wp_ret]; imodintro
      isplitl [Hb]; · iexact Hb
      iexact Hpre
    isplitl [Hb]; · iexact Hb
    isplitl [Hpre]; · iexact Hpre
    isplitr; · iexact Hl
    isplitl [Hg1]; · iexact Hg1
    iexact Ht1
  isplitl [Hb]; · iexact Hb
  isplitl [Hpre]; · iexact Hpre
  isplitr; · iexact Hl
  isplitl [Hg0]; · iexact Hg0
  iexact Ht0

end Cert.Proof
-- ==== Proof.Run.lean ====
module

public import proofs.«01_k».proof.Proof.Main

/-! The kernel's run: from any memory whose segment numbers are in range, every thread ends, the arguments are
unchanged, no semaphore is left raised, and the result is `pooled` of the arguments. -/

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Transfers

variable {F : FTy → Type} [FloatOps F]
open Idealize.ShloMosaic.StableHlo (held)
open Idealize.ShloMosaic.Rounds

variable (m : (ℓ : Loc nD τ sig) → Buf (Elt F) ℓ) (ρ : Dev nD → PrngReg)

/-- The TensorCore's state after the call lends out what it owes. -/
theorem tcSt_lend (d : Dev nD) :
    (K (F := F)).tcSt EH d 1 ⊢ (iprop(free d ∗ (free d -∗ (K (F := F)).tcSt EH d 1)) : sProp (MM F)) := by
  unfold SparseCore.Cfg.tcSt free
  rw [SparseCore.Cfg.Otc_end _ d (le_refl 1)]
  iintro ⟨⟨%W, %hW, HO⟩, Hrest⟩
  isplitl [HO]
  · iexists W
    isplitr; · ipureintro; exact hW
    iexact HO
  iintro ⟨%W', %hW', HO⟩
  isplitl [HO]
  · iexists W'
    isplitr; · ipureintro; exact hW'
    iexact HO
  iexact Hrest

theorem besides_eq (d : Dev nD) :
    (bigSep besides fun r => ((d.tc : Thread nD τ).loc r) ↦{fullShare} Vh m d r : sProp (MM F))
      = bigSep besides fun r => ((d.tc : Thread nD τ).loc r) ↦{fullShare} Vs m d r :=
  bigSep_congr fun r hr => by
    have h : r ≠ main_v3_0 ∧ r ≠ main_v3_1 := by revert r; decide
    rw [Vs_of m d h.1 h.2]

theorem held_host (d : Dev nD) :
    (held (SparseCore.T d) arrays (hostV m d) : sProp (MM F)) = unscopedBufs d (Vh m d) :=
  (unscoped_held d (hostV m d)).symm

/-- The result and the arguments, at the end. -/
def FIN (d : Dev nD) : sProp (MM F) := unscopedBufs d (Vc m d)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ launchGhost d)
      ⊢ (wp frame (wpE ((K (F := F)).defs (D (F := F))) 𝒱 (SparseCore.T d) none) Set.univ (main d)
          fun _ => iprop((K (F := F)).tcSt EH d 1 ∗ FIN m d ∗ (K (F := F)).tcEnd d) : sProp (MM F)) := by
  unfold SparseCore.Cfg.tcRes SparseCore.Cfg.tcEnd
  rw [main_eq, show (fun b => m ((SparseCore.T d).loc b)) = fun b : Ref sig .tc => launchV m d (Proc.devRef .tc b) from rfl,
    unscoped_held, wp_bind]
  iintro ⟨#Hctx, Hst, ⟨Hb, Hbufs, Hts, -⟩, HG⟩
  iapply (wp_wand_r frame _ Set.univ)
  isplitl [Hb Hbufs]
  · iapply (host_run m d)
    isplitl [Hb]; · iexact Hb
    iexact Hbufs
  iintro %u ⟨Hb, Hbufs⟩
  rw [wp_bind]
  ihave Hub := (Entails.of_eq (held_host m d)) $$ Hbufs
  ihave Hub' := (Entails.of_eq (unscoped_split d (Vh m d))) $$ Hub
  icases Hub' with ⟨Hcall, Hrest⟩
  rw [Vh_arg m d (r := main_arg0) (by decide), Vh_arg m d (r := main_arg1) (by decide), Vh_arg m d (r := main_arg3) (by decide),
    Vh_arg m d (r := main_v3_0) (by decide), Vh_arg m d (r := main_v3_1) (by decide)]
  ihave Hgo := (cores_go m d) $$ Hcall
  icases Hgo with ⟨Hkeep, Hgo⟩
  iapply ((K (F := F)).wp_run (D (F := F)) 𝒱 (EH := EH) (P := P m) κ d 0)
  isplitr; · iexact Hctx
  isplitl [Hst]; · iexact Hst
  isplitl [Hgo]; · iexact Hgo
  iintro ⟨Hst, Hdn⟩
  ihave Hback := (cores_td m d) $$ [Hkeep Hdn]
  · isplitl [Hkeep] <;> iassumption
  rw [show ((0 : Fin 1) : ℕ) + 1 = 1 from rfl]
  ihave Hl := (tcSt_lend d) $$ Hst
  icases Hl with ⟨Hfree, Hst⟩
  ihave Hlev := (SparseCore.Cfg.ctx_levAts κ) $$ Hctx
  iapply (wp_wand_r frame _ Set.univ)
  isplitr [Hst Hts]
  · iapply ((K (F := F)).wp_liftProg (D (F := F)) 𝒱 (SparseCore.T d) Set.univ none tcProg _)
    iapply (tc_run m d)
    isplitl [Hlev]; · iexact Hlev
    isplitl [Hb]; · iexact Hb
    isplitr [HG]
    · isplitr [Hfree]
      · rw [unscoped_split, ← besides_eq, Vs_v, Vs_s, Vs_of m d (r := main_arg0) (by decide) (by decide),
          Vs_of m d (r := main_arg1) (by decide) (by decide), Vs_of m d (r := main_arg3) (by decide) (by decide),
          Vh_arg m d (r := main_arg0) (by decide), Vh_arg m d (r := main_arg1) (by decide), Vh_arg m d (r := main_arg3) (by decide)]
        isplitl [Hback]; · iexact Hback
        iexact Hrest
      iexact Hfree
    iexact HG
  iintro %u' ⟨Hb, Hbufs, Hfree⟩
  isplitl [Hst Hfree]
  · iapply Hst; iexact Hfree
  isplitl [Hbufs]
  · unfold FIN; iexact Hbufs
  isplitl [Hb] <;> iassumption

/-- The ghost state the run starts from: the calls' handshakes and the launches' cells. -/
def u₀ : UU :=
  (initOf (K (F := F)).hsCells (K (F := F)).hsToks,
    (initOf (Pipeline.cells (Pipeline.pin (pcfgs (F := F)) adm) Gen.cellOf_inj)
      (Pipeline.launchToks (Pipeline.pin (pcfgs (F := F)) adm) Gen.cellOf_inj), 1))

theorem hu₀ : (ownU (u₀ (F := F)) : sProp (MM F))
    ⊢ |={Set.univ}=> iprop(BI.own (EH (initOf (K (F := F)).hsCells (K (F := F)).hsToks)) ∗ (bigSep Finset.univ fun d : Dev nD => launchGhost d)
        ∗ bigSep Finset.univ fun thr : Thread nD τ => bigSep Finset.univ fun q : Fin 1 => (P m).x q thr) := by
  unfold u₀ launchGhost
  rw [bigSep_sep']
  iintro Hu
  ihave H := (ownU_pair (initOf (K (F := F)).hsCells (K (F := F)).hsToks)
    ((initOf (Pipeline.cells (Pipeline.pin (pcfgs (F := F)) adm) Gen.cellOf_inj)
      (Pipeline.launchToks (Pipeline.pin (pcfgs (F := F)) adm) Gen.cellOf_inj), 1) : UP × Counters)) $$ Hu
  icases H with ⟨HH, HP⟩
  ihave HP' := (own_pair_emb (embR : Emb (UP × Counters) (MM F)) _ _) $$ HP
  icases HP' with ⟨HP, -⟩
  imod (Pipeline.fund_ghost (Pipeline.pin (pcfgs (F := F)) adm) EP Gen.cellOf_inj) $$ HP with ⟨Hg, Ht⟩
  imodintro
  isplitl [HH]; · iexact HH
  isplitl [Hg Ht]
  · isplitl [Hg] <;> iassumption
  rw [show (bigSep Finset.univ fun thr : Thread nD τ => bigSep Finset.univ fun q : Fin 1 => (P m).x q thr)
      = (bigSep Finset.univ fun _ : Thread nD τ => iprop(emp) : sProp (MM F)) from
    bigSep_congr fun _ _ => bigSep_univ_of_subsingleton (0 : Fin 1),
    show (bigSep Finset.univ fun _ : Thread nD τ => iprop(emp) : sProp (MM F)) = iprop(emp) from bigSep_emp_const _]
  iempintro

/-- Every array of @main reads as `Vc` says. -/
def fq (d : Dev nD) (s' : Phys nD τ sig (Elt F)) : Prop :=
  ∀ r : Ref sig .tc, r.isScoped = false → s'.mem.mem ((SparseCore.T d).loc r) = Vc m d r

theorem hfin (d : Dev nD) (s' : Phys nD τ sig (Elt F)) : iprop(FIN m d ∗ SI s') ⊢ (⌜fq m d s'⌝ : sProp (MM F)) := by
  refine BIBase.Entails.trans (Laws.forall_intro fun r => ?_) Laws.pure_forall.2
  refine BIBase.Entails.trans (Laws.forall_intro fun hr => ?_) Laws.pure_forall.2
  have hel : FIN m d ⊢ (((d.tc : Thread nD τ).loc r) ↦{fullShare} Vc m d r : sProp (MM F)) := by
    unfold FIN unscopedBufs
    exact bigSep_elim (Φ := fun r : Ref sig .tc => (((d.tc : Thread nD τ).loc r) ↦{fullShare} Vc m d r : sProp (MM F)))
      (by simp [hr])
  iintro ⟨HF, HSI⟩
  ihave Hr := hel $$ HF
  ihave H := (SI_pointsTo_agree (st := s') (ℓ := (d.tc : Thread nD τ).loc r) (I := Finset.univ) (q := fullShare) (f := Vc m d r)) $$ [HSI Hr]
  · isplitl [HSI] <;> iassumption
  icases H with %h
  ipureintro; exact funext fun i => h i (Finset.mem_univ i)

/-- The run ends with the arguments unchanged, the result `pooled` of them and no semaphore raised. -/
def QC : PUnit × MemSt nD τ sig (Elt F) → Prop := fun r =>
  (∀ d : Dev nD, (r.2.mem (xLoc d) = m (xLoc d) ∧ r.2.mem (wLoc d) = m (wLoc d) ∧ r.2.mem (gLoc d) = m (gLoc d)
    ∧ r.2.mem (bLoc d) = m (bLoc d))
    ∧ r.2.mem ((SparseCore.T d).loc main_v5) = pooled (m (xLoc d)) (m (wLoc d)) (m (bLoc d)))
  ∧ r.2.sem = fun _ => 0

theorem ends (s' : Phys nD τ sig (Elt F)) (h : ∀ d, fq m d s') (hz : s'.mem.sem = fun _ => 0) : QC m (⟨⟩, s'.mem) :=
  ⟨fun d => ⟨⟨(h d main_arg0 rfl).trans (Vc_arg m d (by decide)), (h d main_arg1 rfl).trans (Vc_arg m d (by decide)),
    (h d main_arg2 rfl).trans (Vc_arg m d (by decide)), (h d main_arg3 rfl).trans (Vc_arg m d (by decide))⟩,
    (h d main_v5 rfl).trans (Vc_v5 m d)⟩, hz⟩

theorem run_main [∀ e, Nonempty (Elt F e)] (hb : ∀ d y, (m (bLoc d) y : BitVec 32).toNat < 64) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hb)
    (fun q _ => match q with | 0 => SparseCore.Cfg.VecSplit.of_plain (vecSplit m))
    m ρ main (fun d => launchGhost d) (FIN m) (u₀ (F := F)) (sep_elim_left.trans (hu₀ m)) (hmain m ρ) (fq m) (hfin m) (QC m)
    (ends m)

end Cert.Proof
-- ==== Proof.KernelText.lean ====
module

public import proofs.«01_k».proof.Defs
public import proofs.«01_k».proof.Proof.Gen.KernelIdeal
public import proofs.«01_k».proof.Proof.Gen.Kernel

/-! The bodies of the program at machine words and of the program over ideal values have the same text. -/

@[expose] public section

noncomputable section

namespace Cert.Proof

open Idealize.ShloMosaic Idealize.SL.Sem

set_option maxRecDepth 10000 in
set_option maxHeartbeats 8000000 in
/-- The two texts of the tile's body agree. -/
theorem tile_body_eq : @Cert.Kernel.cc0__sc_partials Bits _ _ = @Cert.KernelIdeal.cc0__sc_partials Bits _ _ := rfl

/-- The two texts of the dense call's body agree. -/
theorem dense_body_eq : @Cert.Kernel.cc1__tc_body Bits _ _ = @Cert.KernelIdeal.cc1__tc_body Bits _ _ := rfl

/-- The two texts of the combining call's body agree. -/
theorem combine_body_eq : @Cert.Kernel.cc2__combine_body Bits _ _ = @Cert.KernelIdeal.cc2__combine_body Bits _ _ := rfl

end Cert.Proof
-- ==== Proof.KernelRun.lean ====
module

public import proofs.«01_k».proof.Defs
public import proofs.«01_k».proof.Proof.Run
public import proofs.«01_k».proof.Proof.Gen.Kernel
public import proofs.«01_k».proof.Proof.KernelText

/-! The program at machine words is the program over ideal values read at other values: their texts agree, so
the run over any values gives the run at machine words. -/

@[expose] public section

noncomputable section

namespace Cert.Proof

open Idealize.ShloMosaic Idealize.SL.Sem

/-- The two tables of bodies agree. -/
theorem bodies_eq : Cert.Kernel.defs₀ (F := Bits) = Cert.KernelIdeal.defs₀ (F := Bits) := by
  funext p ℓ a
  match p, ℓ, a with
  | .scVector c s, 0, () =>
    rw [defs₀_tile]
    delta Cert.Kernel.defs₀
    dsimp only
    rw [tile_body_eq]
    exact rfl
  | .scVector c s, 1, _ => exact rfl
  | .scVector c s, 2, _ => exact rfl
  | .tc, 0, _ => exact rfl
  | .tc, 1, (t, s) => exact rfl
  | .tc, 2, (t, s) => exact rfl
  | .scScalar c, 0, _ => exact rfl
  | .scScalar c, 1, _ => exact rfl
  | .scScalar c, 2, _ => exact rfl

/-- The two tables of definitions agree. -/
theorem defs_eq : Cert.Kernel.defs (F := Bits) = Cert.KernelIdeal.defs (F := Bits) := by
  unfold Cert.Kernel.defs Cert.KernelIdeal.defs
  rw [bodies_eq]
  rfl

/-- Every run of the program at machine words leaves the arguments unchanged and no semaphore raised. -/
theorem run_bits (m : (ℓ : Loc Cert.KernelIdeal.nD Cert.KernelIdeal.τ Cert.KernelIdeal.sig) → Buf (Elt Bits) ℓ)
    (ρ : Dev Cert.KernelIdeal.nD → PrngReg) (hb : ∀ d y, (m (bLoc d) y : BitVec 32).toNat < 64) :
    θ_run (Cert.KernelIdeal.defs (F := Bits)) (Cert.KernelIdeal.threads (F := Bits)) ⟨m, fun _ => 0, ρ⟩
      fun r => (∀ d : Dev Cert.KernelIdeal.nD, r.2.mem (xLoc d) = m (xLoc d) ∧ r.2.mem (wLoc d) = m (wLoc d)
        ∧ r.2.mem (gLoc d) = m (gLoc d) ∧ r.2.mem (bLoc d) = m (bLoc d)) ∧ r.2.sem = fun _ => 0 :=
  (θ_run Cert.KernelIdeal.defs _ _).mono (fun _ h => ⟨fun c => (h.1 c).1, h.2⟩) (run_main (F := Bits) m ρ hb)

/-- The same, for the program as written. -/
theorem run_kernel (m : (ℓ : Loc Cert.Kernel.nD Cert.Kernel.τ Cert.Kernel.sig) → Buf (Elt Bits) ℓ)
    (ρ : Dev Cert.Kernel.nD → PrngReg) (hb : ∀ d y, (m (bLoc d) y : BitVec 32).toNat < 64) :
    θ_run (Cert.Kernel.defs (F := Bits)) (Cert.Kernel.threads (F := Bits)) ⟨m, fun _ => 0, ρ⟩
      fun r => (∀ d : Dev Cert.KernelIdeal.nD, r.2.mem (xLoc d) = m (xLoc d) ∧ r.2.mem (wLoc d) = m (wLoc d)
        ∧ r.2.mem (gLoc d) = m (gLoc d) ∧ r.2.mem (bLoc d) = m (bLoc d)) ∧ r.2.sem = fun _ => 0 := by
  rw [defs_eq]
  exact run_bits m ρ hb

end Cert.Proof
-- ==== Proof.Given.lean ====
module

public import proofs.«01_k».proof.Pre_in_range
public import proofs.«01_k».proof.Pre_given
public import Idealize.ShloMosaic.Lib.ReduceAll
public import Idealize.ShloMosaic.Lib.Pointwise
public import Idealize.ShloMosaic.Lib.WordCmp
public import Idealize.ShloMosaic.Lib.IdealHost
public import Idealize.ShloMosaic.PureOps.Ideal

/-! What the claims' preconditions say: every segment number is below 64; the segment numbers do not decrease; every
float argument is finite. -/

@[expose] public section

noncomputable section

namespace Cert.Proof

open Idealize.ShloMosaic

instance subsingleton_scalar : Subsingleton (Cert.Pre_in_range.S_).Idx := ⟨fun _ _ => funext fun k => k.elim0⟩
instance subsingleton_scalar' : Subsingleton (Cert.Pre_given.S_).Idx := ⟨fun _ _ => funext fun k => k.elim0⟩

theorem ofBool_one {p : Bool} (h : BitVec.ofBool p = 1#1) : p = true := by cases p <;> simp_all

theorem lt_of_in_range {v : BitVec 32} (h : IntOp.andi (IntOp.cmpi .sge v 0#32) (IntOp.cmpi .slt v 64#32) = 1#1) :
    v.toNat < 64 := by
  obtain ⟨h1, h2⟩ := IntOp.andi_eq_one.1 h
  have h1' : (0#32).sle v = true := ofBool_one h1
  have h2' : v.slt 64#32 = true := ofBool_one h2
  rw [BitVec.sle_eq_decide, decide_eq_true_eq] at h1'
  rw [BitVec.slt_eq_decide, decide_eq_true_eq] at h2'
  have e := BitVec.toInt_eq_toNat_cond v
  simp at h1' h2'
  split at e <;> omega

theorem in_range [Cert.Pre_in_range.Facts] {F : FTy → Type} [FloatOps F] {x w g b}
    (h : Cert.Pre_in_range.fn (F := F) x w g b = fun _ => 1#1) (y) : (b y).toNat < 64 := by
  unfold Cert.Pre_in_range.fn at h
  dsimp only at h
  exact lt_of_in_range (Host.reduce_andi_all _ _ _ _ (fun k => k.elim0) (congrFun h _) y)

section
variable [Cert.Pre_given.Facts] {x : FVec Ideal Cert.Pre_given.S100000x128 .f32} {w : FVec Ideal Cert.Pre_given.S1x128 .f32}
  {g : FVec Ideal Cert.Pre_given.S1 .f32} {b : IVec Cert.Pre_given.S100000 32}

theorem given_range (h : (Cert.Pre_given.fn x w g b).1 = fun _ => 1#1) (y) : (b y).toNat < 64 := by
  unfold Cert.Pre_given.fn Cert.Pre_given.fn_part1 at h
  dsimp only at h
  exact lt_of_in_range (Host.reduce_andi_all _ _ _ _ (fun k => k.elim0) (congrFun h _) y)

theorem real_of_abs_lt {v : Ideal .f32}
    (h : FloatOps.cmpf .olt (FloatOps.hostAbsf v) (FloatOps.ofBits (F := Ideal) .f32 0x7F800000#32) = 1#1) :
    ∃ r : ℝ, v = (r : EReal) := by
  have htop : Ideal.ofBits .f32 0x7F800000#32 = ⊤ := by simp [Ideal.ofBits, Ideal.ieee]
  have h' : Ideal.cmp .olt (max (v : EReal) (-(v : EReal))) (Ideal.ofBits .f32 0x7F800000#32) = 1#1 := h
  rw [htop] at h'
  have hlt : max (v : EReal) (-(v : EReal)) < ⊤ := by simpa using ofBool_one h'
  rw [max_lt_iff] at hlt
  refine ⟨EReal.toReal v, (EReal.coe_toReal hlt.1.ne fun hb => ?_).symm⟩
  rw [show (v : EReal) = ⊥ from hb] at hlt
  simp at hlt

theorem given_x (h : (Cert.Pre_given.fn x w g b).2.2.1 = fun _ => 1#1) (y) : ∃ r : ℝ, x y = (r : EReal) := by
  unfold Cert.Pre_given.fn Cert.Pre_given.fn_part1 at h
  dsimp only at h
  exact real_of_abs_lt (Host.reduce_andi_all _ _ _ _ (fun k => k.elim0) (congrFun h _) y)
theorem given_w (h : (Cert.Pre_given.fn x w g b).2.2.2.1 = fun _ => 1#1) (y) : ∃ r : ℝ, w y = (r : EReal) := by
  unfold Cert.Pre_given.fn Cert.Pre_given.fn_part1 at h
  dsimp only at h
  exact real_of_abs_lt (Host.reduce_andi_all _ _ _ _ (fun k => k.elim0) (congrFun h _) y)
theorem given_g (h : (Cert.Pre_given.fn x w g b).2.2.2.2 = fun _ => 1#1) (y) : ∃ r : ℝ, g y = (r : EReal) := by
  unfold Cert.Pre_given.fn Cert.Pre_given.fn_part1 at h
  dsimp only at h
  exact real_of_abs_lt (Host.reduce_andi_all _ _ _ _ (fun k => k.elim0) (congrFun h _) y)

theorem given_step (h : (Cert.Pre_given.fn x w g b).2.1 = fun _ => 1#1) (n : ℕ) (hn : n + 1 < 100000) :
    (b (ValueIdx.ix1 ⟨n, by omega⟩)).sle (b (ValueIdx.ix1 ⟨n + 1, hn⟩)) = true := by
  unfold Cert.Pre_given.fn Cert.Pre_given.fn_part1 at h
  dsimp only at h
  have e := Host.reduce_andi_all _ _ _ _ (fun k => k.elim0) (congrFun h (fun k => k.elim0))
    (ValueIdx.ix1 (⟨n, by omega⟩ : Fin 99999))
  have e' := ofBool_one e
  simp only [pointwise] at e'
  have q : ∀ a : Fin 100000, (Idealize.ShloMosaic.ix1 a : Shape.Idx ⟨1, ![100000]⟩) = ValueIdx.ix1 a := fun a =>
    funext fun k => by fin_cases k; rfl
  rw [q, q] at e'
  simpa [Nat.add_comm] using e'

theorem given_sorted (hr : (Cert.Pre_given.fn x w g b).1 = fun _ => 1#1) (h : (Cert.Pre_given.fn x w g b).2.1 = fun _ => 1#1)
    (i j : Fin 100000) (hij : i ≤ j) : (b (ValueIdx.ix1 i)).toNat ≤ (b (ValueIdx.ix1 j)).toNat := by
  obtain ⟨j, hj⟩ := j
  obtain ⟨i, hi⟩ := i
  have hij' : i ≤ j := hij
  induction j, hij' using Nat.le_induction with
  | base => exact le_refl _
  | succ j hij' ih =>
    refine (ih (by omega) hij').trans ?_
    have e := given_step h j hj
    have r0 := given_range hr (ValueIdx.ix1 ⟨j, by omega⟩)
    have r1 := given_range hr (ValueIdx.ix1 ⟨j + 1, hj⟩)
    rw [BitVec.sle_eq_decide, decide_eq_true_eq, BitVec.toInt_eq_toNat_cond, BitVec.toInt_eq_toNat_cond,
      if_pos (by omega), if_pos (by omega)] at e
    exact_mod_cast e
end

end Cert.Proof
-- ==== Proof.Frames.lean ====
module

public import proofs.«01_k».proof.Defs
public import proofs.«01_k».proof.Proof.Run
public import proofs.«01_k».proof.Proof.KernelRun
public import proofs.«01_k».proof.Proof.Given
public import proofs.«01_k».proof.Proof.Gen.Kernel
public import proofs.«01_k».proof.Proof.Gen.ReferenceIdeal.Run
public import Idealize.ShloMosaic.Lib.Quiescent

/-! The frames: each program runs, leaves its arguments unchanged and no semaphore raised. -/

@[expose] public section

noncomputable section

namespace Cert.Proof

open Idealize.ShloMosaic Idealize.SL.Sem

/-- The facts the range precondition states. -/
theorem factsInRange : Cert.Pre_in_range.Facts where
  bcast_S_S100000 := by decide
  reducesTo_S100000_S_d0 := by decide
  h_S_ := by decide

/-- The facts the precondition of the value claim states. -/
theorem factsGiven : Cert.Pre_given.Facts where
  bcast_S_S100000 := by decide
  reducesTo_S100000_S_d0 := by decide
  h_S_ := by decide
  slices_S100000_S99999_0 := by decide
  slices_S100000_S99999_1 := by decide
  reducesTo_S99999_S_d0 := by decide
  bcast_S_S100000x128 := by decide
  reducesTo_S100000x128_S_d0_1 := by decide
  bcast_S_S1x128 := by decide
  reducesTo_S1x128_S_d0_1 := by decide
  bcast_S_S1 := by decide
  reducesTo_S1_S_d0 := by decide

attribute [local instance] factsInRange factsGiven

/-- The frame of the program as written. -/
theorem frame_kernel : Cert.quiescent_Kernel := fun m ρ h =>
  run_kernel m ρ fun d y => in_range (h d) y

/-- The frame of the program over ideal values. -/
theorem frame_ideal : Cert.quiescent_KernelIdeal := fun m ρ h =>
  (θ_run Cert.KernelIdeal.defs _ _).mono (fun _ h => ⟨fun c => (h.1 c).1, h.2⟩)
    (run_main (F := Ideal) m ρ fun d y => in_range (h d) y)

/-- The same frame under the larger precondition. -/
theorem frame_ideal_given : Cert.quiescent_KernelIdeal_pre_given := fun m ρ h =>
  (θ_run Cert.KernelIdeal.defs _ _).mono (fun _ h => ⟨fun c => (h.1 c).1, h.2⟩)
    (run_main (F := Ideal) m ρ fun d y => given_range (h d).1 y)

/-- The frame of the reference. -/
theorem frame_reference : Cert.quiescent_ReferenceIdeal := fun m ρ _ =>
  (θ_run Cert.ReferenceIdeal.defs _ _).mono (fun r h => ⟨fun c => (h c).2,
    sem_eq_zero_of_no_sems (by decide) r.2⟩) (Cert.ReferenceIdeal.Value.run (F := Ideal) m ρ)

/-- The same frame under the precondition of the value claim. -/
theorem frame_reference_given : Cert.quiescent_ReferenceIdeal_pre_given := fun m ρ _ =>
  frame_reference m ρ trivial

end Cert.Proof
-- ==== Proof.Exact.lean ====
module

public import proofs.«01_k».proof.Proof.TileRun
public import Idealize.ShloMosaic.Lib.Pointwise

/-! What a tile computes over the reals: when the rows and the weights are finite and the segment numbers sorted, its
two accumulators hold the exact sums over its rows. -/

@[expose] public section

noncomputable section

namespace Cert.Proof

open Idealize.ShloMosaic Cert.KernelIdeal Cert.KernelIdeal.Gen

/-! ### The quantities -/

/-- Every element is a real number. -/
def AllReal {ι : Type} (x : ι → EReal) : Prop := ∀ y, ∃ r : ℝ, x y = (r : EReal)

theorem AllReal.coe {ι : Type} {x : ι → EReal} (h : AllReal x) (y : ι) : x y = ((x y).toReal : EReal) := by
  obtain ⟨r, hr⟩ := h y
  rw [hr, EReal.toReal_coe]

/-- Column `c` of row `r`. -/
def xR (x : S100000x128.Idx → EReal) (r : ℕ) (c : Fin 128) : ℝ :=
  (x (ValueIdx.ix2 ⟨r % 100000, Nat.mod_lt _ (by decide)⟩ c)).toReal

/-- Weight `c`. -/
def wR (wt : S1x128.Idx → EReal) (c : Fin 128) : ℝ := (wt (ValueIdx.ix2 0 c)).toReal

/-- The gate of row `r`, without its bias. -/
def gR (x : S100000x128.Idx → EReal) (wt : S1x128.Idx → EReal) (r : ℕ) : ℝ := ∑ c, xR x r c * wR wt c

/-- The exponential of the gate of row `r`. -/
def eR (x : S100000x128.Idx → EReal) (wt : S1x128.Idx → EReal) (r : ℕ) : ℝ := Real.exp (gR x wt r)

/-- The segment number of row `r`. -/
def segN (b : S100000.Idx → BitVec 32) (r : ℕ) : ℕ := (segAt b r).toNat

/-- The weighted sum over the rows in `A` of segment `g`, at column `c`. -/
def vR (x : S100000x128.Idx → EReal) (wt : S1x128.Idx → EReal) (b : S100000.Idx → BitVec 32) (A : Finset ℕ)
    (g : ℕ) (c : Fin 128) : ℝ := ∑ r ∈ A, if segN b r = g then eR x wt r * xR x r c else 0

/-- The sum of exponentials over the rows in `A` of segment `g`. -/
def sR (x : S100000x128.Idx → EReal) (wt : S1x128.Idx → EReal) (b : S100000.Idx → BitVec 32) (A : Finset ℕ)
    (g : ℕ) : ℝ := ∑ r ∈ A, if segN b r = g then eR x wt r else 0

/-- The accumulators hold the real sums `V` and `S`. -/
def Holds (A : VAcc Ideal × SAcc Ideal) (V : ℕ → Fin 128 → ℝ) (S : ℕ → ℝ) : Prop :=
  (∀ (g : Fin 64) (c : Fin 128), A.1 (ValueIdx.ix2 g c) = ((V g.val c : ℝ) : EReal))
    ∧ ∀ (g : Fin 64) (l : Fin 16), A.2 (ValueIdx.ix2 g l) = ((S g.val : ℝ) : EReal)

theorem addRow_apply (V : VAcc Ideal) (w : BitVec 32) (u : Fin 8 → V16 Ideal) (g : Fin 64) (c : Fin 128) :
    addRow V w u (ValueIdx.ix2 g c) = if g.val = w.toNat then
      (V (ValueIdx.ix2 g c) + u ⟨c.val / 16, by omega⟩ (ValueIdx.ix1 ⟨c.val % 16, by omega⟩) : EReal)
      else V (ValueIdx.ix2 g c) := rfl

theorem addS_apply (S : SAcc Ideal) (w : BitVec 32) (u : V16 Ideal) (g : Fin 64) (l : Fin 16) :
    addS S w u (ValueIdx.ix2 g l) = if g.val = w.toNat then
      (S (ValueIdx.ix2 g l) + u (ValueIdx.ix1 l) : EReal) else S (ValueIdx.ix2 g l) := rfl

theorem col_split (c : Fin 128) : (⟨16 * (c.val / 16) + c.val % 16, by omega⟩ : Fin 128) = c :=
  Fin.ext (Nat.div_add_mod _ _)

/-! ### One row's gate -/

theorem laneSum_coe (v : Fin 16 → ℝ) (u : V16 Ideal) (h : ∀ l, u l = ((v (l 0) : ℝ) : EReal)) :
    laneSum u = ((∑ l, v l : ℝ) : EReal) := by
  have hl : ∀ (j : ℕ) (hj : j < 16) (hs : S16.Slices ![j] S1), lane u j hs = ((v ⟨j, hj⟩ : ℝ) : EReal) :=
    fun j hj hs => (lane_apply u j hj hs).trans (h _)
  unfold laneSum
  rw [hl 0 (by decide), hl 1 (by decide), hl 2 (by decide), hl 3 (by decide), hl 4 (by decide), hl 5 (by decide),
    hl 6 (by decide), hl 7 (by decide), hl 8 (by decide), hl 9 (by decide), hl 10 (by decide), hl 11 (by decide),
    hl 12 (by decide), hl 13 (by decide), hl 14 (by decide), hl 15 (by decide)]
  show (_ : EReal) + _ = _
  simp only [Fin.sum_univ_succ, Fin.sum_univ_zero]
  show ((((v 0 : ℝ) : EReal) + (v 1 : ℝ)) + ((v 2 : ℝ) + (v 3 : ℝ)) + (((v 4 : ℝ) + (v 5 : ℝ)) + ((v 6 : ℝ) + (v 7 : ℝ))))
    + ((((v 8 : ℝ) : EReal) + (v 9 : ℝ)) + ((v 10 : ℝ) + (v 11 : ℝ))
      + (((v 12 : ℝ) + (v 13 : ℝ)) + ((v 14 : ℝ) + (v 15 : ℝ)))) = _
  simp only [← EReal.coe_add]
  congr 1
  show _ = v 0 + (v 1 + (v 2 + (v 3 + (v 4 + (v 5 + (v 6 + (v 7 + (v 8 + (v 9 + (v 10 + (v 11 + (v 12 + (v 13
    + (v 14 + (v 15 + 0)))))))))))))))
  ring

theorem dotRow_coe (X W : Fin 8 → Fin 16 → ℝ) (w x : Fin 8 → V16 Ideal)
    (hx : ∀ k l, x k l = ((X k (l 0) : ℝ) : EReal)) (hw : ∀ k l, w k l = ((W k (l 0) : ℝ) : EReal)) :
    dotRow w x = ((∑ l, ∑ k, X k l * W k l : ℝ) : EReal) := by
  unfold dotRow
  refine laneSum_coe (fun l => ∑ k, X k l * W k l) _ fun l => ?_
  show ((x 0 l * w 0 l + x 1 l * w 1 l) + (x 2 l * w 2 l + x 3 l * w 3 l)
    + ((x 4 l * w 4 l + x 5 l * w 5 l) + (x 6 l * w 6 l + x 7 l * w 7 l)) : EReal) = _
  simp only [hx, hw, ← EReal.coe_mul, ← EReal.coe_add]
  congr 1
  rw [Fin.sum_univ_eight]
  ring

/-- A sum over 128 columns in sixteen lanes of eight pieces. -/
theorem sum_lanes (f : Fin 128 → ℝ) :
    ∑ c, f c = ∑ l : Fin 16, ∑ k : Fin 8, f ⟨16 * k.val + l.val, by omega⟩ := by
  rw [Finset.sum_comm, ← Fintype.sum_prod_type' (f := fun (k : Fin 8) (l : Fin 16) => f ⟨16 * k.val + l.val, by omega⟩)]
  refine (Fintype.sum_equiv (finProdFinEquiv (m := 8) (n := 16)) _ _ fun p => ?_).symm
  congr 1
  refine Fin.ext ?_
  show 16 * p.1.val + p.2.val = p.2.val + 16 * p.1.val
  omega

variable {x : S100000x128.Idx → EReal} {wt : S1x128.Idx → EReal} {b : S100000.Idx → BitVec 32}

theorem wPieces_apply (wt : S1x128.Idx → EReal) (k : Fin 8) (l : S16.Idx) :
    wPieces (F := Ideal) wt k l
      = wt (ValueIdx.ix2 0 ⟨16 * k.val + (l 0).val, by have h : (l 0).val < 16 := (l 0).isLt; omega⟩) := by
  fin_cases k <;> rfl

theorem xs_apply (hx : AllReal x) (r : ℕ) (t : Fin 15) {i : ℕ} (hi : i < 16) (k : Fin 8) (l : S16.Idx) :
    xs (F := Ideal) (chunkAt x r) t hi k l
      = ((xR x (r + 16 * t.val + i) ⟨16 * k.val + (l 0).val, by
          have h : (l 0).val < 16 := (l 0).isLt; omega⟩ : ℝ) : EReal) := by
  unfold xR
  rw [← hx.coe]
  show x _ = x _
  congr 1
  have e : r + (16 * t.val + i) = r + 16 * t.val + i := by omega
  funext a
  fin_cases a
  · exact Fin.ext (congrArg (· % 100000) e)
  · rfl

/-- The gates of a group. -/
theorem gates_coe (hx : AllReal x) (hw : AllReal wt) (r : ℕ) (t : Fin 15) (i : Fin 16) :
    gatesAt (F := Ideal) (wPieces wt) (chunkAt x r) t i = ((gR x wt (r + 16 * t.val + i.val) : ℝ) : EReal) := by
  unfold gatesAt
  rw [dotRow_coe (fun k l => xR x (r + 16 * t.val + i.val) ⟨16 * k.val + l.val, by omega⟩)
    (fun k l => wR wt ⟨16 * k.val + l.val, by omega⟩) _ _ (fun k l => xs_apply hx r t i.isLt k l)
    (fun k l => by rw [wPieces_apply]; exact hw.coe _)]
  congr 1
  exact (sum_lanes fun c => xR x (r + 16 * t.val + i.val) c * wR wt c).symm

theorem gateExp_coe {g : EReal} {r : ℝ} (h : g = (r : EReal)) (l : S16.Idx) :
    gateExp (F := Ideal) g l = ((Real.exp r : ℝ) : EReal) := by
  subst h; rfl

theorem gateExp_row (hx : AllReal x) (hw : AllReal wt) (r : ℕ) (t : Fin 15) (i : Fin 16) (l : S16.Idx) :
    gateExp (F := Ideal) (gatesAt (F := Ideal) (wPieces wt) (chunkAt x r) t i) l
      = ((eR x wt (r + 16 * t.val + i.val) : ℝ) : EReal) :=
  gateExp_coe (gates_coe hx hw r t i) l

/-! ### One group -/

theorem zero16 (l : S16.Idx) : k0_pay1125 (F := Ideal) l = ((0 : ℝ) : EReal) := by
  unfold k0_pay1125
  simp only [pointwise]
  rfl

/-- A sum over sixteen rows. -/
theorem sum_group (f : ℕ → ℝ) (r : ℕ) :
    ((List.finRange 16).map fun i : Fin 16 => f (r + i.val)).sum = ∑ n ∈ Finset.Ico r (r + 16), f n := by
  rw [Finset.sum_Ico_eq_sum_range, Nat.add_sub_cancel_left, Finset.sum_range]
  exact (Fin.sum_univ_def _).symm

theorem fast_list (X : Chunk Ideal) (t : Fin 15) (g : Fin 16 → EReal) (E : Fin 16 → ℝ) (Y : Fin 16 → Fin 8 → Fin 16 → ℝ)
    (hE : ∀ i l, gateExp (F := Ideal) (g i) l = ((E i : ℝ) : EReal))
    (hY : ∀ i k l, xs (F := Ideal) X t (Fin.isLt i) k l = ((Y i k (l 0) : ℝ) : EReal))
    (L : List (Fin 16)) (f : Fin 8 → V16 Ideal) (f₀ : Fin 8 → Fin 16 → ℝ)
    (hf : ∀ k l, f k l = ((f₀ k (l 0) : ℝ) : EReal)) (k : Fin 8) (l : S16.Idx) :
    L.foldl (fastStep X t g) f k l = ((f₀ k (l 0) + (L.map fun i => E i * Y i k (l 0)).sum : ℝ) : EReal) := by
  induction L generalizing f f₀ with
  | nil => simpa using hf k l
  | cons i L ih =>
    rw [List.foldl_cons, ih (fastStep X t g f i) (fun k l => f₀ k l + E i * Y i k l) fun k l => ?_]
    · rw [List.map_cons, List.sum_cons, add_assoc]
    · show f k l + gateExp (F := Ideal) (g i) l * xs (F := Ideal) X t (Fin.isLt i) k l = _
      rw [hf, hE, hY, ← EReal.coe_mul, ← EReal.coe_add]

/-- The register sums of a group. -/
theorem fastAt_coe (hx : AllReal x) (hw : AllReal wt) (r : ℕ) (t : Fin 15) (k : Fin 8) (l : S16.Idx) :
    fastAt (F := Ideal) (chunkAt x r) t k0_pay1125 (gatesAt (F := Ideal) (wPieces wt) (chunkAt x r) t) k l
      = ((∑ n ∈ Finset.Ico (r + 16 * t.val) (r + 16 * t.val + 16), eR x wt n
          * xR x n ⟨16 * k.val + (l 0).val, by have h : (l 0).val < 16 := (l 0).isLt; omega⟩ : ℝ) : EReal) := by
  unfold fastAt
  rw [fast_list (chunkAt x r) t _ (fun i => eR x wt (r + 16 * t.val + i.val))
    (fun i k l => xR x (r + 16 * t.val + i.val) ⟨16 * k.val + l.val, by omega⟩)
    (fun i l => gateExp_row hx hw r t i l) (fun i k l => xs_apply hx r t i.isLt k l) _ _ (fun _ _ => 0)
    (fun k l => zero16 l)]
  rw [zero_add, ← sum_group fun n => eR x wt n * xR x n ⟨16 * k.val + (l 0).val, by
    have h : (l 0).val < 16 := (l 0).isLt; omega⟩]

/-- The sum of a group's exponentials. -/
theorem expSum_coe (hx : AllReal x) (hw : AllReal wt) (r : ℕ) (t : Fin 15) (l : S16.Idx) :
    expSum (F := Ideal) k0_pay1125 (gatesAt (F := Ideal) (wPieces wt) (chunkAt x r) t) l
      = ((∑ n ∈ Finset.Ico (r + 16 * t.val) (r + 16 * t.val + 16), eR x wt n : ℝ) : EReal) := by
  rw [← sum_group]
  have he := fun i => gateExp_row hx hw r t i l
  generalize hG : gatesAt (F := Ideal) (wPieces wt) (chunkAt x r) t = G at he ⊢
  show k0_pay1125 (F := Ideal) l + gateExp (F := Ideal) (G 0) l + gateExp (F := Ideal) (G 1) l
    + gateExp (F := Ideal) (G 2) l + gateExp (F := Ideal) (G 3) l + gateExp (F := Ideal) (G 4) l
    + gateExp (F := Ideal) (G 5) l + gateExp (F := Ideal) (G 6) l + gateExp (F := Ideal) (G 7) l
    + gateExp (F := Ideal) (G 8) l + gateExp (F := Ideal) (G 9) l + gateExp (F := Ideal) (G 10) l
    + gateExp (F := Ideal) (G 11) l + gateExp (F := Ideal) (G 12) l + gateExp (F := Ideal) (G 13) l
    + gateExp (F := Ideal) (G 14) l + gateExp (F := Ideal) (G 15) l = _
  simp only [zero16, he, ← EReal.coe_add]
  congr 1
  generalize r + 16 * t.val = q
  rw [show List.finRange 16 = [0, 1, 2, 3, 4, 5, 6, 7, 8, 9, 10, 11, 12, 13, 14, 15] from by decide]
  simp only [List.map_cons, List.map_nil, List.sum_cons, List.sum_nil, Fin.val_zero, add_zero]
  ring

/-- What one row of a group of several segments adds. -/
theorem slow_list (X : Chunk Ideal) (t : Fin 15) (g : Fin 16 → EReal) (B : IVec S16 32) (E : Fin 16 → ℝ)
    (Y : Fin 16 → Fin 128 → ℝ) (hE : ∀ i l, gateExp (F := Ideal) (g i) l = ((E i : ℝ) : EReal))
    (hY : ∀ i (k : Fin 8) l, xs (F := Ideal) X t (Fin.isLt i) k l = ((Y i ⟨16 * k.val + (l 0).val, by
      have h : (l 0).val < 16 := (l 0).isLt; omega⟩ : ℝ) : EReal))
    (L : List (Fin 16)) (A : VAcc Ideal × SAcc Ideal) (V : ℕ → Fin 128 → ℝ) (S : ℕ → ℝ) (h : Holds A V S) :
    Holds (L.foldl (slowStep X t g B) A)
      (fun s c => V s c + (L.map fun i => if (B (ValueIdx.ix1 i)).toNat = s then E i * Y i c else 0).sum)
      (fun s => S s + (L.map fun i => if (B (ValueIdx.ix1 i)).toNat = s then E i else 0).sum) := by
  induction L generalizing A V S with
  | nil => simpa using h
  | cons i L ih =>
    have h1 : Holds (slowStep X t g B A i) (fun s c => V s c + if (B (ValueIdx.ix1 i)).toNat = s then E i * Y i c else 0)
        (fun s => S s + if (B (ValueIdx.ix1 i)).toNat = s then E i else 0) := by
      refine ⟨fun s c => ?_, fun s l => ?_⟩
      · refine (addRow_apply A.1 (B (ValueIdx.ix1 i)) (fun k => mulf (gateExp (F := Ideal) (g i)) (xs (F := Ideal) X t i.isLt k)) s c).trans ?_
        by_cases e : s.val = (B (ValueIdx.ix1 i)).toNat
        · beta_reduce
          rw [if_pos e, if_pos e.symm]
          refine (congrArg₂ (· + ·) (h.1 s c) (congrArg₂ (· * ·) (hE i _) (hY i _ _))).trans ?_
          show ((V s.val c : ℝ) : EReal) + (E i : ℝ) * (Y i ⟨16 * (c.val / 16) + c.val % 16, _⟩ : ℝ) = _
          rw [col_split, ← EReal.coe_mul, ← EReal.coe_add]
        · beta_reduce
          rw [if_neg e, if_neg (Ne.symm e), add_zero]
          exact h.1 s c
      · refine (addS_apply A.2 (B (ValueIdx.ix1 i)) (gateExp (F := Ideal) (g i)) s l).trans ?_
        by_cases e : s.val = (B (ValueIdx.ix1 i)).toNat
        · beta_reduce
          rw [if_pos e, if_pos e.symm]
          refine (congrArg₂ (· + ·) (h.2 s l) (hE i _)).trans ?_
          rw [← EReal.coe_add]
        · beta_reduce
          rw [if_neg e, if_neg (Ne.symm e), add_zero]
          exact h.2 s l
    have h2 := ih _ _ _ h1
    rw [List.foldl_cons]
    simpa only [List.map_cons, List.sum_cons, add_assoc] using h2

/-- The segment numbers do not decrease along the rows. -/
def SortedRows (b : S100000.Idx → BitVec 32) : Prop := ∀ i j : ℕ, i ≤ j → j < 100000 → segN b i ≤ segN b j

theorem bAt_toNat (b : S100000.Idx → BitVec 32) (r : ℕ) (t : Fin 15) (i : Fin 16) :
    (bAt (segsFrom b r) t (ValueIdx.ix1 i)).toNat = segN b (r + 16 * t.val + i.val) := by
  show (segAt b (r + (16 * t.val + i.val))).toNat = _
  rw [← add_assoc]; rfl

theorem Holds.congr {A : VAcc Ideal × SAcc Ideal} {V V' : ℕ → Fin 128 → ℝ} {S S' : ℕ → ℝ} (h : Holds A V S)
    (hV : ∀ g c, V g c = V' g c) (hS : ∀ g, S g = S' g) : Holds A V' S' :=
  ⟨fun g c => (h.1 g c).trans (by rw [hV]), fun g l => (h.2 g l).trans (by rw [hS])⟩

/-- A group adds its sixteen rows. -/
theorem group_holds (hx : AllReal x) (hw : AllReal wt) (hb : SortedRows b) (r : ℕ) (t : Fin 15)
    (hr : r + 16 * t.val + 16 ≤ 100000) {A : VAcc Ideal × SAcc Ideal} {V : ℕ → Fin 128 → ℝ} {S : ℕ → ℝ}
    (h : Holds A V S) :
    Holds (groupAt (F := Ideal) (wPieces wt) k0_pay1125 (chunkAt x r) (segsFrom b r) t A)
      (fun g c => V g c + vR x wt b (Finset.Ico (r + 16 * t.val) (r + 16 * t.val + 16)) g c)
      (fun g => S g + sR x wt b (Finset.Ico (r + 16 * t.val) (r + 16 * t.val + 16)) g) := by
  unfold groupAt
  by_cases e : bAt (segsFrom b r) t (ValueIdx.ix1 0) = bAt (segsFrom b r) t (ValueIdx.ix1 15)
  · rw [if_pos e]
    have e0 := bAt_toNat b r t 0
    have e15 := bAt_toNat b r t 15
    rw [← e] at e15
    have hall : ∀ n ∈ Finset.Ico (r + 16 * t.val) (r + 16 * t.val + 16),
        segN b n = (bAt (segsFrom b r) t (ValueIdx.ix1 0)).toNat := fun n hn => by
      rw [Finset.mem_Ico] at hn
      refine le_antisymm ?_ ?_
      · rw [e15]; exact hb _ _ (by show n ≤ r + 16 * t.val + 15; omega) (by show r + 16 * t.val + 15 < _; omega)
      · rw [e0]; exact hb _ _ (by show r + 16 * t.val + 0 ≤ n; omega) (by omega)
    have hV : ∀ g c, vR x wt b (Finset.Ico (r + 16 * t.val) (r + 16 * t.val + 16)) g c
        = if g = (bAt (segsFrom b r) t (ValueIdx.ix1 0)).toNat then
            ∑ n ∈ Finset.Ico (r + 16 * t.val) (r + 16 * t.val + 16), eR x wt n * xR x n c else 0 := fun g c => by
      unfold vR
      split_ifs with hg
      · exact Finset.sum_congr rfl fun n hn => if_pos ((hall n hn).trans hg.symm)
      · exact Finset.sum_eq_zero fun n hn => if_neg fun h => hg (h.symm.trans (hall n hn))
    have hS : ∀ g, sR x wt b (Finset.Ico (r + 16 * t.val) (r + 16 * t.val + 16)) g
        = if g = (bAt (segsFrom b r) t (ValueIdx.ix1 0)).toNat then
            ∑ n ∈ Finset.Ico (r + 16 * t.val) (r + 16 * t.val + 16), eR x wt n else 0 := fun g => by
      unfold sR
      split_ifs with hg
      · exact Finset.sum_congr rfl fun n hn => if_pos ((hall n hn).trans hg.symm)
      · exact Finset.sum_eq_zero fun n hn => if_neg fun h => hg (h.symm.trans (hall n hn))
    refine ⟨fun g c => ?_, fun g l => ?_⟩
    · refine (addRow_apply _ _ _ g c).trans ?_
      beta_reduce
      rw [hV]
      split_ifs with hg
      · refine (congrArg₂ (· + ·) (h.1 g c) (fastAt_coe hx hw r t _ _)).trans ?_
        show ((V g.val c : ℝ) : EReal) + ((∑ n ∈ _, eR x wt n * xR x n ⟨16 * (c.val / 16) + c.val % 16, _⟩ : ℝ) : EReal) = _
        rw [col_split, ← EReal.coe_add]
      · rw [add_zero]; exact h.1 g c
    · refine (addS_apply _ _ _ g l).trans ?_
      beta_reduce
      rw [hS]
      split_ifs with hg
      · refine (congrArg₂ (· + ·) (h.2 g l) (expSum_coe hx hw r t _)).trans ?_
        rw [← EReal.coe_add]
      · rw [add_zero]; exact h.2 g l
  · rw [if_neg e]
    refine (slow_list (chunkAt x r) t _ (bAt (segsFrom b r) t) (fun i => eR x wt (r + 16 * t.val + i.val))
      (fun i c => xR x (r + 16 * t.val + i.val) c) (fun i l => gateExp_row hx hw r t i l)
      (fun i k l => xs_apply hx r t i.isLt k l) _ A V S h).congr (fun g c => ?_) (fun g => ?_)
    · simp only [bAt_toNat]
      unfold vR
      rw [← sum_group fun n => if segN b n = g then eR x wt n * xR x n c else 0]
    · simp only [bAt_toNat]
      unfold sR
      rw [← sum_group fun n => if segN b n = g then eR x wt n else 0]

/-! ### Chunks and tiles -/

theorem vR_join (x : S100000x128.Idx → EReal) (wt : S1x128.Idx → EReal) (b : S100000.Idx → BitVec 32) {i j k : ℕ}
    (hij : i ≤ j) (hjk : j ≤ k) (g : ℕ) (c : Fin 128) :
    vR x wt b (Finset.Ico i j) g c + vR x wt b (Finset.Ico j k) g c = vR x wt b (Finset.Ico i k) g c :=
  Finset.sum_Ico_consecutive _ hij hjk

theorem sR_join (x : S100000x128.Idx → EReal) (wt : S1x128.Idx → EReal) (b : S100000.Idx → BitVec 32) {i j k : ℕ}
    (hij : i ≤ j) (hjk : j ≤ k) (g : ℕ) :
    sR x wt b (Finset.Ico i j) g + sR x wt b (Finset.Ico j k) g = sR x wt b (Finset.Ico i k) g :=
  Finset.sum_Ico_consecutive _ hij hjk

/-- The groups of a chunk add its rows. -/
theorem groups_holds (hx : AllReal x) (hw : AllReal wt) (hb : SortedRows b) (r : ℕ) (hr : r + 240 ≤ 100000)
    {A : VAcc Ideal × SAcc Ideal} {V : ℕ → Fin 128 → ℝ} {S : ℕ → ℝ} (h : Holds A V S) (n : ℕ) (hn : n ≤ 15) :
    Holds (groupsAt (F := Ideal) (wPieces wt) k0_pay1125 (chunkAt x r) (segsFrom b r) A n)
      (fun g c => V g c + vR x wt b (Finset.Ico r (r + 16 * n)) g c)
      (fun g => S g + sR x wt b (Finset.Ico r (r + 16 * n)) g) := by
  induction n with
  | zero =>
    refine Holds.congr (V := V) (S := S) h (fun g c => ?_) fun g => ?_
    · simp [vR]
    · simp [sR]
  | succ n ih =>
    have hn' : n < 15 := hn
    show Holds (if h : n < 15 then _ else _) _ _
    rw [dif_pos hn']
    refine (group_holds hx hw hb r ⟨n, hn'⟩ (by show r + 16 * n + 16 ≤ _; omega) (ih (by omega))).congr
      (fun g c => ?_) fun g => ?_
    · rw [add_assoc, show r + 16 * (n + 1) = r + 16 * n + 16 by omega]
      exact congrArg _ (vR_join x wt b (j := r + 16 * n) (k := r + 16 * n + 16) (by omega) (by omega) g c)
    · rw [add_assoc, show r + 16 * (n + 1) = r + 16 * n + 16 by omega]
      exact congrArg _ (sR_join x wt b (j := r + 16 * n) (k := r + 16 * n + 16) (by omega) (by omega) g)

/-- The chunks of a tile add its rows. -/
theorem chunks_holds (hx : AllReal x) (hw : AllReal wt) (hb : SortedRows b) (r n : ℕ) (hr : r + n * 240 ≤ 100000) :
    Holds (chunksAt (F := Ideal) (wPieces wt) k0_pay1125 x b r zeroAcc n)
      (vR x wt b (Finset.Ico r (r + n * 240))) (sR x wt b (Finset.Ico r (r + n * 240))) := by
  induction n with
  | zero =>
    have hz : (zeroF (F := Ideal) : EReal) = ((0 : ℝ) : EReal) := by
      unfold zeroF; simp only [pointwise]; rfl
    refine ⟨fun g c => hz.trans ?_, fun g l => hz.trans ?_⟩
    · simp [vR]
    · simp [sR]
  | succ n ih =>
    refine (groups_holds hx hw hb (r + n * 240) (by omega) (ih (by omega)) 15 (le_refl _)).congr
      (fun g c => ?_) fun g => ?_
    · rw [vR_join x wt b (by omega) (by omega) g c]
      congr 2; omega
    · rw [sR_join x wt b (by omega) (by omega) g]
      congr 2; omega

/-- A tile's accumulators hold the sums over its 1200 rows. -/
theorem tile_holds (hx : AllReal x) (hw : AllReal wt) (hb : SortedRows b) (r : ℕ) (hr : r + 1200 ≤ 100000) :
    Holds (tileAcc (F := Ideal) x wt b r) (vR x wt b (Finset.Ico r (r + 1200)))
      (sR x wt b (Finset.Ico r (r + 1200))) :=
  chunks_holds hx hw hb r 5 (by omega)

end Cert.Proof
-- ==== Proof.Dense.lean ====
module

public import proofs.«01_k».proof.Proof.Exact
public import proofs.«01_k».proof.Proof.Parts

/-! What the TensorCore's launch computes over the reals: after `n` blocks its running sums hold the exact sums over the
rows of those blocks. -/

@[expose] public section

noncomputable section

namespace Cert.Proof

open Idealize.ShloMosaic Cert.KernelIdeal Cert.KernelIdeal.Gen

theorem pay6_apply (i : grid1.Coords) (X : S3840x128.Idx → EReal) (r : Fin 3840) (c : Fin 128) :
    k1_pay6 (F := Ideal) i X (ValueIdx.ix2 r c)
      = if ((i 0).val + 10) * 3840 + r.val < 100000 then X (ValueIdx.ix2 r c) else ((0 : ℝ) : EReal) := by
  unfold k1_pay6
  simp only [pointwise]
  unfold Scalar.select
  exact if_congr (mask_iff i (ValueIdx.ix2 r 0)) rfl rfl

theorem pay7_apply (i : grid1.Coords) (X : S3840x128.Idx → EReal) (wt : S1x128.Idx → EReal) (r : Fin 3840) :
    k1_pay7 (F := Ideal) i X wt (ValueIdx.ix2 r 0)
      = if ((i 0).val + 10) * 3840 + r.val < 100000 then
          Ideal.exp (∑ c : Fin 128, k1_pay6 (F := Ideal) i X (ValueIdx.ix2 r c) * wt (ValueIdx.ix2 0 c)) else ((0 : ℝ) : EReal) := by
  unfold k1_pay7
  simp only [pointwise]
  unfold Scalar.select
  exact if_congr (mask_iff i (ValueIdx.ix2 r 0)) rfl rfl

theorem pay8_apply (B : S1x1x3840.Idx → BitVec 32) (g : Fin 64) (r : Fin 3840) :
    k1_pay8 (F := Ideal) B (ValueIdx.ix2 g r) = if (B (ValueIdx.ix3 0 0 r)).toNat = g.val then ((1 : ℝ) : EReal) else ((0 : ℝ) : EReal) := by
  unfold k1_pay8
  simp only [pointwise]
  have e : (B (ValueIdx.ix3 0 0 r)).toNat = g.val ↔ BitVec.ofNat 32 (0 * 64 + g.val) = B (ValueIdx.ix3 0 0 r) := by
    rw [← BitVec.toNat_inj, BitVec.toNat_ofNat]
    omega
  show (((BitVec.setWidth 32 (BitVec.ofBool (BitVec.ofNat 32 (0 * 64 + g.val) == B (ValueIdx.ix3 0 0 r)))).toInt : ℝ) : EReal) = _
  by_cases h : (B (ValueIdx.ix3 0 0 r)).toNat = g.val
  · rw [if_pos h, beq_iff_eq.2 (e.1 h)]
    simp
  · rw [if_neg h, beq_eq_false_iff_ne.2 fun h' => h (e.2 h')]
    simp

theorem pay9_apply (i : grid1.Coords) (X : S3840x128.Idx → EReal) (wt : S1x128.Idx → EReal) (B : S1x1x3840.Idx → BitVec 32)
    (A : S64x128.Idx → EReal) (g : Fin 64) (c : Fin 128) :
    k1_pay1 (F := Ideal) (k1_pay9 (F := Ideal) i X wt B A) (ValueIdx.ix2 g c) = A (ValueIdx.ix2 g c)
      + ∑ r : Fin 3840, k1_pay8 (F := Ideal) B (ValueIdx.ix2 g r) *
        (k1_pay7 (F := Ideal) i X wt (ValueIdx.ix2 r 0) * k1_pay6 (F := Ideal) i X (ValueIdx.ix2 r c)) := by
  unfold k1_pay1 k1_pay9
  simp only [pointwise]
  rw [zero_add]
  rfl

theorem pay2_apply (u : S3840x1.Idx → EReal) (M : S64x3840.Idx → EReal) (A : S64x1.Idx → EReal) (g : Fin 64) :
    k1_pay2 (F := Ideal) u M A (ValueIdx.ix2 g 0) = A (ValueIdx.ix2 g 0)
      + ∑ r : Fin 3840, M (ValueIdx.ix2 g r) * u (ValueIdx.ix2 r 0) := by
  unfold k1_pay2
  simp only [pointwise]
  rw [zero_add]
  rfl

theorem combined_apply (v0 : S32x64x128.Idx → EReal) (v3 : S64x128.Idx → EReal) (v6 : S32x64x16.Idx → EReal) (v10 : S64x1.Idx → EReal)
    (g : Fin 64) (c : Fin 128) : k2_pay1 (F := Ideal) v0 v3 v6 v10 (ValueIdx.ix2 g c)
      = if 0 < ∑ t : Fin 32, v6 (ValueIdx.ix3 t g 0) + v10 (ValueIdx.ix2 g 0) then
          Ideal.div (∑ t : Fin 32, v0 (ValueIdx.ix3 t g c) + v3 (ValueIdx.ix2 g c))
            (∑ t : Fin 32, v6 (ValueIdx.ix3 t g 0) + v10 (ValueIdx.ix2 g 0)) else 0 := by
  unfold k2_pay1
  simp only [pointwise]
  have e : (⟨0 + g.val, by omega⟩ : Fin 64) = g := Fin.ext (zero_add _)
  show (if 0 < ∑ t : Fin 32, v6 (ValueIdx.ix3 t ⟨0 + g.val, by omega⟩ 0) + v10 (ValueIdx.ix2 g 0) then
    Ideal.div (∑ t : Fin 32, v0 (ValueIdx.ix3 t g c) + v3 (ValueIdx.ix2 g c))
      (∑ t : Fin 32, v6 (ValueIdx.ix3 t ⟨0 + g.val, by omega⟩ 0) + v10 (ValueIdx.ix2 g 0)) else 0) = _
  rw [e]

theorem padded_apply (b : S100000.Idx → BitVec 32) (n : Fin 17) (r : Fin 3840)
    (h : (n.val + 10) * 3840 + r.val < 100000) :
    padded b (ValueIdx.ix3 n 0 r) = segAt b ((n.val + 10) * 3840 + r.val) := by
  unfold padded
  simp only [pointwise]
  rw [dif_pos fun a => ?_]
  · unfold segAt
    congr 1
    funext a
    fin_cases a
    refine Fin.ext ?_
    show 38400 + (n.val * 3840 + r.val - 0) / (0 + 1) = ((n.val + 10) * 3840 + r.val) % 100000
    rw [Nat.mod_eq_of_lt h]
    omega
  · fin_cases a
    show 0 ≤ n.val * 3840 + r.val ∧ (n.val * 3840 + r.val - 0) % (0 + 1) = 0 ∧ (n.val * 3840 + r.val - 0) / (0 + 1) < 61600
    omega

/-! ### Real sums -/

/-- A sum of real numbers is a real number. -/
theorem coe_sum {ι : Type} (A : Finset ι) (f : ι → ℝ) : ∑ i ∈ A, (f i : EReal) = ((∑ i ∈ A, f i : ℝ) : EReal) := by
  classical
  induction A using Finset.induction_on with
  | empty => simp
  | insert a A h ih => rw [Finset.sum_insert h, Finset.sum_insert h, ih, EReal.coe_add]

/-- The running sums hold the real sums `V` and `S`. -/
def TcHolds (A : TcAcc Ideal) (V : ℕ → Fin 128 → ℝ) (S : ℕ → ℝ) : Prop :=
  (∀ (g : Fin 64) (c : Fin 128), A.1 (ValueIdx.ix2 g c) = ((V g.val c : ℝ) : EReal))
    ∧ ∀ g : Fin 64, A.2 (ValueIdx.ix2 g 0) = ((S g.val : ℝ) : EReal)

/-- The rows of the first `n` blocks, up to the array's end. -/
def tcSet (n : ℕ) : Finset ℕ := (Finset.Ico 38400 (38400 + 3840 * n)).filter (· < 100000)

theorem tcSet_all : tcSet 17 = Finset.Ico 38400 100000 := by
  ext q
  simp only [tcSet, Finset.mem_filter, Finset.mem_Ico]
  omega

/-- One more block's rows. -/
theorem sum_block (n : ℕ) (f : ℕ → ℝ) :
    ∑ q ∈ tcSet (n + 1), f q = ∑ q ∈ tcSet n, f q
      + ∑ r : Fin 3840, if (n + 10) * 3840 + r.val < 100000 then f ((n + 10) * 3840 + r.val) else 0 := by
  unfold tcSet
  rw [Finset.sum_filter, Finset.sum_filter,
    ← Finset.sum_Ico_consecutive _ (show 38400 ≤ 38400 + 3840 * n by omega) (show 38400 + 3840 * n ≤ 38400 + 3840 * (n + 1) by omega)]
  congr 1
  rw [Finset.sum_Ico_eq_sum_range, show 38400 + 3840 * (n + 1) - (38400 + 3840 * n) = 3840 by omega, Finset.sum_range]
  refine Finset.sum_congr rfl fun r _ => ?_
  rw [show 38400 + 3840 * n + r.val = (n + 10) * 3840 + r.val by omega]

variable {x : S100000x128.Idx → EReal} {wt : S1x128.Idx → EReal} {b : S100000.Idx → BitVec 32}

theorem tcRows_coe (hx : AllReal x) (n : ℕ) (r : Fin 3840) (c : Fin 128) (h : (n + 10) * 3840 + r.val < 100000) :
    tcRows (F := Ideal) x n (ValueIdx.ix2 r c) = ((xR x ((n + 10) * 3840 + r.val) c : ℝ) : EReal) := by
  unfold tcRows xR
  rw [← hx.coe]
  refine (dif_pos h).trans ?_
  congr 2
  exact Fin.ext (Nat.mod_eq_of_lt h).symm

theorem pay6_coe (hx : AllReal x) (n : ℕ) (hn : n < 17) (r : Fin 3840) (c : Fin 128) :
    k1_pay6 (F := Ideal) (grid1.coords (pt n hn)) (tcRows (F := Ideal) x n) (ValueIdx.ix2 r c)
      = ((if (n + 10) * 3840 + r.val < 100000 then xR x ((n + 10) * 3840 + r.val) c else 0 : ℝ) : EReal) := by
  rw [pay6_apply, coords_val]
  show (if (n + 10) * 3840 + r.val < 100000 then _ else _) = _
  split_ifs with h
  · exact tcRows_coe hx n r c h
  · rfl

theorem pay7_coe (hx : AllReal x) (hw : AllReal wt) (n : ℕ) (hn : n < 17) (r : Fin 3840) :
    k1_pay7 (F := Ideal) (grid1.coords (pt n hn)) (tcRows (F := Ideal) x n) wt (ValueIdx.ix2 r 0)
      = ((if (n + 10) * 3840 + r.val < 100000 then eR x wt ((n + 10) * 3840 + r.val) else 0 : ℝ) : EReal) := by
  rw [pay7_apply, coords_val]
  show (if (n + 10) * 3840 + r.val < 100000 then _ else _) = _
  by_cases h : (n + 10) * 3840 + r.val < 100000
  · rw [if_pos h, if_pos h]
    have e : ∑ c : Fin 128, k1_pay6 (F := Ideal) (grid1.coords (pt n hn)) (tcRows (F := Ideal) x n) (ValueIdx.ix2 r c)
        * wt (ValueIdx.ix2 0 c) = ((gR x wt ((n + 10) * 3840 + r.val) : ℝ) : EReal) := by
      unfold gR
      rw [← coe_sum]
      refine Finset.sum_congr rfl fun c _ => ?_
      rw [pay6_coe hx n hn, if_pos h, hw.coe, EReal.coe_mul]
      rfl
    rw [e]
    rfl
  · rw [if_neg h, if_neg h]

theorem pay8_coe (n : ℕ) (hn : n < 17) (g : Fin 64) (r : Fin 3840) (h : (n + 10) * 3840 + r.val < 100000) :
    k1_pay8 (F := Ideal) (tcSegs (padded b) ⟨n, hn⟩) (ValueIdx.ix2 g r)
      = ((if segN b ((n + 10) * 3840 + r.val) = g.val then 1 else 0 : ℝ) : EReal) := by
  rw [pay8_apply]
  have e : tcSegs (padded b) ⟨n, hn⟩ (ValueIdx.ix3 0 0 r) = segAt b ((n + 10) * 3840 + r.val) := padded_apply b ⟨n, hn⟩ r h
  rw [e]
  unfold segN
  split_ifs <;> rfl

/-- A block adds its rows. -/
theorem tcStep_holds (hx : AllReal x) (hw : AllReal wt) (n : ℕ) (hn : n < 17) {A : TcAcc Ideal}
    (h : TcHolds A (vR x wt b (tcSet n)) (sR x wt b (tcSet n))) :
    TcHolds (tcStep (F := Ideal) (grid1.coords (pt n hn)) (tcRows (F := Ideal) x n) wt (tcSegs (padded b) ⟨n, hn⟩) A)
      (vR x wt b (tcSet (n + 1))) (sR x wt b (tcSet (n + 1))) := by
  refine ⟨fun g c => ?_, fun g => ?_⟩
  · refine (pay9_apply _ _ _ _ _ g c).trans ?_
    rw [h.1 g c]
    unfold vR
    rw [sum_block, EReal.coe_add]
    congr 1
    rw [← coe_sum]
    refine Finset.sum_congr rfl fun r _ => ?_
    rw [pay6_coe hx n hn, pay7_coe hx hw n hn, ← EReal.coe_mul]
    by_cases hr : (n + 10) * 3840 + r.val < 100000
    · rw [pay8_coe n hn g r hr, ← EReal.coe_mul, if_pos hr, if_pos hr, if_pos hr, ite_mul, one_mul, zero_mul]
    · rw [if_neg hr, if_neg hr, if_neg hr, mul_zero, EReal.coe_zero, mul_zero]
  · refine (pay2_apply _ _ _ g).trans ?_
    rw [h.2 g]
    unfold sR
    rw [sum_block, EReal.coe_add]
    congr 1
    rw [← coe_sum]
    refine Finset.sum_congr rfl fun r _ => ?_
    rw [pay7_coe hx hw n hn]
    by_cases hr : (n + 10) * 3840 + r.val < 100000
    · rw [pay8_coe n hn g r hr, ← EReal.coe_mul, if_pos hr, if_pos hr, ite_mul, one_mul, zero_mul]
    · rw [if_neg hr, if_neg hr, EReal.coe_zero, mul_zero]

/-- The blocks add their rows. -/
theorem tcSums_holds (hx : AllReal x) (hw : AllReal wt) (n : ℕ) (hn : n ≤ 17) :
    TcHolds (tcSums (F := Ideal) x wt (padded b) n) (vR x wt b (tcSet n)) (sR x wt b (tcSet n)) := by
  induction n with
  | zero =>
    have hz : ∀ g c, vR x wt b (tcSet 0) g c = 0 := fun g c => by simp [vR, tcSet]
    have hs : ∀ g, sR x wt b (tcSet 0) g = 0 := fun g => by simp [sR, tcSet]
    refine ⟨fun g c => ?_, fun g => ?_⟩
    · rw [hz]
      show k1_pay3 (F := Ideal) (ValueIdx.ix2 g c) = _
      unfold k1_pay3; simp only [pointwise]; rfl
    · rw [hs]
      show k1_pay4 (F := Ideal) (ValueIdx.ix2 g 0) = _
      unfold k1_pay4; simp only [pointwise]; rfl
  | succ n ih =>
    have hn' : n < 17 := hn
    show TcHolds (if h : n < 17 then _ else _) _ _
    rw [dif_pos hn']
    exact tcStep_holds hx hw n hn' (ih (by omega))

end Cert.Proof
-- ==== Proof.Total.lean ====
module

public import proofs.«01_k».proof.Proof.Dense

/-! The kernel's result over the reals: in each segment the weighted sum of its rows over the sum of the weights, and zero
where the weights sum to nothing. -/

@[expose] public section

noncomputable section

namespace Cert.Proof

open Idealize.ShloMosaic Cert.KernelIdeal Cert.KernelIdeal.Gen

variable {x : S100000x128.Idx → EReal} {wt : S1x128.Idx → EReal} {b : S100000.Idx → BitVec 32}

/-- A sum of equal stretches is the sum over all of them. -/
theorem sum_stretches (f : ℕ → ℝ) (n : ℕ) :
    ∑ t : Fin n, ∑ r ∈ Finset.Ico (t.val * 1200) (t.val * 1200 + 1200), f r = ∑ r ∈ Finset.Ico 0 (n * 1200), f r := by
  induction n with
  | zero => simp
  | succ n ih =>
    rw [Fin.sum_univ_castSucc]
    show ∑ t : Fin n, ∑ r ∈ Finset.Ico (t.val * 1200) (t.val * 1200 + 1200), f r
      + ∑ r ∈ Finset.Ico (n * 1200) (n * 1200 + 1200), f r = _
    rw [ih, Finset.sum_Ico_consecutive _ (by omega) (by omega), show n * 1200 + 1200 = (n + 1) * 1200 by omega]

/-- The tiles' partial sums and the TensorCore's add up to the sums over all rows. -/
theorem v_total (hx : AllReal x) (hw : AllReal wt) (hb : SortedRows b) (g : Fin 64) (c : Fin 128) :
    ∑ t : Fin 32, tilesV (F := Ideal) x wt b (ValueIdx.ix3 t g c) + (tcSums (F := Ideal) x wt (padded b) 17).1 (ValueIdx.ix2 g c)
      = ((vR x wt b (Finset.Ico 0 100000) g.val c : ℝ) : EReal) := by
  have h : ∀ t : Fin 32, tilesV (F := Ideal) x wt b (ValueIdx.ix3 t g c)
      = ((vR x wt b (Finset.Ico (t.val * 1200) (t.val * 1200 + 1200)) g.val c : ℝ) : EReal) :=
    fun t => (tile_holds hx hw hb (t.val * 1200) (by omega)).1 g c
  have e : ∑ t : Fin 32, vR x wt b (Finset.Ico (t.val * 1200) (t.val * 1200 + 1200)) g.val c
      = vR x wt b (Finset.Ico 0 38400) g.val c := sum_stretches _ 32
  rw [Finset.sum_congr rfl fun t _ => h t, coe_sum, e, (tcSums_holds hx hw 17 (le_refl _)).1 g c, tcSet_all,
    ← EReal.coe_add, vR_join x wt b (by omega) (by omega)]

theorem s_total (hx : AllReal x) (hw : AllReal wt) (hb : SortedRows b) (g : Fin 64) :
    ∑ t : Fin 32, tilesS (F := Ideal) x wt b (ValueIdx.ix3 t g 0) + (tcSums (F := Ideal) x wt (padded b) 17).2 (ValueIdx.ix2 g 0)
      = ((sR x wt b (Finset.Ico 0 100000) g.val : ℝ) : EReal) := by
  have h : ∀ t : Fin 32, tilesS (F := Ideal) x wt b (ValueIdx.ix3 t g 0)
      = ((sR x wt b (Finset.Ico (t.val * 1200) (t.val * 1200 + 1200)) g.val : ℝ) : EReal) :=
    fun t => (tile_holds hx hw hb (t.val * 1200) (by omega)).2 g 0
  have e : ∑ t : Fin 32, sR x wt b (Finset.Ico (t.val * 1200) (t.val * 1200 + 1200)) g.val
      = sR x wt b (Finset.Ico 0 38400) g.val := sum_stretches _ 32
  rw [Finset.sum_congr rfl fun t _ => h t, coe_sum, e, (tcSums_holds hx hw 17 (le_refl _)).2 g, tcSet_all,
    ← EReal.coe_add, sR_join x wt b (by omega) (by omega)]

/-- The kernel's result: the weighted average of each segment's rows. -/
theorem pooled_apply (hx : AllReal x) (hw : AllReal wt) (hb : SortedRows b) (g : Fin 64) (c : Fin 128) :
    pooled (F := Ideal) x wt b (ValueIdx.ix2 g c)
      = ((if 0 < sR x wt b (Finset.Ico 0 100000) g.val then
          vR x wt b (Finset.Ico 0 100000) g.val c / sR x wt b (Finset.Ico 0 100000) g.val else 0 : ℝ) : EReal) := by
  unfold pooled
  rw [combined_apply, v_total hx hw hb, s_total hx hw hb]
  by_cases h : 0 < sR x wt b (Finset.Ico 0 100000) g.val
  · rw [if_pos h, if_pos (EReal.coe_pos.2 h), Ideal.div_coe h.ne', ← EReal.coe_mul, mul_one_div]
  · rw [if_neg h, if_neg fun h' => h (EReal.coe_pos.1 h')]
    rfl

end Cert.Proof
-- ==== Proof.Scatter.lean ====
module

public import proofs.«01_k».proof.Proof.Gen.ReferenceIdeal.Run
public import Idealize.ShloMosaic.Lib.Pointwise

/-! The reference's gather and its two accumulating scatters, read at an index: a gather reads the entry of the row's
segment, a scatter sums the rows of a segment. -/

@[expose] public section

noncomputable section

namespace Cert.Proof

open Idealize.ShloMosaic Cert.ReferenceIdeal Cert.ReferenceIdeal.Gen

/-- The gather takes the entry that the row's index names. -/
theorem gather_apply {α : Type} (M : S64.Idx → α) (idx : S100000x1.Idx → BitVec 32) (r : Fin 100000) (g : Fin 64)
    (h : (idx (ValueIdx.ix2 r 0)).toInt = g.val) :
    Host.gather gather_S64_S100000x1_S100000_n_0_n_n_0_1_1 M idx (ValueIdx.ix1 r) = M (ValueIdx.ix1 g) := by
  have hs : gather_S64_S100000x1_S100000_n_0_n_n_0_1_1.siIdx (ValueIdx.ix1 r) ⟨0, by decide⟩ = ValueIdx.ix2 r 0 := by
    funext a
    fin_cases a <;> rfl
  unfold Host.gather
  congr 1
  funext a
  obtain rfl : a = 0 := Subsingleton.elim _ _
  refine Fin.ext ?_
  show min (idx (gather_S64_S100000x1_S100000_n_0_n_n_0_1_1.siIdx (ValueIdx.ix1 r) ⟨0, _⟩)).toInt.toNat 63 + 0 + 0 = g.val
  rw [hs, h]
  omega

/-- Where an update lands, by coordinates. -/
theorem lands_iff {s si u : Shape} (d : ScatterDims s si u) {w : ℕ} (j : u.Idx) (idx : IVec si w) (i : s.Idx) :
    d.resultIdx? j idx = some i ↔ ∀ a, d.start j idx a + d.window j a = ((i a).val : Int) := by
  unfold ScatterDims.resultIdx?
  constructor
  · intro h a
    split_ifs at h with hin
    have e := congrArg Fin.val (congrFun (Option.some.inj h) a)
    have := hin a
    simp only at e
    omega
  · intro h
    rw [dif_pos fun a => ⟨by rw [h a]; omega, by rw [h a]; exact_mod_cast (i a).isLt⟩]
    refine congrArg some (funext fun a => Fin.ext ?_)
    show (d.start j idx a + d.window j a).toNat = _
    rw [h a]; rfl

theorem lands_one (idx : S100000x1.Idx → BitVec 32) (r : Fin 100000) (g : Fin 64) :
    scatter_S64_S100000x1_S100000_n_0_0_1.resultIdx? (ValueIdx.ix1 r) idx = some (ValueIdx.ix1 g)
      ↔ (idx (ValueIdx.ix2 r 0)).toInt = g.val := by
  have hs : scatter_S64_S100000x1_S100000_n_0_0_1.siIdx (ValueIdx.ix1 r) ⟨0, by decide⟩ = ValueIdx.ix2 r 0 := by
    funext a
    fin_cases a <;> rfl
  rw [lands_iff]
  have e : scatter_S64_S100000x1_S100000_n_0_0_1.start (ValueIdx.ix1 r) idx 0
      + scatter_S64_S100000x1_S100000_n_0_0_1.window (ValueIdx.ix1 r) 0 = (idx (ValueIdx.ix2 r 0)).toInt := by
    show (idx (scatter_S64_S100000x1_S100000_n_0_0_1.siIdx (ValueIdx.ix1 r) ⟨0, _⟩)).toInt + ((0 : ℕ) : Int) = _
    rw [hs]; exact add_zero _
  constructor
  · intro h; rw [← e]; exact h 0
  · intro h a
    obtain rfl : a = 0 := Subsingleton.elim _ _
    rw [e]; exact h

theorem lands_two (idx : S100000x1.Idx → BitVec 32) (r : Fin 100000) (k : Fin 128) (g : Fin 64) (c : Fin 128) :
    scatter_S64x128_S100000x1_S100000x128_1_0_0_1.resultIdx? (ValueIdx.ix2 r k) idx = some (ValueIdx.ix2 g c)
      ↔ (idx (ValueIdx.ix2 r 0)).toInt = g.val ∧ k = c := by
  have hs : scatter_S64x128_S100000x1_S100000x128_1_0_0_1.siIdx (ValueIdx.ix2 r k) ⟨0, by decide⟩ = ValueIdx.ix2 r 0 := by
    funext a
    fin_cases a <;> rfl
  rw [lands_iff]
  have e0 : scatter_S64x128_S100000x1_S100000x128_1_0_0_1.start (ValueIdx.ix2 r k) idx 0
      + scatter_S64x128_S100000x1_S100000x128_1_0_0_1.window (ValueIdx.ix2 r k) 0 = (idx (ValueIdx.ix2 r 0)).toInt := by
    show (idx (scatter_S64x128_S100000x1_S100000x128_1_0_0_1.siIdx (ValueIdx.ix2 r k) ⟨0, _⟩)).toInt + ((0 : ℕ) : Int) = _
    rw [hs]; exact add_zero _
  have e1 : scatter_S64x128_S100000x1_S100000x128_1_0_0_1.start (ValueIdx.ix2 r k) idx 1
      + scatter_S64x128_S100000x1_S100000x128_1_0_0_1.window (ValueIdx.ix2 r k) 1 = (k.val : Int) := zero_add _
  constructor
  · intro h
    refine ⟨by rw [← e0]; exact h 0, Fin.ext ?_⟩
    have h1 := h 1
    rw [e1] at h1
    exact Int.ofNat.inj h1
  · rintro ⟨h, rfl⟩ a
    fin_cases a
    · exact e0.trans h
    · exact e1

/-- The scatter of a vector sums the rows of a segment. -/
theorem scatter_one (x : S64.Idx → EReal) (idx : S100000x1.Idx → BitVec 32) (u : S100000.Idx → EReal) (g : Fin 64) :
    Host.scatterAdd (F := Ideal) (φ := .f32) scatter_S64_S100000x1_S100000_n_0_0_1 x idx u (ValueIdx.ix1 g) = x (ValueIdx.ix1 g)
      + ∑ r : Fin 100000, if (idx (ValueIdx.ix2 r 0)).toInt = g.val then u (ValueIdx.ix1 r) else 0 := by
  show x (ValueIdx.ix1 g) + ∑ j ∈ Finset.univ.filter _, u j = _
  rw [Finset.sum_filter, sum_idx1]
  refine congrArg (x _ + ·) ?_
  exact Finset.sum_congr rfl fun r _ => if_congr (lands_one idx r g) rfl rfl

/-- The scatter of rows sums the rows of a segment, column by column. -/
theorem scatter_two (x : S64x128.Idx → EReal) (idx : S100000x1.Idx → BitVec 32) (u : S100000x128.Idx → EReal) (g : Fin 64)
    (c : Fin 128) :
    Host.scatterAdd (F := Ideal) (φ := .f32) scatter_S64x128_S100000x1_S100000x128_1_0_0_1 x idx u (ValueIdx.ix2 g c) = x (ValueIdx.ix2 g c)
      + ∑ r : Fin 100000, if (idx (ValueIdx.ix2 r 0)).toInt = g.val then u (ValueIdx.ix2 r c) else 0 := by
  show x (ValueIdx.ix2 g c) + ∑ j ∈ Finset.univ.filter _, u j = _
  rw [Finset.sum_filter, sum_idx2]
  refine congrArg (x _ + ·) ?_
  refine Finset.sum_congr rfl fun r _ => ?_
  refine (Finset.sum_congr (g := fun k : Fin 128 => if (idx (ValueIdx.ix2 r 0)).toInt = (g.val : Int) ∧ k = c then u (ValueIdx.ix2 r k) else 0)
    rfl fun k _ => if_congr (lands_two idx r k g c) rfl rfl).trans ?_
  by_cases h : (idx (ValueIdx.ix2 r 0)).toInt = g.val
  · simp only [h, true_and, if_true]
    rw [Finset.sum_ite_eq' Finset.univ c]
    exact if_pos (Finset.mem_univ _)
  · simp only [h, false_and, if_false, Finset.sum_const_zero]

end Cert.Proof
-- ==== Proof.RefParts.lean ====
module

public import proofs.«01_k».proof.Proof.Scatter

/-! The reference's intermediate arrays, named, and each read at an index. -/

@[expose] public section

noncomputable section

namespace Cert.Proof

open Idealize.ShloMosaic Cert.ReferenceIdeal Cert.ReferenceIdeal.Gen

variable (x : S100000x128.Idx → EReal) (wt : S1x128.Idx → EReal) (β : S1.Idx → EReal) (b : S100000.Idx → BitVec 32)

/-- The gates. -/
def refGate : S100000.Idx → EReal :=
  shapeCast S100000 (addf (F := Ideal) (φ := .f32) (Host.dotGeneral (F := Ideal) (φ₁ := .f32) (φ₂ := .f32) dot_S100000x128_S128x1_S100000x1_1_0_0_1_n_n none x
    (transpose S128x1 [1, 0] wt transposes_S1x128_S128x1_1_0))
    (broadcastInDim S100000x1 ![0, 1] bcast_S1x1_S100000x1_0_1 (broadcastInDim S1x1 ![1] bcast_S1_S1x1_1 β)))
    shapeCasts_S100000x1_S100000

/-- Each segment's rows of `G`, one line per segment, `-∞` elsewhere. -/
def refLines (G : S100000.Idx → EReal) : S64x100000.Idx → EReal :=
  select (cmpi .eq (broadcastInDim S64x100000 ![0, 1] bcast_S1x100000_S64x100000_0_1 (broadcastInDim S1x100000 ![1] bcast_S100000_S1x100000_1 b))
      (broadcastInDim S64x100000 ![0, 1] bcast_S64x1_S64x100000_0_1 (broadcastInDim S64x1 ![0] bcast_S64_S64x1_0 (iotaInDim S64 32 0))))
    (broadcastInDim S64x100000 ![0, 1] bcast_S1x100000_S64x100000_0_1 (broadcastInDim S1x100000 ![1] bcast_S100000_S1x100000_1 G))
    (broadcastInDim S64x100000 ![] bcast_S_S64x100000 (id (constant (F := Ideal) S_ .f32 0xFF800000#32)))

/-- The largest gate of each segment. -/
def refMax (G : S100000.Idx → EReal) : S64.Idx → EReal :=
  Host.reduce (FloatOps.maximumf (F := Ideal) (φ := .f32)) (refLines b G) (constant (F := Ideal) S_ .f32 0xFF800000#32) reducesTo_S64x100000_S64_d1 h_S_

/-- The row's segment as an index, counted from the end where negative. -/
def refIdx : S100000x1.Idx → BitVec 32 :=
  broadcastInDim S100000x1 ![0] bcast_S100000_S100000x1_0 (select (cmpi .slt b (broadcastInDim S100000 ![] bcast_S_S100000 (constantI S_ 32 0#32)))
    (addi b (broadcastInDim S100000 ![] bcast_S_S100000 (constantI S_ 32 64#32))) b)

/-- The row's segment. -/
def refSeg : S100000x1.Idx → BitVec 32 := broadcastInDim S100000x1 ![0] bcast_S100000_S100000x1_0 b

/-- The exponentials of the gates less their segment's largest. -/
def refExp (G : S100000.Idx → EReal) : S100000.Idx → EReal :=
  Host.exp (F := Ideal) (φ := .f32) (subf (F := Ideal) (φ := .f32) G (Host.gather gather_S64_S100000x1_S100000_n_0_n_n_0_1_1 (refMax b G) (refIdx b)))

/-- Each segment's sum of `E`. -/
def refSum (E : S100000.Idx → EReal) : S64.Idx → EReal :=
  Host.scatterAdd (F := Ideal) (φ := .f32) scatter_S64_S100000x1_S100000_n_0_0_1
    (broadcastInDim S64 ![] bcast_S_S64 (constant (F := Ideal) S_ .f32 0x00000000#32)) (refSeg b) E

/-- The weights: `E` over its segment's sum. -/
def refWeight (E : S100000.Idx → EReal) : S100000.Idx → EReal :=
  Host.divf (F := Ideal) (φ := .f32) E (Host.gather gather_S64_S100000x1_S100000_n_0_n_n_0_1_1 (refSum b E) (refIdx b))

/-- Each segment's weighted sum of rows. -/
def refOut (A : S100000.Idx → EReal) : S64x128.Idx → EReal :=
  Host.scatterAdd (F := Ideal) (φ := .f32) scatter_S64x128_S100000x1_S100000x128_1_0_0_1
    (broadcastInDim S64x128 ![] bcast_S_S64x128 (constant (F := Ideal) S_ .f32 0x00000000#32)) (refSeg b)
    (mulf (F := Ideal) (φ := .f32) (broadcastInDim S100000x128 ![0, 1] bcast_S100000x1_S100000x128_0_1
      (broadcastInDim S100000x1 ![0] bcast_S100000_S100000x1_0 A)) x)

/-- The reference's result, from its parts. -/
theorem ref_eq (m : (ℓ : Loc nD τ sig) → Buf (Elt Ideal) ℓ) (c : Dev nD) :
    Cert.ReferenceIdeal.Value.res_main_v40 (F := Ideal) m c
      = refOut (m ((c.tc : Thread nD τ).loc main_arg0)) (m ((c.tc : Thread nD τ).loc main_arg3))
        (refWeight (m ((c.tc : Thread nD τ).loc main_arg3)) (refExp (m ((c.tc : Thread nD τ).loc main_arg3))
          (refGate (m ((c.tc : Thread nD τ).loc main_arg0)) (m ((c.tc : Thread nD τ).loc main_arg1))
            (m ((c.tc : Thread nD τ).loc main_arg2))))) := rfl

theorem refGate_apply (r : Fin 100000) :
    refGate x wt β (ValueIdx.ix1 r) = ∑ c : Fin 128, x (ValueIdx.ix2 r c) * wt (ValueIdx.ix2 0 c) + β (ValueIdx.ix1 0) := by
  unfold refGate
  simp only [pointwise]
  rw [zero_add]
  rfl

theorem ofBits_bot : Ideal.ofBits .f32 0xFF800000#32 = (⊥ : EReal) := by
  simp [Ideal.ofBits, Ideal.ieee]

theorem refLines_apply (G : S100000.Idx → EReal) (g : Fin 64) (r : Fin 100000) :
    refLines b G (ValueIdx.ix2 g r) = if (b (ValueIdx.ix1 r)).toNat = g.val then G (ValueIdx.ix1 r) else ⊥ := by
  unfold refLines
  simp only [pointwise]
  show Scalar.select (BitVec.ofBool (b (ValueIdx.ix1 r) == BitVec.ofNat 32 g.val)) (G (ValueIdx.ix1 r))
    (Ideal.ofBits .f32 0xFF800000#32) = _
  rw [ofBits_bot]
  have e : (b (ValueIdx.ix1 r)).toNat = g.val ↔ b (ValueIdx.ix1 r) = BitVec.ofNat 32 g.val := by
    rw [← BitVec.toNat_inj, BitVec.toNat_ofNat]
    omega
  by_cases h : (b (ValueIdx.ix1 r)).toNat = g.val
  · rw [if_pos h, beq_iff_eq.2 (e.1 h)]; rfl
  · rw [if_neg h, beq_eq_false_iff_ne.2 fun h' => h (e.2 h')]; rfl

theorem refMax_apply (G : S100000.Idx → EReal) (g : Fin 64) :
    refMax b G (ValueIdx.ix1 g) = Finset.fold max ⊥ (fun r : Fin 100000 => refLines b G (ValueIdx.ix2 g r)) Finset.univ := by
  unfold refMax
  simp only [pointwise]
  rw [ofBits_bot]
  rfl

theorem refIdx_apply (r : Fin 100000) (h : (b (ValueIdx.ix1 r)).toNat < 64) :
    (refIdx b (ValueIdx.ix2 r 0)).toInt = (b (ValueIdx.ix1 r)).toNat := by
  unfold refIdx
  simp only [pointwise]
  have h0 : IntOp.cmpi CmpIPredicate.slt (b (ValueIdx.ix1 r)) 0#32 = 0#1 := by
    show BitVec.ofBool ((b (ValueIdx.ix1 r)).slt 0#32) = 0#1
    rw [BitVec.slt_eq_decide, BitVec.toInt_eq_toNat_of_lt (by omega)]
    have hn : ¬ (((b (ValueIdx.ix1 r)).toNat : Int) < (0#32 : BitVec 32).toInt) := by
      rw [show (0#32 : BitVec 32).toInt = 0 from rfl]; omega
    rw [decide_eq_false hn]; rfl
  show (Scalar.select (IntOp.cmpi CmpIPredicate.slt (b (ValueIdx.ix1 r)) 0#32) (IntOp.addi (b (ValueIdx.ix1 r)) 64#32)
    (b (ValueIdx.ix1 r))).toInt = _
  rw [h0, ValueIdx.select_zero]
  exact BitVec.toInt_eq_toNat_of_lt (by omega)

theorem refSeg_apply (r : Fin 100000) (h : (b (ValueIdx.ix1 r)).toNat < 64) :
    (refSeg b (ValueIdx.ix2 r 0)).toInt = (b (ValueIdx.ix1 r)).toNat := by
  unfold refSeg
  simp only [pointwise]
  show (b (ValueIdx.ix1 r)).toInt = _
  exact BitVec.toInt_eq_toNat_of_lt (by omega)

theorem refExp_apply (G : S100000.Idx → EReal) (r : Fin 100000) (g : Fin 64) (h : (b (ValueIdx.ix1 r)).toNat = g.val) :
    refExp b G (ValueIdx.ix1 r) = Ideal.exp (G (ValueIdx.ix1 r) - refMax b G (ValueIdx.ix1 g)) := by
  rw [← gather_apply (refMax b G) (refIdx b) r g (by rw [refIdx_apply b r (by omega), h])]
  rfl

theorem refSum_apply (hr : ∀ r, (b (ValueIdx.ix1 r)).toNat < 64) (E : S100000.Idx → EReal) (g : Fin 64) :
    refSum b E (ValueIdx.ix1 g) = ∑ r : Fin 100000, if (b (ValueIdx.ix1 r)).toNat = g.val then E (ValueIdx.ix1 r) else 0 := by
  refine (scatter_one _ _ _ g).trans ?_
  have hz : broadcastInDim S64 ![] bcast_S_S64 (constant (F := Ideal) S_ .f32 0x00000000#32) (ValueIdx.ix1 g) = (0 : EReal) := by
    simp only [pointwise]
  rw [hz, zero_add]
  refine Finset.sum_congr rfl fun r _ => ?_
  rw [refSeg_apply b r (hr r)]
  exact if_congr Nat.cast_inj rfl rfl

theorem refWeight_apply (E : S100000.Idx → EReal) (r : Fin 100000) (g : Fin 64) (h : (b (ValueIdx.ix1 r)).toNat = g.val) :
    refWeight b E (ValueIdx.ix1 r) = Ideal.div (E (ValueIdx.ix1 r)) (refSum b E (ValueIdx.ix1 g)) := by
  unfold refWeight
  generalize refSum b E = S
  rw [← gather_apply S (refIdx b) r g (by rw [refIdx_apply b r (by omega), h])]
  simp only [pointwise]

theorem refOut_apply (hr : ∀ r, (b (ValueIdx.ix1 r)).toNat < 64) (A : S100000.Idx → EReal) (g : Fin 64) (c : Fin 128) :
    refOut x b A (ValueIdx.ix2 g c)
      = ∑ r : Fin 100000, if (b (ValueIdx.ix1 r)).toNat = g.val then A (ValueIdx.ix1 r) * x (ValueIdx.ix2 r c) else 0 := by
  refine (scatter_two _ _ _ g c).trans ?_
  have hz : broadcastInDim S64x128 ![] bcast_S_S64x128 (constant (F := Ideal) S_ .f32 0x00000000#32) (ValueIdx.ix2 g c) = (0 : EReal) := by
    simp only [pointwise]
  rw [hz, zero_add]
  refine Finset.sum_congr rfl fun r _ => ?_
  rw [refSeg_apply b r (hr r)]
  refine if_congr Nat.cast_inj ?_ rfl
  simp only [pointwise]
  rfl

end Cert.Proof
-- ==== Proof.RefValue.lean ====
module

public import proofs.«01_k».proof.Proof.RefParts
public import proofs.«01_k».proof.Proof.Dense

/-! The reference's result over the reals. Subtracting a segment's largest gate, and adding the bias, scale the segment's
exponentials by one positive factor, which the division removes: the result is the weighted average with the plain
exponentials as weights. -/

@[expose] public section

noncomputable section

namespace Cert.Proof

open Idealize.ShloMosaic Cert.ReferenceIdeal Cert.ReferenceIdeal.Gen

variable {x : S100000x128.Idx → EReal} {wt : S1x128.Idx → EReal} {β : S1.Idx → EReal} {b : S100000.Idx → BitVec 32}

theorem xR_coe (hx : AllReal x) (r : Fin 100000) (c : Fin 128) : x (ValueIdx.ix2 r c) = ((xR x r.val c : ℝ) : EReal) := by
  unfold xR
  rw [← hx.coe]
  exact congrArg (fun q => x (ValueIdx.ix2 q c)) (Fin.ext (Nat.mod_eq_of_lt r.isLt).symm)

theorem segN_row (b : S100000.Idx → BitVec 32) (r : Fin 100000) : segN b r.val = (b (ValueIdx.ix1 r)).toNat :=
  congrArg (fun q => (b (ValueIdx.ix1 q)).toNat) (Fin.ext (Nat.mod_eq_of_lt r.isLt))

/-- The bias. -/
def biasR (β : S1.Idx → EReal) : ℝ := (β (ValueIdx.ix1 0)).toReal

theorem refGate_coe (hx : AllReal x) (hw : AllReal wt) (hβ : AllReal β) (r : Fin 100000) :
    refGate x wt β (ValueIdx.ix1 r) = ((gR x wt r.val + biasR β : ℝ) : EReal) := by
  rw [refGate_apply, EReal.coe_add, hβ.coe]
  refine congrArg (· + ((biasR β : ℝ) : EReal)) ?_
  unfold gR
  rw [← coe_sum]
  refine Finset.sum_congr rfl fun c _ => ?_
  rw [xR_coe hx, hw.coe, EReal.coe_mul]
  rfl

/-- A segment that has a row has a real largest gate. -/
theorem refMax_coe (G : S100000.Idx → EReal) (f : Fin 100000 → ℝ) (hG : ∀ r, G (ValueIdx.ix1 r) = ((f r : ℝ) : EReal))
    (r : Fin 100000) (g : Fin 64) (h : (b (ValueIdx.ix1 r)).toNat = g.val) :
    refMax b G (ValueIdx.ix1 g) = (((refMax b G (ValueIdx.ix1 g)).toReal : ℝ) : EReal) := by
  refine (EReal.coe_toReal ?_ ?_).symm
  · refine ne_of_lt ?_
    rw [refMax_apply]
    refine (Finset.fold_max_lt _).2 ⟨bot_lt_top, fun q _ => ?_⟩
    rw [refLines_apply]
    split_ifs
    · rw [hG]; exact EReal.coe_lt_top _
    · exact bot_lt_top
  · refine ne_of_gt (lt_of_lt_of_le (EReal.bot_lt_coe (f r)) ?_)
    rw [refMax_apply]
    refine (Finset.le_fold_max _).2 (Or.inr ⟨r, Finset.mem_univ _, ?_⟩)
    rw [refLines_apply, if_pos h, hG]

/-- The factor of a segment's exponentials. -/
def scaleR (x : S100000x128.Idx → EReal) (wt : S1x128.Idx → EReal) (β : S1.Idx → EReal) (b : S100000.Idx → BitVec 32)
    (g : Fin 64) : ℝ := Real.exp (biasR β - (refMax b (refGate x wt β) (ValueIdx.ix1 g)).toReal)

theorem refExp_coe (hx : AllReal x) (hw : AllReal wt) (hβ : AllReal β) (r : Fin 100000) (g : Fin 64)
    (h : (b (ValueIdx.ix1 r)).toNat = g.val) :
    refExp b (refGate x wt β) (ValueIdx.ix1 r) = ((eR x wt r.val * scaleR x wt β b g : ℝ) : EReal) := by
  rw [refExp_apply b _ r g h, refMax_coe _ _ (refGate_coe hx hw hβ) r g h, refGate_coe hx hw hβ, ← EReal.coe_sub]
  unfold eR scaleR
  rw [← Real.exp_add]
  show ((Real.exp _ : ℝ) : EReal) = _
  congr 2
  ring

/-- A sum over the rows of a segment, over all numbers below the row count. -/
theorem sum_rows (b : S100000.Idx → BitVec 32) (g : ℕ) (f : ℕ → ℝ) :
    ∑ r : Fin 100000, (if (b (ValueIdx.ix1 r)).toNat = g then f r.val else 0)
      = ∑ r ∈ Finset.Ico 0 100000, if segN b r = g then f r else 0 := by
  rw [← Finset.range_eq_Ico, Finset.sum_range]
  exact Finset.sum_congr rfl fun r _ => by rw [segN_row]

theorem refSum_coe (hx : AllReal x) (hw : AllReal wt) (hβ : AllReal β) (hr : ∀ r, (b (ValueIdx.ix1 r)).toNat < 64) (g : Fin 64) :
    refSum b (refExp b (refGate x wt β)) (ValueIdx.ix1 g)
      = ((sR x wt b (Finset.Ico 0 100000) g.val * scaleR x wt β b g : ℝ) : EReal) := by
  rw [refSum_apply b hr]
  unfold sR
  rw [← sum_rows b g.val (eR x wt), Finset.sum_mul, ← coe_sum]
  refine Finset.sum_congr rfl fun r _ => ?_
  by_cases h : (b (ValueIdx.ix1 r)).toNat = g.val
  · rw [if_pos h, if_pos h, refExp_coe hx hw hβ r g h]
  · rw [if_neg h, if_neg h, zero_mul, EReal.coe_zero]

/-- A segment's exponentials sum to a positive number exactly where it has a row. -/
theorem sR_pos (x : S100000x128.Idx → EReal) (wt : S1x128.Idx → EReal) (r : Fin 100000) (g : ℕ)
    (h : (b (ValueIdx.ix1 r)).toNat = g) : 0 < sR x wt b (Finset.Ico 0 100000) g := by
  unfold sR
  rw [← sum_rows b g (eR x wt)]
  refine Finset.sum_pos' (fun q _ => ?_) ⟨r, Finset.mem_univ _, ?_⟩
  · split_ifs
    · exact (Real.exp_pos _).le
    · exact le_refl _
  · rw [if_pos h]; exact Real.exp_pos _

theorem refWeight_coe (hx : AllReal x) (hw : AllReal wt) (hβ : AllReal β) (hr : ∀ r, (b (ValueIdx.ix1 r)).toNat < 64)
    (r : Fin 100000) (g : Fin 64) (h : (b (ValueIdx.ix1 r)).toNat = g.val) :
    refWeight b (refExp b (refGate x wt β)) (ValueIdx.ix1 r)
      = ((eR x wt r.val / sR x wt b (Finset.Ico 0 100000) g.val : ℝ) : EReal) := by
  have hs := sR_pos x wt r g.val h
  have hk : 0 < scaleR x wt β b g := Real.exp_pos _
  rw [refWeight_apply b _ r g h, refExp_coe hx hw hβ r g h, refSum_coe hx hw hβ hr, Ideal.div_coe (mul_pos hs hk).ne',
    ← EReal.coe_mul, mul_one_div, mul_div_mul_right _ _ hk.ne']

/-- The reference's result: the weighted average of each segment's rows. -/
theorem ref_apply (hx : AllReal x) (hw : AllReal wt) (hβ : AllReal β) (hr : ∀ r, (b (ValueIdx.ix1 r)).toNat < 64)
    (g : Fin 64) (c : Fin 128) :
    refOut x b (refWeight b (refExp b (refGate x wt β))) (ValueIdx.ix2 g c)
      = ((if 0 < sR x wt b (Finset.Ico 0 100000) g.val then
          vR x wt b (Finset.Ico 0 100000) g.val c / sR x wt b (Finset.Ico 0 100000) g.val else 0 : ℝ) : EReal) := by
  rw [refOut_apply x b hr]
  have e : ∑ r : Fin 100000, (if (b (ValueIdx.ix1 r)).toNat = g.val then
        refWeight b (refExp b (refGate x wt β)) (ValueIdx.ix1 r) * x (ValueIdx.ix2 r c) else 0)
      = ((vR x wt b (Finset.Ico 0 100000) g.val c / sR x wt b (Finset.Ico 0 100000) g.val : ℝ) : EReal) := by
    unfold vR
    rw [← sum_rows b g.val (fun r => eR x wt r * xR x r c), Finset.sum_div, ← coe_sum]
    refine Finset.sum_congr rfl fun r _ => ?_
    by_cases h : (b (ValueIdx.ix1 r)).toNat = g.val
    · rw [if_pos h, if_pos h, refWeight_coe hx hw hβ hr r g h, xR_coe hx, ← EReal.coe_mul, div_mul_eq_mul_div]
    · rw [if_neg h, if_neg h, zero_div, EReal.coe_zero]
  rw [e]
  refine congrArg (fun q : ℝ => (q : EReal)) ?_
  split_ifs with h
  · rfl
  · have hn : sR x wt b (Finset.Ico 0 100000) g.val = 0 := by
      unfold sR at h ⊢
      exact le_antisymm (not_lt.1 h) (Finset.sum_nonneg fun r _ => by
        split_ifs
        · exact (Real.exp_pos _).le
        · exact le_refl _)
    rw [hn, div_zero]

end Cert.Proof
-- ==== Proof.Algebraic.lean ====
module

public import proofs.«01_k».proof.Proof.Frames
public import proofs.«01_k».proof.Proof.Total
public import proofs.«01_k».proof.Proof.RefValue

/-! The equation: over the reals the kernel and the reference compute the same array. -/

@[expose] public section

noncomputable section

namespace Cert.Proof

open Idealize.ShloMosaic Idealize.SL.Sem

attribute [local instance] factsInRange factsGiven

/-- Sorted segment numbers do not decrease along the rows. -/
theorem sortedRows {b : Cert.KernelIdeal.S100000.Idx → BitVec 32}
    (h : ∀ i j : Fin 100000, i ≤ j → (b (ValueIdx.ix1 i)).toNat ≤ (b (ValueIdx.ix1 j)).toNat) : SortedRows b := by
  intro i j hij hj
  rw [segN_row b ⟨i, by omega⟩, segN_row b ⟨j, hj⟩]
  exact h _ _ hij

/-- The two results are equal. -/
theorem pooled_eq_ref {x : Cert.KernelIdeal.S100000x128.Idx → EReal} {wt : Cert.KernelIdeal.S1x128.Idx → EReal}
    {β : Cert.ReferenceIdeal.S1.Idx → EReal} {b : Cert.KernelIdeal.S100000.Idx → BitVec 32}
    (hx : AllReal x) (hw : AllReal wt) (hβ : AllReal β) (hr : ∀ y, (b y).toNat < 64) (hb : SortedRows b) :
    pooled (F := Ideal) x wt b = refOut x b (refWeight b (refExp b (refGate x wt β))) := by
  funext y
  have e : y = ValueIdx.ix2 (n0 := 64) (n1 := 128) (y 0) (y 1) := (ix2_eta y).symm
  rw [e]
  exact (pooled_apply hx hw hb (y 0) (y 1)).trans (ref_apply hx hw hβ (fun r => hr _) (y 0) (y 1)).symm

/-- From the same arguments both programs run, end with equal results and leave their arguments unchanged. -/
theorem algebraic : Cert.algebraic_KernelIdeal_ReferenceIdeal_pre_given := fun m ρ m' ρ' h ha => by
  refine ⟨fun c => pooled (F := Ideal) (m (xLoc c)) (m (wLoc c)) (m (bLoc c)), ?_, ?_⟩
  · exact (θ_run Cert.KernelIdeal.defs _ _).mono
      (fun _ hq c => ⟨(hq.1 c).2, (hq.1 c).1.1, (hq.1 c).1.2.1, (hq.1 c).1.2.2.1, (hq.1 c).1.2.2.2⟩)
      (run_main (F := Ideal) m ρ fun d y => given_range (h d).1 y)
  · refine (θ_run Cert.ReferenceIdeal.defs _ _).mono (fun _ hq c => ⟨?_, (hq c).2⟩)
      (Cert.ReferenceIdeal.Value.run (F := Ideal) m' ρ')
    obtain ⟨h0, h1, h2, h3⟩ := ha c
    rw [(hq c).1, ref_eq m' c, h0, h1, h2, h3]
    exact (pooled_eq_ref (given_x (h c).2.2.1) (given_w (h c).2.2.2.1) (given_g (h c).2.2.2.2) (given_range (h c).1)
      (sortedRows (given_sorted (h c).1 (h c).2.1))).symm

end Cert.Proof
-- ==== Proof.lean ====
module

public import proofs.«01_k».proof.Defs
public import proofs.«01_k».proof.Proof.Algebraic

/-! The claim: the frames, that naming no constant leaves the program as it is, and that over the reals the kernel and the
reference compute the same array. -/

@[expose] public section

noncomputable section

namespace Cert.Proof

/-- Everything the certificate claims. -/
theorem claim : Cert.Claim :=
  ⟨Cert.Kernel.Gen.facts, Cert.KernelIdeal.Gen.facts, Cert.ReferenceIdeal.Gen.facts, factsInRange, factsGiven,
    frame_kernel, frame_ideal, frame_ideal_given, frame_reference, frame_reference_given, trivial,
    algebraic⟩

end Cert.Proof
